-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v10_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_decays : Cert.Pre_decays.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_decays (hKernelIdeal := hKernelIdeal) (hReferenceIdeal := hReferenceIdeal) (hPre_decays := hPre_decays)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_decays.lean ====
abbrev S2x4x8208x128 : Shape := ⟨4, ![2, 4, 8208, 128]⟩
abbrev S_ : Shape := ⟨0, ![]⟩

class Facts : Prop where
  bcast_S_S2x4x8208x128 : S_.BroadcastsInDim S2x4x8208x128 (![] : Fin 0 → Fin S2x4x8208x128.rank)
  reducesTo_S2x4x8208x128_S_d0_1_2_3 : S2x4x8208x128.ReducesTo [0, 1, 2, 3] S_
  h_S_ : 0 < S_.numel

variable [Facts]

def fn {F : FTy → Type} [FloatOps F] (main_arg0 : FVec F S2x4x8208x128 .f32) (main_arg1 : FVec F S2x4x8208x128 .f32) (main_arg2 : FVec F S2x4x8208x128 .f32) (main_arg3 : FVec F S2x4x8208x128 .f32) : IVec S_ 1 :=
  let main_cst : FVec F S_ .f32 := constant S_ .f32 0x00000000#32
  let main_v0 : FVec F S2x4x8208x128 .f32 := broadcastInDim S2x4x8208x128 ![] bcast_S_S2x4x8208x128 main_cst
  let main_v1 : IVec S2x4x8208x128 1 := cmpf .oge main_arg0 main_v0
  let main_cst_0 : FVec F S_ .f32 := constant S_ .f32 0x7F800000#32
  let main_v2 : FVec F S2x4x8208x128 .f32 := broadcastInDim S2x4x8208x128 ![] bcast_S_S2x4x8208x128 main_cst_0
  let main_v3 : IVec S2x4x8208x128 1 := cmpf .olt main_arg0 main_v2
  let main_v4 : IVec S2x4x8208x128 1 := andi main_v1 main_v3
  let main_cst_1 : FVec F S_ .f32 := constant S_ .f32 0x00000000#32
  let main_v5 : FVec F S2x4x8208x128 .f32 := broadcastInDim S2x4x8208x128 ![] bcast_S_S2x4x8208x128 main_cst_1
  let main_v6 : IVec S2x4x8208x128 1 := cmpf .oge main_arg2 main_v5
  let main_v7 : IVec S2x4x8208x128 1 := andi main_v4 main_v6
  let main_cst_2 : FVec F S_ .f32 := constant S_ .f32 0x7F800000#32
  let main_v8 : FVec F S2x4x8208x128 .f32 := broadcastInDim S2x4x8208x128 ![] bcast_S_S2x4x8208x128 main_cst_2
  let main_v9 : IVec S2x4x8208x128 1 := cmpf .olt main_arg2 main_v8
  let main_v10 : IVec S2x4x8208x128 1 := andi main_v7 main_v9
  let main_c : IVec S_ 1 := constantI S_ 1 1#1
  let main_v11 : IVec S_ 1 := (fun x v => Host.reduce IntOp.andi x v reducesTo_S2x4x8208x128_S_d0_1_2_3 h_S_) main_v10 main_c
  main_v11
-- ==== Kernel.lean ====
abbrev S2x4x8208x128 : Shape := ⟨4, ![2, 4, 8208, 128]⟩
abbrev S2x8192x512 : Shape := ⟨3, ![2, 8192, 512]⟩
abbrev S1x1x8208x128 : Shape := ⟨4, ![1, 1, 8208, 128]⟩
abbrev S1x8192x128 : Shape := ⟨3, ![1, 8192, 128]⟩
abbrev S8208x128 : Shape := ⟨2, ![8208, 128]⟩
abbrev S64x128 : Shape := ⟨2, ![64, 128]⟩
abbrev S32x128 : Shape := ⟨2, ![32, 128]⟩
abbrev S8x128 : Shape := ⟨2, ![8, 128]⟩
abbrev S1x1x8x128 : Shape := ⟨4, ![1, 1, 8, 128]⟩
abbrev S1x128 : Shape := ⟨2, ![1, 128]⟩
abbrev S8192x128 : Shape := ⟨2, ![8192, 128]⟩

abbrev nBuf : Space → Nat
  | .hbm => 5
  | .vmem => 14
  | .smem => 0
  | _ => 0

abbrev bufTy : (tb : Table) → Fin (tcTables nBuf tb) → BufTy
  | .hbm, ⟨0, _⟩ => ⟨S2x4x8208x128, .f32⟩
  | .hbm, ⟨1, _⟩ => ⟨S2x4x8208x128, .f32⟩
  | .hbm, ⟨2, _⟩ => ⟨S2x4x8208x128, .f32⟩
  | .hbm, ⟨3, _⟩ => ⟨S2x4x8208x128, .f32⟩
  | .hbm, ⟨4, _⟩ => ⟨S2x8192x512, .f32⟩
  | .local _ .vmem, ⟨0, _⟩ => ⟨S1x1x8208x128, .f32⟩
  | .local _ .vmem, ⟨1, _⟩ => ⟨S1x1x8208x128, .f32⟩
  | .local _ .vmem, ⟨2, _⟩ => ⟨S1x1x8208x128, .f32⟩
  | .local _ .vmem, ⟨3, _⟩ => ⟨S1x1x8208x128, .f32⟩
  | .local _ .vmem, ⟨4, _⟩ => ⟨S1x1x8208x128, .f32⟩
  | .local _ .vmem, ⟨5, _⟩ => ⟨S1x1x8208x128, .f32⟩
  | .local _ .vmem, ⟨6, _⟩ => ⟨S1x1x8208x128, .f32⟩
  | .local _ .vmem, ⟨7, _⟩ => ⟨S1x1x8208x128, .f32⟩
  | .local _ .vmem, ⟨8, _⟩ => ⟨S1x8192x128, .f32⟩
  | .local _ .vmem, ⟨9, _⟩ => ⟨S1x8192x128, .f32⟩
  | .local _ .vmem, ⟨10, _⟩ => ⟨S8208x128, .f32⟩
  | .local _ .vmem, ⟨11, _⟩ => ⟨S8208x128, .f32⟩
  | .local _ .vmem, ⟨12, _⟩ => ⟨S64x128, .f32⟩
  | .local _ .vmem, ⟨13, _⟩ => ⟨S32x128, .f32⟩
  | _, _ => ⟨S2x4x8208x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c513_i32 : BitVec 32 := 513#32
  let v2 : BitVec 32 := Scalar.addi c0_i32 c513_i32
  let c1_i32 : BitVec 32 := 1#32
  ⟨c0_i32, v2, c1_i32⟩
def k0_off1 (k0_t1 : Fin k0_t1_loop.trips) (c0_i32_159 : BitVec 32) : Fin 4 → Nat :=
  let c0_160 : Index := 0#32
  let c0_161 : Index := 0#32
  let c0_i32 : BitVec 32 := 0#32
  let c1_i32 : BitVec 32 := 1#32
  let arg11 : BitVec 32 := Scf.iv c0_i32 c1_i32 k0_t1
  let v259 : BitVec 32 := Scalar.addi arg11 c0_i32_159
  let v260 : Index := Scalar.indexCast v259
  let c0_162 : Index := 0#32
  ![0, 0, v260.toNat, 0]
def k0_off2 (k0_t1 : Fin k0_t1_loop.trips) (c0_i32_174 : BitVec 32) : Fin 4 → Nat :=
  let c0_175 : Index := 0#32
  let c0_176 : Index := 0#32
  let c512_i32 : BitVec 32 := 512#32
  let c0_i32 : BitVec 32 := 0#32
  let c1_i32 : BitVec 32 := 1#32
  let arg11 : BitVec 32 := Scf.iv c0_i32 c1_i32 k0_t1
  let v258 : BitVec 32 := Scalar.subi c512_i32 arg11
  let v281 : BitVec 32 := Scalar.addi v258 c0_i32_174
  let v282 : Index := Scalar.indexCast v281
  let c0_177 : Index := 0#32
  ![0, 0, v282.toNat, 0]
@[reducible] def k0_t2_loop : Scf.Loop 32 :=
  let c0_i32_148 : BitVec 32 := 0#32
  let c513_i32_149 : BitVec 32 := 513#32
  let v250 : BitVec 32 := Scalar.addi c0_i32_148 c513_i32_149
  let c1_i32_150 : BitVec 32 := 1#32
  ⟨c0_i32_148, v250, c1_i32_150⟩
def k0_off3 (k0_t2 : Fin k0_t2_loop.trips) (c0_i32_159 : BitVec 32) : Fin 4 → Nat :=
  let c0_160 : Index := 0#32
  let c0_161 : Index := 0#32
  let c0_i32_148 : BitVec 32 := 0#32
  let c1_i32_150 : BitVec 32 := 1#32
  let arg11 : BitVec 32 := Scf.iv c0_i32_148 c1_i32_150 k0_t2
  let v259 : BitVec 32 := Scalar.addi arg11 c0_i32_159
  let v260 : Index := Scalar.indexCast v259
  let c0_162 : Index := 0#32
  ![0, 0, v260.toNat, 0]
def k0_off4 (k0_t2 : Fin k0_t2_loop.trips) (c0_i32_174 : BitVec 32) : Fin 2 → Nat :=
  let c0_i32_148 : BitVec 32 := 0#32
  let c1_i32_150 : BitVec 32 := 1#32
  let arg11 : BitVec 32 := Scf.iv c0_i32_148 c1_i32_150 k0_t2
  let v279 : BitVec 32 := Scalar.addi arg11 c0_i32_174
  let v280 : Index := Scalar.indexCast v279
  let c0_175 : Index := 0#32
  ![v280.toNat, 0]
def k0_off5 (k0_t2 : Fin k0_t2_loop.trips) (c0_i32_178 : BitVec 32) : Fin 4 → Nat :=
  let c0_179 : Index := 0#32
  let c0_180 : Index := 0#32
  let c512_i32 : BitVec 32 := 512#32
  let c0_i32_148 : BitVec 32 := 0#32
  let c1_i32_150 : BitVec 32 := 1#32
  let arg11 : BitVec 32 := Scf.iv c0_i32_148 c1_i32_150 k0_t2
  let v258 : BitVec 32 := Scalar.subi c512_i32 arg11
  let v289 : BitVec 32 := Scalar.addi v258 c0_i32_178
  let v290 : Index := Scalar.indexCast v289
  let c0_181 : Index := 0#32
  ![0, 0, v290.toNat, 0]
def k0_off6 (k0_t2 : Fin k0_t2_loop.trips) (c0_i32_194 : BitVec 32) : Fin 2 → Nat :=
  let c512_i32 : BitVec 32 := 512#32
  let c0_i32_148 : BitVec 32 := 0#32
  let c1_i32_150 : BitVec 32 := 1#32
  let arg11 : BitVec 32 := Scf.iv c0_i32_148 c1_i32_150 k0_t2
  let v258 : BitVec 32 := Scalar.subi c512_i32 arg11
  let v309 : BitVec 32 := Scalar.addi v258 c0_i32_194
  let v310 : Index := Scalar.indexCast v309
  let c0_195 : Index := 0#32
  ![v310.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x8208x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8208x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8208x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8208x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x4x8208x128 : Shape := ⟨4, ![2, 4, 8208, 128]⟩
abbrev S_ : Shape := ⟨0, ![]⟩
abbrev S2x512 : Shape := ⟨2, ![2, 512]⟩
abbrev S2x8208x4x128 : Shape := ⟨4, ![2, 8208, 4, 128]⟩
abbrev S2x8208x512 : Shape := ⟨3, ![2, 8208, 512]⟩
abbrev S8208x2x512 : Shape := ⟨3, ![8208, 2, 512]⟩
abbrev S1x2x512 : Shape := ⟨3, ![1, 2, 512]⟩
abbrev S2x8192x512 : Shape := ⟨3, ![2, 8192, 512]⟩

abbrev nBuf : Space → Nat
  | .hbm => 71
  | .vmem => 0
  | .smem => 0
  | _ => 0

abbrev bufTy : (tb : Table) → Fin (tcTables nBuf tb) → BufTy
  | .hbm, ⟨0, _⟩ => ⟨S2x4x8208x128, .f32⟩
  | .hbm, ⟨1, _⟩ => ⟨S2x4x8208x128, .f32⟩
  | .hbm, ⟨2, _⟩ => ⟨S2x4x8208x128, .f32⟩
  | .hbm, ⟨3, _⟩ => ⟨S2x4x8208x128, .f32⟩
  | .hbm, ⟨4, _⟩ => ⟨S_, .f32⟩
  | .hbm, ⟨5, _⟩ => ⟨S2x512, .f32⟩
  | .hbm, ⟨6, _⟩ => ⟨S2x8208x4x128, .f32⟩
  | .hbm, ⟨7, _⟩ => ⟨S2x8208x512, .f32⟩
  | .hbm, ⟨8, _⟩ => ⟨S8208x2x512, .f32⟩
  | .hbm, ⟨9, _⟩ => ⟨S2x8208x4x128, .f32⟩
  | .hbm, ⟨10, _⟩ => ⟨S2x8208x512, .f32⟩
  | .hbm, ⟨11, _⟩ => ⟨S8208x2x512, .f32⟩
  | .hbm, ⟨12, _⟩ => ⟨S2x8208x4x128, .f32⟩
  | .hbm, ⟨13, _⟩ => ⟨S2x8208x512, .f32⟩
  | .hbm, ⟨14, _⟩ => ⟨S2x8208x512, .f32⟩
  | .hbm, ⟨15, _⟩ => ⟨S8208x2x512, .f32⟩
  | .hbm, ⟨16, _⟩ => ⟨S2x8208x4x128, .f32⟩
  | .hbm, ⟨17, _⟩ => ⟨S2x8208x512, .f32⟩
  | .hbm, ⟨18, _⟩ => ⟨S2x8208x512, .f32⟩
  | .hbm, ⟨19, _⟩ => ⟨S8208x2x512, .f32⟩
  | .hbm, ⟨20, _⟩ => ⟨S_, .f32⟩
  | .hbm, ⟨21, _⟩ => ⟨S8208x2x512, .f32⟩
  | .hbm, ⟨22, _⟩ => ⟨S_, .f32⟩
  | .hbm, ⟨23, _⟩ => ⟨S8208x2x512, .f32⟩
  | .hbm, ⟨24, _⟩ => ⟨S_, .i32⟩
  | .hbm, ⟨25, _⟩ => ⟨S8208x2x512, .f32⟩
  | .hbm, ⟨26, _⟩ => ⟨S8208x2x512, .f32⟩
  | .hbm, ⟨27, _⟩ => ⟨S8208x2x512, .f32⟩
  | .hbm, ⟨28, _⟩ => ⟨S8208x2x512, .f32⟩
  | .hbm, ⟨29, _⟩ => ⟨S_, .i32⟩
  | .hbm, ⟨30, _⟩ => ⟨S2x512, .f32⟩
  | .hbm, ⟨31, _⟩ => ⟨S2x512, .f32⟩
  | .hbm, ⟨32, _⟩ => ⟨S8208x2x512, .f32⟩
  | .hbm, ⟨33, _⟩ => ⟨S8208x2x512, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S1x2x512, .f32⟩
  | .hbm, ⟨39, _⟩ => ⟨S2x512, .f32⟩
  | .hbm, ⟨40, _⟩ => ⟨S_, .i32⟩
  | .hbm, ⟨41, _⟩ => ⟨S_, .i32⟩
  | .hbm, ⟨42, _⟩ => ⟨S1x2x512, .f32⟩
  | .hbm, ⟨43, _⟩ => ⟨S2x512, .f32⟩
  | .hbm, ⟨44, _⟩ => ⟨S_, .i32⟩
  | .hbm, ⟨45, _⟩ => ⟨S_, .i32⟩
  | .hbm, ⟨46, _⟩ => ⟨S1x2x512, .f32⟩
  | .hbm, ⟨47, _⟩ => ⟨S2x512, .f32⟩
  | .hbm, ⟨48, _⟩ => ⟨S_, .i32⟩
  | .hbm, ⟨49, _⟩ => ⟨S_, .i32⟩
  | .hbm, ⟨50, _⟩ => ⟨S1x2x512, .f32⟩
  | .hbm, ⟨51, _⟩ => ⟨S2x512, .f32⟩
  | .hbm, ⟨52, _⟩ => ⟨S2x512, .f32⟩
  | .hbm, ⟨53, _⟩ => ⟨S2x512, .f32⟩
  | .hbm, ⟨54, _⟩ => ⟨S2x512, .f32⟩
  | .hbm, ⟨55, _⟩ => ⟨S2x512, .f32⟩
  | .hbm, ⟨56, _⟩ => ⟨S1x2x512, .f32⟩
  | .hbm, ⟨57, _⟩ => ⟨S_, .i32⟩
  | .hbm, ⟨58, _⟩ => ⟨S_, .i32⟩
  | .hbm, ⟨59, _⟩ => ⟨S8208x2x512, .f32⟩
  | .hbm, ⟨60, _⟩ => ⟨S1x2x512, .f32⟩
  | .hbm, ⟨61, _⟩ => ⟨S_, .i32⟩
  | .hbm, ⟨62, _⟩ => ⟨S_, .i32⟩
  | .hbm, ⟨63, _⟩ => ⟨S8208x2x512, .f32⟩
  | .hbm, ⟨64, _⟩ => ⟨S_, .i32⟩
  | .hbm, ⟨65, _⟩ => ⟨S_, .i32⟩
  | .hbm, ⟨66, _⟩ => ⟨S2x8208x512, .f32⟩
  | .hbm, ⟨67, _⟩ => ⟨S2x8208x512, .f32⟩
  | .hbm, ⟨68, _⟩ => ⟨S2x8208x512, .f32⟩
  | .hbm, ⟨69, _⟩ => ⟨S2x8208x512, .f32⟩
  | .hbm, ⟨70, _⟩ => ⟨S2x8192x512, .f32⟩
  | _, _ => ⟨S2x4x8208x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_c : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v17_5 : Ref sig .tc := ⟨.hbm, 30, rfl⟩
abbrev main_v17_6 : Ref sig .tc := ⟨.hbm, 31, rfl⟩
abbrev main_v17_7 : Ref sig .tc := ⟨.hbm, 32, rfl⟩
abbrev main_v17_8 : Ref sig .tc := ⟨.hbm, 33, rfl⟩
abbrev main_while0c_c_10 : Ref sig .tc := ⟨.hbm, 34, rfl⟩
abbrev main_while0c_v23 : Ref sig .tc := ⟨.hbm, 35, rfl⟩
abbrev main_while0b_call2_c : Ref sig .tc := ⟨.hbm, 36, rfl⟩
abbrev main_while0b_call2_c_0 : Ref sig .tc := ⟨.hbm, 37, rfl⟩
abbrev main_while0b_call2_v0 : Ref sig .tc := ⟨.hbm, 38, rfl⟩
abbrev main_while0b_v23 : Ref sig .tc := ⟨.hbm, 39, rfl⟩
abbrev main_while0b_call3_c : Ref sig .tc := ⟨.hbm, 40, rfl⟩
abbrev main_while0b_call3_c_0 : Ref sig .tc := ⟨.hbm, 41, rfl⟩
abbrev main_while0b_call3_v0 : Ref sig .tc := ⟨.hbm, 42, rfl⟩
abbrev main_while0b_v24 : Ref sig .tc := ⟨.hbm, 43, rfl⟩
abbrev main_while0b_call4_c : Ref sig .tc := ⟨.hbm, 44, rfl⟩
abbrev main_while0b_call4_c_0 : Ref sig .tc := ⟨.hbm, 45, rfl⟩
abbrev main_while0b_call4_v0 : Ref sig .tc := ⟨.hbm, 46, rfl⟩
abbrev main_while0b_v25 : Ref sig .tc := ⟨.hbm, 47, rfl⟩
abbrev main_while0b_call5_c : Ref sig .tc := ⟨.hbm, 48, rfl⟩
abbrev main_while0b_call5_c_0 : Ref sig .tc := ⟨.hbm, 49, rfl⟩
abbrev main_while0b_call5_v0 : Ref sig .tc := ⟨.hbm, 50, rfl⟩
abbrev main_while0b_v26 : Ref sig .tc := ⟨.hbm, 51, rfl⟩
abbrev main_while0b_v27 : Ref sig .tc := ⟨.hbm, 52, rfl⟩
abbrev main_while0b_v28 : Ref sig .tc := ⟨.hbm, 53, rfl⟩
abbrev main_while0b_v29 : Ref sig .tc := ⟨.hbm, 54, rfl⟩
abbrev main_while0b_v30 : Ref sig .tc := ⟨.hbm, 55, rfl⟩
abbrev main_while0b_call6_v0 : Ref sig .tc := ⟨.hbm, 56, rfl⟩
abbrev main_while0b_call6_c : Ref sig .tc := ⟨.hbm, 57, rfl⟩
abbrev main_while0b_call6_c_0 : Ref sig .tc := ⟨.hbm, 58, rfl⟩
abbrev main_while0b_v31 : Ref sig .tc := ⟨.hbm, 59, rfl⟩
abbrev main_while0b_call7_v0 : Ref sig .tc := ⟨.hbm, 60, rfl⟩
abbrev main_while0b_call7_c : Ref sig .tc := ⟨.hbm, 61, rfl⟩
abbrev main_while0b_call7_c_0 : Ref sig .tc := ⟨.hbm, 62, rfl⟩
abbrev main_while0b_v32 : Ref sig .tc := ⟨.hbm, 63, rfl⟩
abbrev main_while0b_c_10 : Ref sig .tc := ⟨.hbm, 64, rfl⟩
abbrev main_while0b_v33 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩

abbrev nD : Nat := 1
abbrev τ : Topo := Topo.v7x

variable {F : FTy → Type} [FloatOps F]

abbrev main_while0_count : Scf.Loop 32 := ⟨0#32, 8208#32, 1#32⟩
-- ==== Kernel2.lean ====
abbrev S2x8192x1024 : Shape := ⟨3, ![2, 8192, 1024]⟩
abbrev S2x8192x512 : Shape := ⟨3, ![2, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S16384x1024 : Shape := ⟨2, ![16384, 1024]⟩
abbrev S16384x512 : Shape := ⟨2, ![16384, 512]⟩
abbrev S512 : Shape := ⟨1, ![512]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S512x512 : Shape := ⟨2, ![512, 512]⟩
abbrev S1024x256 : Shape := ⟨2, ![1024, 256]⟩
abbrev S256x1024 : Shape := ⟨2, ![256, 1024]⟩
abbrev S4x1024x256 : Shape := ⟨3, ![4, 1024, 256]⟩
abbrev S11x1024x256 : Shape := ⟨3, ![11, 1024, 256]⟩
abbrev S2x512x1024 : Shape := ⟨3, ![2, 512, 1024]⟩
abbrev S512x2816 : Shape := ⟨2, ![512, 2816]⟩
abbrev S1x1024x256 : Shape := ⟨3, ![1, 1024, 256]⟩
abbrev S128x512 : Shape := ⟨2, ![128, 512]⟩
abbrev S128 : Shape := ⟨1, ![128]⟩
abbrev S128x1 : Shape := ⟨2, ![128, 1]⟩
abbrev S1x128x512 : Shape := ⟨3, ![1, 128, 512]⟩
abbrev S1x512x1024 : Shape := ⟨3, ![1, 512, 1024]⟩
abbrev S512x256 : Shape := ⟨2, ![512, 256]⟩
abbrev S512x1 : Shape := ⟨2, ![512, 1]⟩
abbrev S128x1024 : Shape := ⟨2, ![128, 1024]⟩

abbrev nBuf : Space → Nat
  | .hbm => 29
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x2816x1024, .f32⟩
  | .hbm, ⟨11, _⟩ => ⟨S1024, .f32⟩
  | .hbm, ⟨12, _⟩ => ⟨S16384x1024, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S1024x1024, .f32⟩
  | .hbm, ⟨23, _⟩ => ⟨S1024, .f32⟩
  | .hbm, ⟨24, _⟩ => ⟨S1x1024, .f32⟩
  | .hbm, ⟨25, _⟩ => ⟨S1024x5632, .f32⟩
  | .hbm, ⟨26, _⟩ => ⟨S2816x1024, .f32⟩
  | .hbm, ⟨27, _⟩ => ⟨S1x1024, .f32⟩
  | .hbm, ⟨28, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x256, .f32⟩
  | .local _ .vmem, ⟨12, _⟩ => ⟨S1024x256, .f32⟩
  | .local _ .vmem, ⟨13, _⟩ => ⟨S1x1024, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S4x1024x256, .bf16⟩
  | .local _ .vmem, ⟨24, _⟩ => ⟨S11x1024x256, .bf16⟩
  | .local _ .vmem, ⟨25, _⟩ => ⟨S11x1024x256, .bf16⟩
  | .local _ .vmem, ⟨26, _⟩ => ⟨S2816x1024, .bf16⟩
  | .local _ .vmem, ⟨27, _⟩ => ⟨S2x512x1024, .bf16⟩
  | .local _ .vmem, ⟨28, _⟩ => ⟨S512x1024, .f32⟩
  | .local _ .vmem, ⟨29, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![44], ![false]⟩

def k0_cond1 (i : grid0.Coords) : BitVec 1 :=
  let arg0 : BitVec 32 := BitVec.ofNat 32 (i 0).val
  let c11_i32_0 : BitVec 32 := 11#32
  let v1 : BitVec 1 := Scalar.cmpi .slt arg0 c11_i32_0
  let v2 : BitVec 32 := Scalar.extui v1
  let c0_i32 : BitVec 32 := 0#32
  let v3 : BitVec 1 := Scalar.cmpi .ne v2 c0_i32
  v3

def k0_off1 (i : grid0.Coords) : Fin 3 → Nat :=
  let arg0 : BitVec 32 := BitVec.ofNat 32 (i 0).val
  let v50 : Index := Scalar.indexCast arg0
  let c0_23 : Index := 0#32
  let c0_24 : Index := 0#32
  ![v50.toNat, 0, 0]
def k0_mult1 (i : grid0.Coords) : BitVec 32 :=
  let arg0 : BitVec 32 := BitVec.ofNat 32 (i 0).val
  let c256_i32 : BitVec 32 := 256#32
  let v64 : BitVec 32 := Scalar.muli arg0 c256_i32
  v64
def k0_off2 (i : grid0.Coords) : Fin 2 → Nat :=
  let arg0 : BitVec 32 := BitVec.ofNat 32 (i 0).val
  let c256_i32 : BitVec 32 := 256#32
  let v64 : BitVec 32 := Scalar.muli arg0 c256_i32
  let v65 : BitVec 32 := v64
  let v66 : Index := Scalar.indexCast v65
  let c0_31 : Index := 0#32
  ![v66.toNat, 0]
def k0_cond2 (i : grid0.Coords) : BitVec 1 :=
  let arg0 : BitVec 32 := BitVec.ofNat 32 (i 0).val
  let c4_i32 : BitVec 32 := 4#32
  let v4 : BitVec 1 := Scalar.cmpi .slt arg0 c4_i32
  let v5 : BitVec 32 := Scalar.extui v4
  let c0_i32_1 : BitVec 32 := 0#32
  let v6 : BitVec 1 := Scalar.cmpi .ne v5 c0_i32_1
  v6

def k0_off3 (i : grid0.Coords) : Fin 3 → Nat :=
  let arg0 : BitVec 32 := BitVec.ofNat 32 (i 0).val
  let v50 : Index := Scalar.indexCast arg0
  let c0_23 : Index := 0#32
  let c0_24 : Index := 0#32
  ![v50.toNat, 0, 0]
def k0_cond5 (i : grid0.Coords) : BitVec 1 :=
  let arg0 : BitVec 32 := BitVec.ofNat 32 (i 0).val
  let c11_i32 : BitVec 32 := 11#32
  let v0 : BitVec 32 := Scalar.subi arg0 c11_i32
  let c0_i32_5 : BitVec 32 := 0#32
  let v13 : BitVec 1 := Scalar.cmpi .sge v0 c0_i32_5
  let c32_i32 : BitVec 32 := 32#32
  let v14 : BitVec 1 := Scalar.cmpi .slt v0 c32_i32
  let v15 : BitVec 1 := Scalar.andi v13 v14
  let c2_i32 : BitVec 32 := 2#32
  let c0_i32_6 : BitVec 32 := 0#32
  let v16 : BitVec 1 := Scalar.cmpi .eq c2_i32 c0_i32_6
  let c1_i32 : BitVec 32 := 1#32
  let v17 : BitVec 32 := Scalar.select v16 c1_i32 c2_i32
  let v18 : BitVec 32 := Scalar.remsi v0 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let c0_i32_10 : BitVec 32 := 0#32
  let v26 : BitVec 1 := Scalar.cmpi .eq v25 c0_i32_10
  let v27 : BitVec 1 := Scalar.andi v15 v26
  let v28 : BitVec 32 := Scalar.extui v27
  let c0_i32_11 : BitVec 32 := 0#32
  let v29 : BitVec 1 := Scalar.cmpi .ne v28 c0_i32_11
  v29

def k0_cond6 (i : grid0.Coords) : BitVec 1 :=
  let arg0 : BitVec 32 := BitVec.ofNat 32 (i 0).val
  let c11_i32 : BitVec 32 := 11#32
  let v0 : BitVec 32 := Scalar.subi arg0 c11_i32
  let c0_i32_5 : BitVec 32 := 0#32
  let v13 : BitVec 1 := Scalar.cmpi .sge v0 c0_i32_5
  let c32_i32 : BitVec 32 := 32#32
  let v14 : BitVec 1 := Scalar.cmpi .slt v0 c32_i32
  let v15 : BitVec 1 := Scalar.andi v13 v14
  let c2_i32_12 : BitVec 32 := 2#32
  let c0_i32_13 : BitVec 32 := 0#32
  let v30 : BitVec 1 := Scalar.cmpi .eq c2_i32_12 c0_i32_13
  let c1_i32_14 : BitVec 32 := 1#32
  let v31 : BitVec 32 := Scalar.select v30 c1_i32_14 c2_i32_12
  let v32 : BitVec 32 := Scalar.remsi v0 v31
  let c0_i32_16 : BitVec 32 := 0#32
  let v34 : BitVec 1 := Scalar.cmpi .slt v32 c0_i32_16
  let c0_i32_17 : BitVec 32 := 0#32
  let v35 : BitVec 1 := Scalar.cmpi .slt v31 c0_i32_17
  let v36 : BitVec 1 := Scalar.xori v34 v35
  let c0_i32_15 : BitVec 32 := 0#32
  let v33 : BitVec 1 := Scalar.cmpi .ne v32 c0_i32_15
  let v37 : BitVec 1 := Scalar.andi v36 v33
  let v38 : BitVec 32 := Scalar.addi v32 v31
  let v39 : BitVec 32 := Scalar.select v37 v38 v32
  let c1_i32_18 : BitVec 32 := 1#32
  let v40 : BitVec 1 := Scalar.cmpi .eq v39 c1_i32_18
  let v41 : BitVec 1 := Scalar.andi v15 v40
  let v42 : BitVec 32 := Scalar.extui v41
  let c0_i32_19 : BitVec 32 := 0#32
  let v43 : BitVec 1 := Scalar.cmpi .ne v42 c0_i32_19
  v43

def k0_cond7 (i : grid0.Coords) : BitVec 1 :=
  let arg0 : BitVec 32 := BitVec.ofNat 32 (i 0).val
  let c11_i32 : BitVec 32 := 11#32
  let v0 : BitVec 32 := Scalar.subi arg0 c11_i32
  let c32_i32_20 : BitVec 32 := 32#32
  let v44 : BitVec 1 := Scalar.cmpi .eq v0 c32_i32_20
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.addi v0 c0_i32
  let c0_i32_0 : BitVec 32 := 0#32
  let c31_i32 : BitVec 32 := 31#32
  let v2 : BitVec 32 := Scalar.maxsi c0_i32_0 v1
  let v3 : BitVec 32 := Scalar.minsi c31_i32 v2
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.addi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.addi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c11_i32 : BitVec 32 := 11#32
  let v0 : BitVec 32 := Scalar.subi arg0 c11_i32
  let c1_i32 : BitVec 32 := 1#32
  let v1 : BitVec 32 := Scalar.addi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c10_i32 : BitVec 32 := 10#32
  let v0 : BitVec 32 := Scalar.minsi arg0 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c11_i32 : BitVec 32 := 11#32
  let v0 : BitVec 32 := Scalar.subi arg0 c11_i32
  let c_m1_i32 : BitVec 32 := 4294967295#32
  let v1 : BitVec 32 := Scalar.addi v0 c_m1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![v3.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2x8192x1024 : Shape := ⟨3, ![2, 8192, 1024]⟩
abbrev S2x8192x512 : Shape := ⟨3, ![2, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S512 : Shape := ⟨1, ![512]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1024x1024 : Shape := ⟨2, ![1024, 1024]⟩
abbrev S1x1x1024 : Shape := ⟨3, ![1, 1, 1024]⟩
abbrev S1024x5632 : Shape := ⟨2, ![1024, 5632]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x2816x1024, .f32⟩
  | .hbm, ⟨11, _⟩ => ⟨S1024, .f32⟩
  | .hbm, ⟨12, _⟩ => ⟨S2x8192x512, .f32⟩
  | .hbm, ⟨13, _⟩ => ⟨S512, .f32⟩
  | .hbm, ⟨14, _⟩ => ⟨S2x8192x512, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x512, .f32⟩
  | .hbm, ⟨26, _⟩ => ⟨S2x8192x512, .f32⟩
  | .hbm, ⟨27, _⟩ => ⟨S1x1x512, .f32⟩
  | .hbm, ⟨28, _⟩ => ⟨S2x8192x512, .f32⟩
  | .hbm, ⟨29, _⟩ => ⟨S2x8192x512, .f32⟩
  | .hbm, ⟨30, _⟩ => ⟨S512, .f32⟩
  | .hbm, ⟨31, _⟩ => ⟨S1x1x512, .f32⟩
  | .hbm, ⟨32, _⟩ => ⟨S2x8192x512, .f32⟩
  | .hbm, ⟨33, _⟩ => ⟨S2x8192x512, .f32⟩
  | .hbm, ⟨34, _⟩ => ⟨S512, .f32⟩
  | .hbm, ⟨35, _⟩ => ⟨S2x8192x512, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x512, .f32⟩
  | .hbm, ⟨47, _⟩ => ⟨S2x8192x512, .f32⟩
  | .hbm, ⟨48, _⟩ => ⟨S1x1x512, .f32⟩
  | .hbm, ⟨49, _⟩ => ⟨S2x8192x512, .f32⟩
  | .hbm, ⟨50, _⟩ => ⟨S2x8192x512, .f32⟩
  | .hbm, ⟨51, _⟩ => ⟨S2x8192x1024, .f32⟩
  | .hbm, ⟨52, _⟩ => ⟨S1024x1024, .f32⟩
  | .hbm, ⟨53, _⟩ => ⟨S2x8192x1024, .f32⟩
  | .hbm, ⟨54, _⟩ => ⟨S2x8192x1024, .f32⟩
  | .hbm, ⟨55, _⟩ => ⟨S1024, .f32⟩
  | .hbm, ⟨56, _⟩ => ⟨S2x8192x1024, .f32⟩
  | .hbm, ⟨57, _⟩ => ⟨S_, .f32⟩
  | .hbm, ⟨58, _⟩ => ⟨S2x8192, .f32⟩
  | .hbm, ⟨59, _⟩ => ⟨S2x8192x1, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S2x8192x1, .f32⟩
  | .hbm, ⟨67, _⟩ => ⟨S2x8192x1024, .f32⟩
  | .hbm, ⟨68, _⟩ => ⟨S2x8192x1024, .f32⟩
  | .hbm, ⟨69, _⟩ => ⟨S1x1x1024, .f32⟩
  | .hbm, ⟨70, _⟩ => ⟨S2x8192x1024, .f32⟩
  | .hbm, ⟨71, _⟩ => ⟨S2x8192x1024, .f32⟩
  | .hbm, ⟨72, _⟩ => ⟨S1024x5632, .f32⟩
  | .hbm, ⟨73, _⟩ => ⟨S2816x1024, .f32⟩
  | .hbm, ⟨74, _⟩ => ⟨S2x8192x5632, .f32⟩
  | .hbm, ⟨75, _⟩ => ⟨S2x8192x2816, .f32⟩
  | .hbm, ⟨76, _⟩ => ⟨S2x8192x2816, .f32⟩
  | .hbm, ⟨77, _⟩ => ⟨S2x8192x2816, .f32⟩
  | .hbm, ⟨78, _⟩ => ⟨S2x8192x2816, .f32⟩
  | .hbm, ⟨79, _⟩ => ⟨S_, .f32⟩
  | .hbm, ⟨80, _⟩ => ⟨S2x8192x2816, .f32⟩
  | .hbm, ⟨81, _⟩ => ⟨S2x8192x2816, .f32⟩
  | .hbm, ⟨82, _⟩ => ⟨S_, .f32⟩
  | .hbm, ⟨83, _⟩ => ⟨S2x8192x2816, .f32⟩
  | .hbm, ⟨84, _⟩ => ⟨S2x8192x2816, .f32⟩
  | .hbm, ⟨85, _⟩ => ⟨S2x8192x2816, .f32⟩
  | .hbm, ⟨86, _⟩ => ⟨S2x8192x2816, .f32⟩
  | .hbm, ⟨87, _⟩ => ⟨S2x8192x1024, .f32⟩
  | .hbm, ⟨88, _⟩ => ⟨S_, .f32⟩
  | .hbm, ⟨89, _⟩ => ⟨S2x8192x1024, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S_, .f32⟩
  | .hbm, ⟨94, _⟩ => ⟨S2x8192, .f32⟩
  | .hbm, ⟨95, _⟩ => ⟨S2x8192x1, .f32⟩
  | .hbm, ⟨96, _⟩ => ⟨S_, .f32⟩
  | .hbm, ⟨97, _⟩ => ⟨S2x8192x1, .f32⟩
  | .hbm, ⟨98, _⟩ => ⟨S2x8192x1, .f32⟩
  | .hbm, ⟨99, _⟩ => ⟨S_, .f32⟩
  | .hbm, ⟨100, _⟩ => ⟨S2x8192x1, .f32⟩
  | .hbm, ⟨101, _⟩ => ⟨S2x8192x1, .f32⟩
  | .hbm, ⟨102, _⟩ => ⟨S2x8192x1, .f32⟩
  | .hbm, ⟨103, _⟩ => ⟨S2x8192x1024, .f32⟩
  | .hbm, ⟨104, _⟩ => ⟨S2x8192x1024, .f32⟩
  | .hbm, ⟨105, _⟩ => ⟨S1x1x1024, .f32⟩
  | .hbm, ⟨106, _⟩ => ⟨S2x8192x1024, .f32⟩
  | .hbm, ⟨107, _⟩ => ⟨S2x8192x1024, .f32⟩
  | .hbm, ⟨108, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_cst_11 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩

abbrev nD : Nat := 1
abbrev τ : Topo := Topo.v7x

variable {F : FTy → Type} [FloatOps F]
-- ==== Kernel3.lean ====
abbrev S2x8192x1024 : Shape := ⟨3, ![2, 8192, 1024]⟩
abbrev S16x1024 : Shape := ⟨2, ![16, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x1536 : Shape := ⟨3, ![1, 1024, 1536]⟩
abbrev S2x256x512 : Shape := ⟨3, ![2, 256, 512]⟩
abbrev S1x4x512 : Shape := ⟨3, ![1, 4, 512]⟩
abbrev S1x512 : Shape := ⟨2, ![1, 512]⟩
abbrev S4x128x512 : Shape := ⟨3, ![4, 128, 512]⟩
abbrev S6x512 : Shape := ⟨2, ![6, 512]⟩
abbrev S1024 : Shape := ⟨1, ![1024]⟩
abbrev S1024x5632 : Shape := ⟨2, ![1024, 5632]⟩
abbrev S2816x1024 : Shape := ⟨2, ![2816, 1024]⟩
abbrev S1024x1536 : Shape := ⟨2, ![1024, 1536]⟩
abbrev S4x512 : Shape := ⟨2, ![4, 512]⟩
abbrev S512 : Shape := ⟨1, ![512]⟩
abbrev S2x8192x512 : Shape := ⟨3, ![2, 8192, 512]⟩
abbrev S2x4x8208x128 : Shape := ⟨4, ![2, 4, 8208, 128]⟩
abbrev S1x512x1024 : Shape := ⟨3, ![1, 512, 1024]⟩
abbrev S1024x256 : Shape := ⟨2, ![1024, 256]⟩
abbrev S256x1024 : Shape := ⟨2, ![256, 1024]⟩
abbrev S1x512x512 : Shape := ⟨3, ![1, 512, 512]⟩
abbrev S1x4x512x128 : Shape := ⟨4, ![1, 4, 512, 128]⟩
abbrev S11x1024x256 : Shape := ⟨3, ![11, 1024, 256]⟩
abbrev S6x1024x256 : Shape := ⟨3, ![6, 1024, 256]⟩
abbrev S512x2816 : Shape := ⟨2, ![512, 2816]⟩
abbrev S16x2816 : Shape := ⟨2, ![16, 2816]⟩
abbrev S536x512 : Shape := ⟨2, ![536, 512]⟩
abbrev S24x512 : Shape := ⟨2, ![24, 512]⟩
abbrev S16x512 : Shape := ⟨2, ![16, 512]⟩
abbrev S1x1024x256 : Shape := ⟨3, ![1, 1024, 256]⟩
abbrev S16 : Shape := ⟨1, ![16]⟩
abbrev S16x1 : Shape := ⟨2, ![16, 1]⟩
abbrev S16x256 : Shape := ⟨2, ![16, 256]⟩
abbrev S1x256x512 : Shape := ⟨3, ![1, 256, 512]⟩
abbrev S256x512 : Shape := ⟨2, ![256, 512]⟩
abbrev S2x512 : Shape := ⟨2, ![2, 512]⟩
abbrev S512x1024 : Shape := ⟨2, ![512, 1024]⟩
abbrev S512x1 : Shape := ⟨2, ![512, 1]⟩
abbrev S512x256 : Shape := ⟨2, ![512, 256]⟩
abbrev S1x128 : Shape := ⟨2, ![1, 128]⟩
abbrev S256x128 : Shape := ⟨2, ![256, 128]⟩
abbrev S1x128x512 : Shape := ⟨3, ![1, 128, 512]⟩
abbrev S128x512 : Shape := ⟨2, ![128, 512]⟩
abbrev S1x1x256x128 : Shape := ⟨4, ![1, 1, 256, 128]⟩
abbrev S512x512 : Shape := ⟨2, ![512, 512]⟩
abbrev S8x512 : Shape := ⟨2, ![8, 512]⟩
abbrev S512x128 : Shape := ⟨2, ![512, 128]⟩
abbrev S1x1x512x128 : Shape := ⟨4, ![1, 1, 512, 128]⟩
abbrev S16x128 : Shape := ⟨2, ![16, 128]⟩
abbrev S1x1x16x128 : Shape := ⟨4, ![1, 1, 16, 128]⟩

abbrev nBuf : Space → Nat
  | .hbm => 30
  | .vmem => 42
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024, .f32⟩
  | .hbm, ⟨6, _⟩ => ⟨S1x1024x1536, .f32⟩
  | .hbm, ⟨7, _⟩ => ⟨S2x256x512, .bf16⟩
  | .hbm, ⟨8, _⟩ => ⟨S1x4x512, .f32⟩
  | .hbm, ⟨9, _⟩ => ⟨S1x512, .f32⟩
  | .hbm, ⟨10, _⟩ => ⟨S4x128x512, .bf16⟩
  | .hbm, ⟨11, _⟩ => ⟨S6x512, .f32⟩
  | .hbm, ⟨12, _⟩ => ⟨S1024, .f32⟩
  | .hbm, ⟨13, _⟩ => ⟨S1x1024, .f32⟩
  | .hbm, ⟨14, _⟩ => ⟨S1024x5632, .f32⟩
  | .hbm, ⟨15, _⟩ => ⟨S2816x1024, .f32⟩
  | .hbm, ⟨16, _⟩ => ⟨S1024, .f32⟩
  | .hbm, ⟨17, _⟩ => ⟨S1x1024, .f32⟩
  | .hbm, ⟨18, _⟩ => ⟨S1024x1536, .f32⟩
  | .hbm, ⟨19, _⟩ => ⟨S4x512, .f32⟩
  | .hbm, ⟨20, _⟩ => ⟨S512, .f32⟩
  | .hbm, ⟨21, _⟩ => ⟨S1x512, .f32⟩
  | .hbm, ⟨22, _⟩ => ⟨S2x8192x1024, .f32⟩
  | .hbm, ⟨23, _⟩ => ⟨S2x8192x512, .f32⟩
  | .hbm, ⟨24, _⟩ => ⟨S2x8192x1024, .f32⟩
  | .hbm, ⟨25, _⟩ => ⟨S16x1024, .f32⟩
  | .hbm, ⟨26, _⟩ => ⟨S2x4x8208x128, .f32⟩
  | .hbm, ⟨27, _⟩ => ⟨S2x4x8208x128, .f32⟩
  | .hbm, ⟨28, _⟩ => ⟨S2x4x8208x128, .f32⟩
  | .hbm, ⟨29, _⟩ => ⟨S2x4x8208x128, .f32⟩
  | .local _ .vmem, ⟨0, _⟩ => ⟨S1x512x1024, .f32⟩
  | .local _ .vmem, ⟨1, _⟩ => ⟨S1x512x1024, .f32⟩
  | .local _ .vmem, ⟨2, _⟩ => ⟨S16x1024, .f32⟩
  | .local _ .vmem, ⟨3, _⟩ => ⟨S1x1024, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x256, .f32⟩
  | .local _ .vmem, ⟨12, _⟩ => ⟨S1024x256, .f32⟩
  | .local _ .vmem, ⟨13, _⟩ => ⟨S2x256x512, .bf16⟩
  | .local _ .vmem, ⟨14, _⟩ => ⟨S4x512, .f32⟩
  | .local _ .vmem, ⟨15, _⟩ => ⟨S1x512, .f32⟩
  | .local _ .vmem, ⟨16, _⟩ => ⟨S4x128x512, .bf16⟩
  | .local _ .vmem, ⟨17, _⟩ => ⟨S6x512, .f32⟩
  | .local _ .vmem, ⟨18, _⟩ => ⟨S1x512x1024, .f32⟩
  | .local _ .vmem, ⟨19, _⟩ => ⟨S1x512x1024, .f32⟩
  | .local _ .vmem, ⟨20, _⟩ => ⟨S1x512x512, .f32⟩
  | .local _ .vmem, ⟨21, _⟩ => ⟨S1x512x512, .f32⟩
  | .local _ .vmem, ⟨22, _⟩ => ⟨S1x512x1024, .f32⟩
  | .local _ .vmem, ⟨23, _⟩ => ⟨S1x512x1024, .f32⟩
  | .local _ .vmem, ⟨24, _⟩ => ⟨S16x1024, .f32⟩
  | .local _ .vmem, ⟨25, _⟩ => ⟨S1x4x512x128, .f32⟩
  | .local _ .vmem, ⟨26, _⟩ => ⟨S1x4x512x128, .f32⟩
  | .local _ .vmem, ⟨27, _⟩ => ⟨S1x4x512x128, .f32⟩
  | .local _ .vmem, ⟨28, _⟩ => ⟨S1x4x512x128, .f32⟩
  | .local _ .vmem, ⟨29, _⟩ => ⟨S1x4x512x128, .f32⟩
  | .local _ .vmem, ⟨30, _⟩ => ⟨S1x4x512x128, .f32⟩
  | .local _ .vmem, ⟨31, _⟩ => ⟨S1x4x512x128, .f32⟩
  | .local _ .vmem, ⟨32, _⟩ => ⟨S1x4x512x128, .f32⟩
  | .local _ .vmem, ⟨33, _⟩ => ⟨S11x1024x256, .bf16⟩
  | .local _ .vmem, ⟨34, _⟩ => ⟨S11x1024x256, .bf16⟩
  | .local _ .vmem, ⟨35, _⟩ => ⟨S2816x1024, .bf16⟩
  | .local _ .vmem, ⟨36, _⟩ => ⟨S6x1024x256, .bf16⟩
  | .local _ .vmem, ⟨37, _⟩ => ⟨S512x2816, .bf16⟩
  | .local _ .vmem, ⟨38, _⟩ => ⟨S16x2816, .bf16⟩
  | .local _ .vmem, ⟨39, _⟩ => ⟨S536x512, .f32⟩
  | .local _ .vmem, ⟨40, _⟩ => ⟨S24x512, .f32⟩
  | .local _ .vmem, ⟨41, _⟩ => ⟨S16x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev main_v10_5 : Ref sig .tc := ⟨.hbm, 27, rfl⟩
abbrev main_v10_6 : Ref sig .tc := ⟨.hbm, 28, rfl⟩
abbrev main_v10_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_scratch7 : Ref sig .tc := ⟨.vmem, 40, rfl⟩
abbrev cc0_scratch8 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c11_i32_4 : BitVec 32 := 11#32
  let v13 : BitVec 1 := Scalar.cmpi .slt arg0 c11_i32_4
  let v14 : BitVec 32 := Scalar.extui v13
  let c0_i32_5 : BitVec 32 := 0#32
  let v15 : BitVec 1 := Scalar.cmpi .ne v14 c0_i32_5
  v15

def k0_off1 (i : grid0.Coords) : Fin 3 → Nat :=
  let arg0 : BitVec 32 := BitVec.ofNat 32 (i 0).val
  let v40 : Index := Scalar.indexCast arg0
  let c0_16 : Index := 0#32
  let c0_17 : Index := 0#32
  ![v40.toNat, 0, 0]
def k0_mult1 (i : grid0.Coords) : BitVec 32 :=
  let arg0 : BitVec 32 := BitVec.ofNat 32 (i 0).val
  let c256_i32 : BitVec 32 := 256#32
  let v54 : BitVec 32 := Scalar.muli arg0 c256_i32
  v54
def k0_off2 (i : grid0.Coords) : Fin 2 → Nat :=
  let arg0 : BitVec 32 := BitVec.ofNat 32 (i 0).val
  let c256_i32 : BitVec 32 := 256#32
  let v54 : BitVec 32 := Scalar.muli arg0 c256_i32
  let v55 : BitVec 32 := v54
  let v56 : Index := Scalar.indexCast v55
  let c0_24 : Index := 0#32
  ![v56.toNat, 0]
def k0_cond2 (i : grid0.Coords) : BitVec 1 :=
  let arg0 : BitVec 32 := BitVec.ofNat 32 (i 0).val
  let c6_i32 : BitVec 32 := 6#32
  let v16 : BitVec 1 := Scalar.cmpi .slt arg0 c6_i32
  let v17 : BitVec 32 := Scalar.extui v16
  let c0_i32_6 : BitVec 32 := 0#32
  let v18 : BitVec 1 := Scalar.cmpi .ne v17 c0_i32_6
  v18

def k0_off3 (i : grid0.Coords) : Fin 3 → Nat :=
  let arg0 : BitVec 32 := BitVec.ofNat 32 (i 0).val
  let v40 : Index := Scalar.indexCast arg0
  let c0_16 : Index := 0#32
  let c0_17 : Index := 0#32
  ![v40.toNat, 0, 0]
def k0_cond5 (i : grid0.Coords) : BitVec 1 :=
  let arg0 : BitVec 32 := BitVec.ofNat 32 (i 0).val
  let c11_i32 : BitVec 32 := 11#32
  let v12 : BitVec 1 := Scalar.cmpi .sgt arg0 c11_i32
  let c12_i32 : BitVec 32 := 12#32
  let v0 : BitVec 32 := Scalar.subi arg0 c12_i32
  let c0_i32 : BitVec 32 := 0#32
  let v1 : BitVec 32 := Scalar.maxsi v0 c0_i32
  let c18_i32 : BitVec 32 := 18#32
  let c0_i32_0 : BitVec 32 := 0#32
  let v2 : BitVec 1 := Scalar.cmpi .eq c18_i32 c0_i32_0
  let c1_i32 : BitVec 32 := 1#32
  let v3 : BitVec 32 := Scalar.select v2 c1_i32 c18_i32
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c16_i32 : BitVec 32 := 16#32
  let v25 : BitVec 1 := Scalar.cmpi .slt v11 c16_i32
  let v26 : BitVec 1 := Scalar.andi v12 v25
  let v27 : BitVec 32 := Scalar.extui v26
  let c0_i32_11 : BitVec 32 := 0#32
  let v28 : BitVec 1 := Scalar.cmpi .ne v27 c0_i32_11
  v28

def k0_cond4 (i : grid0.Coords) : BitVec 1 :=
  let arg0 : BitVec 32 := BitVec.ofNat 32 (i 0).val
  let c11_i32_9 : BitVec 32 := 11#32
  let v22 : BitVec 1 := Scalar.cmpi .eq arg0 c11_i32_9
  let v23 : BitVec 32 := Scalar.extui v22
  let c0_i32_10 : BitVec 32 := 0#32
  let v24 : BitVec 1 := Scalar.cmpi .ne v23 c0_i32_10
  v24

def k0_cond6 (i : grid0.Coords) : BitVec 1 :=
  let arg0 : BitVec 32 := BitVec.ofNat 32 (i 0).val
  let c11_i32 : BitVec 32 := 11#32
  let v12 : BitVec 1 := Scalar.cmpi .sgt arg0 c11_i32
  let c12_i32 : BitVec 32 := 12#32
  let v0 : BitVec 32 := Scalar.subi arg0 c12_i32
  let c0_i32 : BitVec 32 := 0#32
  let v1 : BitVec 32 := Scalar.maxsi v0 c0_i32
  let c18_i32 : BitVec 32 := 18#32
  let c0_i32_0 : BitVec 32 := 0#32
  let v2 : BitVec 1 := Scalar.cmpi .eq c18_i32 c0_i32_0
  let c1_i32 : BitVec 32 := 1#32
  let v3 : BitVec 32 := Scalar.select v2 c1_i32 c18_i32
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c16_i32_12 : BitVec 32 := 16#32
  let v29 : BitVec 1 := Scalar.cmpi .eq v11 c16_i32_12
  let v30 : BitVec 1 := Scalar.andi v12 v29
  let v31 : BitVec 32 := Scalar.extui v30
  let c0_i32_13 : BitVec 32 := 0#32
  let v32 : BitVec 1 := Scalar.cmpi .ne v31 c0_i32_13
  v32

def k0_cond7 (i : grid0.Coords) : BitVec 1 :=
  let arg0 : BitVec 32 := BitVec.ofNat 32 (i 0).val
  let c11_i32 : BitVec 32 := 11#32
  let v12 : BitVec 1 := Scalar.cmpi .sgt arg0 c11_i32
  let c12_i32 : BitVec 32 := 12#32
  let v0 : BitVec 32 := Scalar.subi arg0 c12_i32
  let c0_i32 : BitVec 32 := 0#32
  let v1 : BitVec 32 := Scalar.maxsi v0 c0_i32
  let c18_i32 : BitVec 32 := 18#32
  let c0_i32_0 : BitVec 32 := 0#32
  let v2 : BitVec 1 := Scalar.cmpi .eq c18_i32 c0_i32_0
  let c1_i32 : BitVec 32 := 1#32
  let v3 : BitVec 32 := Scalar.select v2 c1_i32 c18_i32
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c17_i32 : BitVec 32 := 17#32
  let v33 : BitVec 1 := Scalar.cmpi .eq v11 c17_i32
  let v34 : BitVec 1 := Scalar.andi v12 v33
  let v35 : BitVec 32 := Scalar.extui v34
  let c0_i32_14 : BitVec 32 := 0#32
  let v36 : BitVec 1 := Scalar.cmpi .ne v35 c0_i32_14
  v36

def cc0_transform_0 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c18_i32 : BitVec 32 := 18#32
  let v2 : BitVec 32 := Scalar.divsi v1 c18_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c18_i32 c0_i32_2
  let v9 : BitVec 32 := Scalar.extui v8
  let c0_i32_3 : BitVec 32 := 0#32
  let v10 : BitVec 1 := Scalar.cmpi .slt c18_i32 c0_i32_3
  let v11 : BitVec 32 := Scalar.extui v10
  let v12 : BitVec 32 := Scalar.subi v9 v11
  let v13 : BitVec 1 := Scalar.cmpi .ne v7 v12
  let v14 : BitVec 32 := Scalar.remsi v1 c18_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c18_i32_5 : BitVec 32 := 18#32
  let c0_i32_6 : BitVec 32 := 0#32
  let v19 : BitVec 1 := Scalar.cmpi .eq c18_i32_5 c0_i32_6
  let c1_i32_7 : BitVec 32 := 1#32
  let v20 : BitVec 32 := Scalar.select v19 c1_i32_7 c18_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c15_i32 : BitVec 32 := 15#32
  let v29 : BitVec 32 := Scalar.minsi v28 c15_i32
  let c0_i32_11 : BitVec 32 := 0#32
  let c0_i32_12 : BitVec 32 := 0#32
  ![v18.toNat, v29.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c10_i32 : BitVec 32 := 10#32
  let v0 : BitVec 32 := Scalar.minsi arg0 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c18_i32 : BitVec 32 := 18#32
  let v2 : BitVec 32 := Scalar.divsi v1 c18_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c18_i32 c0_i32_2
  let v9 : BitVec 32 := Scalar.extui v8
  let c0_i32_3 : BitVec 32 := 0#32
  let v10 : BitVec 1 := Scalar.cmpi .slt c18_i32 c0_i32_3
  let v11 : BitVec 32 := Scalar.extui v10
  let v12 : BitVec 32 := Scalar.subi v9 v11
  let v13 : BitVec 1 := Scalar.cmpi .ne v7 v12
  let v14 : BitVec 32 := Scalar.remsi v1 c18_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c18_i32_5 : BitVec 32 := 18#32
  let c0_i32_6 : BitVec 32 := 0#32
  let v19 : BitVec 1 := Scalar.cmpi .eq c18_i32_5 c0_i32_6
  let c1_i32_7 : BitVec 32 := 1#32
  let v20 : BitVec 32 := Scalar.select v19 c1_i32_7 c18_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c15_i32 : BitVec 32 := 15#32
  let v29 : BitVec 32 := Scalar.minsi v28 c15_i32
  let c0_i32_11 : BitVec 32 := 0#32
  let c0_i32_12 : BitVec 32 := 0#32
  ![v18.toNat, v29.toNat, c0_i32_11.toNat]

def cc0_transform_14 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c18_i32 : BitVec 32 := 18#32
  let v2 : BitVec 32 := Scalar.divsi v1 c18_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c18_i32 c0_i32_2
  let v9 : BitVec 32 := Scalar.extui v8
  let c0_i32_3 : BitVec 32 := 0#32
  let v10 : BitVec 1 := Scalar.cmpi .slt c18_i32 c0_i32_3
  let v11 : BitVec 32 := Scalar.extui v10
  let v12 : BitVec 32 := Scalar.subi v9 v11
  let v13 : BitVec 1 := Scalar.cmpi .ne v7 v12
  let v14 : BitVec 32 := Scalar.remsi v1 c18_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c18_i32_5 : BitVec 32 := 18#32
  let c0_i32_6 : BitVec 32 := 0#32
  let v19 : BitVec 1 := Scalar.cmpi .eq c18_i32_5 c0_i32_6
  let c1_i32_7 : BitVec 32 := 1#32
  let v20 : BitVec 32 := Scalar.select v19 c1_i32_7 c18_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c15_i32 : BitVec 32 := 15#32
  let v29 : BitVec 32 := Scalar.minsi v28 c15_i32
  let c0_i32_11 : BitVec 32 := 0#32
  let c0_i32_12 : BitVec 32 := 0#32
  ![v18.toNat, v29.toNat, c0_i32_11.toNat]

def cc0_transform_15 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c18_i32 : BitVec 32 := 18#32
  let v2 : BitVec 32 := Scalar.divsi v1 c18_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c18_i32 c0_i32_2
  let v9 : BitVec 32 := Scalar.extui v8
  let c0_i32_3 : BitVec 32 := 0#32
  let v10 : BitVec 1 := Scalar.cmpi .slt c18_i32 c0_i32_3
  let v11 : BitVec 32 := Scalar.extui v10
  let v12 : BitVec 32 := Scalar.subi v9 v11
  let v13 : BitVec 1 := Scalar.cmpi .ne v7 v12
  let v14 : BitVec 32 := Scalar.remsi v1 c18_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c18_i32_5 : BitVec 32 := 18#32
  let c0_i32_6 : BitVec 32 := 0#32
  let v19 : BitVec 1 := Scalar.cmpi .eq c18_i32_5 c0_i32_6
  let c1_i32_7 : BitVec 32 := 1#32
  let v20 : BitVec 32 := Scalar.select v19 c1_i32_7 c18_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c15_i32 : BitVec 32 := 15#32
  let v29 : BitVec 32 := Scalar.minsi v28 c15_i32
  let c0_i32_11 : BitVec 32 := 0#32
  let c0_i32_12 : BitVec 32 := 0#32
  ![v18.toNat, v29.toNat, c0_i32_11.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c18_i32 : BitVec 32 := 18#32
  let v2 : BitVec 32 := Scalar.divsi v1 c18_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c18_i32 c0_i32_2
  let v9 : BitVec 32 := Scalar.extui v8
  let c0_i32_3 : BitVec 32 := 0#32
  let v10 : BitVec 1 := Scalar.cmpi .slt c18_i32 c0_i32_3
  let v11 : BitVec 32 := Scalar.extui v10
  let v12 : BitVec 32 := Scalar.subi v9 v11
  let v13 : BitVec 1 := Scalar.cmpi .ne v7 v12
  let v14 : BitVec 32 := Scalar.remsi v1 c18_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c18_i32_5 : BitVec 32 := 18#32
  let c0_i32_6 : BitVec 32 := 0#32
  let v19 : BitVec 1 := Scalar.cmpi .eq c18_i32_5 c0_i32_6
  let c1_i32_7 : BitVec 32 := 1#32
  let v20 : BitVec 32 := Scalar.select v19 c1_i32_7 c18_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.subi v28 c1_i32_11
  let c0_i32_12 : BitVec 32 := 0#32
  let c16_i32 : BitVec 32 := 16#32
  let v30 : BitVec 32 := Scalar.maxsi c0_i32_12 v29
  let v31 : BitVec 32 := Scalar.minsi c16_i32 v30
  let c0_i32_13 : BitVec 32 := 0#32
  let c0_i32_14 : BitVec 32 := 0#32
  let c0_i32_15 : BitVec 32 := 0#32
  ![v18.toNat, c0_i32_13.toNat, v31.toNat, c0_i32_14.toNat]

def cc0_transform_18 (i : grid0.Coords) : Fin 4 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c18_i32 : BitVec 32 := 18#32
  let v2 : BitVec 32 := Scalar.divsi v1 c18_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c18_i32 c0_i32_2
  let v9 : BitVec 32 := Scalar.extui v8
  let c0_i32_3 : BitVec 32 := 0#32
  let v10 : BitVec 1 := Scalar.cmpi .slt c18_i32 c0_i32_3
  let v11 : BitVec 32 := Scalar.extui v10
  let v12 : BitVec 32 := Scalar.subi v9 v11
  let v13 : BitVec 1 := Scalar.cmpi .ne v7 v12
  let v14 : BitVec 32 := Scalar.remsi v1 c18_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c18_i32_5 : BitVec 32 := 18#32
  let c0_i32_6 : BitVec 32 := 0#32
  let v19 : BitVec 1 := Scalar.cmpi .eq c18_i32_5 c0_i32_6
  let c1_i32_7 : BitVec 32 := 1#32
  let v20 : BitVec 32 := Scalar.select v19 c1_i32_7 c18_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.subi v28 c1_i32_11
  let c0_i32_12 : BitVec 32 := 0#32
  let c16_i32 : BitVec 32 := 16#32
  let v30 : BitVec 32 := Scalar.maxsi c0_i32_12 v29
  let v31 : BitVec 32 := Scalar.minsi c16_i32 v30
  let c0_i32_13 : BitVec 32 := 0#32
  let c0_i32_14 : BitVec 32 := 0#32
  let c0_i32_15 : BitVec 32 := 0#32
  ![v18.toNat, c0_i32_13.toNat, v31.toNat, c0_i32_14.toNat]

def cc0_transform_19 (i : grid0.Coords) : Fin 4 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c18_i32 : BitVec 32 := 18#32
  let v2 : BitVec 32 := Scalar.divsi v1 c18_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c18_i32 c0_i32_2
  let v9 : BitVec 32 := Scalar.extui v8
  let c0_i32_3 : BitVec 32 := 0#32
  let v10 : BitVec 1 := Scalar.cmpi .slt c18_i32 c0_i32_3
  let v11 : BitVec 32 := Scalar.extui v10
  let v12 : BitVec 32 := Scalar.subi v9 v11
  let v13 : BitVec 1 := Scalar.cmpi .ne v7 v12
  let v14 : BitVec 32 := Scalar.remsi v1 c18_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c18_i32_5 : BitVec 32 := 18#32
  let c0_i32_6 : BitVec 32 := 0#32
  let v19 : BitVec 1 := Scalar.cmpi .eq c18_i32_5 c0_i32_6
  let c1_i32_7 : BitVec 32 := 1#32
  let v20 : BitVec 32 := Scalar.select v19 c1_i32_7 c18_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.subi v28 c1_i32_11
  let c0_i32_12 : BitVec 32 := 0#32
  let c16_i32 : BitVec 32 := 16#32
  let v30 : BitVec 32 := Scalar.maxsi c0_i32_12 v29
  let v31 : BitVec 32 := Scalar.minsi c16_i32 v30
  let c0_i32_13 : BitVec 32 := 0#32
  let c0_i32_14 : BitVec 32 := 0#32
  let c0_i32_15 : BitVec 32 := 0#32
  ![v18.toNat, c0_i32_13.toNat, v31.toNat, c0_i32_14.toNat]

def cc0_transform_20 (i : grid0.Coords) : Fin 4 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c18_i32 : BitVec 32 := 18#32
  let v2 : BitVec 32 := Scalar.divsi v1 c18_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c18_i32 c0_i32_2
  let v9 : BitVec 32 := Scalar.extui v8
  let c0_i32_3 : BitVec 32 := 0#32
  let v10 : BitVec 1 := Scalar.cmpi .slt c18_i32 c0_i32_3
  let v11 : BitVec 32 := Scalar.extui v10
  let v12 : BitVec 32 := Scalar.subi v9 v11
  let v13 : BitVec 1 := Scalar.cmpi .ne v7 v12
  let v14 : BitVec 32 := Scalar.remsi v1 c18_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c18_i32_5 : BitVec 32 := 18#32
  let c0_i32_6 : BitVec 32 := 0#32
  let v19 : BitVec 1 := Scalar.cmpi .eq c18_i32_5 c0_i32_6
  let c1_i32_7 : BitVec 32 := 1#32
  let v20 : BitVec 32 := Scalar.select v19 c1_i32_7 c18_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.subi v28 c1_i32_11
  let c0_i32_12 : BitVec 32 := 0#32
  let c16_i32 : BitVec 32 := 16#32
  let v30 : BitVec 32 := Scalar.maxsi c0_i32_12 v29
  let v31 : BitVec 32 := Scalar.minsi c16_i32 v30
  let c0_i32_13 : BitVec 32 := 0#32
  let c0_i32_14 : BitVec 32 := 0#32
  let c0_i32_15 : BitVec 32 := 0#32
  ![v18.toNat, c0_i32_13.toNat, v31.toNat, c0_i32_14.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S16x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x4x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x4x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S2x8192x1024 : Shape := ⟨3, ![2, 8192, 1024]⟩
abbrev S16x1024 : Shape := ⟨2, ![16, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x1536 : Shape := ⟨3, ![1, 1024, 1536]⟩
abbrev S2x256x512 : Shape := ⟨3, ![2, 256, 512]⟩
abbrev S1x4x512 : Shape := ⟨3, ![1, 4, 512]⟩
abbrev S1x512 : Shape := ⟨2, ![1, 512]⟩
abbrev S4x128x512 : Shape := ⟨3, ![4, 128, 512]⟩
abbrev S6x512 : Shape := ⟨2, ![6, 512]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S2x8192x5632 : Shape := ⟨3, ![2, 8192, 5632]⟩
abbrev S2x8192x2816 : Shape := ⟨3, ![2, 8192, 2816]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024, .f32⟩
  | .hbm, ⟨6, _⟩ => ⟨S1x1024x1536, .f32⟩
  | .hbm, ⟨7, _⟩ => ⟨S2x256x512, .bf16⟩
  | .hbm, ⟨8, _⟩ => ⟨S1x4x512, .f32⟩
  | .hbm, ⟨9, _⟩ => ⟨S1x512, .f32⟩
  | .hbm, ⟨10, _⟩ => ⟨S4x128x512, .bf16⟩
  | .hbm, ⟨11, _⟩ => ⟨S6x512, .f32⟩
  | .hbm, ⟨12, _⟩ => ⟨S1024, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S1024x5632, .f32⟩
  | .hbm, ⟨30, _⟩ => ⟨S2816x1024, .f32⟩
  | .hbm, ⟨31, _⟩ => ⟨S2x8192x5632, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S2x8192x1024, .f32⟩
  | .hbm, ⟨45, _⟩ => ⟨S_, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩

abbrev nD : Nat := 1
abbrev τ : Topo := Topo.v7x

variable {F : FTy → Type} [FloatOps F]
-- ==== Proof.Lru.Spec.lean ====
/-
  The recurrence `h_t = a_t · h_{t-1} + b_t` on one lane, as the kernel computes it: sixteen segments of 513 rows,
  each run from a carried state, the carried states chained from the segments' own ends and products. Over any float
  values; nothing here uses a law of arithmetic.
-/
module

public import Idealize.ShloMosaic.Lib.Pipeline.Value
public import Idealize.ShloMosaic.Lib.ValueIdxCore

@[expose] public section

noncomputable section

namespace Cert.Proof.Lru

open Idealize.ShloMosaic Idealize.ShloMosaic.ValueIdx

variable {F : FTy → Type} [FloatOps F]

abbrev SBlk : Shape := ⟨4, ![1, 1, 8208, 128]⟩
abbrev SOct : Shape := ⟨2, ![8, 128]⟩

/-- Zero and one, as the kernel writes them. -/
abbrev zero : F .f32 := Scalar.ofBits .f32 0x00000000#32
abbrev one : F .f32 := Scalar.ofBits .f32 0x3F800000#32

/-- The state after `j` rows from row `base` on, started at `h`. -/
def seg (a b : ℕ → F .f32) (h : F .f32) (base : ℕ) : ℕ → F .f32
  | 0 => h
  | j + 1 => FloatOps.addf (FloatOps.mulf (a (base + j)) (seg a b h base j)) (b (base + j))

/-- The product of `j` coefficients from row `base` on, over `p`. -/
def prod (a : ℕ → F .f32) (p : F .f32) (base : ℕ) : ℕ → F .f32
  | 0 => p
  | j + 1 => FloatOps.mulf (a (base + j)) (prod a p base j)

/-- The state carried into segment `s`: the end of the segment before, run from zero, and its product times what was carried into it. -/
def carry (a b : ℕ → F .f32) : ℕ → F .f32
  | 0 => zero
  | s + 1 => FloatOps.addf (seg a b zero (513 * s) 513) (FloatOps.mulf (prod a one (513 * s) 513) (carry a b s))

/-- The state after row `t`: its segment run from the carried state. -/
def rowState (a b : ℕ → F .f32) (t : ℕ) : F .f32 := seg a b (carry a b (t / 513)) (513 * (t / 513)) (t % 513 + 1)

/-- Lane `l` of a block, by row; and by row from the last. -/
def fwd (X : SBlk.Idx → F .f32) (l : Fin 128) (r : ℕ) : F .f32 := X (ix4 0 0 (Fin.ofNat 8208 r) l)
def bwd (X : SBlk.Idx → F .f32) (l : Fin 128) (t : ℕ) : F .f32 := X (ix4 0 0 (Fin.ofNat 8208 (8207 - t)) l)

/-- Eight segments at once: row `s` of an [8, 128] register runs the segment that starts at `base s`. -/
def segV (a b : Fin 128 → ℕ → F .f32) (base : ℕ → ℕ) (init : SOct.Idx → F .f32) (k : ℕ) : SOct.Idx → F .f32 :=
  fun y => seg (a (y 1)) (b (y 1)) (init y) (base (y 0).val) k
def prodV (a : Fin 128 → ℕ → F .f32) (base : ℕ → ℕ) (init : SOct.Idx → F .f32) (k : ℕ) : SOct.Idx → F .f32 :=
  fun y => prod (a (y 1)) (init y) (base (y 0).val) k

/-- Where the eight segments start: forwards, and backwards (in rows from the last). -/
def baseF (n s : ℕ) : ℕ := 513 * (s + n)
def baseB (n s : ℕ) : ℕ := 513 * (15 - (s + n))

theorem segV_zero (a b : Fin 128 → ℕ → F .f32) (base : ℕ → ℕ) (init : SOct.Idx → F .f32) : segV a b base init 0 = init := rfl
theorem prodV_zero (a : Fin 128 → ℕ → F .f32) (base : ℕ → ℕ) (init : SOct.Idx → F .f32) : prodV a base init 0 = init := rfl

theorem segV_succ (a b : Fin 128 → ℕ → F .f32) (base : ℕ → ℕ) (init A B : SOct.Idx → F .f32) (k : ℕ)
    (hA : ∀ y, A y = a (y 1) (base (y 0).val + k)) (hB : ∀ y, B y = b (y 1) (base (y 0).val + k)) :
    addf (mulf A (segV a b base init k)) B = segV a b base init (k + 1) := by
  funext y
  show FloatOps.addf (FloatOps.mulf (A y) _) (B y) = _
  rw [hA, hB]; rfl

theorem prodV_succ (a : Fin 128 → ℕ → F .f32) (base : ℕ → ℕ) (init A : SOct.Idx → F .f32) (k : ℕ)
    (hA : ∀ y, A y = a (y 1) (base (y 0).val + k)) :
    mulf A (prodV a base init k) = prodV a base init (k + 1) := by
  funext y
  show FloatOps.mulf (A y) _ = _
  rw [hA]; rfl

section Mem

variable {sig : RefSig} {κ : Kind} {sp : Space} {s : Shape} {e : EltTy} {Val : EltTy → Type}

/-- An element under the last write reads its payload … -/
theorem read_cons (v : View sig κ sp s e) (f : v.ty.Contents Val) (R : Rect s) (w : R.shape.Idx → Val e)
    (L : List (View.Piece Val s e)) (y : s.Idx) (x : R.shape.Idx) (h : ∀ a, (y a).val = R.off a + R.stride a * (x a).val) :
    v.read Val (v.writes Val f (⟨R, w⟩ :: L)) y = w x := by
  have hy : R.emb x = y := funext fun a => Fin.ext (h a).symm
  rw [← hy]
  exact View.read_writes_cons_emb v f R w L x

/-- … and one it does not reach on some axis, what was there. -/
theorem read_cons_not (v : View sig κ sp s e) (f : v.ty.Contents Val) (R : Rect s) (w : R.shape.Idx → Val e)
    (L : List (View.Piece Val s e)) (y : s.Idx) (a : Fin s.rank)
    (h : ∀ x : R.shape.Idx, (y a).val ≠ R.off a + R.stride a * (x a).val) :
    v.read Val (v.writes Val f (⟨R, w⟩ :: L)) y = v.read Val (v.writes Val f L) y := by
  rw [View.writes_cons]
  refine View.read_slice_write_of_not_mem R _ w _ fun hm => ?_
  obtain ⟨x, -, hx⟩ := Finset.mem_map.mp hm
  exact h x (by rw [← hx]; rfl)

/-- A strided load of eight rows of a block, 513 apart, its unit axes dropped. -/
theorem cast_strided (v : View sig κ sp SBlk .f32) (f : v.ty.Contents (Elt F)) (off : Fin 4 → ℕ) (r0 : ℕ) (hoff : off = ![0, 0, r0, 0])
    (inb) (h) (y : SOct.Idx) (hr : r0 + 513 * 7 < 8208) :
    shapeCast SOct (View.readAt (Elt F) v (⟨off, (⟨4, ![1, 1, 8, 128]⟩ : Shape).size, ![1, 1, 513, 1], inb⟩ : LoadRect SBlk) f) h y
      = v.read (Elt F) f (ix4 0 0 (Fin.ofNat 8208 (r0 + 513 * (y 0).val)) (y 1)) := by
  subst hoff
  refine (shapeCast_apply _ h y (ix4 0 0 (y 0) (y 1)) ?_).trans ?_
  · rw [Shape.rowMajor_val_four, Shape.rowMajor_val_two]
    show ((0 + 0) * 8 + (y 0).val) * 128 + (y 1).val = (y 0).val * 128 + (y 1).val
    omega
  · rw [View.readAt_apply]
    refine congrArg (v.read (Elt F) f) (funext fun a => Fin.ext ?_)
    have h0 : (y 0).val < 8 := (y 0).isLt
    have h1 : (y 1).val < 128 := (y 1).isLt
    match a with
    | ⟨0, _⟩ => rfl
    | ⟨1, _⟩ => rfl
    | ⟨2, _⟩ =>
      show r0 + 513 * (y 0).val = (r0 + 513 * (y 0).val) % 8208
      omega
    | ⟨3, _⟩ => show 0 + 1 * (y 1).val = (y 1).val; omega

end Mem

end Cert.Proof.Lru

end
-- ==== Proof.Lru.Loops.lean ====
/-
  The two counted loops of the recurrence kernel, each by its invariant. The first runs every segment from zero and
  multiplies its coefficients up; the second runs every segment from a carried state and stores each row's state.
-/
module

public import proofs.«01_k».proof.Proof.Gen.KernelIdeal.Loops
public import proofs.«01_k».proof.Proof.Lru.Spec
public import Idealize.ShloMosaic.Lib.Tactic
public import Idealize.ShloMosaic.Lib.Pipeline.Kit

@[expose] public section

set_option maxRecDepth 8192

noncomputable section

namespace Cert.Proof.Lru

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

abbrev Oct (F : FTy → Type) [FloatOps F] : Type := FVec F S8x128 .f32

/-- A memref held whole at raw contents `f`. -/
abbrev held (c : Dev nD) {s : Shape} {e : EltTy} (M : Memref sig .tc .vmem s e) (f : BufTy.Contents (Elt F) M.view.ty) : sProp 𝕄 :=
  M.view.loc (c : Thread nD τ) ↦[M.view.set]{fullShare} f

/-- What the first loop carries before trip `k`. -/
def acc1 (A B C D : SBlk.Idx → F .f32) (init : Oct F × Oct F × Oct F × Oct F × Oct F × Oct F × Oct F × Oct F) (k : ℕ) :
    Oct F × Oct F × Oct F × Oct F × Oct F × Oct F × Oct F × Oct F :=
  (segV (fwd A) (fwd B) (baseF 0) init.1 k, segV (fwd A) (fwd B) (baseF 8) init.2.1 k,
    prodV (fwd A) (baseF 0) init.2.2.1 k, prodV (fwd A) (baseF 8) init.2.2.2.1 k,
    segV (bwd C) (bwd D) (baseB 0) init.2.2.2.2.1 k, segV (bwd C) (bwd D) (baseB 8) init.2.2.2.2.2.1 k,
    prodV (bwd C) (baseB 0) init.2.2.2.2.2.2.1 k, prodV (bwd C) (baseB 8) init.2.2.2.2.2.2.2 k)

/-- What the second loop carries before trip `k`. -/
def acc2 (A B C D : SBlk.Idx → F .f32) (init : Oct F × Oct F × Oct F × Oct F) (k : ℕ) : Oct F × Oct F × Oct F × Oct F :=
  (segV (fwd A) (fwd B) (baseF 0) init.1 k, segV (fwd A) (fwd B) (baseF 8) init.2.1 k,
    segV (bwd C) (bwd D) (baseB 0) init.2.2.1 k, segV (bwd C) (bwd D) (baseB 8) init.2.2.2 k)

section Loads

variable {sig : RefSig} {κ : Kind} {sp : Space} (v : View sig κ sp SBlk .f32) (f : v.ty.Contents (Elt F))

theorem loadF (off : Fin 4 → ℕ) (n k : ℕ) (hk : k < 513) (hn : n ≤ 8) (hoff : off = ![0, 0, k + 513 * n, 0]) (inb) (h) (y : S8x128.Idx) :
    shapeCast S8x128 (View.readAt (Elt F) v (⟨off, S1x1x8x128.size, ![1, 1, 513, 1], inb⟩ : LoadRect S1x1x8208x128) f) h y
      = fwd (v.read (Elt F) f) (y 1) (baseF n (y 0).val + k) := by
  refine (cast_strided v f off _ hoff inb h y (by omega)).trans ?_
  unfold fwd baseF
  rw [show k + 513 * n + 513 * (y 0).val = 513 * ((y 0).val + n) + k by omega]

theorem loadB (off : Fin 4 → ℕ) (n k : ℕ) (hk : k < 513) (hn : n ≤ 8) (hoff : off = ![0, 0, 513 * n + 512 - k, 0]) (inb) (h) (y : S8x128.Idx) :
    shapeCast S8x128 (View.readAt (Elt F) v (⟨off, S1x1x8x128.size, ![1, 1, 513, 1], inb⟩ : LoadRect S1x1x8208x128) f) h y
      = bwd (v.read (Elt F) f) (y 1) (baseB n (y 0).val + k) := by
  refine (cast_strided v f off _ hoff inb h y (by omega)).trans ?_
  have h0 : (y 0).val < 8 := (y 0).isLt
  unfold bwd baseB
  rw [show 513 * n + 512 - k + 513 * (y 0).val = 8207 - (513 * (15 - ((y 0).val + n)) + k) by omega]

end Loads

/-- One trip of the first loop. -/
theorem trip1 (𝒱 : Variants) (c : Dev nD) (bd : Option 𝒱.V) (i : grid0.Coords) (arg2 : Memref sig .tc .vmem S1x1x8208x128 .f32) (harg2 : arg2.IsWhole) (arg3 : Memref sig .tc .vmem S1x1x8208x128 .f32) (harg3 : arg3.IsWhole) (arg4 : Memref sig .tc .vmem S1x1x8208x128 .f32) (harg4 : arg4.IsWhole) (arg5 : Memref sig .tc .vmem S1x1x8208x128 .f32) (harg5 : arg5.IsWhole) (arg6 : Memref sig .tc .vmem S1x8192x128 .f32) (harg6 : arg6.IsWhole) (arg7 : Memref sig .tc .vmem S8208x128 .f32) (harg7 : arg7.IsWhole) (arg8 : Memref sig .tc .vmem S8208x128 .f32) (harg8 : arg8.IsWhole) (arg9 : Memref sig .tc .vmem S64x128 .f32) (harg9 : arg9.IsWhole) (arg10 : Memref sig .tc .vmem S32x128 .f32) (harg10 : arg10.IsWhole)
    (f2 : BufTy.Contents (Elt F) arg2.view.ty) (f3 : BufTy.Contents (Elt F) arg3.view.ty) (f4 : BufTy.Contents (Elt F) arg4.view.ty) (f5 : BufTy.Contents (Elt F) arg5.view.ty)
    (init : Oct F × Oct F × Oct F × Oct F × Oct F × Oct F × Oct F × Oct F) (k : Fin k0_t1_loop.trips) (E : Set ℕ) :
    (iprop(held c arg2 f2 ∗ held c arg3 f3 ∗ held c arg4 f4 ∗ held c arg5 f5) : sProp 𝕄)
    ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 k (acc1 (arg2.view.read (Elt F) f2) (arg3.view.read (Elt F) f3) (arg4.view.read (Elt F) f4) (arg5.view.read (Elt F) f5) init k))
        (fun yld => iprop(⌜yld = acc1 (arg2.view.read (Elt F) f2) (arg3.view.read (Elt F) f3) (arg4.view.read (Elt F) f4) (arg5.view.read (Elt F) f5) init (k + 1)⌝
          ∗ held c arg2 f2 ∗ held c arg3 f3 ∗ held c arg4 f4 ∗ held c arg5 f5)) := by
  have hk : k.val < 513 := Nat.lt_of_lt_of_le k.isLt k0_t1_abs.2.1
  unfold k0_t1_body
  iintro ⟨H2, H3, H4, H5⟩
  sl_exec
  sl_step
  isplitr
  · ipureintro
    sl_unfold_words
    have e1 := k0_off1_eq k 0
    have e2 := k0_off1_eq k 1
    have e3 := k0_off2_eq k 0
    have e4 := k0_off2_eq k 1
    refine Prod.ext ?_ (Prod.ext ?_ (Prod.ext ?_ (Prod.ext ?_ (Prod.ext ?_ (Prod.ext ?_ (Prod.ext ?_ ?_))))))
    · exact segV_succ _ _ _ _ _ _ _ (loadF _ _ _ 0 k hk (by omega) e1 _ _) (loadF _ _ _ 0 k hk (by omega) e1 _ _)
    · exact segV_succ _ _ _ _ _ _ _ (loadF _ _ _ 8 k hk (by omega) e2 _ _) (loadF _ _ _ 8 k hk (by omega) e2 _ _)
    · exact prodV_succ _ _ _ _ _ (loadF _ _ _ 0 k hk (by omega) e1 _ _)
    · exact prodV_succ _ _ _ _ _ (loadF _ _ _ 8 k hk (by omega) e2 _ _)
    · exact segV_succ _ _ _ _ _ _ _ (loadB _ _ _ 0 k hk (by omega) e3 _ _) (loadB _ _ _ 0 k hk (by omega) e3 _ _)
    · exact segV_succ _ _ _ _ _ _ _ (loadB _ _ _ 8 k hk (by omega) e4 _ _) (loadB _ _ _ 8 k hk (by omega) e4 _ _)
    · exact prodV_succ _ _ _ _ _ (loadB _ _ _ 0 k hk (by omega) e3 _ _)
    · exact prodV_succ _ _ _ _ _ (loadB _ _ _ 8 k hk (by omega) e4 _ _)
  · sl_close

/-- The first loop. -/
@[sl_loop] def loopInv1 (𝒱 : Variants) (c : Dev nD) (bd : Option 𝒱.V) (E : Set ℕ) (i : grid0.Coords) (arg2 : Memref sig .tc .vmem S1x1x8208x128 .f32) (harg2 : arg2.IsWhole) (arg3 : Memref sig .tc .vmem S1x1x8208x128 .f32) (harg3 : arg3.IsWhole) (arg4 : Memref sig .tc .vmem S1x1x8208x128 .f32) (harg4 : arg4.IsWhole) (arg5 : Memref sig .tc .vmem S1x1x8208x128 .f32) (harg5 : arg5.IsWhole) (arg6 : Memref sig .tc .vmem S1x8192x128 .f32) (harg6 : arg6.IsWhole) (arg7 : Memref sig .tc .vmem S8208x128 .f32) (harg7 : arg7.IsWhole) (arg8 : Memref sig .tc .vmem S8208x128 .f32) (harg8 : arg8.IsWhole) (arg9 : Memref sig .tc .vmem S64x128 .f32) (harg9 : arg9.IsWhole) (arg10 : Memref sig .tc .vmem S32x128 .f32) (harg10 : arg10.IsWhole)
    (f2 : BufTy.Contents (Elt F) arg2.view.ty) (f3 : BufTy.Contents (Elt F) arg3.view.ty) (f4 : BufTy.Contents (Elt F) arg4.view.ty) (f5 : BufTy.Contents (Elt F) arg5.view.ty)
    (init : Oct F × Oct F × Oct F × Oct F × Oct F × Oct F × Oct F × Oct F) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 init where
  inv k acc := iprop(held c arg2 f2 ∗ held c arg3 f3 ∗ held c arg4 f4 ∗ held c arg5 f5
    ∗ ⌜acc = acc1 (arg2.view.read (Elt F) f2) (arg3.view.read (Elt F) f3) (arg4.view.read (Elt F) f4) (arg5.view.read (Elt F) f5) init k⌝)
  step k acc := by
    iintro ⟨H2, H3, H4, H5, %hacc⟩
    subst hacc
    iapply (wp_wand_r Idealize.ShloMosaic.frame (wpE (defs₀ (F := F)) 𝒱 (c : Thread nD τ) bd) E)
    isplitl [H2 H3 H4 H5]
    · iapply (trip1 (F := F) 𝒱 c bd i arg2 harg2 arg3 harg3 arg4 harg4 arg5 harg5 arg6 harg6 arg7 harg7 arg8 harg8 arg9 harg9 arg10 harg10 f2 f3 f4 f5 init k E)
      isplitl [H2]; · iexact H2
      isplitl [H3]; · iexact H3
      isplitl [H4]; · iexact H4
      iexact H5
    · iintro %yld ⟨%hy, H2, H3, H4, H5⟩
      isplitl [H2]; · iexact H2
      isplitl [H3]; · iexact H3
      isplitl [H4]; · iexact H4
      isplitl [H5]; · iexact H5
      ipureintro; exact hy

/-- The row states stored before trip `k` of the second loop: in each segment, those of its first `k` rows. -/
def filledF (A B : SBlk.Idx → F .f32) (lo hi : Oct F) (k : ℕ) (X : S8208x128.Idx → F .f32) : Prop :=
  ∀ (n : Fin 2) (y : S8x128.Idx) (j : ℕ), j < k →
    X (ix2 (Fin.ofNat 8208 (baseF (8 * n) (y 0).val + j)) (y 1)) = segV (fwd A) (fwd B) (baseF (8 * n)) (if n = 0 then lo else hi) (j + 1) y
def filledB (C D : SBlk.Idx → F .f32) (lo hi : Oct F) (k : ℕ) (X : S8208x128.Idx → F .f32) : Prop :=
  ∀ (n : Fin 2) (y : S8x128.Idx) (j : ℕ), j < k →
    X (ix2 (Fin.ofNat 8208 (8207 - (baseB (8 * n) (y 0).val + j))) (y 1)) = segV (bwd C) (bwd D) (baseB (8 * n)) (if n = 0 then lo else hi) (j + 1) y

/-- A fact about the trips so far, said so that it computes before the first. -/
def sofar (P : ℕ → Prop) : ℕ → Bool
  | 0 => true
  | k + 1 => @decide (P (k + 1)) (Classical.dec _)

theorem sofar_iff (P : ℕ → Prop) (h0 : P 0) (k : ℕ) : sofar P k = true ↔ P k := by
  cases k with
  | zero => exact ⟨fun _ => h0, fun _ => rfl⟩
  | succ k => exact @decide_eq_true_iff _ (Classical.dec _)

section Stores

attribute [local irreducible] seg

variable {sig : RefSig} {κ : Kind} {sp : Space} (v : View sig κ sp S8208x128 .f32) (f : v.ty.Contents (Elt F))

/-- Two strided stores, one per half, add the states of row `k` of every segment. -/
theorem filledF_succ (A B : SBlk.Idx → F .f32) (lo hi : Oct F) (k : ℕ) (hk : k < 513) (o0 o1 : Fin 2 → ℕ) (h0 : o0 = ![k, 0]) (h1 : o1 = ![k + 4104, 0])
    (inb0) (inb1) (pos0) (pos1) (w0 w1 : Oct F) (hw0 : w0 = segV (fwd A) (fwd B) (baseF 0) lo (k + 1)) (hw1 : w1 = segV (fwd A) (fwd B) (baseF 8) hi (k + 1))
    (h : filledF A B lo hi k (v.read (Elt F) f)) :
    filledF A B lo hi (k + 1) (v.read (Elt F) (v.writes (Elt F) f
      [⟨({ off := o1, size := S8x128.size, stride := ![513, 1], inb := inb1, stride_pos := pos1 } : Rect S8208x128), w1⟩, ⟨({ off := o0, size := S8x128.size, stride := ![513, 1], inb := inb0, stride_pos := pos0 } : Rect S8208x128), w0⟩])) := by
  subst h0 h1 hw0 hw1
  intro n y j hj
  have hy0 : (y 0).val < 8 := (y 0).isLt
  by_cases hjk : j = k
  · subst hjk
    fin_cases n
    · refine (read_cons_not v f _ _ _ _ 0 fun x => ?_).trans ((read_cons v f _ _ _ _ y fun a => ?_).trans rfl)
      · have hx : (x 0).val < 8 := (x 0).isLt
        show (513 * ((y 0).val + 8 * 0) + j) % 8208 ≠ (j + 4104) + 513 * (x 0).val
        omega
      · match a with
        | ⟨0, _⟩ => show (513 * ((y 0).val + 8 * 0) + j) % 8208 = j + 513 * (y 0).val; omega
        | ⟨1, _⟩ => show (y 1).val = 0 + 1 * (y 1).val; omega
    · refine (read_cons v f _ _ _ _ y fun a => ?_).trans rfl
      match a with
      | ⟨0, _⟩ => show (513 * ((y 0).val + 8 * 1) + j) % 8208 = (j + 4104) + 513 * (y 0).val; omega
      | ⟨1, _⟩ => show (y 1).val = 0 + 1 * (y 1).val; omega
  · have hb : ∀ m : ℕ, m ≤ 8 → (513 * ((y 0).val + m) + j) % 8208 = 513 * ((y 0).val + m) + j := fun m hm => by omega
    have hn : 8 * n.val ≤ 8 := by have := n.isLt; omega
    refine (read_cons_not v f _ _ _ _ 0 fun x => ?_).trans ((read_cons_not v f _ _ _ _ 0 fun x => ?_).trans (h n y j (by omega)))
    · show (513 * ((y 0).val + 8 * n.val) + j) % 8208 ≠ (k + 4104) + 513 * (x 0).val
      omega
    · show (513 * ((y 0).val + 8 * n.val) + j) % 8208 ≠ k + 513 * (x 0).val
      omega

/-- Row `j` from the last of a segment, as a row. -/
theorem rowB (m j : ℕ) (hm : m ≤ 15) (hj : j < 513) : (8207 - (513 * (15 - m) + j)) % 8208 = 513 * m + 512 - j := by
  have h : 513 * (15 - m) = 7695 - 513 * m := by omega
  rw [h, Nat.mod_eq_of_lt (by omega)]
  omega

theorem filledB_succ (C D : SBlk.Idx → F .f32) (lo hi : Oct F) (k : ℕ) (hk : k < 513) (o0 o1 : Fin 2 → ℕ) (h0 : o0 = ![512 - k, 0]) (h1 : o1 = ![4616 - k, 0])
    (inb0) (inb1) (pos0) (pos1) (w0 w1 : Oct F) (hw0 : w0 = segV (bwd C) (bwd D) (baseB 0) lo (k + 1)) (hw1 : w1 = segV (bwd C) (bwd D) (baseB 8) hi (k + 1))
    (h : filledB C D lo hi k (v.read (Elt F) f)) :
    filledB C D lo hi (k + 1) (v.read (Elt F) (v.writes (Elt F) f
      [⟨({ off := o1, size := S8x128.size, stride := ![513, 1], inb := inb1, stride_pos := pos1 } : Rect S8208x128), w1⟩, ⟨({ off := o0, size := S8x128.size, stride := ![513, 1], inb := inb0, stride_pos := pos0 } : Rect S8208x128), w0⟩])) := by
  subst h0 h1 hw0 hw1
  intro n y j hj
  have hy0 : (y 0).val < 8 := (y 0).isLt
  by_cases hjk : j = k
  · subst hjk
    fin_cases n
    · refine (read_cons_not v f _ _ _ _ 0 fun x => ?_).trans ((read_cons v f _ _ _ _ y fun a => ?_).trans rfl)
      · have hx : (x 0).val < 8 := (x 0).isLt
        show (8207 - (513 * (15 - ((y 0).val + 8 * 0)) + j)) % 8208 ≠ (4616 - j) + 513 * (x 0).val
        rw [rowB _ _ (by omega) hk]
        omega
      · match a with
        | ⟨0, _⟩ => show (8207 - (513 * (15 - ((y 0).val + 8 * 0)) + j)) % 8208 = (512 - j) + 513 * (y 0).val; rw [rowB _ _ (by omega) hk]; omega
        | ⟨1, _⟩ => show (y 1).val = 0 + 1 * (y 1).val; omega
    · refine (read_cons v f _ _ _ _ y fun a => ?_).trans rfl
      match a with
      | ⟨0, _⟩ => show (8207 - (513 * (15 - ((y 0).val + 8 * 1)) + j)) % 8208 = (4616 - j) + 513 * (y 0).val; rw [rowB _ _ (by omega) hk]; omega
      | ⟨1, _⟩ => show (y 1).val = 0 + 1 * (y 1).val; omega
  · have hn : 8 * n.val ≤ 8 := by have := n.isLt; omega
    refine (read_cons_not v f _ _ _ _ 0 fun x => ?_).trans ((read_cons_not v f _ _ _ _ 0 fun x => ?_).trans (h n y j (by omega)))
    · show (8207 - (513 * (15 - ((y 0).val + 8 * n.val)) + j)) % 8208 ≠ (4616 - k) + 513 * (x 0).val
      rw [rowB _ _ (by omega) (by omega)]
      omega
    · show (8207 - (513 * (15 - ((y 0).val + 8 * n.val)) + j)) % 8208 ≠ (512 - k) + 513 * (x 0).val
      rw [rowB _ _ (by omega) (by omega)]
      omega

end Stores

/-- One trip of the second loop. -/
theorem trip2 (𝒱 : Variants) (c : Dev nD) (bd : Option 𝒱.V) (i : grid0.Coords) (arg2 : Memref sig .tc .vmem S1x1x8208x128 .f32) (harg2 : arg2.IsWhole) (arg3 : Memref sig .tc .vmem S1x1x8208x128 .f32) (harg3 : arg3.IsWhole) (arg4 : Memref sig .tc .vmem S1x1x8208x128 .f32) (harg4 : arg4.IsWhole) (arg5 : Memref sig .tc .vmem S1x1x8208x128 .f32) (harg5 : arg5.IsWhole) (arg6 : Memref sig .tc .vmem S1x8192x128 .f32) (harg6 : arg6.IsWhole) (arg7 : Memref sig .tc .vmem S8208x128 .f32) (harg7 : arg7.IsWhole) (arg8 : Memref sig .tc .vmem S8208x128 .f32) (harg8 : arg8.IsWhole) (arg9 : Memref sig .tc .vmem S64x128 .f32) (harg9 : arg9.IsWhole) (arg10 : Memref sig .tc .vmem S32x128 .f32) (harg10 : arg10.IsWhole)
    (f2 : BufTy.Contents (Elt F) arg2.view.ty) (f3 : BufTy.Contents (Elt F) arg3.view.ty) (f4 : BufTy.Contents (Elt F) arg4.view.ty) (f5 : BufTy.Contents (Elt F) arg5.view.ty)
    (f7 : BufTy.Contents (Elt F) arg7.view.ty) (f8 : BufTy.Contents (Elt F) arg8.view.ty)
    (init : Oct F × Oct F × Oct F × Oct F) (k : Fin k0_t2_loop.trips) (E : Set ℕ)
    (h7 : filledF (arg2.view.read (Elt F) f2) (arg3.view.read (Elt F) f3) init.1 init.2.1 k (arg7.view.read (Elt F) f7))
    (h8 : filledB (arg4.view.read (Elt F) f4) (arg5.view.read (Elt F) f5) init.2.2.1 init.2.2.2 k (arg8.view.read (Elt F) f8)) :
    (iprop(held c arg2 f2 ∗ held c arg3 f3 ∗ held c arg4 f4 ∗ held c arg5 f5 ∗ held c arg7 f7 ∗ held c arg8 f8) : sProp 𝕄)
    ⊢ wp frame (wpE (defs₀ (F := F)) 𝒱 (c : Thread nD τ) bd) E
        (k0_t2_body (F := F) i arg2 harg2 arg3 harg3 arg4 harg4 arg5 harg5 arg6 harg6 arg7 harg7 arg8 harg8 arg9 harg9 arg10 harg10 k (acc2 (arg2.view.read (Elt F) f2) (arg3.view.read (Elt F) f3) (arg4.view.read (Elt F) f4) (arg5.view.read (Elt F) f5) init k))
        (fun yld => iprop(held c arg2 f2 ∗ held c arg3 f3 ∗ held c arg4 f4 ∗ held c arg5 f5
          ∗ (∃ f, held c arg7 f ∗ ⌜filledF (arg2.view.read (Elt F) f2) (arg3.view.read (Elt F) f3) init.1 init.2.1 (k + 1) (arg7.view.read (Elt F) f)⌝)
          ∗ (∃ f, held c arg8 f ∗ ⌜filledB (arg4.view.read (Elt F) f4) (arg5.view.read (Elt F) f5) init.2.2.1 init.2.2.2 (k + 1) (arg8.view.read (Elt F) f)⌝)
          ∗ ⌜yld = acc2 (arg2.view.read (Elt F) f2) (arg3.view.read (Elt F) f3) (arg4.view.read (Elt F) f4) (arg5.view.read (Elt F) f5) init (k + 1)⌝)) := by
  have hk : k.val < 513 := Nat.lt_of_lt_of_le k.isLt k0_t2_abs.2.1
  have e1 := k0_off3_eq k 0
  have e2 := k0_off3_eq k 1
  have e3 := k0_off5_eq k 0
  have e4 := k0_off5_eq k 1
  have e5 := k0_off4_eq k 0
  have e6 := k0_off4_eq k 1
  have e7 := k0_off6_eq k 0
  have e8 := k0_off6_eq k 1
  unfold k0_t2_body
  iintro ⟨H2, H3, H4, H5, H7, H8⟩
  sl_exec
  sl_step
  isplitl [H2]; · iexact H2
  isplitl [H3]; · iexact H3
  isplitl [H4]; · iexact H4
  isplitl [H5]; · iexact H5
  isplitl [H7]
  · iexists _
    isplitl [H7]; · iexact H7
    ipureintro
    refine filledF_succ _ _ _ _ _ _ k hk _ _ e5 (e6.trans ?_) _ _ _ _ _ _ ?_ ?_ h7
    · congr 1
    · exact (shapeCast_self _ _).trans (segV_succ _ _ _ _ _ _ _ (loadF _ _ _ 0 k hk (by omega) e1 _ _) (loadF _ _ _ 0 k hk (by omega) e1 _ _))
    · exact (shapeCast_self _ _).trans (segV_succ _ _ _ _ _ _ _ (loadF _ _ _ 8 k hk (by omega) e2 _ _) (loadF _ _ _ 8 k hk (by omega) e2 _ _))
  isplitl [H8]
  · iexists _
    isplitl [H8]; · iexact H8
    ipureintro
    refine filledB_succ _ _ _ _ _ _ k hk _ _ (e7.trans ?_) (e8.trans ?_) _ _ _ _ _ _ ?_ ?_ h8
    · congr 1
    · congr 1
    · exact (shapeCast_self _ _).trans (segV_succ _ _ _ _ _ _ _ (loadB _ _ _ 0 k hk (by omega) e3 _ _) (loadB _ _ _ 0 k hk (by omega) e3 _ _))
    · exact (shapeCast_self _ _).trans (segV_succ _ _ _ _ _ _ _ (loadB _ _ _ 8 k hk (by omega) e4 _ _) (loadB _ _ _ 8 k hk (by omega) e4 _ _))
  · ipureintro
    sl_unfold_words
    refine Prod.ext ?_ (Prod.ext ?_ (Prod.ext ?_ ?_))
    · exact segV_succ _ _ _ _ _ _ _ (loadF _ _ _ 0 k hk (by omega) e1 _ _) (loadF _ _ _ 0 k hk (by omega) e1 _ _)
    · exact segV_succ _ _ _ _ _ _ _ (loadF _ _ _ 8 k hk (by omega) e2 _ _) (loadF _ _ _ 8 k hk (by omega) e2 _ _)
    · exact segV_succ _ _ _ _ _ _ _ (loadB _ _ _ 0 k hk (by omega) e3 _ _) (loadB _ _ _ 0 k hk (by omega) e3 _ _)
    · exact segV_succ _ _ _ _ _ _ _ (loadB _ _ _ 8 k hk (by omega) e4 _ _) (loadB _ _ _ 8 k hk (by omega) e4 _ _)

theorem filledF_zero (A B : SBlk.Idx → F .f32) (lo hi : Oct F) (X : S8208x128.Idx → F .f32) : filledF A B lo hi 0 X := fun _ _ _ h => absurd h (Nat.not_lt_zero _)
theorem filledB_zero (C D : SBlk.Idx → F .f32) (lo hi : Oct F) (X : S8208x128.Idx → F .f32) : filledB C D lo hi 0 X := fun _ _ _ h => absurd h (Nat.not_lt_zero _)

/-- The second loop. -/
@[sl_loop] def loopInv2 (𝒱 : Variants) (c : Dev nD) (bd : Option 𝒱.V) (E : Set ℕ) (i : grid0.Coords) (arg2 : Memref sig .tc .vmem S1x1x8208x128 .f32) (harg2 : arg2.IsWhole) (arg3 : Memref sig .tc .vmem S1x1x8208x128 .f32) (harg3 : arg3.IsWhole) (arg4 : Memref sig .tc .vmem S1x1x8208x128 .f32) (harg4 : arg4.IsWhole) (arg5 : Memref sig .tc .vmem S1x1x8208x128 .f32) (harg5 : arg5.IsWhole) (arg6 : Memref sig .tc .vmem S1x8192x128 .f32) (harg6 : arg6.IsWhole) (arg7 : Memref sig .tc .vmem S8208x128 .f32) (harg7 : arg7.IsWhole) (arg8 : Memref sig .tc .vmem S8208x128 .f32) (harg8 : arg8.IsWhole) (arg9 : Memref sig .tc .vmem S64x128 .f32) (harg9 : arg9.IsWhole) (arg10 : Memref sig .tc .vmem S32x128 .f32) (harg10 : arg10.IsWhole)
    (f2 : BufTy.Contents (Elt F) arg2.view.ty) (f3 : BufTy.Contents (Elt F) arg3.view.ty) (f4 : BufTy.Contents (Elt F) arg4.view.ty) (f5 : BufTy.Contents (Elt F) arg5.view.ty)
    (init : Oct F × Oct F × Oct F × Oct F) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 init where
  inv k acc := iprop(held c arg2 f2 ∗ held c arg3 f3 ∗ held c arg4 f4 ∗ held c arg5 f5
    ∗ (∃ f, held c arg7 f ∗ ⌜sofar (fun k => filledF (arg2.view.read (Elt F) f2) (arg3.view.read (Elt F) f3) init.1 init.2.1 k (arg7.view.read (Elt F) f)) k = true⌝)
    ∗ (∃ f, held c arg8 f ∗ ⌜sofar (fun k => filledB (arg4.view.read (Elt F) f4) (arg5.view.read (Elt F) f5) init.2.2.1 init.2.2.2 k (arg8.view.read (Elt F) f)) k = true⌝)
    ∗ ⌜acc = acc2 (arg2.view.read (Elt F) f2) (arg3.view.read (Elt F) f3) (arg4.view.read (Elt F) f4) (arg5.view.read (Elt F) f5) init k⌝)
  step k acc := by
    iintro ⟨H2, H3, H4, H5, ⟨%g7, H7, %h7⟩, ⟨%g8, H8, %h8⟩, %hacc⟩
    subst hacc
    iapply (wp_wand_r Idealize.ShloMosaic.frame (wpE (defs₀ (F := F)) 𝒱 (c : Thread nD τ) bd) E)
    isplitl [H2 H3 H4 H5 H7 H8]
    · iapply (trip2 (F := F) 𝒱 c bd i arg2 harg2 arg3 harg3 arg4 harg4 arg5 harg5 arg6 harg6 arg7 harg7 arg8 harg8 arg9 harg9 arg10 harg10 f2 f3 f4 f5 g7 g8 init k E
        ((sofar_iff _ (filledF_zero _ _ _ _ _) _).mp h7) ((sofar_iff _ (filledB_zero _ _ _ _ _) _).mp h8))
      isplitl [H2]; · iexact H2
      isplitl [H3]; · iexact H3
      isplitl [H4]; · iexact H4
      isplitl [H5]; · iexact H5
      isplitl [H7]; · iexact H7
      iexact H8
    · iintro %yld ⟨H2, H3, H4, H5, ⟨%g7, H7, %h7⟩, ⟨%g8, H8, %h8⟩, %hacc⟩
      isplitl [H2]; · iexact H2
      isplitl [H3]; · iexact H3
      isplitl [H4]; · iexact H4
      isplitl [H5]; · iexact H5
      isplitl [H7]
      · iexists _
        isplitl [H7]; · iexact H7
        ipureintro; exact (sofar_iff _ (filledF_zero _ _ _ _ _) _).mpr h7
      isplitl [H8]
      · iexists _
        isplitl [H8]; · iexact H8
        ipureintro; exact (sofar_iff _ (filledB_zero _ _ _ _ _) _).mpr h8
      ipureintro; exact hacc

end Cert.Proof.Lru

end
-- ==== Proof.Lru.Body.lean ====
module

public import proofs.«01_k».proof.Proof.Gen.KernelIdeal.Loops
public import proofs.«01_k».proof.Proof.Lru.Loops
public import proofs.«01_k».proof.Proof.Gen.KernelIdeal.Frame
public import Idealize.ShloMosaic.Lib.Tactic
public import Idealize.ShloMosaic.Lib.Pipeline.Kit
public import Idealize.ShloMosaic.Lib.Pipeline.ReadBack

@[expose] public section

set_option maxRecDepth 8192

noncomputable section

namespace Cert.Proof.Lru

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- What the first loop leaves in the 64 rows of `ends`: forward ends, forward products, backward ends, backward products, sixteen segments each. -/
def endsAt (A B C D : SBlk.Idx → F .f32) (m : ℕ) (l : Fin 128) : F .f32 :=
  if m < 16 then seg (fwd A l) (fwd B l) zero (513 * m) 513
  else if m < 32 then prod (fwd A l) one (513 * (m - 16)) 513
  else if m < 48 then seg (bwd C l) (bwd D l) zero (513 * (15 - (m - 32))) 513
  else prod (bwd C l) one (513 * (15 - (m - 48))) 513

/-- What the chain leaves in the 32 rows of `carry`: the states carried into the sixteen segments, forwards and backwards. -/
def carryAt (A B C D : SBlk.Idx → F .f32) (m : ℕ) (l : Fin 128) : F .f32 :=
  if m < 16 then carry (fwd A l) (fwd B l) m else carry (bwd C l) (bwd D l) (31 - m)

theorem segV_apply (a b : Fin 128 → ℕ → F .f32) (base : ℕ → ℕ) (init : SOct.Idx → F .f32) (k : ℕ) (y : SOct.Idx) :
    segV a b base init k y = seg (a (y 1)) (b (y 1)) (init y) (base (y 0).val) k := rfl
theorem prodV_apply (a : Fin 128 → ℕ → F .f32) (base : ℕ → ℕ) (init : SOct.Idx → F .f32) (k : ℕ) (y : SOct.Idx) :
    prodV a base init k y = prod (a (y 1)) (init y) (base (y 0).val) k := rfl

theorem endsAt_0 (A B C D : SBlk.Idx → F .f32) {m : ℕ} (l : Fin 128) (h : m < 16) : endsAt A B C D m l = seg (fwd A l) (fwd B l) zero (513 * m) 513 := if_pos h
theorem endsAt_1 (A B C D : SBlk.Idx → F .f32) {m : ℕ} (l : Fin 128) (h : 16 ≤ m) (h' : m < 32) : endsAt A B C D m l = prod (fwd A l) one (513 * (m - 16)) 513 := by
  unfold endsAt; rw [if_neg (by omega), if_pos h']
theorem endsAt_2 (A B C D : SBlk.Idx → F .f32) {m : ℕ} (l : Fin 128) (h : 32 ≤ m) (h' : m < 48) :
    endsAt A B C D m l = seg (bwd C l) (bwd D l) zero (513 * (15 - (m - 32))) 513 := by
  unfold endsAt; rw [if_neg (by omega), if_neg (by omega), if_pos h']
theorem endsAt_3 (A B C D : SBlk.Idx → F .f32) {m : ℕ} (l : Fin 128) (h : 48 ≤ m) : endsAt A B C D m l = prod (bwd C l) one (513 * (15 - (m - 48))) 513 := by
  unfold endsAt; rw [if_neg (by omega), if_neg (by omega), if_neg (by omega)]

theorem oct_lane (o n : ℕ) (inb) (x : S8x128.Idx) : (Rect.unit (s := ⟨2, ![n, 128]⟩) ![o, 0] S8x128.size inb).emb x 1 = x 1 := Fin.ext (by show 0 + 1 * (x 1).val = _; omega)
theorem oct_row (o n : ℕ) (inb) (x : S8x128.Idx) : ((Rect.unit (s := ⟨2, ![n, 128]⟩) ![o, 0] S8x128.size inb).emb x 0).val = o + (x 0).val := by show o + 1 * (x 0).val = _; omega
theorem row_lane (o n : ℕ) (inb) (x : S1x128.Idx) : (Rect.unit (s := ⟨2, ![n, 128]⟩) ![o, 0] S1x128.size inb).emb x 1 = x 1 := Fin.ext (by show 0 + 1 * (x 1).val = _; omega)
theorem row_row (o n : ℕ) (inb) (x : S1x128.Idx) : ((Rect.unit (s := ⟨2, ![n, 128]⟩) ![o, 0] S1x128.size inb).emb x 0).val = o := by
  have h : (x 0).val < 1 := (x 0).isLt
  show o + 1 * (x 0).val = _; omega

theorem pay27_eq (x : Oct F) : k0_pay27 x = x := shapeCast_self _ _
theorem pay28_eq (x : Oct F) : k0_pay28 x = x := shapeCast_self _ _
theorem pay29_eq (x : Oct F) : k0_pay29 x = x := shapeCast_self _ _
theorem pay30_eq (x : Oct F) : k0_pay30 x = x := shapeCast_self _ _
theorem pay31_eq (x : Oct F) : k0_pay31 x = x := shapeCast_self _ _
theorem pay32_eq (x : Oct F) : k0_pay32 x = x := shapeCast_self _ _
theorem pay33_eq (x : Oct F) : k0_pay33 x = x := shapeCast_self _ _
theorem pay34_eq (x : Oct F) : k0_pay34 x = x := shapeCast_self _ _

/-- A stored register of segment ends, or of products, is the rows of `endsAt` it lies at. -/
theorem ends_seg {A B C D : SBlk.Idx → F .f32} {a b : Fin 128 → ℕ → F .f32} {base : ℕ → ℕ} {init w : Oct F} {T o : ℕ} (inb)
    (hw : w = segV a b base init T) (h0 : ∀ y, init y = zero) (hT : T = 513)
    (h : ∀ (m : ℕ) (l : Fin 128), m < 8 → endsAt A B C D (o + m) l = seg (a l) (b l) zero (base m) 513) (x : S8x128.Idx) :
    w x = endsAt A B C D ((Rect.unit (s := S64x128) ![o, 0] S8x128.size inb).emb x 0).val ((Rect.unit (s := S64x128) ![o, 0] S8x128.size inb).emb x 1) := by
  refine Eq.trans ?_ (congrArg₂ (endsAt A B C D) (oct_row o 64 inb x).symm (oct_lane o 64 inb x).symm)
  refine Eq.trans ?_ (h (x 0).val (x 1) (x 0).isLt).symm
  rw [hw, segV_apply, h0, hT]
theorem ends_prod {A B C D : SBlk.Idx → F .f32} {a : Fin 128 → ℕ → F .f32} {base : ℕ → ℕ} {init w : Oct F} {T o : ℕ} (inb)
    (hw : w = prodV a base init T) (h0 : ∀ y, init y = one) (hT : T = 513)
    (h : ∀ (m : ℕ) (l : Fin 128), m < 8 → endsAt A B C D (o + m) l = prod (a l) one (base m) 513) (x : S8x128.Idx) :
    w x = endsAt A B C D ((Rect.unit (s := S64x128) ![o, 0] S8x128.size inb).emb x 0).val ((Rect.unit (s := S64x128) ![o, 0] S8x128.size inb).emb x 1) := by
  refine Eq.trans ?_ (congrArg₂ (endsAt A B C D) (oct_row o 64 inb x).symm (oct_lane o 64 inb x).symm)
  refine Eq.trans ?_ (h (x 0).val (x 1) (x 0).isLt).symm
  rw [hw, prodV_apply, h0, hT]

theorem carry_succ (a b : ℕ → F .f32) (s : ℕ) :
    carry a b (s + 1) = FloatOps.addf (seg a b zero (513 * s) 513) (FloatOps.mulf (prod a one (513 * s) 513) (carry a b s)) := rfl

/-- One link of the chain on a lane, forwards … -/
theorem linkF (A B C D : SBlk.Idx → F .f32) (s : ℕ) (hs : s < 15) (l : Fin 128) {v v' c : F .f32} (hv : v = endsAt A B C D s l)
    (hv' : v' = endsAt A B C D (16 + s) l) (hc : c = carryAt A B C D s l) : FloatOps.addf v (FloatOps.mulf v' c) = carryAt A B C D (s + 1) l := by
  rw [hv, hv', hc, endsAt_0 _ _ _ _ _ (by omega), endsAt_1 _ _ _ _ _ (by omega) (by omega), carryAt, carryAt, if_pos (by omega), if_pos (by omega), carry_succ,
    Nat.add_sub_cancel_left]

/-- … and backwards. -/
theorem linkB (A B C D : SBlk.Idx → F .f32) (s : ℕ) (hs : s < 15) (l : Fin 128) {v v' c : F .f32} (hv : v = endsAt A B C D (33 + s) l)
    (hv' : v' = endsAt A B C D (49 + s) l) (hc : c = carryAt A B C D (17 + s) l) : FloatOps.addf v (FloatOps.mulf v' c) = carryAt A B C D (16 + s) l := by
  rw [hv, hv', hc, endsAt_2 _ _ _ _ _ (by omega) (by omega), endsAt_3 _ _ _ _ _ (by omega), carryAt, carryAt, if_neg (by omega), if_neg (by omega)]
  rw [show 31 - (16 + s) = (14 - s) + 1 by omega, carry_succ, show 15 - (33 + s - 32) = 14 - s by omega, show 15 - (49 + s - 48) = 14 - s by omega,
    show 31 - (17 + s) = 14 - s by omega]

theorem chainF (A B C D : SBlk.Idx → F .f32) (s : ℕ) (hs : s < 15) {v v' c : FVec F S1x128 .f32} (hv : ∀ x, v x = endsAt A B C D s (x 1))
    (hv' : ∀ x, v' x = endsAt A B C D (16 + s) (x 1)) (hc : ∀ x, c x = carryAt A B C D s (x 1)) (x : S1x128.Idx) :
    addf v (mulf v' c) x = carryAt A B C D (s + 1) (x 1) := linkF A B C D s hs (x 1) (hv x) (hv' x) (hc x)

theorem chainB (A B C D : SBlk.Idx → F .f32) (s : ℕ) (hs : s < 15) {v v' c : FVec F S1x128 .f32} (hv : ∀ x, v x = endsAt A B C D (33 + s) (x 1))
    (hv' : ∀ x, v' x = endsAt A B C D (49 + s) (x 1)) (hc : ∀ x, c x = carryAt A B C D (17 + s) (x 1)) (x : S1x128.Idx) :
    addf v (mulf v' c) x = carryAt A B C D (16 + s) (x 1) := linkB A B C D s hs (x 1) (hv x) (hv' x) (hc x)

/-- A stored row of the chain is the row of `carryAt` it lies at. -/
theorem carry_row {A B C D : SBlk.Idx → F .f32} {m : ℕ} (inb) {w c : FVec F S1x128 .f32} (hw : w = shapeCast S1x128 c shapeCasts_S1x128_S1x128) (hc : ∀ x, c x = carryAt A B C D m (x 1))
    (x : S1x128.Idx) :
    w x = carryAt A B C D ((Rect.unit (s := S32x128) ![m, 0] S1x128.size inb).emb x 0).val ((Rect.unit (s := S32x128) ![m, 0] S1x128.size inb).emb x 1) := by
  rw [row_row, row_lane, hw, shapeCast_self, hc]

/-- One row of the segment ends, read. -/
theorem ends_read {A B C D : SBlk.Idx → F .f32} {sig : RefSig} {κ : Kind} {sp : Space} (v : View sig κ sp S64x128 .f32) (L : List (View.Piece (Elt F) S64x128 .f32))
    (hL : View.PiecesOf (Val := Elt F) (e := .f32) (fun y : S64x128.Idx => endsAt A B C D (y 0).val (y 1)) L) (hcov : ∀ y : S64x128.Idx, ∃ p ∈ L, y ∈ p.1.set)
    (m : ℕ) (inb) (x : S1x128.Idx) :
    v.readCov L (Rect.unit (s := S64x128) ![m, 0] S1x128.size inb).toLoadRect x = endsAt A B C D m (x 1) := by
  rw [View.readCov_eq_canon']
  refine (View.canon_apply_of_pieces (e := .f32) (Val := Elt F) (fun y : S64x128.Idx => endsAt A B C D (y 0).val (y 1)) L (View.PiecesOf.mem hL) _ (hcov _)).trans ?_
  exact congrArg₂ (endsAt A B C D) (row_row m 64 inb x) (row_lane m 64 inb x)

/-- Eight rows of the chain, read at once. -/
theorem carry_read {A B C D : SBlk.Idx → F .f32} {sig : RefSig} {κ : Kind} {sp : Space} (v : View sig κ sp S32x128 .f32) (L : List (View.Piece (Elt F) S32x128 .f32))
    (hL : View.PiecesOf (Val := Elt F) (e := .f32) (fun y : S32x128.Idx => carryAt A B C D (y 0).val (y 1)) L) (hcov : ∀ y : S32x128.Idx, ∃ p ∈ L, y ∈ p.1.set)
    (m : ℕ) (inb) (y : S8x128.Idx) :
    v.readCov L (Rect.unit (s := S32x128) ![m, 0] S8x128.size inb).toLoadRect y = carryAt A B C D (m + (y 0).val) (y 1) := by
  rw [View.readCov_eq_canon']
  refine (View.canon_apply_of_pieces (e := .f32) (Val := Elt F) (fun y : S32x128.Idx => carryAt A B C D (y 0).val (y 1)) L (View.PiecesOf.mem hL) _ (hcov _)).trans ?_
  exact congrArg₂ (carryAt A B C D) (oct_row m 32 inb y) (oct_lane m 32 inb y)

/-- Every row's state, once the second loop is through. -/
theorem filledF_row {A B C D : SBlk.Idx → F .f32} {lo hi : Oct F} {X : S8208x128.Idx → F .f32} (h : filledF A B lo hi 513 X)
    (hlo : ∀ y, lo y = carryAt A B C D (0 + (y 0).val) (y 1)) (hhi : ∀ y, hi y = carryAt A B C D (8 + (y 0).val) (y 1)) (r : ℕ) (hr : r < 8208) (l : Fin 128) :
    X (ix2 (Fin.ofNat 8208 r) l) = rowState (fwd A l) (fwd B l) r := by
  by_cases hn : r / 513 < 8
  · have e := h 0 (ix2 ⟨r / 513, hn⟩ l) (r % 513) (Nat.mod_lt _ (by omega))
    rw [segV_apply, if_pos rfl, hlo] at e
    have e' : baseF (8 * ((0 : Fin 2) : ℕ)) (r / 513) = 513 * (r / 513) := rfl
    refine Eq.trans (congrArg (fun t => X (ix2 (Fin.ofNat 8208 t) l)) ?_) (e.trans ?_)
    · show r = baseF (8 * ((0 : Fin 2) : ℕ)) (r / 513) + r % 513
      rw [e']; omega
    · show seg (fwd A l) (fwd B l) (carryAt A B C D (0 + r / 513) l) (baseF (8 * ((0 : Fin 2) : ℕ)) (r / 513)) _ = _
      rw [e', carryAt, if_pos (by omega), rowState, Nat.zero_add]
  · have e := h 1 (ix2 ⟨r / 513 - 8, by omega⟩ l) (r % 513) (Nat.mod_lt _ (by omega))
    rw [segV_apply, if_neg (by decide), hhi] at e
    have e' : baseF (8 * ((1 : Fin 2) : ℕ)) (r / 513 - 8) = 513 * (r / 513) := by show 513 * (r / 513 - 8 + 8 * 1) = _; omega
    refine Eq.trans (congrArg (fun t => X (ix2 (Fin.ofNat 8208 t) l)) ?_) (e.trans ?_)
    · show r = baseF (8 * ((1 : Fin 2) : ℕ)) (r / 513 - 8) + r % 513
      rw [e']; omega
    · show seg (fwd A l) (fwd B l) (carryAt A B C D (8 + (r / 513 - 8)) l) (baseF (8 * ((1 : Fin 2) : ℕ)) (r / 513 - 8)) _ = _
      rw [e', carryAt, if_pos (by omega), rowState, show 8 + (r / 513 - 8) = r / 513 by omega]

theorem filledB_row {A B C D : SBlk.Idx → F .f32} {lo hi : Oct F} {X : S8208x128.Idx → F .f32} (h : filledB C D lo hi 513 X)
    (hlo : ∀ y, lo y = carryAt A B C D (16 + (y 0).val) (y 1)) (hhi : ∀ y, hi y = carryAt A B C D (24 + (y 0).val) (y 1)) (r q : ℕ) (hr : r + q = 8207) (l : Fin 128) :
    X (ix2 (Fin.ofNat 8208 r) l) = rowState (bwd C l) (bwd D l) q := by
  have hq : q / 513 < 16 := by omega
  by_cases hn : 8 ≤ q / 513
  · have e := h 0 (ix2 ⟨15 - q / 513, by omega⟩ l) (q % 513) (Nat.mod_lt _ (by omega))
    rw [segV_apply, if_pos rfl, hlo] at e
    have e' : baseB (8 * ((0 : Fin 2) : ℕ)) (15 - q / 513) = 513 * (q / 513) := by
      show 513 * (15 - (15 - q / 513 + 8 * 0)) = _
      rw [show 15 - (15 - q / 513 + 8 * 0) = q / 513 by omega]
    refine Eq.trans (congrArg (fun t => X (ix2 (Fin.ofNat 8208 t) l)) ?_) (e.trans ?_)
    · show r = 8207 - (baseB (8 * ((0 : Fin 2) : ℕ)) (15 - q / 513) + q % 513)
      rw [e']; omega
    · show seg (bwd C l) (bwd D l) (carryAt A B C D (16 + (15 - q / 513)) l) (baseB (8 * ((0 : Fin 2) : ℕ)) (15 - q / 513)) _ = _
      rw [e', carryAt, if_neg (by omega), rowState, show 31 - (16 + (15 - q / 513)) = q / 513 by omega]
  · have e := h 1 (ix2 ⟨7 - q / 513, by omega⟩ l) (q % 513) (Nat.mod_lt _ (by omega))
    rw [segV_apply, if_neg (by decide), hhi] at e
    have e' : baseB (8 * ((1 : Fin 2) : ℕ)) (7 - q / 513) = 513 * (q / 513) := by
      show 513 * (15 - (7 - q / 513 + 8 * 1)) = _
      rw [show 15 - (7 - q / 513 + 8 * 1) = q / 513 by omega]
    refine Eq.trans (congrArg (fun t => X (ix2 (Fin.ofNat 8208 t) l)) ?_) (e.trans ?_)
    · show r = 8207 - (baseB (8 * ((1 : Fin 2) : ℕ)) (7 - q / 513) + q % 513)
      rw [e']; omega
    · show seg (bwd C l) (bwd D l) (carryAt A B C D (24 + (7 - q / 513)) l) (baseB (8 * ((1 : Fin 2) : ℕ)) (7 - q / 513)) _ = _
      rw [e', carryAt, if_neg (by omega), rowState, show 31 - (24 + (7 - q / 513)) = q / 513 by omega]

/-- One block of the kernel's output: forward and backward state of every row after the first sixteen, added. -/
def lruOut (A B C D : SBlk.Idx → F .f32) : S1x8192x128.Idx → F .f32 := fun y =>
  FloatOps.addf (rowState (fwd A (y 2)) (fwd B (y 2)) (16 + (y 1).val)) (rowState (bwd C (y 2)) (bwd D (y 2)) (8191 - (y 1).val))

/-- The last store of a trip. -/
theorem out_read {A B C D : SBlk.Idx → F .f32} {sig : RefSig} {κ : Kind} {sp sp' sp'' : Space} (v6 : View sig κ sp S1x8192x128 .f32) (v7 : View sig κ sp' S8208x128 .f32)
    (v8 : View sig κ sp'' S8208x128 .f32) (f6 : v6.ty.Contents (Elt F)) (f7 : v7.ty.Contents (Elt F)) (f8 : v8.ty.Contents (Elt F))
    {lo hi lo' hi' : Oct F} (h7 : filledF A B lo hi 513 (v7.read (Elt F) f7)) (h8 : filledB C D lo' hi' 513 (v8.read (Elt F) f8))
    (hlo : ∀ y, lo y = carryAt A B C D (0 + (y 0).val) (y 1)) (hhi : ∀ y, hi y = carryAt A B C D (8 + (y 0).val) (y 1))
    (hlo' : ∀ y, lo' y = carryAt A B C D (16 + (y 0).val) (y 1)) (hhi' : ∀ y, hi' y = carryAt A B C D (24 + (y 0).val) (y 1)) :
    v6.read (Elt F) (v6.writes (Elt F) f6 [⟨Rect.unit ![0, 0, 0] S1x8192x128.size inb_S1x8192x128_S1x8192x128_0_0_0,
      k0_pay7 (View.readAt (Elt F) v7 (Rect.unit (s := S8208x128) ![16, 0] S8192x128.size inb_S8208x128_S8192x128_16_0).toLoadRect f7)
        (View.readAt (Elt F) v8 (Rect.unit (s := S8208x128) ![16, 0] S8192x128.size inb_S8208x128_S8192x128_16_0).toLoadRect f8)⟩]) = lruOut A B C D := by
  funext y
  have h1 : (y 1).val < 8192 := (y 1).isLt
  refine (read_cons v6 f6 _ _ [] y y fun a => ?_).trans ?_
  · match a with
    | ⟨0, _⟩ => show (y 0).val = 0 + 1 * (y 0).val; omega
    | ⟨1, _⟩ => show (y 1).val = 0 + 1 * (y 1).val; omega
    | ⟨2, _⟩ => show (y 2).val = 0 + 1 * (y 2).val; omega
  show shapeCast S1x8192x128 (addf _ _) shapeCasts_S8192x128_S1x8192x128 y = _
  refine (shapeCast_apply _ _ y (ix2 (y 1) (y 2)) ?_).trans ?_
  · have h0 : (y 0).val < 1 := (y 0).isLt
    rw [Shape.rowMajor_val_three, Shape.rowMajor_val_two]
    show (y 1).val * 128 + (y 2).val = ((y 0).val * 8192 + (y 1).val) * 128 + (y 2).val
    omega
  refine congrArg₂ FloatOps.addf ?_ ?_
  · refine Eq.trans ?_ (filledF_row h7 hlo hhi (16 + (y 1).val) (by omega) (y 2))
    show v7.read (Elt F) f7 (LoadRect.idx _ _) = _
    refine congrArg (v7.read (Elt F) f7) (funext fun a => Fin.ext ?_)
    match a with
    | ⟨0, _⟩ => show 16 + 1 * (y 1).val = (16 + (y 1).val) % 8208; omega
    | ⟨1, _⟩ => show 0 + 1 * (y 2).val = (y 2).val; omega
  · refine Eq.trans ?_ (filledB_row h8 hlo' hhi' (16 + (y 1).val) (8191 - (y 1).val) (by omega) (y 2))
    show v8.read (Elt F) f8 (LoadRect.idx _ _) = _
    refine congrArg (v8.read (Elt F) f8) (funext fun a => Fin.ext ?_)
    match a with
    | ⟨0, _⟩ => show 16 + 1 * (y 1).val = (16 + (y 1).val) % 8208; omega
    | ⟨1, _⟩ => show 0 + 1 * (y 2).val = (y 2).val; omega

set_option maxHeartbeats 1600000 in
theorem sound_body (𝒱 : Variants) (c : Dev nD) (bd : Option 𝒱.V) (i : grid0.Coords) (arg2 : Memref sig .tc .vmem S1x1x8208x128 .f32) (harg2 : arg2.IsWhole) (arg3 : Memref sig .tc .vmem S1x1x8208x128 .f32) (harg3 : arg3.IsWhole) (arg4 : Memref sig .tc .vmem S1x1x8208x128 .f32) (harg4 : arg4.IsWhole) (arg5 : Memref sig .tc .vmem S1x1x8208x128 .f32) (harg5 : arg5.IsWhole) (arg6 : Memref sig .tc .vmem S1x8192x128 .f32) (harg6 : arg6.IsWhole) (arg7 : Memref sig .tc .vmem S8208x128 .f32) (harg7 : arg7.IsWhole) (arg8 : Memref sig .tc .vmem S8208x128 .f32) (harg8 : arg8.IsWhole) (arg9 : Memref sig .tc .vmem S64x128 .f32) (harg9 : arg9.IsWhole) (arg10 : Memref sig .tc .vmem S32x128 .f32) (harg10 : arg10.IsWhole)
    (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (E : Set ℕ) :
    (iprop(held c arg2 f2 ∗ held c arg3 f3 ∗ held c arg4 f4 ∗ held c arg5 f5 ∗ held c arg6 f6 ∗ held c arg7 f7 ∗ held c arg8 f8 ∗ held c arg9 f9 ∗ held c arg10 f10) : sProp 𝕄)
    ⊢ wp frame (wpE (defs₀ (F := F)) 𝒱 (c : Thread nD τ) bd) E (cc0_lru (F := F) i arg2 harg2 arg3 harg3 arg4 harg4 arg5 harg5 arg6 harg6 arg7 harg7 arg8 harg8 arg9 harg9 arg10 harg10)
        (fun _ => iprop(held c arg2 f2 ∗ held c arg3 f3 ∗ held c arg4 f4 ∗ held c arg5 f5 ∗ (∃ f, held c arg6 f ∗ ⌜arg6.view.read (Elt F) f = lruOut (arg2.view.read (Elt F) f2) (arg3.view.read (Elt F) f3) (arg4.view.read (Elt F) f4) (arg5.view.read (Elt F) f5)⌝)
          ∗ (∃ f, held c arg7 f) ∗ (∃ f, held c arg8 f) ∗ (∃ f, held c arg9 f) ∗ (∃ f, held c arg10 f))) := by
  simp only [cc0_lru_eq_skeleton]
  unfold cc0_lru_skel
  iintro ⟨H2, H3, H4, H5, H6, H7, H8, H9, H10⟩
  sl_exec
  have hP : View.PiecesOf (Val := Elt F) (e := .f32) (fun y : S64x128.Idx => endsAt (arg2.view.read (Elt F) f2) (arg3.view.read (Elt F) f3) (arg4.view.read (Elt F) f4) (arg5.view.read (Elt F) f5) (y 0).val (y 1))
      (sound_body.sl.H9_8 arg2 arg3 arg4 arg5 f2 f3 f4 f5) := by
    unfold sound_body.sl.H9_8
    refine ⟨?_, ?_, ?_, ?_, ?_, ?_, ?_, ?_, trivial⟩
    · refine ends_prod (o := 56) inb_S64x128_S8x128_56_0 (show k0_pay34 _ = prodV _ _ _ _ from pay34_eq _) ?_ ?_ fun m l h => ?_
      · exact fun _ => rfl
      · rfl
      rw [endsAt_3 _ _ _ _ _ (by omega), baseB]; congr 3; omega
    · refine ends_prod (o := 48) inb_S64x128_S8x128_48_0 (show k0_pay33 _ = prodV _ _ _ _ from pay33_eq _) ?_ ?_ fun m l h => ?_
      · exact fun _ => rfl
      · rfl
      rw [endsAt_3 _ _ _ _ _ (by omega), baseB]; congr 3; omega
    · refine ends_seg (o := 40) inb_S64x128_S8x128_40_0 (show k0_pay32 _ = segV _ _ _ _ _ from pay32_eq _) ?_ ?_ fun m l h => ?_
      · exact fun _ => rfl
      · rfl
      rw [endsAt_2 _ _ _ _ _ (by omega) (by omega), baseB]; congr 3; omega
    · refine ends_seg (o := 32) inb_S64x128_S8x128_32_0 (show k0_pay31 _ = segV _ _ _ _ _ from pay31_eq _) ?_ ?_ fun m l h => ?_
      · exact fun _ => rfl
      · rfl
      rw [endsAt_2 _ _ _ _ _ (by omega) (by omega), baseB]; congr 3; omega
    · refine ends_prod (o := 24) inb_S64x128_S8x128_24_0 (show k0_pay30 _ = prodV _ _ _ _ from pay30_eq _) ?_ ?_ fun m l h => ?_
      · exact fun _ => rfl
      · rfl
      rw [endsAt_1 _ _ _ _ _ (by omega) (by omega), baseF]; congr 2; omega
    · refine ends_prod (o := 16) inb_S64x128_S8x128_16_0 (show k0_pay29 _ = prodV _ _ _ _ from pay29_eq _) ?_ ?_ fun m l h => ?_
      · exact fun _ => rfl
      · rfl
      rw [endsAt_1 _ _ _ _ _ (by omega) (by omega), baseF]; congr 2; omega
    · refine ends_seg (o := 8) inb_S64x128_S8x128_8_0 (show k0_pay28 _ = segV _ _ _ _ _ from pay28_eq _) ?_ ?_ fun m l h => ?_
      · exact fun _ => rfl
      · rfl
      rw [endsAt_0 _ _ _ _ _ (by omega), baseF]; congr 2; omega
    · refine ends_seg (o := 0) inb_S64x128_S8x128_0_0 (show k0_pay27 _ = segV _ _ _ _ _ from pay27_eq _) ?_ ?_ fun m l h => ?_
      · exact fun _ => rfl
      · rfl
      rw [endsAt_0 _ _ _ _ _ (by omega), baseF]; congr 2; omega
  have hE := ends_read arg9.view _ hP (View.cover_of_tiledL _ ![8, 128] rfl)
  have c0 : ∀ x : S1x128.Idx, (k0_pay35 (F := F)) x = carryAt (arg2.view.read (Elt F) f2) (arg3.view.read (Elt F) f3) (arg4.view.read (Elt F) f4) (arg5.view.read (Elt F) f5) 0 (x 1) := fun x => rfl
  have c1 := chainF (arg2.view.read (Elt F) f2) (arg3.view.read (Elt F) f3) (arg4.view.read (Elt F) f4) (arg5.view.read (Elt F) f5) 0 (by omega) (hE 0 inb_S64x128_S1x128_0_0) (hE 16 inb_S64x128_S1x128_16_0) c0
  have c2 := chainF (arg2.view.read (Elt F) f2) (arg3.view.read (Elt F) f3) (arg4.view.read (Elt F) f4) (arg5.view.read (Elt F) f5) 1 (by omega) (hE 1 inb_S64x128_S1x128_1_0) (hE 17 inb_S64x128_S1x128_17_0) c1
  have c3 := chainF (arg2.view.read (Elt F) f2) (arg3.view.read (Elt F) f3) (arg4.view.read (Elt F) f4) (arg5.view.read (Elt F) f5) 2 (by omega) (hE 2 inb_S64x128_S1x128_2_0) (hE 18 inb_S64x128_S1x128_18_0) c2
  have c4 := chainF (arg2.view.read (Elt F) f2) (arg3.view.read (Elt F) f3) (arg4.view.read (Elt F) f4) (arg5.view.read (Elt F) f5) 3 (by omega) (hE 3 inb_S64x128_S1x128_3_0) (hE 19 inb_S64x128_S1x128_19_0) c3
  have c5 := chainF (arg2.view.read (Elt F) f2) (arg3.view.read (Elt F) f3) (arg4.view.read (Elt F) f4) (arg5.view.read (Elt F) f5) 4 (by omega) (hE 4 inb_S64x128_S1x128_4_0) (hE 20 inb_S64x128_S1x128_20_0) c4
  have c6 := chainF (arg2.view.read (Elt F) f2) (arg3.view.read (Elt F) f3) (arg4.view.read (Elt F) f4) (arg5.view.read (Elt F) f5) 5 (by omega) (hE 5 inb_S64x128_S1x128_5_0) (hE 21 inb_S64x128_S1x128_21_0) c5
  have c7 := chainF (arg2.view.read (Elt F) f2) (arg3.view.read (Elt F) f3) (arg4.view.read (Elt F) f4) (arg5.view.read (Elt F) f5) 6 (by omega) (hE 6 inb_S64x128_S1x128_6_0) (hE 22 inb_S64x128_S1x128_22_0) c6
  have c8 := chainF (arg2.view.read (Elt F) f2) (arg3.view.read (Elt F) f3) (arg4.view.read (Elt F) f4) (arg5.view.read (Elt F) f5) 7 (by omega) (hE 7 inb_S64x128_S1x128_7_0) (hE 23 inb_S64x128_S1x128_23_0) c7
  have c9 := chainF (arg2.view.read (Elt F) f2) (arg3.view.read (Elt F) f3) (arg4.view.read (Elt F) f4) (arg5.view.read (Elt F) f5) 8 (by omega) (hE 8 inb_S64x128_S1x128_8_0) (hE 24 inb_S64x128_S1x128_24_0) c8
  have c10 := chainF (arg2.view.read (Elt F) f2) (arg3.view.read (Elt F) f3) (arg4.view.read (Elt F) f4) (arg5.view.read (Elt F) f5) 9 (by omega) (hE 9 inb_S64x128_S1x128_9_0) (hE 25 inb_S64x128_S1x128_25_0) c9
  have c11 := chainF (arg2.view.read (Elt F) f2) (arg3.view.read (Elt F) f3) (arg4.view.read (Elt F) f4) (arg5.view.read (Elt F) f5) 10 (by omega) (hE 10 inb_S64x128_S1x128_10_0) (hE 26 inb_S64x128_S1x128_26_0) c10
  have c12 := chainF (arg2.view.read (Elt F) f2) (arg3.view.read (Elt F) f3) (arg4.view.read (Elt F) f4) (arg5.view.read (Elt F) f5) 11 (by omega) (hE 11 inb_S64x128_S1x128_11_0) (hE 27 inb_S64x128_S1x128_27_0) c11
  have c13 := chainF (arg2.view.read (Elt F) f2) (arg3.view.read (Elt F) f3) (arg4.view.read (Elt F) f4) (arg5.view.read (Elt F) f5) 12 (by omega) (hE 12 inb_S64x128_S1x128_12_0) (hE 28 inb_S64x128_S1x128_28_0) c12
  have c14 := chainF (arg2.view.read (Elt F) f2) (arg3.view.read (Elt F) f3) (arg4.view.read (Elt F) f4) (arg5.view.read (Elt F) f5) 13 (by omega) (hE 13 inb_S64x128_S1x128_13_0) (hE 29 inb_S64x128_S1x128_29_0) c13
  have c15 := chainF (arg2.view.read (Elt F) f2) (arg3.view.read (Elt F) f3) (arg4.view.read (Elt F) f4) (arg5.view.read (Elt F) f5) 14 (by omega) (hE 14 inb_S64x128_S1x128_14_0) (hE 30 inb_S64x128_S1x128_30_0) c14
  have c31 : ∀ x : S1x128.Idx, (k0_pay35 (F := F)) x = carryAt (arg2.view.read (Elt F) f2) (arg3.view.read (Elt F) f3) (arg4.view.read (Elt F) f4) (arg5.view.read (Elt F) f5) 31 (x 1) := fun x => rfl
  have c30 := chainB (arg2.view.read (Elt F) f2) (arg3.view.read (Elt F) f3) (arg4.view.read (Elt F) f4) (arg5.view.read (Elt F) f5) 14 (by omega) (hE 47 inb_S64x128_S1x128_47_0) (hE 63 inb_S64x128_S1x128_63_0) c31
  have c29 := chainB (arg2.view.read (Elt F) f2) (arg3.view.read (Elt F) f3) (arg4.view.read (Elt F) f4) (arg5.view.read (Elt F) f5) 13 (by omega) (hE 46 inb_S64x128_S1x128_46_0) (hE 62 inb_S64x128_S1x128_62_0) c30
  have c28 := chainB (arg2.view.read (Elt F) f2) (arg3.view.read (Elt F) f3) (arg4.view.read (Elt F) f4) (arg5.view.read (Elt F) f5) 12 (by omega) (hE 45 inb_S64x128_S1x128_45_0) (hE 61 inb_S64x128_S1x128_61_0) c29
  have c27 := chainB (arg2.view.read (Elt F) f2) (arg3.view.read (Elt F) f3) (arg4.view.read (Elt F) f4) (arg5.view.read (Elt F) f5) 11 (by omega) (hE 44 inb_S64x128_S1x128_44_0) (hE 60 inb_S64x128_S1x128_60_0) c28
  have c26 := chainB (arg2.view.read (Elt F) f2) (arg3.view.read (Elt F) f3) (arg4.view.read (Elt F) f4) (arg5.view.read (Elt F) f5) 10 (by omega) (hE 43 inb_S64x128_S1x128_43_0) (hE 59 inb_S64x128_S1x128_59_0) c27
  have c25 := chainB (arg2.view.read (Elt F) f2) (arg3.view.read (Elt F) f3) (arg4.view.read (Elt F) f4) (arg5.view.read (Elt F) f5) 9 (by omega) (hE 42 inb_S64x128_S1x128_42_0) (hE 58 inb_S64x128_S1x128_58_0) c26
  have c24 := chainB (arg2.view.read (Elt F) f2) (arg3.view.read (Elt F) f3) (arg4.view.read (Elt F) f4) (arg5.view.read (Elt F) f5) 8 (by omega) (hE 41 inb_S64x128_S1x128_41_0) (hE 57 inb_S64x128_S1x128_57_0) c25
  have c23 := chainB (arg2.view.read (Elt F) f2) (arg3.view.read (Elt F) f3) (arg4.view.read (Elt F) f4) (arg5.view.read (Elt F) f5) 7 (by omega) (hE 40 inb_S64x128_S1x128_40_0) (hE 56 inb_S64x128_S1x128_56_0) c24
  have c22 := chainB (arg2.view.read (Elt F) f2) (arg3.view.read (Elt F) f3) (arg4.view.read (Elt F) f4) (arg5.view.read (Elt F) f5) 6 (by omega) (hE 39 inb_S64x128_S1x128_39_0) (hE 55 inb_S64x128_S1x128_55_0) c23
  have c21 := chainB (arg2.view.read (Elt F) f2) (arg3.view.read (Elt F) f3) (arg4.view.read (Elt F) f4) (arg5.view.read (Elt F) f5) 5 (by omega) (hE 38 inb_S64x128_S1x128_38_0) (hE 54 inb_S64x128_S1x128_54_0) c22
  have c20 := chainB (arg2.view.read (Elt F) f2) (arg3.view.read (Elt F) f3) (arg4.view.read (Elt F) f4) (arg5.view.read (Elt F) f5) 4 (by omega) (hE 37 inb_S64x128_S1x128_37_0) (hE 53 inb_S64x128_S1x128_53_0) c21
  have c19 := chainB (arg2.view.read (Elt F) f2) (arg3.view.read (Elt F) f3) (arg4.view.read (Elt F) f4) (arg5.view.read (Elt F) f5) 3 (by omega) (hE 36 inb_S64x128_S1x128_36_0) (hE 52 inb_S64x128_S1x128_52_0) c20
  have c18 := chainB (arg2.view.read (Elt F) f2) (arg3.view.read (Elt F) f3) (arg4.view.read (Elt F) f4) (arg5.view.read (Elt F) f5) 2 (by omega) (hE 35 inb_S64x128_S1x128_35_0) (hE 51 inb_S64x128_S1x128_51_0) c19
  have c17 := chainB (arg2.view.read (Elt F) f2) (arg3.view.read (Elt F) f3) (arg4.view.read (Elt F) f4) (arg5.view.read (Elt F) f5) 1 (by omega) (hE 34 inb_S64x128_S1x128_34_0) (hE 50 inb_S64x128_S1x128_50_0) c18
  have c16 := chainB (arg2.view.read (Elt F) f2) (arg3.view.read (Elt F) f3) (arg4.view.read (Elt F) f4) (arg5.view.read (Elt F) f5) 0 (by omega) (hE 33 inb_S64x128_S1x128_33_0) (hE 49 inb_S64x128_S1x128_49_0) c17
  have hC : View.PiecesOf (Val := Elt F) (e := .f32) (fun y : S32x128.Idx => carryAt (arg2.view.read (Elt F) f2) (arg3.view.read (Elt F) f3) (arg4.view.read (Elt F) f4) (arg5.view.read (Elt F) f5) (y 0).val (y 1))
      (sound_body.sl.H10_32 arg2 arg3 arg4 arg5 arg9 f2 f3 f4 f5) := by
    unfold sound_body.sl.H10_32
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    · exact carry_row inb_S32x128_S1x128_16_0 rfl c16
    · exact carry_row inb_S32x128_S1x128_17_0 rfl c17
    · exact carry_row inb_S32x128_S1x128_18_0 rfl c18
    · exact carry_row inb_S32x128_S1x128_19_0 rfl c19
    · exact carry_row inb_S32x128_S1x128_20_0 rfl c20
    · exact carry_row inb_S32x128_S1x128_21_0 rfl c21
    · exact carry_row inb_S32x128_S1x128_22_0 rfl c22
    · exact carry_row inb_S32x128_S1x128_23_0 rfl c23
    · exact carry_row inb_S32x128_S1x128_24_0 rfl c24
    · exact carry_row inb_S32x128_S1x128_25_0 rfl c25
    · exact carry_row inb_S32x128_S1x128_26_0 rfl c26
    · exact carry_row inb_S32x128_S1x128_27_0 rfl c27
    · exact carry_row inb_S32x128_S1x128_28_0 rfl c28
    · exact carry_row inb_S32x128_S1x128_29_0 rfl c29
    · exact carry_row inb_S32x128_S1x128_30_0 rfl c30
    · exact carry_row inb_S32x128_S1x128_31_0 rfl c31
    · exact carry_row inb_S32x128_S1x128_15_0 rfl c15
    · exact carry_row inb_S32x128_S1x128_14_0 rfl c14
    · exact carry_row inb_S32x128_S1x128_13_0 rfl c13
    · exact carry_row inb_S32x128_S1x128_12_0 rfl c12
    · exact carry_row inb_S32x128_S1x128_11_0 rfl c11
    · exact carry_row inb_S32x128_S1x128_10_0 rfl c10
    · exact carry_row inb_S32x128_S1x128_9_0 rfl c9
    · exact carry_row inb_S32x128_S1x128_8_0 rfl c8
    · exact carry_row inb_S32x128_S1x128_7_0 rfl c7
    · exact carry_row inb_S32x128_S1x128_6_0 rfl c6
    · exact carry_row inb_S32x128_S1x128_5_0 rfl c5
    · exact carry_row inb_S32x128_S1x128_4_0 rfl c4
    · exact carry_row inb_S32x128_S1x128_3_0 rfl c3
    · exact carry_row inb_S32x128_S1x128_2_0 rfl c2
    · exact carry_row inb_S32x128_S1x128_1_0 rfl c1
    · exact carry_row inb_S32x128_S1x128_0_0 rfl c0
  have hcov : ∀ y : S32x128.Idx, ∃ p ∈ sound_body.sl.H10_32 arg2 arg3 arg4 arg5 arg9 f2 f3 f4 f5, y ∈ p.1.set := View.cover_of_tiledL _ ![1, 128] rfl
  have hcar := carry_read arg10.view _ hC hcov
  have h7 := (sofar_iff _ (filledF_zero _ _ _ _ _) _).mp hL10
  have h8 := (sofar_iff _ (filledB_zero _ _ _ _ _) _).mp hL12
  sl_step
  isplitl [H2]; · iexact H2
  isplitl [H3]; · iexact H3
  isplitl [H4]; · iexact H4
  isplitl [H5]; · iexact H5
  isplitl [H6]
  · iexists _
    isplitl [H6]; · iexact H6
    ipureintro
    exact out_read _ _ _ _ _ _ h7 h8 (hcar 0 _) (hcar 8 _) (hcar 16 _) (hcar 24 _)
  isplitl [H7]; · iexists _; iexact H7
  isplitl [H8]; · iexists _; iexact H8
  isplitl [H9]; · iexists _; iexact H9
  iexists _; iexact H10

end Cert.Proof.Lru

end
-- ==== Proof.Lru.Run.lean ====
/- The scan over its whole grid: proof data, the body at every point, the run of the pipeline, and the result array it leaves. -/
module

public import proofs.«01_k».proof.Proof.Lru.Body
public import Idealize.ShloMosaic.Lib.Pipeline.ValueKit

@[expose] public section

set_option maxRecDepth 8192

noncomputable section

namespace Cert.Proof.Lru

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The output block at a point, from the four input blocks. -/
def outAt (c : Dev nD) (t : Fin cfg0.N) : S1x8192x128.Idx → F .f32 :=
  lruOut (iblk m c 0 t) (iblk m c 1 t) (iblk m c 2 t) (iblk m c 3 t)

/-- The arrays as launched; each input's buffer at its block, the output's at `outAt`. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]
theorem before_0 (c : Dev nD) (t : Fin cfg0.N) (d) : (dats m 0 c).before 0 t d = iblk m c 0 t := before0_0_of m (dats m 0 c) rfl (after_0 m c) t d
theorem before_1 (c : Dev nD) (t : Fin cfg0.N) (d) : (dats m 0 c).before 1 t d = iblk m c 1 t := before0_1_of m (dats m 0 c) rfl (after_1 m c) t d
theorem before_2 (c : Dev nD) (t : Fin cfg0.N) (d) : (dats m 0 c).before 2 t d = iblk m c 2 t := before0_2_of m (dats m 0 c) rfl (after_2 m c) t d
theorem before_3 (c : Dev nD) (t : Fin cfg0.N) (d) : (dats m 0 c).before 3 t d = iblk m c 3 t := before0_3_of m (dats m 0 c) rfl (after_3 m c) t d

/-- A whole buffer at some contents, held as a memref or at its location. -/
theorem whole_eq (c : Dev nD) (b : Ref sig .tc) : (iprop(∃ f, ((Memref.whole b).view.loc (c : Thread nD τ)) ↦[(Memref.whole b).view.set]{fullShare} f) : sProp 𝕄) = iprop(∃ f : Buf (Elt F) ((c : Thread nD τ).loc b), ((c : Thread nD τ).loc b) ↦{fullShare} f) := by
  rw [show (Memref.whole b).view.set = Finset.univ from View.set_whole b]

/-- The four scratch buffers, held as memrefs. -/
theorem scratch_eq (c : Dev nD) : (Pipeline.scopedRest spec0 c : sProp 𝕄)
    = iprop((∃ f, held c (Memref.whole cc0_scratch0) f) ∗ (∃ f, held c (Memref.whole cc0_scratch1) f) ∗ (∃ f, held c (Memref.whole cc0_scratch2) f) ∗ (∃ f, held c (Memref.whole cc0_scratch3) f)) :=
  (scopedRest0_eq c).trans (congrArg₂ BIBase.sep (whole_eq c cc0_scratch0).symm (congrArg₂ BIBase.sep (whole_eq c cc0_scratch1).symm (congrArg₂ BIBase.sep (whole_eq c cc0_scratch2).symm (whole_eq c cc0_scratch3).symm)))

/-- The body on staging buffers holding blocks `A` … `D`, the scratch buffers at anything, to any continuation. -/
theorem body_wp (c : Dev nD) (i : grid0.Coords) (M2 : Memref sig .tc .vmem S1x1x8208x128 .f32) (h2 : M2.IsWhole) (M3 : Memref sig .tc .vmem S1x1x8208x128 .f32) (h3 : M3.IsWhole)
    (M4 : Memref sig .tc .vmem S1x1x8208x128 .f32) (h4 : M4.IsWhole) (M5 : Memref sig .tc .vmem S1x1x8208x128 .f32) (h5 : M5.IsWhole) (M6 : Memref sig .tc .vmem S1x8192x128 .f32) (h6 : M6.IsWhole)
    (A B C D : SBlk.Idx → F .f32) (K : PUnit → sProp 𝕄) :
    iprop(owns (c : Thread nD τ) M2 fullShare A ∗ owns (c : Thread nD τ) M3 fullShare B ∗ owns (c : Thread nD τ) M4 fullShare C ∗ owns (c : Thread nD τ) M5 fullShare D
        ∗ (∃ d, owns (c : Thread nD τ) M6 fullShare d) ∗ Pipeline.scopedRest spec0 c
        ∗ (iprop(owns (c : Thread nD τ) M2 fullShare A ∗ owns (c : Thread nD τ) M3 fullShare B ∗ owns (c : Thread nD τ) M4 fullShare C ∗ owns (c : Thread nD τ) M5 fullShare D
            ∗ owns (c : Thread nD τ) M6 fullShare (lruOut A B C D) ∗ Pipeline.scopedRest spec0 c) -∗ K ⟨⟩))
      ⊢ wp frame (wpE (defs₀ (F := F)) Variants.none (c : Thread nD τ) none) Set.univ
        (cc0_lru (F := F) i M2 h2 M3 h3 M4 h4 M5 h5 M6 h6 (Memref.whole cc0_scratch0) (Memref.isWhole_whole _) (Memref.whole cc0_scratch1) (Memref.isWhole_whole _)
          (Memref.whole cc0_scratch2) (Memref.isWhole_whole _) (Memref.whole cc0_scratch3) (Memref.isWhole_whole _)) K := by
  unfold owns
  rw [scratch_eq]
  iintro ⟨⟨%f2, %e2, H2⟩, ⟨%f3, %e3, H3⟩, ⟨%f4, %e4, H4⟩, ⟨%f5, %e5, H5⟩, ⟨%d, %f6, -, H6⟩, ⟨⟨%f7, H7⟩, ⟨%f8, H8⟩, ⟨%f9, H9⟩, ⟨%f10, H10⟩⟩, Hk⟩
  subst e2 e3 e4 e5
  iapply wp_wand $$ [H2 H3 H4 H5 H6 H7 H8 H9 H10]
  · iapply (sound_body Variants.none c none i M2 h2 M3 h3 M4 h4 M5 h5 M6 h6 (Memref.whole cc0_scratch0) (Memref.isWhole_whole _) (Memref.whole cc0_scratch1) (Memref.isWhole_whole _)
          (Memref.whole cc0_scratch2) (Memref.isWhole_whole _) (Memref.whole cc0_scratch3) (Memref.isWhole_whole _) f2 f3 f4 f5 f6 f7 f8 f9 f10 Set.univ)
    iframe H2; iframe H3; iframe H4; iframe H5; iframe H6; iframe H7; iframe H8; iframe H9; iexact H10
  iintro %_ ⟨H2, H3, H4, H5, ⟨%f6, H6, %e6⟩, H7, H8, H9, H10⟩
  iapply Hk
  isplitl [H2]; · iexists f2; isplitr [H2]; · ipureintro; rfl
                  iexact H2
  isplitl [H3]; · iexists f3; isplitr [H3]; · ipureintro; rfl
                  iexact H3
  isplitl [H4]; · iexists f4; isplitr [H4]; · ipureintro; rfl
                  iexact H4
  isplitl [H5]; · iexists f5; isplitr [H5]; · ipureintro; rfl
                  iexact H5
  isplitl [H6]; · iexists f6; isplitr [H6]; · ipureintro; exact e6
                  iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  sl_whnfR [defs₀, Defs.onTc]
  simp only [before_0, before_1, before_2, before_3]
  rw [show (dats m 0 c).Φ t.succ = (dats m 0 c).Φ t.castSucc from rfl,
    show (dats m 0 c).owesAt () t.succ = (dats m 0 c).owesAt () t.castSucc from rfl, after_0, after_1, after_2, after_3, after_4]
  unfold outAt
  rw [show (dats m 0 c).Φ t.castSucc = Pipeline.ΦA spec0 c from rfl]
  unfold Pipeline.ΦA
  iintro ⟨⟨HS, HΦ⟩, Ho, ⟨%d0, H0⟩, ⟨%d1, H1⟩, ⟨%d2, H2⟩, ⟨%d3, H3⟩, ⟨%d4, H4⟩⟩
  iapply (body_wp c _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS HΦ]
  · isplitl [HS]; · iexact HS
    iexact HΦ
  isplitl [Ho]; · iexact Ho
  isplitl [H0]; · iexact H0
  isplitl [H1]; · iexact H1
  isplitl [H2]; · iexact H2
  isplitl [H3]; · iexact H3
  iexact H4

-- the conclusion's implicit arguments are found by unfolding plain definitions in a metavariable's type
set_option backward.isDefEq.respectTransparency.types false in
/-- From any memory with zero counters the program terminates with every array at what the proof data compute and every counter at zero. -/
theorem run_main : θ_run defs (onTc (τ := τ) (main (F := F))) (s₀ m ρ)
    (fun r => Pipeline.FramePost cfgs (dats m) 0 (Gen.V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := Gen.V m) (hmain := hmain m Variants.none) (hA := fun _ _ => rfl) (hΦ := fun _ _ => rfl)

/-! ## The result array -/

/-- Batch `b`, lane group `g` of an argument array. -/
def blkOf (X : S2x4x8208x128.Idx → F .f32) (b : Fin 2) (g : Fin 4) : SBlk.Idx → F .f32 := fun y => X (ValueIdx.ix4 b g (y 2) (y 3))

/-- The result: at batch `b`, row `t`, column `w`, the block of lane group `w / 128` at lane `w % 128`. -/
def lruArr (A B C D : S2x4x8208x128.Idx → F .f32) : S2x8192x512.Idx → F .f32 := fun y =>
  lruOut (blkOf A (y 0) (Fin.ofNat 4 ((y 2).val / 128))) (blkOf B (y 0) (Fin.ofNat 4 ((y 2).val / 128)))
    (blkOf C (y 0) (Fin.ofNat 4 ((y 2).val / 128))) (blkOf D (y 0) (Fin.ofNat 4 ((y 2).val / 128))) (ValueIdx.ix3 0 (y 1) (Fin.ofNat 128 ((y 2).val % 128)))

theorem lruArr_at (A B C D : S2x4x8208x128.Idx → F .f32) (b : Fin 2) (g : Fin 4) (y : S1x8192x128.Idx) (z : S2x8192x512.Idx)
    (h0 : (z 0).val = b.val) (h1 : (z 1).val = (y 1).val) (h2 : (z 2).val = g.val * 128 + (y 2).val) :
    lruOut (blkOf A b g) (blkOf B b g) (blkOf C b g) (blkOf D b g) y = lruArr A B C D z := by
  have hl : (y 2).val < 128 := (y 2).isLt
  have hb : z 0 = b := Fin.ext h0
  have hg : Fin.ofNat 4 ((z 2).val / 128) = g := Fin.ext (by
    show (z 2).val / 128 % 4 = g.val
    have := g.isLt; omega)
  have hy : y = ValueIdx.ix3 0 (z 1) (Fin.ofNat 128 ((z 2).val % 128)) := by
    funext a
    match a with
    | ⟨0, _⟩ => exact Subsingleton.elim (α := Fin 1) _ _
    | ⟨1, _⟩ => exact Fin.ext h1.symm
    | ⟨2, _⟩ => exact Fin.ext (by show (y 2).val = (z 2).val % 128 % 128; omega)
  have key : ∀ (b' : Fin 2) (g' : Fin 4) (y' : S1x8192x128.Idx), b' = b → g' = g → y' = y →
      lruOut (blkOf A b g) (blkOf B b g) (blkOf C b g) (blkOf D b g) y = lruOut (blkOf A b' g') (blkOf B b' g') (blkOf C b' g') (blkOf D b' g') y' := by
    rintro _ _ _ rfl rfl rfl; rfl
  exact key _ _ _ hb hg hy.symm

theorem e_0 : ∀ t : Fin cfg0.N, win0_0.index t = ![(grid0.coords t 0).val, (grid0.coords t 1).val, 0, 0] := (by decide +kernel : ∀ t : Fin grid0.N, _)
theorem e_1 : ∀ t : Fin cfg0.N, win0_1.index t = ![(grid0.coords t 0).val, (grid0.coords t 1).val, 0, 0] := (by decide +kernel : ∀ t : Fin grid0.N, _)
theorem e_2 : ∀ t : Fin cfg0.N, win0_2.index t = ![(grid0.coords t 0).val, (grid0.coords t 1).val, 0, 0] := (by decide +kernel : ∀ t : Fin grid0.N, _)
theorem e_3 : ∀ t : Fin cfg0.N, win0_3.index t = ![(grid0.coords t 0).val, (grid0.coords t 1).val, 0, 0] := (by decide +kernel : ∀ t : Fin grid0.N, _)
theorem e_4 : ∀ t : Fin cfg0.N, win0_4.index t = ![(grid0.coords t 0).val, 0, (grid0.coords t 1).val] := (by decide +kernel : ∀ t : Fin grid0.N, _)

theorem iblk_0 (c : Dev nD) (t : Fin cfg0.N) : iblk m c 0 t = blkOf (Gen.V m c main_arg0) (grid0.coords t 0) (grid0.coords t 1) := by
  funext x
  blk_simp [iblk, blkOf]
  refine congrArg _ ?_
  blk_ext [e_0]
theorem iblk_1 (c : Dev nD) (t : Fin cfg0.N) : iblk m c 1 t = blkOf (Gen.V m c main_arg1) (grid0.coords t 0) (grid0.coords t 1) := by
  funext x
  blk_simp [iblk, blkOf]
  refine congrArg _ ?_
  blk_ext [e_1]
theorem iblk_2 (c : Dev nD) (t : Fin cfg0.N) : iblk m c 2 t = blkOf (Gen.V m c main_arg2) (grid0.coords t 0) (grid0.coords t 1) := by
  funext x
  blk_simp [iblk, blkOf]
  refine congrArg _ ?_
  blk_ext [e_2]
theorem iblk_3 (c : Dev nD) (t : Fin cfg0.N) : iblk m c 3 t = blkOf (Gen.V m c main_arg3) (grid0.coords t 0) (grid0.coords t 1) := by
  funext x
  blk_simp [iblk, blkOf]
  refine congrArg _ ?_
  blk_ext [e_3]

theorem arr_final (c : Dev nD) : (dats m 0 c).arrAt 4 cfg0.N = lruArr (Gen.V m c main_arg0) (Gen.V m c main_arg1) (Gen.V m c main_arg2) (Gen.V m c main_arg3) := by
  refine (dats m 0 c).arrAt_eq_of_covers 4 _ (by decide +kernel) fun t hf y => ?_
  blk_simp
  rw [after_4]
  unfold outAt
  rw [iblk_0, iblk_1, iblk_2, iblk_3]
  refine lruArr_at _ _ _ _ _ _ _ _ ?_ ?_ ?_
  · blk_simp [e_4]
  · blk_simp [e_4]
  · blk_simp [e_4]

end Cert.Proof.Lru

end
-- ==== Proof.Lru.Ref.lean ====
/- The reference's scan, trip by trip, and what it leaves: at every row the plain recurrence's state, forwards and backwards. -/
module

public import proofs.«01_k».proof.Proof.Lru.Spec
public import proofs.«01_k».proof.Proof.Gen.ReferenceIdeal.Run
public import Idealize.ShloMosaic.Lib.Pipeline.ValueKit
public import Idealize.ShloMosaic.Lib.Pointwise.ShapeOpsCore

@[expose] public section

set_option maxRecDepth 8192

noncomputable section

namespace Cert.Proof.Lru

open Cert.ReferenceIdeal Cert.ReferenceIdeal.Gen Cert.ReferenceIdeal.Value Idealize.ShloMosaic.StableHlo
open Idealize.ShloMosaic Idealize.ShloMosaic.TcCoe

variable {F : FTy → Type} [FloatOps F]

/-- Column `w` of batch `b` of an argument array, by row; and by row from the last. -/
def col (X : S2x4x8208x128.Idx → F .f32) (b : Fin 2) (w : Fin 512) (r : ℕ) : F .f32 :=
  X (ValueIdx.ix4 b (Fin.ofNat 4 (w.val / 128)) (Fin.ofNat 8208 r) (Fin.ofNat 128 (w.val % 128)))
def rcol (X : S2x4x8208x128.Idx → F .f32) (b : Fin 2) (w : Fin 512) (r : ℕ) : F .f32 := col X b w (8207 - r)

/-- The plain recurrence: the state after `n` rows, from zero. -/
def scan (a b : ℕ → F .f32) (n : ℕ) : F .f32 := seg a b zero 0 n

theorem scan_succ (a b : ℕ → F .f32) (n : ℕ) : scan a b (n + 1) = FloatOps.addf (FloatOps.mulf (a n) (scan a b n)) (b n) := by
  unfold scan
  show FloatOps.addf (FloatOps.mulf (a (0 + n)) _) (b (0 + n)) = _
  rw [Nat.zero_add]

/-- The layout the scan reads: row first, then batch, then column. -/
theorem lead_rows (X : S2x4x8208x128.Idx → F .f32) (h1) (h2) (h3) (r : Fin 8208) (b : Fin 2) (w : Fin 512) :
    transpose S8208x2x512 [1, 0, 2] (shapeCast S2x8208x512 (transpose S2x8208x4x128 [0, 2, 1, 3] X h1) h2) h3 (ValueIdx.ix3 r b w) = col X b w r.val := by
  refine (transpose_apply _ _ _ _ (ValueIdx.ix3 b r w : S2x8208x512.Idx) fun a => ?_).trans ?_
  · match a with
    | ⟨0, _⟩ => rfl
    | ⟨1, _⟩ => rfl
    | ⟨2, _⟩ => rfl
  refine (shapeCast_apply _ _ _ (ValueIdx.ix4 b r (Fin.ofNat 4 (w.val / 128)) (Fin.ofNat 128 (w.val % 128)) : S2x8208x4x128.Idx) ?_).trans ?_
  · rw [Shape.rowMajor_val_four, Shape.rowMajor_val_three]
    show ((b.val * 8208 + r.val) * 4 + w.val / 128 % 4) * 128 + w.val % 128 % 128 = (b.val * 8208 + r.val) * 512 + w.val
    have := w.isLt
    omega
  refine transpose_apply _ _ _ _ _ fun a => ?_
  have hr := Nat.mod_eq_of_lt r.isLt
  match a with
  | ⟨0, _⟩ => rfl
  | ⟨1, _⟩ => exact hr
  | ⟨2, _⟩ => rfl
  | ⟨3, _⟩ => rfl

theorem lead_rows_rev (X : S2x4x8208x128.Idx → F .f32) (h1) (h2) (h3) (r : Fin 8208) (b : Fin 2) (w : Fin 512) :
    transpose S8208x2x512 [1, 0, 2] (Host.reverse [1] (shapeCast S2x8208x512 (transpose S2x8208x4x128 [0, 2, 1, 3] X h1) h2)) h3 (ValueIdx.ix3 r b w) = rcol X b w r.val := by
  refine (transpose_apply _ _ _ _ (ValueIdx.ix3 b r w : S2x8208x512.Idx) fun a => ?_).trans ?_
  · match a with
    | ⟨0, _⟩ => rfl
    | ⟨1, _⟩ => rfl
    | ⟨2, _⟩ => rfl
  have e : Host.reverse [1] (shapeCast S2x8208x512 (transpose S2x8208x4x128 [0, 2, 1, 3] X h1) h2) (ValueIdx.ix3 b r w)
      = shapeCast S2x8208x512 (transpose S2x8208x4x128 [0, 2, 1, 3] X h1) h2 (ValueIdx.ix3 b r.rev w) := by
    refine congrArg (shapeCast S2x8208x512 (transpose S2x8208x4x128 [0, 2, 1, 3] X h1) h2) (funext fun a => ?_)
    match a with
    | ⟨0, _⟩ => rfl
    | ⟨1, _⟩ => rfl
    | ⟨2, _⟩ => rfl
  refine e.trans ?_
  refine Eq.trans ?_ ((lead_rows X h1 h2 h3 r.rev b w).trans ?_)
  · exact ((transpose_apply _ _ _ _ (ValueIdx.ix3 b r.rev w : S2x8208x512.Idx) fun a => by
      match a with
      | ⟨0, _⟩ => rfl
      | ⟨1, _⟩ => rfl
      | ⟨2, _⟩ => rfl)).symm
  · unfold rcol
    congr 1
    rw [Fin.val_rev]
    omega

theorem toInt_trip (j : ℕ) (hj : j < 8208) : (BitVec.ofNat 32 j).toInt = (j : ℤ) := by
  rw [BitVec.toInt_eq_toNat_of_lt (by rw [BitVec.toNat_ofNat, Nat.mod_eq_of_lt (by omega)]; omega), BitVec.toNat_ofNat, Nat.mod_eq_of_lt (by omega)]

/-- The row a trip reads. -/
theorem read_row (X : S8208x2x512.Idx → F .f32) (start : Fin 3 → ℤ) (h1) (h2) (j : ℕ) (hj : j < 8208) (s0 : start 0 = j) (s1 : start 1 = 0) (s2 : start 2 = 0) (b : Fin 2) (w : Fin 512) :
    shapeCast S2x512 (Host.dynamicSlice (s := S8208x2x512) S1x2x512 X start h1) h2 (ValueIdx.ix2 b w) = X (ValueIdx.ix3 ⟨j, hj⟩ b w) := by
  refine (shapeCast_apply _ _ _ (ValueIdx.ix3 0 b w : S1x2x512.Idx) ?_).trans ?_
  · rw [Shape.rowMajor_val_three, Shape.rowMajor_val_two]
    show (0 * 2 + b.val) * 512 + w.val = b.val * 512 + w.val
    omega
  unfold Host.dynamicSlice extractStridedSlice
  refine congrArg X (funext fun a => Fin.ext (Eq.symm ?_))
  match a with
  | ⟨0, _⟩ => show j = (min (max (start 0) 0) ((8208 - 1 : ℕ) : ℤ)).toNat + 0; rw [s0]; omega
  | ⟨1, _⟩ => show b.val = (min (max (start 1) 0) ((2 - 2 : ℕ) : ℤ)).toNat + b.val; rw [s1]; omega
  | ⟨2, _⟩ => show w.val = (min (max (start 2) 0) ((512 - 512 : ℕ) : ℤ)).toNat + w.val; rw [s2]; omega

/-- The row a trip writes, and the rows it leaves. -/
theorem write_row (Y : S8208x2x512.Idx → F .f32) (U : S2x512.Idx → F .f32) (start : Fin 3 → ℤ) (h1) (h2) (j : ℕ) (hj : j < 8208) (s0 : start 0 = j) (s1 : start 1 = 0) (s2 : start 2 = 0)
    (r : Fin 8208) (b : Fin 2) (w : Fin 512) :
    Host.dynamicUpdateSlice (s := S8208x2x512) Y (broadcastInDim S1x2x512 ![1, 2] h1 U) start h2 (ValueIdx.ix3 r b w)
      = if r.val = j then U (ValueIdx.ix2 b w) else Y (ValueIdx.ix3 r b w) := by
  rw [Host.dynamicUpdateSlice_apply]
  have c0 : Host.clampedStart S8208x2x512 S1x2x512 h2.1 start 0 = j := by
    show (min (max (start 0) 0) ((8208 - 1 : ℕ) : ℤ)).toNat = j
    rw [s0]; omega
  have c1 : Host.clampedStart S8208x2x512 S1x2x512 h2.1 start 1 = 0 := by
    show (min (max (start 1) 0) ((2 - 2 : ℕ) : ℤ)).toNat = 0
    rw [s1]; omega
  have c2 : Host.clampedStart S8208x2x512 S1x2x512 h2.1 start 2 = 0 := by
    show (min (max (start 2) 0) ((512 - 512 : ℕ) : ℤ)).toNat = 0
    rw [s2]; omega
  by_cases hr : r.val = j
  · rw [if_pos hr, dif_pos]
    · refine congrArg U (funext fun a => Fin.ext ?_)
      match a with
      | ⟨0, _⟩ => show b.val - Host.clampedStart S8208x2x512 S1x2x512 h2.1 start 1 = b.val; rw [c1]; omega
      | ⟨1, _⟩ => show w.val - Host.clampedStart S8208x2x512 S1x2x512 h2.1 start 2 = w.val; rw [c2]; omega
    · intro a
      match a with
      | ⟨0, _⟩ => show Host.clampedStart S8208x2x512 S1x2x512 h2.1 start 0 ≤ r.val ∧ r.val < Host.clampedStart S8208x2x512 S1x2x512 h2.1 start 0 + 1; rw [c0]; omega
      | ⟨1, _⟩ => show Host.clampedStart S8208x2x512 S1x2x512 h2.1 start 1 ≤ b.val ∧ b.val < Host.clampedStart S8208x2x512 S1x2x512 h2.1 start 1 + 2; rw [c1]; omega
      | ⟨2, _⟩ => show Host.clampedStart S8208x2x512 S1x2x512 h2.1 start 2 ≤ w.val ∧ w.val < Host.clampedStart S8208x2x512 S1x2x512 h2.1 start 2 + 512; rw [c2]; omega
  · rw [if_neg hr, dif_neg]
    intro h
    have h0 : Host.clampedStart S8208x2x512 S1x2x512 h2.1 start 0 ≤ r.val ∧ r.val < Host.clampedStart S8208x2x512 S1x2x512 h2.1 start 0 + 1 := h 0
    rw [c0] at h0; omega

/-- What the loop's buffers hold before trip `n`. -/
structure Upto (A B C D : S2x4x8208x128.Idx → F .f32) (n : ℕ) (V : Valuation τ sig (Elt F)) : Prop where
  k : V (Proc.devRef .tc main_v17_4) = constantI S_ 32 (BitVec.ofNat 32 n)
  a : ∀ r b w, V (Proc.devRef .tc main_v17_0) (ValueIdx.ix3 r b w) = col A b w r.val
  b : ∀ r b w, V (Proc.devRef .tc main_v17_1) (ValueIdx.ix3 r b w) = col B b w r.val
  c : ∀ r b w, V (Proc.devRef .tc main_v17_2) (ValueIdx.ix3 r b w) = rcol C b w r.val
  d : ∀ r b w, V (Proc.devRef .tc main_v17_3) (ValueIdx.ix3 r b w) = rcol D b w r.val
  f : ∀ b w, V (Proc.devRef .tc main_v17_5) (ValueIdx.ix2 b w) = scan (col A b w) (col B b w) n
  g : ∀ b w, V (Proc.devRef .tc main_v17_6) (ValueIdx.ix2 b w) = scan (rcol C b w) (rcol D b w) n
  fs : ∀ (r : Fin 8208) b w, r.val < n → V (Proc.devRef .tc main_v17_7) (ValueIdx.ix3 r b w) = scan (col A b w) (col B b w) (r.val + 1)
  gs : ∀ (r : Fin 8208) b w, r.val < n → V (Proc.devRef .tc main_v17_8) (ValueIdx.ix3 r b w) = scan (rcol C b w) (rcol D b w) (r.val + 1)

theorem upto_succ {A B C D : S2x4x8208x128.Idx → F .f32} {n : ℕ} {V : Valuation τ sig (Elt F)} (h : Upto A B C D n V) (hn : n < 8208) : Upto A B C D (n + 1) (STEP V) := by
  have hk : (V (Proc.devRef .tc main_v17_4) (Shape.Idx.first h_S_)).toInt = (n : ℤ) := by
    rw [h.k]; exact toInt_trip n hn
  have e17 : ∀ b w, res_main_while0b_v28 V (ValueIdx.ix2 b w) = scan (col A b w) (col B b w) (n + 1) := fun b w => by
    rw [scan_succ]
    exact congrArg₂ FloatOps.addf (congrArg₂ FloatOps.mulf ((read_row _ _ _ _ n hn hk rfl rfl b w).trans (h.a _ b w)) (h.f b w))
      ((read_row _ _ _ _ n hn hk rfl rfl b w).trans (h.b _ b w))
  have e19 : ∀ b w, res_main_while0b_v30 V (ValueIdx.ix2 b w) = scan (rcol C b w) (rcol D b w) (n + 1) := fun b w => by
    rw [scan_succ]
    exact congrArg₂ FloatOps.addf (congrArg₂ FloatOps.mulf ((read_row _ _ _ _ n hn hk rfl rfl b w).trans (h.c _ b w)) (h.g b w))
      ((read_row _ _ _ _ n hn hk rfl rfl b w).trans (h.d _ b w))
  refine ⟨(STEP_main_v17_4 V).trans ?_, fun r b w => (congrFun (STEP_main_v17_0 V) _).trans (h.a r b w), fun r b w => (congrFun (STEP_main_v17_1 V) _).trans (h.b r b w),
    fun r b w => (congrFun (STEP_main_v17_2 V) _).trans (h.c r b w), fun r b w => (congrFun (STEP_main_v17_3 V) _).trans (h.d r b w),
    fun b w => (congrFun (STEP_main_v17_5 V) _).trans (e17 b w), fun b w => (congrFun (STEP_main_v17_6 V) _).trans (e19 b w),
    fun r b w hr => (congrFun (STEP_main_v17_7 V) _).trans ?_, fun r b w hr => (congrFun (STEP_main_v17_8 V) _).trans ?_⟩
  · unfold step_main_v17_4
    rw [h.k]
    funext i
    show BitVec.ofNat 32 n + 1#32 = BitVec.ofNat 32 (n + 1)
    simp only [BitVec.ofNat_add]
  · refine (write_row _ _ _ bcast_S2x512_S1x2x512_1_2 updateFits_S8208x2x512_S1x2x512 n hn hk rfl rfl r b w).trans ?_
    split
    · rename_i e; rw [e]; exact e17 b w
    · exact h.fs r b w (by omega)
  · refine (write_row _ _ _ bcast_S2x512_S1x2x512_1_2 updateFits_S8208x2x512_S1x2x512 n hn hk rfl rfl r b w).trans ?_
    split
    · rename_i e; rw [e]; exact e19 b w
    · exact h.gs r b w (by omega)

theorem upto_iterate {A B C D : S2x4x8208x128.Idx → F .f32} {V : Valuation τ sig (Elt F)} (h : Upto A B C D 0 V) : ∀ n, n ≤ 8208 → Upto A B C D n (STEP^[n] V)
  | 0, _ => h
  | n + 1, hn => by
    rw [Function.iterate_succ_apply']
    exact upto_succ (upto_iterate h n (by omega)) (by omega)

variable (m : (ℓ : Loc nD τ sig) → Buf (Elt F) ℓ) (c : Dev nD)

/-- The scan starts with the arguments laid out row first, both states zero. -/
theorem upto_entry : Upto (m ((c.tc : Thread nD τ).loc main_arg0)) (m ((c.tc : Thread nD τ).loc main_arg1)) (m ((c.tc : Thread nD τ).loc main_arg2)) (m ((c.tc : Thread nD τ).loc main_arg3))
    0 (entryContents preI m c) := by
  have ek : entryContents preI m c (Proc.devRef .tc main_v17_4) = constantI S_ 32 0#32 := by
    simp only [entryContents, afterL_cons, afterL_nil]; after_reads_simp <;> rfl
  refine ⟨ek, fun r b w => ?_, fun r b w => ?_, fun r b w => ?_, fun r b w => ?_, fun b w => ?_, fun b w => ?_, fun _ _ _ h => absurd h (Nat.not_lt_zero _), fun _ _ _ h => absurd h (Nat.not_lt_zero _)⟩
  · refine Eq.trans ?_ (lead_rows _ transposes_S2x4x8208x128_S2x8208x4x128_0_2_1_3 shapeCasts_S2x8208x4x128_S2x8208x512 transposes_S2x8208x512_S8208x2x512_1_0_2 r b w)
    simp only [entryContents, afterL_cons, afterL_nil]; after_reads_simp <;> rfl
  · refine Eq.trans ?_ (lead_rows _ transposes_S2x4x8208x128_S2x8208x4x128_0_2_1_3 shapeCasts_S2x8208x4x128_S2x8208x512 transposes_S2x8208x512_S8208x2x512_1_0_2 r b w)
    simp only [entryContents, afterL_cons, afterL_nil]; after_reads_simp <;> rfl
  · refine Eq.trans ?_ (lead_rows_rev _ transposes_S2x4x8208x128_S2x8208x4x128_0_2_1_3 shapeCasts_S2x8208x4x128_S2x8208x512 transposes_S2x8208x512_S8208x2x512_1_0_2 r b w)
    simp only [entryContents, afterL_cons, afterL_nil]; after_reads_simp <;> rfl
  · refine Eq.trans ?_ (lead_rows_rev _ transposes_S2x4x8208x128_S2x8208x4x128_0_2_1_3 shapeCasts_S2x8208x4x128_S2x8208x512 transposes_S2x8208x512_S8208x2x512_1_0_2 r b w)
    simp only [entryContents, afterL_cons, afterL_nil]; after_reads_simp <;> rfl
  · simp only [entryContents, afterL_cons, afterL_nil]; after_reads_simp <;> rfl
  · simp only [entryContents, afterL_cons, afterL_nil]; after_reads_simp <;> rfl

/-- The reference's result: both plain scans at each row after the first sixteen, added. -/
def refArr (A B C D : S2x4x8208x128.Idx → F .f32) : S2x8192x512.Idx → F .f32 := fun y =>
  FloatOps.addf (scan (col A (y 0) (y 2)) (col B (y 0) (y 2)) (16 + (y 1).val + 1)) (scan (rcol C (y 0) (y 2)) (rcol D (y 0) (y 2)) (8191 - (y 1).val + 1))

theorem ref_final {A B C D : S2x4x8208x128.Idx → F .f32} {V : Valuation τ sig (Elt F)} (H : Upto A B C D 8208 V) : out_main_v22 V = refArr A B C D := by
  funext y
  have hy : (y 1).val < 8192 := (y 1).isLt
  unfold out_main_v22
  refine (extractStridedSlice_apply _ _ _ _ (ValueIdx.ix3 (y 0) ⟨16 + (y 1).val, by omega⟩ (y 2) : S2x8208x512.Idx) fun a => ?_).trans ?_
  · match a with
    | ⟨0, _⟩ => exact (Nat.zero_add _).symm
    | ⟨1, _⟩ => rfl
    | ⟨2, _⟩ => exact (Nat.zero_add _).symm
  unfold refArr
  refine congrArg₂ FloatOps.addf ?_ ?_
  · refine (transpose_apply _ _ _ _ (ValueIdx.ix3 ⟨16 + (y 1).val, by omega⟩ (y 0) (y 2) : S8208x2x512.Idx) fun a => ?_).trans ?_
    · match a with
      | ⟨0, _⟩ => rfl
      | ⟨1, _⟩ => rfl
      | ⟨2, _⟩ => rfl
    exact H.fs _ _ _ (by show 16 + (y 1).val < 8208; omega)
  · refine (transpose_apply _ _ _ _ (ValueIdx.ix3 ⟨8191 - (y 1).val, by omega⟩ (y 0) (y 2) : S8208x2x512.Idx) fun a => ?_).trans ?_
    · match a with
      | ⟨0, _⟩ => rfl
      | ⟨1, _⟩ => show 8191 - (y 1).val = 8208 - (16 + (y 1).val + 1); omega
      | ⟨2, _⟩ => rfl
    exact H.gs _ _ _ (by show 8191 - (y 1).val < 8208; omega)

end Cert.Proof.Lru

end
-- ==== Proof.Lru.Algebra.lean ====
/- At the extended reals: the sixteen segments of the kernel, each run from zero and joined by the product of its decays, leave
   at every row what the plain scan leaves. One law of arithmetic beyond regrouping is used, that multiplication by a decay,
   which is neither negative nor `+∞`, distributes over a sum. -/
module

public import proofs.«01_k».proof.Pre_decays
public import proofs.«01_k».proof.Proof.Gen.Pre_decays
public import proofs.«01_k».proof.Proof.Lru.Run
public import proofs.«01_k».proof.Proof.Lru.Ref
public import Idealize.ShloMosaic.Lib.ReduceAll
public import Idealize.ShloMosaic.Lib.IdealHost

@[expose] public section

set_option maxRecDepth 8192

noncomputable section

namespace Cert.Proof.Lru

open Idealize.ShloMosaic Idealize.ShloMosaic.TcCoe

/-- A decay: neither negative nor `+∞`. -/
def Decay (a : ℕ → EReal) : Prop := ∀ r, 0 ≤ a r ∧ a r ≠ ⊤

theorem zero_ideal : (zero : Ideal .f32) = (0 : EReal) := Ideal.ofBits_zero_f32
theorem one_ideal : (one : Ideal .f32) = (1 : EReal) := Ideal.ofBits_one_f32

/-- A segment run from `h` is the segment run from zero plus the product of its decays times `h`. -/
theorem seg_from {a : ℕ → EReal} (ha : Decay a) (b : ℕ → EReal) (h : EReal) (base : ℕ) : ∀ k,
    (seg (F := Ideal) a b h base k : EReal) = (seg (F := Ideal) a b zero base k : EReal) + (prod (F := Ideal) a one base k : EReal) * h
  | 0 => by
    show h = (zero : Ideal .f32) + (one : Ideal .f32) * h
    rw [zero_ideal, one_ideal]
    show h = (0 : EReal) + (1 : EReal) * h
    rw [one_mul, zero_add]
  | k + 1 => by
    show a (base + k) * (seg (F := Ideal) a b h base k : EReal) + b (base + k)
      = (a (base + k) * (seg (F := Ideal) a b zero base k : EReal) + b (base + k)) + (a (base + k) * (prod (F := Ideal) a one base k : EReal)) * h
    rw [seg_from ha b h base k, EReal.left_distrib_of_nonneg_of_ne_top (ha _).1 (ha _).2, mul_assoc, add_right_comm]

/-- A segment goes on from where the one before it stopped. -/
theorem seg_append {F : FTy → Type} [FloatOps F] (a b : ℕ → F .f32) (h : F .f32) (base n : ℕ) : ∀ k,
    seg a b (seg a b h base n) (base + n) k = seg a b h base (n + k)
  | 0 => rfl
  | k + 1 => by
    show FloatOps.addf (FloatOps.mulf (a (base + n + k)) (seg a b (seg a b h base n) (base + n) k)) (b (base + n + k))
      = FloatOps.addf (FloatOps.mulf (a (base + (n + k))) (seg a b h base (n + k))) (b (base + (n + k)))
    rw [seg_append a b h base n k, Nat.add_assoc]

theorem carry_eq {a : ℕ → EReal} (ha : Decay a) (b : ℕ → EReal) : ∀ s, carry (F := Ideal) a b s = scan (F := Ideal) a b (513 * s)
  | 0 => rfl
  | s + 1 => by
    show (seg (F := Ideal) a b zero (513 * s) 513 : EReal) + (prod (F := Ideal) a one (513 * s) 513 : EReal) * (carry (F := Ideal) a b s : EReal) = _
    rw [carry_eq ha b s, ← seg_from ha b]
    have e := seg_append (F := Ideal) a b zero 0 (513 * s) 513
    rw [Nat.zero_add] at e
    exact e

theorem rowState_eq {a : ℕ → EReal} (ha : Decay a) (b : ℕ → EReal) (t : ℕ) : rowState (F := Ideal) a b t = scan (F := Ideal) a b (t + 1) := by
  unfold rowState
  rw [carry_eq ha b]
  have e := seg_append (F := Ideal) a b zero 0 (513 * (t / 513)) (t % 513 + 1)
  rw [Nat.zero_add] at e
  refine e.trans (congrArg (seg (F := Ideal) a b zero 0) ?_)
  have := Nat.div_add_mod t 513
  omega

/-- The kernel's array and the reference's, where both decay arrays are decays. -/
theorem arrays_eq (A B C D : Cert.KernelIdeal.S2x4x8208x128.Idx → Ideal .f32) (hA : ∀ i, (0 : EReal) ≤ A i ∧ A i ≠ (⊤ : EReal)) (hC : ∀ i, (0 : EReal) ≤ C i ∧ C i ≠ (⊤ : EReal)) :
    lruArr A B C D = refArr A B C D := by
  funext y
  have e1 := rowState_eq (a := col A (y 0) (y 2)) (fun r => hA _) (col B (y 0) (y 2)) (16 + (y 1).val)
  have e2 := rowState_eq (a := rcol C (y 0) (y 2)) (fun r => hC _) (rcol D (y 0) (y 2)) (8191 - (y 1).val)
  exact congrArg₂ (FloatOps.addf (F := Ideal) (φ := .f32)) e1 e2

theorem zero_le_of {x : Ideal .f32} (h : FloatOps.cmpf (F := Ideal) .oge x (FloatOps.ofBits .f32 0x00000000#32) = 1#1) : (0 : EReal) ≤ x := by
  rw [Ideal.ofBits_def, Ideal.ofBits_zero_f32] at h
  by_contra hx
  have e : FloatOps.cmpf (F := Ideal) (φ := .f32) .oge x (0 : EReal) = BitVec.ofBool (decide ((0 : EReal) ≤ x)) := rfl
  rw [e, decide_eq_false hx] at h
  exact absurd h (by decide)

theorem lt_top_of {x : Ideal .f32} (h : FloatOps.cmpf (F := Ideal) .olt x (FloatOps.ofBits .f32 0x7F800000#32) = 1#1) : x < (⊤ : EReal) := by
  have t : Ideal.ofBits .f32 0x7F800000#32 = (⊤ : EReal) := by simp [Ideal.ofBits, Ideal.ieee]
  rw [Ideal.ofBits_def, t] at h
  by_contra hx
  have e : FloatOps.cmpf (F := Ideal) (φ := .f32) .olt x (⊤ : EReal) = BitVec.ofBool (decide (x < (⊤ : EReal))) := rfl
  rw [e, decide_eq_false hx] at h
  exact absurd h (by decide)

/-- What the precondition says of the two decay arrays. -/
theorem decays_of (A B C D : Cert.Pre_decays.S2x4x8208x128.Idx → Ideal .f32) (h : Cert.Pre_decays.fn (F := Ideal) A B C D = fun _ => 1#1) :
    (∀ i, (0 : EReal) ≤ A i ∧ A i ≠ (⊤ : EReal)) ∧ (∀ i, (0 : EReal) ≤ C i ∧ C i ≠ (⊤ : EReal)) := by
  have key : ∀ i, ((0 : EReal) ≤ A i ∧ A i < (⊤ : EReal)) ∧ ((0 : EReal) ≤ C i ∧ C i < (⊤ : EReal)) := fun i => by
    have e := Host.reduce_andi_all _ _ _ _ _ (congrFun h (Shape.Idx.first Cert.Pre_decays.Gen.h_S_)) i
    obtain ⟨e1, e2⟩ := IntOp.andi_eq_one.1 e
    obtain ⟨e3, e4⟩ := IntOp.andi_eq_one.1 e1
    obtain ⟨e5, e6⟩ := IntOp.andi_eq_one.1 e3
    exact ⟨⟨zero_le_of e5, lt_top_of e6⟩, zero_le_of e4, lt_top_of e2⟩
  exact ⟨fun i => ⟨(key i).1.1, (key i).1.2.ne⟩, fun i => ⟨(key i).2.1, (key i).2.2.ne⟩⟩

end Cert.Proof.Lru

end
-- ==== Proof.Lru.Claim.lean ====
/- The claims of the first pair of programs: the frames, and equality of the results where the decays are decays. -/
module

public import proofs.«01_k».proof.Defs
public import proofs.«01_k».proof.Proof.Gen.Kernel
public import proofs.«01_k».proof.Proof.Lru.Algebra

@[expose] public section

set_option maxRecDepth 65536

noncomputable section

namespace Cert.Proof.Lru

open Idealize.ShloMosaic Idealize.ShloMosaic.TcCoe Idealize.SL.Sem

section
open Cert.KernelIdeal Cert.KernelIdeal.Gen
variable {F : FTy → Type} [FloatOps F]

/-- Every run of the kernel, over any float values: the result is `lruArr` of the arguments, the arguments and the counters are as before. -/
theorem kernel_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v0) = lruArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => by
    have e := ((h.1 c).1 4).trans (arr_final m c)
    rw [V_main_arg0, V_main_arg1, V_main_arg2, V_main_arg3] at e
    exact ⟨e, ((h.1 c).1 0).trans (((dats m 0 c).arrAt_in 0 rfl _).trans (V_main_arg0 m c)),
      ((h.1 c).1 1).trans (((dats m 0 c).arrAt_in 1 rfl _).trans (V_main_arg1 m c)),
      ((h.1 c).1 2).trans (((dats m 0 c).arrAt_in 2 rfl _).trans (V_main_arg2 m c)),
      ((h.1 c).1 3).trans (((dats m 0 c).arrAt_in 3 rfl _).trans (V_main_arg3 m c))⟩, h.2⟩) (run_main m ρ)
end

/-- The two prints' body tables are the same, label by label. -/
theorem bodies_eq : Cert.Kernel.defs₀ (F := Bits) = Cert.KernelIdeal.defs₀ (F := Bits) := by
  unfold Cert.Kernel.defs₀ Cert.KernelIdeal.defs₀
  refine congrArg _ (funext fun l => funext fun a => ?_)
  match l, a with
  | ⟨0, _⟩, (t, s) => rfl

theorem defs_eq : Cert.Kernel.defs (F := Bits) = Cert.KernelIdeal.defs (F := Bits) :=
  congrArg (Pipeline.defs Cert.KernelIdeal.pcfgs) bodies_eq

theorem frame_kernel : Cert.quiescent_Kernel := fun m ρ _ => by
  rw [defs_eq]
  exact (θ_run Cert.KernelIdeal.defs _ _).mono (fun _ h => ⟨fun c => (h.1 c).2, h.2⟩) (kernel_run (F := Bits) m ρ)

theorem frame_kernelIdeal : Cert.quiescent_KernelIdeal := fun m ρ _ =>
  (θ_run _ _ _).mono (fun _ h => ⟨fun c => (h.1 c).2, h.2⟩) (kernel_run m ρ)

theorem frame_kernelIdeal_decays : Cert.quiescent_KernelIdeal_pre_decays := fun m ρ _ => frame_kernelIdeal m ρ trivial

theorem frame_referenceIdeal : Cert.quiescent_ReferenceIdeal := fun m ρ _ =>
  (θ_run _ _ _).mono (fun r h => ⟨fun c => (h c).2, sem_eq_zero_of_no_sems (by decide) r.2⟩) (Cert.ReferenceIdeal.Value.run m ρ)

theorem frame_referenceIdeal_decays : Cert.quiescent_ReferenceIdeal_pre_decays := fun m ρ _ => frame_referenceIdeal m ρ trivial

/-- The result both programs end with, on each device. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v0) :=
  lruArr (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))

theorem algebraic : Cert.algebraic_KernelIdeal_ReferenceIdeal_pre_decays := fun m ρ m' ρ' hpre hargs => by
  refine ⟨result m, (θ_run _ _ _).mono (fun _ h => h.1) (kernel_run m ρ), (θ_run _ _ _).mono (fun r h c => ⟨(h c).1.trans ?_, (h c).2⟩) (Cert.ReferenceIdeal.Value.run m' ρ')⟩
  obtain ⟨e0, e1, e2, e3⟩ := hargs c
  have d := decays_of _ _ _ _ (hpre c)
  refine (ref_final (upto_iterate (upto_entry m' c) 8208 (Nat.le_refl _))).trans ?_
  rw [e0, e1, e2, e3]
  exact (arrays_eq _ _ _ _ d.1 d.2).symm

end Cert.Proof.Lru

end
-- ==== Proof.Mix.Spec.lean ====
/-
  What the second kernel computes of one tile of 512 rows, over any float values: the two normalised halves, the
  projection with its residual, the gated hidden columns, the residual sum, and the last norm. Each is written piece by
  piece as the kernel cuts it, by the names of its pure values.
-/
module

public import proofs.«01_k».proof.Proof.Gen.Kernel2Ideal.Skeleton
public import Idealize.ShloMosaic.Lib.Pipeline.ValueKit

@[expose] public section

set_option maxRecDepth 8192

noncomputable section

namespace Cert.Proof.Mix

open Cert.Kernel2Ideal Cert.Kernel2Ideal.Gen
open Idealize.ShloMosaic hiding ix2 ix3
open Idealize.ShloMosaic.ValueIdx

variable {F : FTy → Type} [FloatOps F]

/-- Rows `128 p` up to `128 p + 127` of a tile. -/
def rows {α : Type} {w : ℕ} (p : ℕ) (X : (⟨2, ![512, w]⟩ : Shape).Idx → α) : (⟨2, ![128, w]⟩ : Shape).Idx → α :=
  fun x => X (ix2 (Fin.ofNat 512 (128 * p + (x 0).val)) (x 1))

/-- Slab `c` of a stack, as a stack of one. -/
def slab {α : Type} {n a b : ℕ} [NeZero n] (c : ℕ) (W : (⟨3, ![n, a, b]⟩ : Shape).Idx → α) : (⟨3, ![1, a, b]⟩ : Shape).Idx → α :=
  fun x => W (ix3 (Fin.ofNat n c) (x 1) (x 2))

/-- Slab `s` of the two the halves are kept in, as a tile. -/
def slot {α : Type} (s : ℕ) (X : S2x512x1024.Idx → α) : S512x1024.Idx → α := fun y => X (ix3 (Fin.ofNat 2 s) (y 0) (y 1))

/-- A matrix as a stack of one. -/
def lone {α : Type} {a b : ℕ} (M : (⟨2, ![a, b]⟩ : Shape).Idx → α) : (⟨3, ![1, a, b]⟩ : Shape).Idx → α :=
  fun x => M (ix2 (x 1) (x 2))

/-- The left half's 128 rows: the gated recurrence, normalised. -/
def leftPiece (hs gate : S512x512.Idx → F .f32) (gl : S1x512.Idx → F .f32) (p : ℕ) : S1x128x512.Idx → F .bf16 :=
  k0_pay6 (k0_pay5 (rows p hs) (rows p gate) gl)

/-- The right half's 128 rows: the Fourier output plus its bias, normalised. -/
def rightPiece (four : S512x512.Idx → F .f32) (fb gf : S1x512.Idx → F .f32) (p : ℕ) : S1x128x512.Idx → F .bf16 :=
  k0_pay7 (k0_pay4 (rows p four) fb gf)

/-- A tile of the two halves side by side. -/
def mixOf (hs gate four : S512x512.Idx → F .f32) (gl fb gf : S1x512.Idx → F .f32) : S512x1024.Idx → F .bf16 := fun y =>
  if (y 1).val < 512 then leftPiece hs gate gl ((y 0).val / 128) (ix3 0 (Fin.ofNat 128 ((y 0).val % 128)) (Fin.ofNat 512 (y 1).val))
  else rightPiece four fb gf ((y 0).val / 128) (ix3 0 (Fin.ofNat 128 ((y 0).val % 128)) (Fin.ofNat 512 ((y 1).val - 512)))

/-- A tile of the result. -/
def outOf (h3 : S512x1024.Idx → F .f32) (gfin : S1x1024.Idx → F .f32) : S512x1024.Idx → F .f32 := fun y =>
  k0_pay3 (rows ((y 0).val / 128) h3) gfin (ix2 (Fin.ofNat 128 ((y 0).val % 128)) (y 1))

/-- A tile after the projection and its residual. -/
def projOf (M : S512x1024.Idx → F .bf16) (wo : S4x1024x256.Idx → F .bf16) (h1 : S512x1024.Idx → F .f32) : S512x1024.Idx → F .f32 :=
  k0_pay21 (lone M) (slab 0 wo) (slab 1 wo) (slab 2 wo) (slab 3 wo) h1

/-- That tile, normalised. -/
def normOf (M : S512x1024.Idx → F .bf16) (wo : S4x1024x256.Idx → F .bf16) (h1 : S512x1024.Idx → F .f32) (g2 : S1x1024.Idx → F .f32) :
    S512x1024.Idx → F .bf16 :=
  k0_pay22 (lone M) (slab 0 wo) (slab 1 wo) (slab 2 wo) (slab 3 wo) h1 g2

/-- The hidden columns. -/
def actOf (xn : S512x1024.Idx → F .bf16) (wg wu : S11x1024x256.Idx → F .bf16) : S512x2816.Idx → F .bf16 := fun y =>
  k0_pay23 xn (slab ((y 1).val / 256) wg) (slab ((y 1).val / 256) wu) (ix2 (y 0) (Fin.ofNat 256 ((y 1).val % 256)))

/-- A tile after the second feed-forward's residual. -/
def h3Of (M : S512x1024.Idx → F .bf16) (wo : S4x1024x256.Idx → F .bf16) (h1 : S512x1024.Idx → F .f32) (g2 : S1x1024.Idx → F .f32)
    (wg wu : S11x1024x256.Idx → F .bf16) (w2 : S2816x1024.Idx → F .bf16) : S512x1024.Idx → F .f32 :=
  k0_pay110 (projOf M wo h1) (k0_pay59 (actOf (normOf M wo h1 g2) wg wu) w2) (Scalar.ofBits .f32 0x3F000000#32)

end Cert.Proof.Mix
-- ==== Proof.Mix.Pieces.lean ====
/-
  What the second kernel's loads read and what its stores leave: rows of a tile, a slab of a stack, a block of the two
  halves, a block of hidden columns, a block of the result.
-/
module

public import proofs.«01_k».proof.Proof.Mix.Spec
public import Idealize.ShloMosaic.Lib.Tactic
public import Idealize.ShloMosaic.Lib.Pipeline.Kit
public import Idealize.ShloMosaic.Lib.Pipeline.ReadBack
public import Idealize.ShloMosaic.Lib.Ring

@[expose] public section

set_option maxRecDepth 8192

noncomputable section

namespace Cert.Proof.Mix

open Cert.Kernel2Ideal Cert.Kernel2Ideal.Gen
open Idealize.ShloMosaic hiding ix2 ix3
open Idealize.ShloMosaic.ValueIdx

section Loads

variable {Val : EltTy → Type} {sig : RefSig} {κ : Kind} {sp : Space} {e : EltTy}

theorem load_rows {w : ℕ} (v : View sig κ sp ⟨2, ![512, w]⟩ e) (f : v.ty.Contents Val) (o p : ℕ) (ho : o = 128 * p) (hp : p < 4) (inb) :
    View.readAt Val v (Rect.unit (s := ⟨2, ![512, w]⟩) ![o, 0] ![128, w] inb).toLoadRect f = rows p (v.read Val f) := by
  subst ho
  refine funext fun x => congrArg (v.read Val f) (funext fun a => Fin.ext ?_)
  have h0 : (x 0).val < 128 := (x 0).isLt
  match a with
  | ⟨0, _⟩ => show 128 * p + 1 * (x 0).val = (128 * p + (x 0).val) % 512; omega
  | ⟨1, _⟩ => show 0 + 1 * (x 1).val = (x 1).val; omega

theorem load_whole {h w : ℕ} (v : View sig κ sp ⟨2, ![h, w]⟩ e) (f : v.ty.Contents Val) (inb) :
    View.readAt Val v (Rect.unit (s := ⟨2, ![h, w]⟩) ![0, 0] ![h, w] inb).toLoadRect f = v.read Val f := by
  refine funext fun x => congrArg (v.read Val f) (funext fun a => Fin.ext ?_)
  match a with
  | ⟨0, _⟩ => show 0 + 1 * (x 0).val = (x 0).val; omega
  | ⟨1, _⟩ => show 0 + 1 * (x 1).val = (x 1).val; omega

theorem load_slab {n a b : ℕ} [NeZero n] (v : View sig κ sp ⟨3, ![n, a, b]⟩ e) (f : v.ty.Contents Val) (c : ℕ) (hc : c < n) (inb) :
    View.readAt Val v (Rect.unit (s := ⟨3, ![n, a, b]⟩) ![c, 0, 0] ![1, a, b] inb).toLoadRect f = slab c (v.read Val f) := by
  refine funext fun x => congrArg (v.read Val f) (funext fun d => Fin.ext ?_)
  have h0 : (x 0).val < 1 := (x 0).isLt
  match d with
  | ⟨0, _⟩ => show c + 1 * (x 0).val = c % n; rw [Nat.mod_eq_of_lt hc]; omega
  | ⟨1, _⟩ => show 0 + 1 * (x 1).val = (x 1).val; omega
  | ⟨2, _⟩ => show 0 + 1 * (x 2).val = (x 2).val; omega

/-- A stored element reads back the payload wherever it lies, … -/
theorem read_of_pieces {s : Shape} [∀ e, Nonempty (Val e)] (v : View sig κ sp s e) (f : v.ty.Contents Val) (G : s.Idx → Val e)
    (L : List (View.Piece Val s e)) (hL : View.PiecesOf G L) (y : s.Idx) (hy : ∃ p ∈ L, y ∈ p.1.set) :
    v.read Val (v.writes Val f L) y = G y :=
  (View.read_writes_apply_eq_canon v f y L hy).trans (View.canon_apply_of_pieces G L hL.mem y hy)

/-- … and one outside the stored box along some axis what was there. -/
theorem read_outside {s : Shape} (v : View sig κ sp s e) (f : v.ty.Contents Val) (R : Rect s) (w : R.shape.Idx → Val e) (y : s.Idx) (a : Fin s.rank)
    (h : ∀ x : R.shape.Idx, (y a).val ≠ R.off a + R.stride a * (x a).val) : v.read Val (v.writes Val f [⟨R, w⟩]) y = v.read Val f y := by
  refine View.read_slice_write_of_not_mem R _ w _ fun hm => ?_
  obtain ⟨x, -, hx⟩ := Finset.mem_map.mp hm
  exact h x (by rw [← hx]; rfl)

/-- A single store, read where it lies. -/
theorem read_inside {s : Shape} (v : View sig κ sp s e) (f : v.ty.Contents Val) (R : Rect s) (w : R.shape.Idx → Val e) (y : s.Idx) (x : R.shape.Idx)
    (h : ∀ a, (y a).val = R.off a + R.stride a * (x a).val) : v.read Val (v.writes Val f [⟨R, w⟩]) y = w x := by
  have hy : R.emb x = y := funext fun a => Fin.ext (h a).symm
  rw [← hy]
  exact View.read_writes_cons_emb v f R w [] x

/-- A whole matrix stored at once. -/
theorem tile_read {h w : ℕ} (v : View sig κ sp ⟨2, ![h, w]⟩ e) (f : v.ty.Contents Val) (inb) (x : (⟨2, ![h, w]⟩ : Shape).Idx → Val e) :
    v.read Val (v.writes Val f [⟨Rect.unit (s := ⟨2, ![h, w]⟩) ![0, 0] ![h, w] inb, x⟩]) = x := by
  refine funext fun y => read_inside v f (Rect.unit (s := ⟨2, ![h, w]⟩) ![0, 0] ![h, w] inb) x y y fun a => ?_
  match a with
  | ⟨0, _⟩ => show (y 0).val = 0 + 1 * (y 0).val; omega
  | ⟨1, _⟩ => show (y 1).val = 0 + 1 * (y 1).val; omega

end Loads

variable {F : FTy → Type} [FloatOps F]

/-- A stored block of the result. -/
theorem out_piece {h3 : S512x1024.Idx → F .f32} {gfin : S1x1024.Idx → F .f32} {o : ℕ} (p : ℕ) (ho : o = 128 * p) (inb) {w : S128x1024.Idx → F .f32}
    (hw : w = k0_pay3 (rows p h3) gfin) (x : S128x1024.Idx) :
    w x = outOf h3 gfin ((Rect.unit (s := S512x1024) ![o, 0] S128x1024.size inb).emb x) := by
  subst ho hw
  have h0 : (x 0).val < 128 := (x 0).isLt
  have e : (128 * p + 1 * (x 0).val) / 128 = p := by omega
  show _ = k0_pay3 (rows ((128 * p + 1 * (x 0).val) / 128) h3) gfin _
  rw [e]
  refine congrArg _ (funext fun a => Fin.ext ?_)
  match a with
  | ⟨0, _⟩ => show (x 0).val = (128 * p + 1 * (x 0).val) % 128 % 128; omega
  | ⟨1, _⟩ => show (x 1).val = 0 + 1 * (x 1).val; omega

/-- A stored block of hidden columns. -/
theorem act_piece {xn : S512x1024.Idx → F .bf16} {wg wu : S11x1024x256.Idx → F .bf16} {o : ℕ} (c : ℕ) (ho : o = 256 * c) (inb) {w : S512x256.Idx → F .bf16}
    (hw : w = k0_pay23 xn (slab c wg) (slab c wu)) (x : S512x256.Idx) :
    w x = actOf xn wg wu ((Rect.unit (s := S512x2816) ![0, o] S512x256.size inb).emb x) := by
  subst ho hw
  have h1 : (x 1).val < 256 := (x 1).isLt
  have e : (256 * c + 1 * (x 1).val) / 256 = c := by omega
  show _ = k0_pay23 xn (slab ((256 * c + 1 * (x 1).val) / 256) wg) (slab ((256 * c + 1 * (x 1).val) / 256) wu) _
  rw [e]
  refine congrArg _ (funext fun a => Fin.ext ?_)
  match a with
  | ⟨0, _⟩ => show (x 0).val = 0 + 1 * (x 0).val; omega
  | ⟨1, _⟩ => show (x 1).val = (256 * c + 1 * (x 1).val) % 256 % 256; omega

section Slot

variable {hs gate four : S512x512.Idx → F .f32} {gl fb gf : S1x512.Idx → F .f32}

theorem left_piece {s o : ℕ} (p : ℕ) (ho : o = 128 * p) (inb) {w : S1x128x512.Idx → F .bf16} (hw : w = leftPiece hs gate gl p) (x : S1x128x512.Idx) :
    w x = (fun z : S2x512x1024.Idx => mixOf hs gate four gl fb gf (ix2 (z 1) (z 2))) ((Rect.unit (s := S2x512x1024) ![s, o, 0] S1x128x512.size inb).emb x) := by
  subst ho hw
  have h0 : (x 0).val < 1 := (x 0).isLt
  have h1 : (x 1).val < 128 := (x 1).isLt
  have h2 : (x 2).val < 512 := (x 2).isLt
  have e : (128 * p + 1 * (x 1).val) / 128 = p := by omega
  show _ = if 0 + 1 * (x 2).val < 512 then leftPiece hs gate gl ((128 * p + 1 * (x 1).val) / 128) _ else _
  rw [if_pos (by omega), e]
  refine congrArg _ (funext fun a => Fin.ext ?_)
  match a with
  | ⟨0, _⟩ => show (x 0).val = 0; omega
  | ⟨1, _⟩ => show (x 1).val = (128 * p + 1 * (x 1).val) % 128 % 128; omega
  | ⟨2, _⟩ => show (x 2).val = (0 + 1 * (x 2).val) % 512; omega

theorem right_piece {s o : ℕ} (p : ℕ) (ho : o = 128 * p) (inb) {w : S1x128x512.Idx → F .bf16} (hw : w = rightPiece four fb gf p) (x : S1x128x512.Idx) :
    w x = (fun z : S2x512x1024.Idx => mixOf hs gate four gl fb gf (ix2 (z 1) (z 2))) ((Rect.unit (s := S2x512x1024) ![s, o, 512] S1x128x512.size inb).emb x) := by
  subst ho hw
  have h0 : (x 0).val < 1 := (x 0).isLt
  have h1 : (x 1).val < 128 := (x 1).isLt
  have h2 : (x 2).val < 512 := (x 2).isLt
  have e : (128 * p + 1 * (x 1).val) / 128 = p := by omega
  show _ = if 512 + 1 * (x 2).val < 512 then _ else rightPiece four fb gf ((128 * p + 1 * (x 1).val) / 128) _
  rw [if_neg (by omega), e]
  refine congrArg _ (funext fun a => Fin.ext ?_)
  match a with
  | ⟨0, _⟩ => show (x 0).val = 0; omega
  | ⟨1, _⟩ => show (x 1).val = (128 * p + 1 * (x 1).val) % 128 % 128; omega
  | ⟨2, _⟩ => show (x 2).val = (512 + 1 * (x 2).val - 512) % 512; omega

theorem mem_quad {s o q : ℕ} (hs : s < 2) (inb) (y : S512x1024.Idx) (h0 : o ≤ (y 0).val) (h0' : (y 0).val < o + 128) (h1 : q ≤ (y 1).val) (h1' : (y 1).val < q + 512) :
    (ix3 (Fin.ofNat 2 s) (y 0) (y 1) : S2x512x1024.Idx) ∈ (Rect.unit (s := S2x512x1024) ![s, o, q] S1x128x512.size inb).set := by
  rw [Rect.mem_set_unit]
  intro a
  match a with
  | ⟨0, _⟩ => exact ⟨by show s ≤ s % 2; omega, by show s % 2 < s + 1; omega⟩
  | ⟨1, _⟩ => exact ⟨h0, h0'⟩
  | ⟨2, _⟩ => exact ⟨h1, h1'⟩

/-- A slot of the two halves after its eight stores. -/
theorem slot_read {sig : RefSig} {κ : Kind} {sp : Space} (v : View sig κ sp S2x512x1024 .bf16) (f : v.ty.Contents (Elt F)) (s : ℕ) (hs2 : s < 2)
    (i0 i1 i2 i3 j0 j1 j2 j3) {l0 l1 l2 l3 r0 r1 r2 r3 : S1x128x512.Idx → F .bf16}
    (hl0 : l0 = leftPiece hs gate gl 0) (hl1 : l1 = leftPiece hs gate gl 1) (hl2 : l2 = leftPiece hs gate gl 2) (hl3 : l3 = leftPiece hs gate gl 3)
    (hr0 : r0 = rightPiece four fb gf 0) (hr1 : r1 = rightPiece four fb gf 1) (hr2 : r2 = rightPiece four fb gf 2) (hr3 : r3 = rightPiece four fb gf 3) :
    slot s (v.read (Elt F) (v.writes (Elt F) f
      [⟨Rect.unit (s := S2x512x1024) ![s, 384, 512] S1x128x512.size j3, r3⟩, ⟨Rect.unit (s := S2x512x1024) ![s, 384, 0] S1x128x512.size i3, l3⟩,
       ⟨Rect.unit (s := S2x512x1024) ![s, 256, 512] S1x128x512.size j2, r2⟩, ⟨Rect.unit (s := S2x512x1024) ![s, 256, 0] S1x128x512.size i2, l2⟩,
       ⟨Rect.unit (s := S2x512x1024) ![s, 128, 512] S1x128x512.size j1, r1⟩, ⟨Rect.unit (s := S2x512x1024) ![s, 128, 0] S1x128x512.size i1, l1⟩,
       ⟨Rect.unit (s := S2x512x1024) ![s, 0, 512] S1x128x512.size j0, r0⟩, ⟨Rect.unit (s := S2x512x1024) ![s, 0, 0] S1x128x512.size i0, l0⟩]))
      = mixOf hs gate four gl fb gf := by
  refine funext fun y => (read_of_pieces (Val := Elt F) (e := .bf16) v f (fun z : S2x512x1024.Idx => mixOf hs gate four gl fb gf (ix2 (z 1) (z 2))) _ ?_ (ix3 (Fin.ofNat 2 s) (y 0) (y 1)) ?_).trans ?_
  · exact ⟨right_piece 3 rfl j3 hr3, left_piece 3 rfl i3 hl3, right_piece 2 rfl j2 hr2, left_piece 2 rfl i2 hl2,
      right_piece 1 rfl j1 hr1, left_piece 1 rfl i1 hl1, right_piece 0 rfl j0 hr0, left_piece 0 rfl i0 hl0, trivial⟩
  · have h0 : (y 0).val < 512 := (y 0).isLt
    have h1 : (y 1).val < 1024 := (y 1).isLt
    simp only [List.mem_cons, List.not_mem_nil, or_false, exists_eq_or_imp, exists_eq_left]
    by_cases hy : (y 1).val < 512
    · rcases (by omega : (y 0).val < 128 ∨ (128 ≤ (y 0).val ∧ (y 0).val < 256) ∨ (256 ≤ (y 0).val ∧ (y 0).val < 384) ∨ 384 ≤ (y 0).val) with h | h | h | h
      · exact .inr (.inr (.inr (.inr (.inr (.inr (.inr (mem_quad hs2 i0 y (by omega) (by omega) (by omega) (by omega))))))))
      · exact .inr (.inr (.inr (.inr (.inr (.inl (mem_quad hs2 i1 y (by omega) (by omega) (by omega) (by omega)))))))
      · exact .inr (.inr (.inr (.inl (mem_quad hs2 i2 y (by omega) (by omega) (by omega) (by omega)))))
      · exact .inr (.inl (mem_quad hs2 i3 y (by omega) (by omega) (by omega) (by omega)))
    · rcases (by omega : (y 0).val < 128 ∨ (128 ≤ (y 0).val ∧ (y 0).val < 256) ∨ (256 ≤ (y 0).val ∧ (y 0).val < 384) ∨ 384 ≤ (y 0).val) with h | h | h | h
      · exact .inr (.inr (.inr (.inr (.inr (.inr (.inl (mem_quad hs2 j0 y (by omega) (by omega) (by omega) (by omega))))))))
      · exact .inr (.inr (.inr (.inr (.inl (mem_quad hs2 j1 y (by omega) (by omega) (by omega) (by omega))))))
      · exact .inr (.inr (.inl (mem_quad hs2 j2 y (by omega) (by omega) (by omega) (by omega))))
      · exact .inl (mem_quad hs2 j3 y (by omega) (by omega) (by omega) (by omega))
  · exact congrArg _ (ValueIdx.eq_ix2 y).symm

end Slot

/-- The result's tile after its four stores. -/
theorem out_read {sig : RefSig} {κ : Kind} {sp : Space} (v : View sig κ sp S512x1024 .f32) (f : v.ty.Contents (Elt F)) {h3 : S512x1024.Idx → F .f32}
    {gfin : S1x1024.Idx → F .f32} (i0 i1 i2 i3) {w0 w1 w2 w3 : S128x1024.Idx → F .f32} (h0 : w0 = k0_pay3 (rows 0 h3) gfin) (h1 : w1 = k0_pay3 (rows 1 h3) gfin)
    (h2 : w2 = k0_pay3 (rows 2 h3) gfin) (h3' : w3 = k0_pay3 (rows 3 h3) gfin) :
    v.read (Elt F) (v.writes (Elt F) f
      [⟨Rect.unit (s := S512x1024) ![384, 0] S128x1024.size i3, w3⟩, ⟨Rect.unit (s := S512x1024) ![256, 0] S128x1024.size i2, w2⟩,
       ⟨Rect.unit (s := S512x1024) ![128, 0] S128x1024.size i1, w1⟩, ⟨Rect.unit (s := S512x1024) ![0, 0] S128x1024.size i0, w0⟩]) = outOf h3 gfin := by
  refine funext fun y => read_of_pieces (Val := Elt F) (e := .f32) v f (outOf h3 gfin) _ ?_ y (View.cover_of_tiledL _ ![128, 1024] rfl y)
  exact ⟨out_piece 3 rfl i3 h3', out_piece 2 rfl i2 h2, out_piece 1 rfl i1 h1, out_piece 0 rfl i0 h0, trivial⟩

/-- The hidden columns, read whole after their eleven stores. -/
theorem act_read {sig : RefSig} {κ : Kind} {sp : Space} (v : View sig κ sp S512x2816 .bf16) (L : List (View.Piece (Elt F) S512x2816 .bf16))
    {xn : S512x1024.Idx → F .bf16} {wg wu : S11x1024x256.Idx → F .bf16} (hL : View.PiecesOf (Val := Elt F) (e := .bf16) (actOf xn wg wu) L)
    (hcov : ∀ y : S512x2816.Idx, ∃ p ∈ L, y ∈ p.1.set) (inb) :
    v.readCov L (Rect.unit (s := S512x2816) ![0, 0] S512x2816.size inb).toLoadRect = actOf xn wg wu := by
  rw [View.readCov_eq_canon']
  refine funext fun y => (View.canon_apply_of_pieces (e := .bf16) (Val := Elt F) (actOf xn wg wu) L hL.mem _ (hcov _)).trans (congrArg _ (funext fun a => Fin.ext ?_))
  match a with
  | ⟨0, _⟩ => show 0 + 1 * (y 0).val = (y 0).val; omega
  | ⟨1, _⟩ => show 0 + 1 * (y 1).val = (y 1).val; omega

/-! ## The loaded values under the stored ones -/

section Values

variable {sig : RefSig} {κ : Kind} {sp : Space}

theorem left_val (v2 v3 : View sig κ sp S512x512 .f32) (v5 : View sig κ sp S1x512 .f32) (f2 : v2.ty.Contents (Elt F)) (f3 : v3.ty.Contents (Elt F))
    (f5 : v5.ty.Contents (Elt F)) (o p : ℕ) (ho : o = 128 * p) (hp : p < 4) (inb inb') :
    k0_pay6 (k0_pay5 (View.readAt (Elt F) v2 (Rect.unit (s := S512x512) ![o, 0] S128x512.size inb).toLoadRect f2)
      (View.readAt (Elt F) v3 (Rect.unit (s := S512x512) ![o, 0] S128x512.size inb).toLoadRect f3)
      (View.readAt (Elt F) v5 (Rect.unit (s := S1x512) ![0, 0] S1x512.size inb').toLoadRect f5))
      = leftPiece (v2.read (Elt F) f2) (v3.read (Elt F) f3) (v5.read (Elt F) f5) p :=
  congrArg k0_pay6 (congr (congrArg₂ k0_pay5 (load_rows v2 f2 o p ho hp inb) (load_rows v3 f3 o p ho hp inb)) (load_whole v5 f5 inb'))

theorem right_val (v4 : View sig κ sp S512x512 .f32) (v6 v7 : View sig κ sp S1x512 .f32) (f4 : v4.ty.Contents (Elt F)) (f6 : v6.ty.Contents (Elt F))
    (f7 : v7.ty.Contents (Elt F)) (o p : ℕ) (ho : o = 128 * p) (hp : p < 4) (inb inb') :
    k0_pay7 (k0_pay4 (View.readAt (Elt F) v4 (Rect.unit (s := S512x512) ![o, 0] S128x512.size inb).toLoadRect f4)
      (View.readAt (Elt F) v6 (Rect.unit (s := S1x512) ![0, 0] S1x512.size inb').toLoadRect f6)
      (View.readAt (Elt F) v7 (Rect.unit (s := S1x512) ![0, 0] S1x512.size inb').toLoadRect f7))
      = rightPiece (v4.read (Elt F) f4) (v6.read (Elt F) f6) (v7.read (Elt F) f7) p :=
  congrArg k0_pay7 (congr (congrArg₂ k0_pay4 (load_rows v4 f4 o p ho hp inb) (load_whole v6 f6 inb')) (load_whole v7 f7 inb'))

theorem out_val (v20 : View sig κ sp S512x1024 .f32) (v13 : View sig κ sp S1x1024 .f32) (f20 : v20.ty.Contents (Elt F)) (f13 : v13.ty.Contents (Elt F))
    (o p : ℕ) (ho : o = 128 * p) (hp : p < 4) (inb inb') :
    k0_pay3 (View.readAt (Elt F) v20 (Rect.unit (s := S512x1024) ![o, 0] S128x1024.size inb).toLoadRect f20)
      (View.readAt (Elt F) v13 (Rect.unit (s := S1x1024) ![0, 0] S1x1024.size inb').toLoadRect f13)
      = k0_pay3 (rows p (v20.read (Elt F) f20)) (v13.read (Elt F) f13) :=
  congrArg₂ k0_pay3 (load_rows v20 f20 o p ho hp inb) (load_whole v13 f13 inb')

theorem act_val {x xn : S512x1024.Idx → F .bf16} (hx : x = xn) (v16 v17 : View sig κ sp S11x1024x256 .bf16) (f16 : v16.ty.Contents (Elt F)) (f17 : v17.ty.Contents (Elt F))
    (n : ℕ) (hn : n < 11) (inb) :
    k0_pay23 x (View.readAt (Elt F) v16 (Rect.unit (s := S11x1024x256) ![n, 0, 0] S1x1024x256.size inb).toLoadRect f16)
      (View.readAt (Elt F) v17 (Rect.unit (s := S11x1024x256) ![n, 0, 0] S1x1024x256.size inb).toLoadRect f17)
      = k0_pay23 xn (slab n (v16.read (Elt F) f16)) (slab n (v17.read (Elt F) f17)) :=
  congr (congrArg₂ k0_pay23 hx (load_slab v16 f16 n hn inb)) (load_slab v17 f17 n hn inb)

theorem proj_val (v19 : View sig κ sp S2x512x1024 .bf16) (v15 : View sig κ sp S4x1024x256 .bf16) (v1 : View sig κ sp S512x1024 .f32) (f19 : v19.ty.Contents (Elt F))
    (f15 : v15.ty.Contents (Elt F)) (f1 : v1.ty.Contents (Elt F)) (s : ℕ) (hs : s < 2) (inb i0 i1 i2 i3 inb1) :
    k0_pay21 (View.readAt (Elt F) v19 (Rect.unit (s := S2x512x1024) ![s, 0, 0] S1x512x1024.size inb).toLoadRect f19)
      (View.readAt (Elt F) v15 (Rect.unit (s := S4x1024x256) ![0, 0, 0] S1x1024x256.size i0).toLoadRect f15)
      (View.readAt (Elt F) v15 (Rect.unit (s := S4x1024x256) ![1, 0, 0] S1x1024x256.size i1).toLoadRect f15)
      (View.readAt (Elt F) v15 (Rect.unit (s := S4x1024x256) ![2, 0, 0] S1x1024x256.size i2).toLoadRect f15)
      (View.readAt (Elt F) v15 (Rect.unit (s := S4x1024x256) ![3, 0, 0] S1x1024x256.size i3).toLoadRect f15)
      (View.readAt (Elt F) v1 (Rect.unit (s := S512x1024) ![0, 0] S512x1024.size inb1).toLoadRect f1)
      = projOf (slot s (v19.read (Elt F) f19)) (v15.read (Elt F) f15) (v1.read (Elt F) f1) :=
  congr (congr (congr (congr (congrArg₂ k0_pay21 (load_slab v19 f19 s hs inb) (load_slab v15 f15 0 (by omega) i0)) (load_slab v15 f15 1 (by omega) i1))
    (load_slab v15 f15 2 (by omega) i2)) (load_slab v15 f15 3 (by omega) i3)) (load_whole v1 f1 inb1)

theorem norm_val (v19 : View sig κ sp S2x512x1024 .bf16) (v15 : View sig κ sp S4x1024x256 .bf16) (v1 : View sig κ sp S512x1024 .f32) (v9 : View sig κ sp S1x1024 .f32)
    (f19 : v19.ty.Contents (Elt F)) (f15 : v15.ty.Contents (Elt F)) (f1 : v1.ty.Contents (Elt F)) (f9 : v9.ty.Contents (Elt F)) (s : ℕ) (hs : s < 2)
    (inb i0 i1 i2 i3 inb1 inb9) :
    k0_pay22 (View.readAt (Elt F) v19 (Rect.unit (s := S2x512x1024) ![s, 0, 0] S1x512x1024.size inb).toLoadRect f19)
      (View.readAt (Elt F) v15 (Rect.unit (s := S4x1024x256) ![0, 0, 0] S1x1024x256.size i0).toLoadRect f15)
      (View.readAt (Elt F) v15 (Rect.unit (s := S4x1024x256) ![1, 0, 0] S1x1024x256.size i1).toLoadRect f15)
      (View.readAt (Elt F) v15 (Rect.unit (s := S4x1024x256) ![2, 0, 0] S1x1024x256.size i2).toLoadRect f15)
      (View.readAt (Elt F) v15 (Rect.unit (s := S4x1024x256) ![3, 0, 0] S1x1024x256.size i3).toLoadRect f15)
      (View.readAt (Elt F) v1 (Rect.unit (s := S512x1024) ![0, 0] S512x1024.size inb1).toLoadRect f1)
      (View.readAt (Elt F) v9 (Rect.unit (s := S1x1024) ![0, 0] S1x1024.size inb9).toLoadRect f9)
      = normOf (slot s (v19.read (Elt F) f19)) (v15.read (Elt F) f15) (v1.read (Elt F) f1) (v9.read (Elt F) f9) :=
  congr (congr (congr (congr (congr (congrArg₂ k0_pay22 (load_slab v19 f19 s hs inb) (load_slab v15 f15 0 (by omega) i0)) (load_slab v15 f15 1 (by omega) i1))
    (load_slab v15 f15 2 (by omega) i2)) (load_slab v15 f15 3 (by omega) i3)) (load_whole v1 f1 inb1)) (load_whole v9 f9 inb9)

/-- The eleven blocks of hidden columns, as stored. -/
abbrev actList (x : S512x1024.Idx → F .bf16) (v16 v17 : View sig κ sp S11x1024x256 .bf16) (f16 : v16.ty.Contents (Elt F)) (f17 : v17.ty.Contents (Elt F)) :
    List (View.Piece (Elt F) S512x2816 .bf16) :=
    [⟨Rect.unit (s := S512x2816) ![0, 2560] S512x256.size inb_S512x2816_S512x256_0_2560, k0_pay23 x
       (View.readAt (Elt F) v16 (Rect.unit (s := S11x1024x256) ![10, 0, 0] S1x1024x256.size inb_S11x1024x256_S1x1024x256_10_0_0).toLoadRect f16)
       (View.readAt (Elt F) v17 (Rect.unit (s := S11x1024x256) ![10, 0, 0] S1x1024x256.size inb_S11x1024x256_S1x1024x256_10_0_0).toLoadRect f17)⟩,
     ⟨Rect.unit (s := S512x2816) ![0, 2304] S512x256.size inb_S512x2816_S512x256_0_2304, k0_pay23 x
       (View.readAt (Elt F) v16 (Rect.unit (s := S11x1024x256) ![9, 0, 0] S1x1024x256.size inb_S11x1024x256_S1x1024x256_9_0_0).toLoadRect f16)
       (View.readAt (Elt F) v17 (Rect.unit (s := S11x1024x256) ![9, 0, 0] S1x1024x256.size inb_S11x1024x256_S1x1024x256_9_0_0).toLoadRect f17)⟩,
     ⟨Rect.unit (s := S512x2816) ![0, 2048] S512x256.size inb_S512x2816_S512x256_0_2048, k0_pay23 x
       (View.readAt (Elt F) v16 (Rect.unit (s := S11x1024x256) ![8, 0, 0] S1x1024x256.size inb_S11x1024x256_S1x1024x256_8_0_0).toLoadRect f16)
       (View.readAt (Elt F) v17 (Rect.unit (s := S11x1024x256) ![8, 0, 0] S1x1024x256.size inb_S11x1024x256_S1x1024x256_8_0_0).toLoadRect f17)⟩,
     ⟨Rect.unit (s := S512x2816) ![0, 1792] S512x256.size inb_S512x2816_S512x256_0_1792, k0_pay23 x
       (View.readAt (Elt F) v16 (Rect.unit (s := S11x1024x256) ![7, 0, 0] S1x1024x256.size inb_S11x1024x256_S1x1024x256_7_0_0).toLoadRect f16)
       (View.readAt (Elt F) v17 (Rect.unit (s := S11x1024x256) ![7, 0, 0] S1x1024x256.size inb_S11x1024x256_S1x1024x256_7_0_0).toLoadRect f17)⟩,
     ⟨Rect.unit (s := S512x2816) ![0, 1536] S512x256.size inb_S512x2816_S512x256_0_1536, k0_pay23 x
       (View.readAt (Elt F) v16 (Rect.unit (s := S11x1024x256) ![6, 0, 0] S1x1024x256.size inb_S11x1024x256_S1x1024x256_6_0_0).toLoadRect f16)
       (View.readAt (Elt F) v17 (Rect.unit (s := S11x1024x256) ![6, 0, 0] S1x1024x256.size inb_S11x1024x256_S1x1024x256_6_0_0).toLoadRect f17)⟩,
     ⟨Rect.unit (s := S512x2816) ![0, 1280] S512x256.size inb_S512x2816_S512x256_0_1280, k0_pay23 x
       (View.readAt (Elt F) v16 (Rect.unit (s := S11x1024x256) ![5, 0, 0] S1x1024x256.size inb_S11x1024x256_S1x1024x256_5_0_0).toLoadRect f16)
       (View.readAt (Elt F) v17 (Rect.unit (s := S11x1024x256) ![5, 0, 0] S1x1024x256.size inb_S11x1024x256_S1x1024x256_5_0_0).toLoadRect f17)⟩,
     ⟨Rect.unit (s := S512x2816) ![0, 1024] S512x256.size inb_S512x2816_S512x256_0_1024, k0_pay23 x
       (View.readAt (Elt F) v16 (Rect.unit (s := S11x1024x256) ![4, 0, 0] S1x1024x256.size inb_S11x1024x256_S1x1024x256_4_0_0).toLoadRect f16)
       (View.readAt (Elt F) v17 (Rect.unit (s := S11x1024x256) ![4, 0, 0] S1x1024x256.size inb_S11x1024x256_S1x1024x256_4_0_0).toLoadRect f17)⟩,
     ⟨Rect.unit (s := S512x2816) ![0, 768] S512x256.size inb_S512x2816_S512x256_0_768, k0_pay23 x
       (View.readAt (Elt F) v16 (Rect.unit (s := S11x1024x256) ![3, 0, 0] S1x1024x256.size inb_S11x1024x256_S1x1024x256_3_0_0).toLoadRect f16)
       (View.readAt (Elt F) v17 (Rect.unit (s := S11x1024x256) ![3, 0, 0] S1x1024x256.size inb_S11x1024x256_S1x1024x256_3_0_0).toLoadRect f17)⟩,
     ⟨Rect.unit (s := S512x2816) ![0, 512] S512x256.size inb_S512x2816_S512x256_0_512, k0_pay23 x
       (View.readAt (Elt F) v16 (Rect.unit (s := S11x1024x256) ![2, 0, 0] S1x1024x256.size inb_S11x1024x256_S1x1024x256_2_0_0).toLoadRect f16)
       (View.readAt (Elt F) v17 (Rect.unit (s := S11x1024x256) ![2, 0, 0] S1x1024x256.size inb_S11x1024x256_S1x1024x256_2_0_0).toLoadRect f17)⟩,
     ⟨Rect.unit (s := S512x2816) ![0, 256] S512x256.size inb_S512x2816_S512x256_0_256, k0_pay23 x
       (View.readAt (Elt F) v16 (Rect.unit (s := S11x1024x256) ![1, 0, 0] S1x1024x256.size inb_S11x1024x256_S1x1024x256_1_0_0).toLoadRect f16)
       (View.readAt (Elt F) v17 (Rect.unit (s := S11x1024x256) ![1, 0, 0] S1x1024x256.size inb_S11x1024x256_S1x1024x256_1_0_0).toLoadRect f17)⟩,
     ⟨Rect.unit (s := S512x2816) ![0, 0] S512x256.size inb_S512x2816_S512x256_0_0, k0_pay23 x
       (View.readAt (Elt F) v16 (Rect.unit (s := S11x1024x256) ![0, 0, 0] S1x1024x256.size inb_S11x1024x256_S1x1024x256_0_0_0).toLoadRect f16)
       (View.readAt (Elt F) v17 (Rect.unit (s := S11x1024x256) ![0, 0, 0] S1x1024x256.size inb_S11x1024x256_S1x1024x256_0_0_0).toLoadRect f17)⟩]

theorem act_pieces {x xn : S512x1024.Idx → F .bf16} (hx : x = xn) (v16 v17 : View sig κ sp S11x1024x256 .bf16) (f16 : v16.ty.Contents (Elt F)) (f17 : v17.ty.Contents (Elt F)) :
    View.PiecesOf (Val := Elt F) (e := .bf16) (actOf xn (v16.read (Elt F) f16) (v17.read (Elt F) f17)) (actList x v16 v17 f16 f17) :=
  ⟨act_piece 10 rfl inb_S512x2816_S512x256_0_2560 (act_val hx v16 v17 f16 f17 10 (by omega) inb_S11x1024x256_S1x1024x256_10_0_0),
    act_piece 9 rfl inb_S512x2816_S512x256_0_2304 (act_val hx v16 v17 f16 f17 9 (by omega) inb_S11x1024x256_S1x1024x256_9_0_0),
    act_piece 8 rfl inb_S512x2816_S512x256_0_2048 (act_val hx v16 v17 f16 f17 8 (by omega) inb_S11x1024x256_S1x1024x256_8_0_0),
    act_piece 7 rfl inb_S512x2816_S512x256_0_1792 (act_val hx v16 v17 f16 f17 7 (by omega) inb_S11x1024x256_S1x1024x256_7_0_0),
    act_piece 6 rfl inb_S512x2816_S512x256_0_1536 (act_val hx v16 v17 f16 f17 6 (by omega) inb_S11x1024x256_S1x1024x256_6_0_0),
    act_piece 5 rfl inb_S512x2816_S512x256_0_1280 (act_val hx v16 v17 f16 f17 5 (by omega) inb_S11x1024x256_S1x1024x256_5_0_0),
    act_piece 4 rfl inb_S512x2816_S512x256_0_1024 (act_val hx v16 v17 f16 f17 4 (by omega) inb_S11x1024x256_S1x1024x256_4_0_0),
    act_piece 3 rfl inb_S512x2816_S512x256_0_768 (act_val hx v16 v17 f16 f17 3 (by omega) inb_S11x1024x256_S1x1024x256_3_0_0),
    act_piece 2 rfl inb_S512x2816_S512x256_0_512 (act_val hx v16 v17 f16 f17 2 (by omega) inb_S11x1024x256_S1x1024x256_2_0_0),
    act_piece 1 rfl inb_S512x2816_S512x256_0_256 (act_val hx v16 v17 f16 f17 1 (by omega) inb_S11x1024x256_S1x1024x256_1_0_0),
    act_piece 0 rfl inb_S512x2816_S512x256_0_0 (act_val hx v16 v17 f16 f17 0 (by omega) inb_S11x1024x256_S1x1024x256_0_0_0), trivial⟩

theorem h3_val {M : S512x1024.Idx → F .bf16} {wo : S4x1024x256.Idx → F .bf16} {h1 : S512x1024.Idx → F .f32} {g2 : S1x1024.Idx → F .f32}
    {wg wu : S11x1024x256.Idx → F .bf16} {w2 : S2816x1024.Idx → F .bf16} {P : S512x1024.Idx → F .f32} {A : S512x2816.Idx → F .bf16} {W : S2816x1024.Idx → F .bf16}
    (hP : P = projOf M wo h1) (hA : A = actOf (normOf M wo h1 g2) wg wu) (hW : W = w2) :
    k0_pay110 P (k0_pay59 A W) (Scalar.ofBits .f32 0x3F000000#32) = h3Of M wo h1 g2 wg wu w2 := by
  subst hP hA hW
  rfl

/-- The four blocks of the result, as stored. -/
theorem out_stored (v14 : View sig κ sp S512x1024 .f32) (v20 : View sig κ sp S512x1024 .f32) (v13 : View sig κ sp S1x1024 .f32) (f14 : v14.ty.Contents (Elt F))
    (f20 : v20.ty.Contents (Elt F)) (f13 : v13.ty.Contents (Elt F)) :
    v14.read (Elt F) (v14.writes (Elt F) f14
      [⟨Rect.unit (s := S512x1024) ![384, 0] S128x1024.size inb_S512x1024_S128x1024_384_0, k0_pay3
         (View.readAt (Elt F) v20 (Rect.unit (s := S512x1024) ![384, 0] S128x1024.size inb_S512x1024_S128x1024_384_0).toLoadRect f20)
         (View.readAt (Elt F) v13 (Rect.unit (s := S1x1024) ![0, 0] S1x1024.size inb_S1x1024_S1x1024_0_0).toLoadRect f13)⟩,
       ⟨Rect.unit (s := S512x1024) ![256, 0] S128x1024.size inb_S512x1024_S128x1024_256_0, k0_pay3
         (View.readAt (Elt F) v20 (Rect.unit (s := S512x1024) ![256, 0] S128x1024.size inb_S512x1024_S128x1024_256_0).toLoadRect f20)
         (View.readAt (Elt F) v13 (Rect.unit (s := S1x1024) ![0, 0] S1x1024.size inb_S1x1024_S1x1024_0_0).toLoadRect f13)⟩,
       ⟨Rect.unit (s := S512x1024) ![128, 0] S128x1024.size inb_S512x1024_S128x1024_128_0, k0_pay3
         (View.readAt (Elt F) v20 (Rect.unit (s := S512x1024) ![128, 0] S128x1024.size inb_S512x1024_S128x1024_128_0).toLoadRect f20)
         (View.readAt (Elt F) v13 (Rect.unit (s := S1x1024) ![0, 0] S1x1024.size inb_S1x1024_S1x1024_0_0).toLoadRect f13)⟩,
       ⟨Rect.unit (s := S512x1024) ![0, 0] S128x1024.size inb_S512x1024_S128x1024_0_0, k0_pay3
         (View.readAt (Elt F) v20 (Rect.unit (s := S512x1024) ![0, 0] S128x1024.size inb_S512x1024_S128x1024_0_0).toLoadRect f20)
         (View.readAt (Elt F) v13 (Rect.unit (s := S1x1024) ![0, 0] S1x1024.size inb_S1x1024_S1x1024_0_0).toLoadRect f13)⟩])
      = outOf (v20.read (Elt F) f20) (v13.read (Elt F) f13) :=
  out_read v14 f14 inb_S512x1024_S128x1024_0_0 inb_S512x1024_S128x1024_128_0 inb_S512x1024_S128x1024_256_0 inb_S512x1024_S128x1024_384_0
    (out_val v20 v13 f20 f13 0 0 rfl (by omega) inb_S512x1024_S128x1024_0_0 inb_S1x1024_S1x1024_0_0)
    (out_val v20 v13 f20 f13 128 1 rfl (by omega) inb_S512x1024_S128x1024_128_0 inb_S1x1024_S1x1024_0_0)
    (out_val v20 v13 f20 f13 256 2 rfl (by omega) inb_S512x1024_S128x1024_256_0 inb_S1x1024_S1x1024_0_0)
    (out_val v20 v13 f20 f13 384 3 rfl (by omega) inb_S512x1024_S128x1024_384_0 inb_S1x1024_S1x1024_0_0)

/-- The eight blocks of the two halves, as stored in a slot. -/
theorem slot_stored (v19 : View sig κ sp S2x512x1024 .bf16) (v2 v3 v4 : View sig κ sp S512x512 .f32) (v5 v6 v7 : View sig κ sp S1x512 .f32) (f19 : v19.ty.Contents (Elt F))
    (f2 : v2.ty.Contents (Elt F)) (f3 : v3.ty.Contents (Elt F)) (f4 : v4.ty.Contents (Elt F)) (f5 : v5.ty.Contents (Elt F)) (f6 : v6.ty.Contents (Elt F))
    (f7 : v7.ty.Contents (Elt F)) (s : ℕ) (hs : s < 2) (i0 i1 i2 i3 j0 j1 j2 j3) :
    slot s (v19.read (Elt F) (v19.writes (Elt F) f19
      [⟨Rect.unit (s := S2x512x1024) ![s, 384, 512] S1x128x512.size j3, k0_pay7 (k0_pay4
         (View.readAt (Elt F) v4 (Rect.unit (s := S512x512) ![384, 0] S128x512.size inb_S512x512_S128x512_384_0).toLoadRect f4)
         (View.readAt (Elt F) v6 (Rect.unit (s := S1x512) ![0, 0] S1x512.size inb_S1x512_S1x512_0_0).toLoadRect f6)
         (View.readAt (Elt F) v7 (Rect.unit (s := S1x512) ![0, 0] S1x512.size inb_S1x512_S1x512_0_0).toLoadRect f7))⟩,
       ⟨Rect.unit (s := S2x512x1024) ![s, 384, 0] S1x128x512.size i3, k0_pay6 (k0_pay5
         (View.readAt (Elt F) v2 (Rect.unit (s := S512x512) ![384, 0] S128x512.size inb_S512x512_S128x512_384_0).toLoadRect f2)
         (View.readAt (Elt F) v3 (Rect.unit (s := S512x512) ![384, 0] S128x512.size inb_S512x512_S128x512_384_0).toLoadRect f3)
         (View.readAt (Elt F) v5 (Rect.unit (s := S1x512) ![0, 0] S1x512.size inb_S1x512_S1x512_0_0).toLoadRect f5))⟩,
       ⟨Rect.unit (s := S2x512x1024) ![s, 256, 512] S1x128x512.size j2, k0_pay7 (k0_pay4
         (View.readAt (Elt F) v4 (Rect.unit (s := S512x512) ![256, 0] S128x512.size inb_S512x512_S128x512_256_0).toLoadRect f4)
         (View.readAt (Elt F) v6 (Rect.unit (s := S1x512) ![0, 0] S1x512.size inb_S1x512_S1x512_0_0).toLoadRect f6)
         (View.readAt (Elt F) v7 (Rect.unit (s := S1x512) ![0, 0] S1x512.size inb_S1x512_S1x512_0_0).toLoadRect f7))⟩,
       ⟨Rect.unit (s := S2x512x1024) ![s, 256, 0] S1x128x512.size i2, k0_pay6 (k0_pay5
         (View.readAt (Elt F) v2 (Rect.unit (s := S512x512) ![256, 0] S128x512.size inb_S512x512_S128x512_256_0).toLoadRect f2)
         (View.readAt (Elt F) v3 (Rect.unit (s := S512x512) ![256, 0] S128x512.size inb_S512x512_S128x512_256_0).toLoadRect f3)
         (View.readAt (Elt F) v5 (Rect.unit (s := S1x512) ![0, 0] S1x512.size inb_S1x512_S1x512_0_0).toLoadRect f5))⟩,
       ⟨Rect.unit (s := S2x512x1024) ![s, 128, 512] S1x128x512.size j1, k0_pay7 (k0_pay4
         (View.readAt (Elt F) v4 (Rect.unit (s := S512x512) ![128, 0] S128x512.size inb_S512x512_S128x512_128_0).toLoadRect f4)
         (View.readAt (Elt F) v6 (Rect.unit (s := S1x512) ![0, 0] S1x512.size inb_S1x512_S1x512_0_0).toLoadRect f6)
         (View.readAt (Elt F) v7 (Rect.unit (s := S1x512) ![0, 0] S1x512.size inb_S1x512_S1x512_0_0).toLoadRect f7))⟩,
       ⟨Rect.unit (s := S2x512x1024) ![s, 128, 0] S1x128x512.size i1, k0_pay6 (k0_pay5
         (View.readAt (Elt F) v2 (Rect.unit (s := S512x512) ![128, 0] S128x512.size inb_S512x512_S128x512_128_0).toLoadRect f2)
         (View.readAt (Elt F) v3 (Rect.unit (s := S512x512) ![128, 0] S128x512.size inb_S512x512_S128x512_128_0).toLoadRect f3)
         (View.readAt (Elt F) v5 (Rect.unit (s := S1x512) ![0, 0] S1x512.size inb_S1x512_S1x512_0_0).toLoadRect f5))⟩,
       ⟨Rect.unit (s := S2x512x1024) ![s, 0, 512] S1x128x512.size j0, k0_pay7 (k0_pay4
         (View.readAt (Elt F) v4 (Rect.unit (s := S512x512) ![0, 0] S128x512.size inb_S512x512_S128x512_0_0).toLoadRect f4)
         (View.readAt (Elt F) v6 (Rect.unit (s := S1x512) ![0, 0] S1x512.size inb_S1x512_S1x512_0_0).toLoadRect f6)
         (View.readAt (Elt F) v7 (Rect.unit (s := S1x512) ![0, 0] S1x512.size inb_S1x512_S1x512_0_0).toLoadRect f7))⟩,
       ⟨Rect.unit (s := S2x512x1024) ![s, 0, 0] S1x128x512.size i0, k0_pay6 (k0_pay5
         (View.readAt (Elt F) v2 (Rect.unit (s := S512x512) ![0, 0] S128x512.size inb_S512x512_S128x512_0_0).toLoadRect f2)
         (View.readAt (Elt F) v3 (Rect.unit (s := S512x512) ![0, 0] S128x512.size inb_S512x512_S128x512_0_0).toLoadRect f3)
         (View.readAt (Elt F) v5 (Rect.unit (s := S1x512) ![0, 0] S1x512.size inb_S1x512_S1x512_0_0).toLoadRect f5))⟩]))
      = mixOf (v2.read (Elt F) f2) (v3.read (Elt F) f3) (v4.read (Elt F) f4) (v5.read (Elt F) f5) (v6.read (Elt F) f6) (v7.read (Elt F) f7) :=
  slot_read v19 f19 s hs i0 i1 i2 i3 j0 j1 j2 j3
    (left_val v2 v3 v5 f2 f3 f5 0 0 rfl (by omega) inb_S512x512_S128x512_0_0 inb_S1x512_S1x512_0_0)
    (left_val v2 v3 v5 f2 f3 f5 128 1 rfl (by omega) inb_S512x512_S128x512_128_0 inb_S1x512_S1x512_0_0)
    (left_val v2 v3 v5 f2 f3 f5 256 2 rfl (by omega) inb_S512x512_S128x512_256_0 inb_S1x512_S1x512_0_0)
    (left_val v2 v3 v5 f2 f3 f5 384 3 rfl (by omega) inb_S512x512_S128x512_384_0 inb_S1x512_S1x512_0_0)
    (right_val v4 v6 v7 f4 f6 f7 0 0 rfl (by omega) inb_S512x512_S128x512_0_0 inb_S1x512_S1x512_0_0)
    (right_val v4 v6 v7 f4 f6 f7 128 1 rfl (by omega) inb_S512x512_S128x512_128_0 inb_S1x512_S1x512_0_0)
    (right_val v4 v6 v7 f4 f6 f7 256 2 rfl (by omega) inb_S512x512_S128x512_256_0 inb_S1x512_S1x512_0_0)
    (right_val v4 v6 v7 f4 f6 f7 384 3 rfl (by omega) inb_S512x512_S128x512_384_0 inb_S1x512_S1x512_0_0)

/-- The stored tile after the second feed-forward. -/
theorem h3_stored (v20 v1 : View sig κ sp S512x1024 .f32) (v19 : View sig κ sp S2x512x1024 .bf16) (v15 : View sig κ sp S4x1024x256 .bf16) (v9 : View sig κ sp S1x1024 .f32)
    (v16 v17 : View sig κ sp S11x1024x256 .bf16) (v18 : View sig κ sp S2816x1024 .bf16) (v21 : View sig κ sp S512x2816 .bf16)
    (f20 : v20.ty.Contents (Elt F)) (f1 : v1.ty.Contents (Elt F)) (f19 : v19.ty.Contents (Elt F)) (f15 : v15.ty.Contents (Elt F)) (f9 : v9.ty.Contents (Elt F))
    (f16 : v16.ty.Contents (Elt F)) (f17 : v17.ty.Contents (Elt F)) (f18 : v18.ty.Contents (Elt F)) (s : ℕ) (hs : s < 2) (inb) :
    v20.read (Elt F) (v20.writes (Elt F) f20 [⟨Rect.unit (s := S512x1024) ![0, 0] S512x1024.size inb_S512x1024_S512x1024_0_0, k0_pay110
      (k0_pay21 (View.readAt (Elt F) v19 (Rect.unit (s := S2x512x1024) ![s, 0, 0] S1x512x1024.size inb).toLoadRect f19)
         (View.readAt (Elt F) v15 (Rect.unit (s := S4x1024x256) ![0, 0, 0] S1x1024x256.size inb_S4x1024x256_S1x1024x256_0_0_0).toLoadRect f15)
         (View.readAt (Elt F) v15 (Rect.unit (s := S4x1024x256) ![1, 0, 0] S1x1024x256.size inb_S4x1024x256_S1x1024x256_1_0_0).toLoadRect f15)
         (View.readAt (Elt F) v15 (Rect.unit (s := S4x1024x256) ![2, 0, 0] S1x1024x256.size inb_S4x1024x256_S1x1024x256_2_0_0).toLoadRect f15)
         (View.readAt (Elt F) v15 (Rect.unit (s := S4x1024x256) ![3, 0, 0] S1x1024x256.size inb_S4x1024x256_S1x1024x256_3_0_0).toLoadRect f15)
         (View.readAt (Elt F) v1 (Rect.unit (s := S512x1024) ![0, 0] S512x1024.size inb_S512x1024_S512x1024_0_0).toLoadRect f1))
      (k0_pay59 (v21.readCov (actList (k0_pay22 (View.readAt (Elt F) v19 (Rect.unit (s := S2x512x1024) ![s, 0, 0] S1x512x1024.size inb).toLoadRect f19)
         (View.readAt (Elt F) v15 (Rect.unit (s := S4x1024x256) ![0, 0, 0] S1x1024x256.size inb_S4x1024x256_S1x1024x256_0_0_0).toLoadRect f15)
         (View.readAt (Elt F) v15 (Rect.unit (s := S4x1024x256) ![1, 0, 0] S1x1024x256.size inb_S4x1024x256_S1x1024x256_1_0_0).toLoadRect f15)
         (View.readAt (Elt F) v15 (Rect.unit (s := S4x1024x256) ![2, 0, 0] S1x1024x256.size inb_S4x1024x256_S1x1024x256_2_0_0).toLoadRect f15)
         (View.readAt (Elt F) v15 (Rect.unit (s := S4x1024x256) ![3, 0, 0] S1x1024x256.size inb_S4x1024x256_S1x1024x256_3_0_0).toLoadRect f15)
         (View.readAt (Elt F) v1 (Rect.unit (s := S512x1024) ![0, 0] S512x1024.size inb_S512x1024_S512x1024_0_0).toLoadRect f1)
         (View.readAt (Elt F) v9 (Rect.unit (s := S1x1024) ![0, 0] S1x1024.size inb_S1x1024_S1x1024_0_0).toLoadRect f9)) v16 v17 f16 f17)
        (Rect.unit (s := S512x2816) ![0, 0] S512x2816.size inb_S512x2816_S512x2816_0_0).toLoadRect)
        (View.readAt (Elt F) v18 (Rect.unit (s := S2816x1024) ![0, 0] S2816x1024.size inb_S2816x1024_S2816x1024_0_0).toLoadRect f18))
      (Scalar.ofBits .f32 0x3F000000#32)⟩])
      = h3Of (slot s (v19.read (Elt F) f19)) (v15.read (Elt F) f15) (v1.read (Elt F) f1) (v9.read (Elt F) f9) (v16.read (Elt F) f16) (v17.read (Elt F) f17)
          (v18.read (Elt F) f18) :=
  (tile_read v20 f20 inb_S512x1024_S512x1024_0_0 _).trans (h3_val
    (proj_val v19 v15 v1 f19 f15 f1 s hs inb inb_S4x1024x256_S1x1024x256_0_0_0
      inb_S4x1024x256_S1x1024x256_1_0_0 inb_S4x1024x256_S1x1024x256_2_0_0 inb_S4x1024x256_S1x1024x256_3_0_0 inb_S512x1024_S512x1024_0_0)
    (act_read v21 _ (act_pieces (norm_val v19 v15 v1 v9 f19 f15 f1 f9 s hs inb inb_S4x1024x256_S1x1024x256_0_0_0
      inb_S4x1024x256_S1x1024x256_1_0_0 inb_S4x1024x256_S1x1024x256_2_0_0 inb_S4x1024x256_S1x1024x256_3_0_0 inb_S512x1024_S512x1024_0_0 inb_S1x1024_S1x1024_0_0)
        v16 v17 f16 f17) (View.cover_of_tiledL _ ![512, 256] rfl) inb_S512x2816_S512x2816_0_0)
    (load_whole v18 f18 inb_S2816x1024_S2816x1024_0_0))

end Values

end Cert.Proof.Mix
-- ==== Proof.Mix.Tile.lean ====
/-
  The second kernel's body where it runs a tile: the tile before is normalised and stored, the tile's two halves are
  projected and fed forward, and the next tile's halves are made ready in the other slot.
-/
module

public import proofs.«01_k».proof.Proof.Mix.Pieces
public import Idealize.ShloMosaic.Lib.Tactic
public import Idealize.ShloMosaic.Lib.Pipeline.Kit

@[expose] public section

set_option maxRecDepth 8192

noncomputable section

namespace Cert.Proof.Mix

open Cert.Kernel2Ideal Cert.Kernel2Ideal.Gen
open Idealize.ShloMosaic hiding ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- A memref held whole at raw contents `f`. -/
abbrev held (c : Dev nD) {s : Shape} {e : EltTy} (M : Memref sig .tc .vmem s e) (f : BufTy.Contents (Elt F) M.view.ty) : sProp 𝕄 :=
  M.view.loc (c : Thread nD τ) ↦[M.view.set]{fullShare} f

variable (𝒱 : Variants) (c : Dev nD) (bd : Option 𝒱.V) (E : Set ℕ) (i : grid0.Coords)
  (arg1 : Memref sig .tc .vmem S512x1024 .f32) (harg1 : arg1.IsWhole) (arg2 : Memref sig .tc .vmem S512x512 .f32) (harg2 : arg2.IsWhole)
  (arg3 : Memref sig .tc .vmem S512x512 .f32) (harg3 : arg3.IsWhole) (arg4 : Memref sig .tc .vmem S512x512 .f32) (harg4 : arg4.IsWhole)
  (arg5 : Memref sig .tc .vmem S1x512 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S1024x256 .f32) (harg8 : arg8.IsWhole)
  (arg9 : Memref sig .tc .vmem S1x1024 .f32) (harg9 : arg9.IsWhole) (arg10 : Memref sig .tc .vmem S1024x256 .f32) (harg10 : arg10.IsWhole)
  (arg11 : Memref sig .tc .vmem S1024x256 .f32) (harg11 : arg11.IsWhole) (arg12 : Memref sig .tc .vmem S256x1024 .f32) (harg12 : arg12.IsWhole)
  (arg13 : Memref sig .tc .vmem S1x1024 .f32) (harg13 : arg13.IsWhole) (arg14 : Memref sig .tc .vmem S512x1024 .f32) (harg14 : arg14.IsWhole)
  (arg15 : Memref sig .tc .vmem S4x1024x256 .bf16) (harg15 : arg15.IsWhole) (arg16 : Memref sig .tc .vmem S11x1024x256 .bf16) (harg16 : arg16.IsWhole)
  (arg17 : Memref sig .tc .vmem S11x1024x256 .bf16) (harg17 : arg17.IsWhole) (arg18 : Memref sig .tc .vmem S2816x1024 .bf16) (harg18 : arg18.IsWhole)
  (arg19 : Memref sig .tc .vmem S2x512x1024 .bf16) (harg19 : arg19.IsWhole) (arg20 : Memref sig .tc .vmem S512x1024 .f32) (harg20 : arg20.IsWhole)
  (arg21 : Memref sig .tc .vmem S512x2816 .bf16) (harg21 : arg21.IsWhole)
  (f1 : BufTy.Contents (Elt F) arg1.view.ty) (f2 : BufTy.Contents (Elt F) arg2.view.ty) (f3 : BufTy.Contents (Elt F) arg3.view.ty)
  (f4 : BufTy.Contents (Elt F) arg4.view.ty) (f5 : BufTy.Contents (Elt F) arg5.view.ty) (f6 : BufTy.Contents (Elt F) arg6.view.ty)
  (f7 : BufTy.Contents (Elt F) arg7.view.ty) (f8 : BufTy.Contents (Elt F) arg8.view.ty) (f9 : BufTy.Contents (Elt F) arg9.view.ty)
  (f10 : BufTy.Contents (Elt F) arg10.view.ty) (f11 : BufTy.Contents (Elt F) arg11.view.ty) (f12 : BufTy.Contents (Elt F) arg12.view.ty)
  (f13 : BufTy.Contents (Elt F) arg13.view.ty) (f14 : BufTy.Contents (Elt F) arg14.view.ty) (f15 : BufTy.Contents (Elt F) arg15.view.ty)
  (f16 : BufTy.Contents (Elt F) arg16.view.ty) (f17 : BufTy.Contents (Elt F) arg17.view.ty) (f18 : BufTy.Contents (Elt F) arg18.view.ty)
  (f19 : BufTy.Contents (Elt F) arg19.view.ty) (f20 : BufTy.Contents (Elt F) arg20.view.ty) (f21 : BufTy.Contents (Elt F) arg21.view.ty)

set_option maxHeartbeats 3200000 in
/-- A tile of even number reads slot 0 and fills slot 1. -/
theorem even_tile (hA : ¬ k0_cond1 i = 1#1) (hB : ¬ k0_cond2 i = 1#1)
    (hC : ¬ Scalar.cmpi .ne (Scalar.extui (Scalar.cmpi .eq (BitVec.ofNat 32 (i 0).val) 0#32) : BitVec 32) 0#32 = 1#1)
    (hD : ¬ Scalar.cmpi .ne (Scalar.extui (Scalar.cmpi .eq (BitVec.ofNat 32 (i 0).val) 10#32) : BitVec 32) 0#32 = 1#1)
    (hE : k0_cond5 i = 1#1) (hF : ¬ k0_cond6 i = 1#1) (hG : ¬ k0_cond7 i = 1#1) :
    (iprop(held c arg1 f1 ∗ held c arg2 f2 ∗ held c arg3 f3 ∗ held c arg4 f4 ∗ held c arg5 f5 ∗ held c arg6 f6 ∗ held c arg7 f7 ∗ held c arg9 f9
      ∗ held c arg13 f13 ∗ held c arg14 f14 ∗ held c arg15 f15 ∗ held c arg16 f16 ∗ held c arg17 f17 ∗ held c arg18 f18 ∗ held c arg19 f19 ∗ held c arg20 f20
      ∗ held c arg21 f21) : sProp 𝕄)
    ⊢ wp frame (wpE (defs₀ (F := F)) 𝒱 (c : Thread nD τ) bd) E
        (cc0_mix_out (F := F) i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21 harg21)
        (fun _ => iprop(held c arg1 f1 ∗ held c arg2 f2 ∗ held c arg3 f3 ∗ held c arg4 f4 ∗ held c arg5 f5 ∗ held c arg6 f6 ∗ held c arg7 f7 ∗ held c arg9 f9
          ∗ held c arg13 f13 ∗ (∃ f, held c arg14 f ∗ ⌜arg14.view.read (Elt F) f = outOf (arg20.view.read (Elt F) f20) (arg13.view.read (Elt F) f13)⌝)
          ∗ held c arg15 f15 ∗ held c arg16 f16 ∗ held c arg17 f17 ∗ held c arg18 f18
          ∗ (∃ f, held c arg19 f ∗ ⌜slot 1 (arg19.view.read (Elt F) f)
              = mixOf (arg2.view.read (Elt F) f2) (arg3.view.read (Elt F) f3) (arg4.view.read (Elt F) f4) (arg5.view.read (Elt F) f5)
                  (arg6.view.read (Elt F) f6) (arg7.view.read (Elt F) f7)⌝)
          ∗ (∃ f, held c arg20 f ∗ ⌜arg20.view.read (Elt F) f
              = h3Of (slot 0 (arg19.view.read (Elt F) f19)) (arg15.view.read (Elt F) f15) (arg1.view.read (Elt F) f1)
                  (arg9.view.read (Elt F) f9) (arg16.view.read (Elt F) f16) (arg17.view.read (Elt F) f17) (arg18.view.read (Elt F) f18)⌝)
          ∗ (∃ f, held c arg21 f))) := by
  simp only [cc0_mix_out_eq_skeleton]
  unfold cc0_mix_out_skel
  iintro ⟨H1, H2, H3, H4, H5, H6, H7, H9, H13, H14, H15, H16, H17, H18, H19, H20, H21⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H13]; · iexact H13
  isplitl [H14]
  · iexists _
    isplitl [H14]; · iexact H14
    ipureintro
    exact out_stored arg14.view arg20.view arg13.view f14 f20 f13
  isplitl [H15]; · iexact H15
  isplitl [H16]; · iexact H16
  isplitl [H17]; · iexact H17
  isplitl [H18]; · iexact H18
  isplitl [H19]
  · iexists _
    isplitl [H19]; · iexact H19
    ipureintro
    exact slot_stored arg19.view arg2.view arg3.view arg4.view arg5.view arg6.view arg7.view f19 f2 f3 f4 f5 f6 f7 1 (by omega)
      inb_S2x512x1024_S1x128x512_1_0_0 inb_S2x512x1024_S1x128x512_1_128_0 inb_S2x512x1024_S1x128x512_1_256_0 inb_S2x512x1024_S1x128x512_1_384_0
      inb_S2x512x1024_S1x128x512_1_0_512 inb_S2x512x1024_S1x128x512_1_128_512 inb_S2x512x1024_S1x128x512_1_256_512 inb_S2x512x1024_S1x128x512_1_384_512
  isplitl [H20]
  · iexists _
    isplitl [H20]; · iexact H20
    ipureintro
    exact h3_stored arg20.view arg1.view arg19.view arg15.view arg9.view arg16.view arg17.view arg18.view arg21.view f20 f1 f19 f15 f9 f16 f17 f18 0 (by omega)
      inb_S2x512x1024_S1x512x1024_0_0_0
  iexists _; iexact H21

set_option maxHeartbeats 3200000 in
/-- A tile of odd number reads slot 1 and fills slot 0. -/
theorem odd_tile (hA : ¬ k0_cond1 i = 1#1) (hB : ¬ k0_cond2 i = 1#1)
    (hC : ¬ Scalar.cmpi .ne (Scalar.extui (Scalar.cmpi .eq (BitVec.ofNat 32 (i 0).val) 0#32) : BitVec 32) 0#32 = 1#1)
    (hD : ¬ Scalar.cmpi .ne (Scalar.extui (Scalar.cmpi .eq (BitVec.ofNat 32 (i 0).val) 10#32) : BitVec 32) 0#32 = 1#1)
    (hE : ¬ k0_cond5 i = 1#1) (hF : k0_cond6 i = 1#1) (hG : ¬ k0_cond7 i = 1#1) :
    (iprop(held c arg1 f1 ∗ held c arg2 f2 ∗ held c arg3 f3 ∗ held c arg4 f4 ∗ held c arg5 f5 ∗ held c arg6 f6 ∗ held c arg7 f7 ∗ held c arg9 f9
      ∗ held c arg13 f13 ∗ held c arg14 f14 ∗ held c arg15 f15 ∗ held c arg16 f16 ∗ held c arg17 f17 ∗ held c arg18 f18 ∗ held c arg19 f19 ∗ held c arg20 f20
      ∗ held c arg21 f21) : sProp 𝕄)
    ⊢ wp frame (wpE (defs₀ (F := F)) 𝒱 (c : Thread nD τ) bd) E
        (cc0_mix_out (F := F) i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21 harg21)
        (fun _ => iprop(held c arg1 f1 ∗ held c arg2 f2 ∗ held c arg3 f3 ∗ held c arg4 f4 ∗ held c arg5 f5 ∗ held c arg6 f6 ∗ held c arg7 f7 ∗ held c arg9 f9
          ∗ held c arg13 f13 ∗ (∃ f, held c arg14 f ∗ ⌜arg14.view.read (Elt F) f = outOf (arg20.view.read (Elt F) f20) (arg13.view.read (Elt F) f13)⌝)
          ∗ held c arg15 f15 ∗ held c arg16 f16 ∗ held c arg17 f17 ∗ held c arg18 f18
          ∗ (∃ f, held c arg19 f ∗ ⌜slot 0 (arg19.view.read (Elt F) f)
              = mixOf (arg2.view.read (Elt F) f2) (arg3.view.read (Elt F) f3) (arg4.view.read (Elt F) f4) (arg5.view.read (Elt F) f5)
                  (arg6.view.read (Elt F) f6) (arg7.view.read (Elt F) f7)⌝)
          ∗ (∃ f, held c arg20 f ∗ ⌜arg20.view.read (Elt F) f
              = h3Of (slot 1 (arg19.view.read (Elt F) f19)) (arg15.view.read (Elt F) f15) (arg1.view.read (Elt F) f1)
                  (arg9.view.read (Elt F) f9) (arg16.view.read (Elt F) f16) (arg17.view.read (Elt F) f17) (arg18.view.read (Elt F) f18)⌝)
          ∗ (∃ f, held c arg21 f))) := by
  simp only [cc0_mix_out_eq_skeleton]
  unfold cc0_mix_out_skel
  iintro ⟨H1, H2, H3, H4, H5, H6, H7, H9, H13, H14, H15, H16, H17, H18, H19, H20, H21⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H13]; · iexact H13
  isplitl [H14]
  · iexists _
    isplitl [H14]; · iexact H14
    ipureintro
    exact out_stored arg14.view arg20.view arg13.view f14 f20 f13
  isplitl [H15]; · iexact H15
  isplitl [H16]; · iexact H16
  isplitl [H17]; · iexact H17
  isplitl [H18]; · iexact H18
  isplitl [H19]
  · iexists _
    isplitl [H19]; · iexact H19
    ipureintro
    exact slot_stored arg19.view arg2.view arg3.view arg4.view arg5.view arg6.view arg7.view f19 f2 f3 f4 f5 f6 f7 0 (by omega)
      inb_S2x512x1024_S1x128x512_0_0_0 inb_S2x512x1024_S1x128x512_0_128_0 inb_S2x512x1024_S1x128x512_0_256_0 inb_S2x512x1024_S1x128x512_0_384_0
      inb_S2x512x1024_S1x128x512_0_0_512 inb_S2x512x1024_S1x128x512_0_128_512 inb_S2x512x1024_S1x128x512_0_256_512 inb_S2x512x1024_S1x128x512_0_384_512
  isplitl [H20]
  · iexists _
    isplitl [H20]; · iexact H20
    ipureintro
    exact h3_stored arg20.view arg1.view arg19.view arg15.view arg9.view arg16.view arg17.view arg18.view arg21.view f20 f1 f19 f15 f9 f16 f17 f18 1 (by omega)
      inb_S2x512x1024_S1x512x1024_1_0_0
  iexists _; iexact H21

end Cert.Proof.Mix
-- ==== Proof.Mix.Fill.lean ====
/-
  The second kernel's body where it runs no tile: a point of the weights' casting, the first tile's halves, and the last
  tile's norm.
-/
module

public import proofs.«01_k».proof.Proof.Mix.Tile
public import Idealize.ShloMosaic.Lib.Tactic
public import Idealize.ShloMosaic.Lib.Pipeline.Kit

@[expose] public section

set_option maxRecDepth 8192

noncomputable section

namespace Cert.Proof.Mix

open Cert.Kernel2Ideal Cert.Kernel2Ideal.Gen
open Idealize.ShloMosaic hiding ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

section Casts

variable {Val : EltTy → Type} {sig : RefSig} {κ : Kind} {sp : Space} {e : EltTy}

/-- A stack after the store of one slab. -/
theorem stack_read {n a b : ℕ} (v : View sig κ sp ⟨3, ![n, a, b]⟩ e) (f : v.ty.Contents Val) (k : ℕ) (off : Fin 3 → ℕ) (ho : off = ![k, 0, 0]) (inb)
    (w : (⟨3, ![1, a, b]⟩ : Shape).Idx → Val e) (y : (⟨3, ![n, a, b]⟩ : Shape).Idx) :
    v.read Val (v.writes Val f [⟨Rect.unit (s := ⟨3, ![n, a, b]⟩) off ![1, a, b] inb, w⟩]) y
      = if (y 0).val = k then w (ix3 0 (y 1) (y 2)) else v.read Val f y := by
  subst ho
  by_cases h : (y 0).val = k
  · rw [if_pos h]
    refine read_inside v f (Rect.unit (s := ⟨3, ![n, a, b]⟩) ![k, 0, 0] ![1, a, b] inb) w y (ix3 0 (y 1) (y 2) : (⟨3, ![1, a, b]⟩ : Shape).Idx) fun d => ?_
    match d with
    | ⟨0, _⟩ => show (y 0).val = k + 1 * 0; omega
    | ⟨1, _⟩ => show (y 1).val = 0 + 1 * (y 1).val; omega
    | ⟨2, _⟩ => show (y 2).val = 0 + 1 * (y 2).val; omega
  · rw [if_neg h]
    refine read_outside v f (Rect.unit (s := ⟨3, ![n, a, b]⟩) ![k, 0, 0] ![1, a, b] inb) w y 0 fun x => ?_
    have hx : (x 0).val < 1 := (x 0).isLt
    show (y 0).val ≠ k + 1 * (x 0).val
    omega

/-- A matrix after the store of one band of 256 rows. -/
theorem band_read {n m : ℕ} (v : View sig κ sp ⟨2, ![n, m]⟩ e) (f : v.ty.Contents Val) (k : ℕ) (off : Fin 2 → ℕ) (ho : off = ![256 * k, 0]) (inb)
    (w : (⟨2, ![256, m]⟩ : Shape).Idx → Val e) (y : (⟨2, ![n, m]⟩ : Shape).Idx) :
    v.read Val (v.writes Val f [⟨Rect.unit (s := ⟨2, ![n, m]⟩) off ![256, m] inb, w⟩]) y
      = if (y 0).val / 256 = k then w (ix2 (Fin.ofNat 256 ((y 0).val % 256)) (y 1)) else v.read Val f y := by
  subst ho
  by_cases h : (y 0).val / 256 = k
  · rw [if_pos h]
    refine read_inside v f (Rect.unit (s := ⟨2, ![n, m]⟩) ![256 * k, 0] ![256, m] inb) w y (ix2 (Fin.ofNat 256 ((y 0).val % 256)) (y 1) : (⟨2, ![256, m]⟩ : Shape).Idx) fun d => ?_
    match d with
    | ⟨0, _⟩ => show (y 0).val = 256 * k + 1 * ((y 0).val % 256 % 256); omega
    | ⟨1, _⟩ => show (y 1).val = 0 + 1 * (y 1).val; omega
  · rw [if_neg h]
    refine read_outside v f (Rect.unit (s := ⟨2, ![n, m]⟩) ![256 * k, 0] ![256, m] inb) w y 0 fun x => ?_
    have hx : (x 0).val < 256 := (x 0).isLt
    show (y 0).val ≠ 256 * k + 1 * (x 0).val
    omega

end Casts

variable (𝒱 : Variants) (c : Dev nD) (bd : Option 𝒱.V) (E : Set ℕ) (i : grid0.Coords)
  (arg1 : Memref sig .tc .vmem S512x1024 .f32) (harg1 : arg1.IsWhole) (arg2 : Memref sig .tc .vmem S512x512 .f32) (harg2 : arg2.IsWhole)
  (arg3 : Memref sig .tc .vmem S512x512 .f32) (harg3 : arg3.IsWhole) (arg4 : Memref sig .tc .vmem S512x512 .f32) (harg4 : arg4.IsWhole)
  (arg5 : Memref sig .tc .vmem S1x512 .f32) (harg5 : arg5.IsWhole) (arg6 : Memref sig .tc .vmem S1x512 .f32) (harg6 : arg6.IsWhole)
  (arg7 : Memref sig .tc .vmem S1x512 .f32) (harg7 : arg7.IsWhole) (arg8 : Memref sig .tc .vmem S1024x256 .f32) (harg8 : arg8.IsWhole)
  (arg9 : Memref sig .tc .vmem S1x1024 .f32) (harg9 : arg9.IsWhole) (arg10 : Memref sig .tc .vmem S1024x256 .f32) (harg10 : arg10.IsWhole)
  (arg11 : Memref sig .tc .vmem S1024x256 .f32) (harg11 : arg11.IsWhole) (arg12 : Memref sig .tc .vmem S256x1024 .f32) (harg12 : arg12.IsWhole)
  (arg13 : Memref sig .tc .vmem S1x1024 .f32) (harg13 : arg13.IsWhole) (arg14 : Memref sig .tc .vmem S512x1024 .f32) (harg14 : arg14.IsWhole)
  (arg15 : Memref sig .tc .vmem S4x1024x256 .bf16) (harg15 : arg15.IsWhole) (arg16 : Memref sig .tc .vmem S11x1024x256 .bf16) (harg16 : arg16.IsWhole)
  (arg17 : Memref sig .tc .vmem S11x1024x256 .bf16) (harg17 : arg17.IsWhole) (arg18 : Memref sig .tc .vmem S2816x1024 .bf16) (harg18 : arg18.IsWhole)
  (arg19 : Memref sig .tc .vmem S2x512x1024 .bf16) (harg19 : arg19.IsWhole) (arg20 : Memref sig .tc .vmem S512x1024 .f32) (harg20 : arg20.IsWhole)
  (arg21 : Memref sig .tc .vmem S512x2816 .bf16) (harg21 : arg21.IsWhole)
  (f1 : BufTy.Contents (Elt F) arg1.view.ty) (f2 : BufTy.Contents (Elt F) arg2.view.ty) (f3 : BufTy.Contents (Elt F) arg3.view.ty)
  (f4 : BufTy.Contents (Elt F) arg4.view.ty) (f5 : BufTy.Contents (Elt F) arg5.view.ty) (f6 : BufTy.Contents (Elt F) arg6.view.ty)
  (f7 : BufTy.Contents (Elt F) arg7.view.ty) (f8 : BufTy.Contents (Elt F) arg8.view.ty) (f9 : BufTy.Contents (Elt F) arg9.view.ty)
  (f10 : BufTy.Contents (Elt F) arg10.view.ty) (f11 : BufTy.Contents (Elt F) arg11.view.ty) (f12 : BufTy.Contents (Elt F) arg12.view.ty)
  (f13 : BufTy.Contents (Elt F) arg13.view.ty) (f14 : BufTy.Contents (Elt F) arg14.view.ty) (f15 : BufTy.Contents (Elt F) arg15.view.ty)
  (f16 : BufTy.Contents (Elt F) arg16.view.ty) (f17 : BufTy.Contents (Elt F) arg17.view.ty) (f18 : BufTy.Contents (Elt F) arg18.view.ty)
  (f19 : BufTy.Contents (Elt F) arg19.view.ty) (f20 : BufTy.Contents (Elt F) arg20.view.ty) (f21 : BufTy.Contents (Elt F) arg21.view.ty)

set_option maxHeartbeats 1600000 in
/-- The first point casts a block of every weight and clears the running tile. -/
theorem first_point (hA : k0_cond1 i = 1#1) (hB : k0_cond2 i = 1#1)
    (hC : Scalar.cmpi .ne (Scalar.extui (Scalar.cmpi .eq (BitVec.ofNat 32 (i 0).val) 0#32) : BitVec 32) 0#32 = 1#1)
    (hD : ¬ Scalar.cmpi .ne (Scalar.extui (Scalar.cmpi .eq (BitVec.ofNat 32 (i 0).val) 10#32) : BitVec 32) 0#32 = 1#1)
    (hE : ¬ k0_cond5 i = 1#1) (hF : ¬ k0_cond6 i = 1#1) (hG : ¬ k0_cond7 i = 1#1)
    (k : ℕ) (ho1 : k0_off1 i = ![k, 0, 0]) (ho2 : k0_off2 i = ![256 * k, 0]) (ho3 : k0_off3 i = ![k, 0, 0]) :
    (iprop(held c arg8 f8 ∗ held c arg10 f10 ∗ held c arg11 f11 ∗ held c arg12 f12 ∗ held c arg15 f15 ∗ held c arg16 f16 ∗ held c arg17 f17 ∗ held c arg18 f18 ∗ held c arg20 f20) : sProp 𝕄)
    ⊢ wp frame (wpE (defs₀ (F := F)) 𝒱 (c : Thread nD τ) bd) E
        (cc0_mix_out (F := F) i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21 harg21)
        (fun _ => iprop(held c arg8 f8
          ∗ held c arg10 f10
          ∗ held c arg11 f11
          ∗ held c arg12 f12
          ∗ (∃ f, held c arg15 f ∗ ⌜∀ y, arg15.view.read (Elt F) f y = if (y 0).val = k then k0_pay106 (arg8.view.read (Elt F) f8) (ix3 0 (y 1) (y 2)) else arg15.view.read (Elt F) f15 y⌝)
          ∗ (∃ f, held c arg16 f ∗ ⌜∀ y, arg16.view.read (Elt F) f y = if (y 0).val = k then k0_pay103 (arg10.view.read (Elt F) f10) (ix3 0 (y 1) (y 2)) else arg16.view.read (Elt F) f16 y⌝)
          ∗ (∃ f, held c arg17 f ∗ ⌜∀ y, arg17.view.read (Elt F) f y = if (y 0).val = k then k0_pay104 (arg11.view.read (Elt F) f11) (ix3 0 (y 1) (y 2)) else arg17.view.read (Elt F) f17 y⌝)
          ∗ (∃ f, held c arg18 f ∗ ⌜∀ y, arg18.view.read (Elt F) f y = if (y 0).val / 256 = k then k0_pay105 (arg12.view.read (Elt F) f12) (ix2 (Fin.ofNat 256 ((y 0).val % 256)) (y 1)) else arg18.view.read (Elt F) f18 y⌝)
          ∗ (∃ f, held c arg20 f ∗ ⌜arg20.view.read (Elt F) f = k0_pay107⌝))) := by
  simp only [cc0_mix_out_eq_skeleton]
  unfold cc0_mix_out_skel
  iintro ⟨H8, H10, H11, H12, H15, H16, H17, H18, H20⟩
  sl_exec
  sl_step
  isplitl [H8]; · iexact H8
  isplitl [H10]; · iexact H10
  isplitl [H11]; · iexact H11
  isplitl [H12]; · iexact H12
  isplitl [H15]
  · iexists _
    isplitl [H15]; · iexact H15
    ipureintro
    exact fun y => (stack_read arg15.view f15 k (k0_off3 i) ho3 _ _ y).trans (by rw [load_whole arg8.view f8 inb_S1024x256_S1024x256_0_0])
  isplitl [H16]
  · iexists _
    isplitl [H16]; · iexact H16
    ipureintro
    exact fun y => (stack_read arg16.view f16 k (k0_off1 i) ho1 _ _ y).trans (by rw [load_whole arg10.view f10 inb_S1024x256_S1024x256_0_0])
  isplitl [H17]
  · iexists _
    isplitl [H17]; · iexact H17
    ipureintro
    exact fun y => (stack_read arg17.view f17 k (k0_off1 i) ho1 _ _ y).trans (by rw [load_whole arg11.view f11 inb_S1024x256_S1024x256_0_0])
  isplitl [H18]
  · iexists _
    isplitl [H18]; · iexact H18
    ipureintro
    exact fun y => (band_read arg18.view f18 k (k0_off2 i) ho2 _ _ y).trans (by rw [load_whole arg12.view f12 inb_S256x1024_S256x1024_0_0])
  iexists _
  isplitl [H20]; · iexact H20
  ipureintro
  exact tile_read arg20.view f20 inb_S512x1024_S512x1024_0_0 _

set_option maxHeartbeats 1600000 in
/-- A point of both castings. -/
theorem early_point (hA : k0_cond1 i = 1#1) (hB : k0_cond2 i = 1#1)
    (hC : ¬ Scalar.cmpi .ne (Scalar.extui (Scalar.cmpi .eq (BitVec.ofNat 32 (i 0).val) 0#32) : BitVec 32) 0#32 = 1#1)
    (hD : ¬ Scalar.cmpi .ne (Scalar.extui (Scalar.cmpi .eq (BitVec.ofNat 32 (i 0).val) 10#32) : BitVec 32) 0#32 = 1#1)
    (hE : ¬ k0_cond5 i = 1#1) (hF : ¬ k0_cond6 i = 1#1) (hG : ¬ k0_cond7 i = 1#1)
    (k : ℕ) (ho1 : k0_off1 i = ![k, 0, 0]) (ho2 : k0_off2 i = ![256 * k, 0]) (ho3 : k0_off3 i = ![k, 0, 0]) :
    (iprop(held c arg8 f8 ∗ held c arg10 f10 ∗ held c arg11 f11 ∗ held c arg12 f12 ∗ held c arg15 f15 ∗ held c arg16 f16 ∗ held c arg17 f17 ∗ held c arg18 f18) : sProp 𝕄)
    ⊢ wp frame (wpE (defs₀ (F := F)) 𝒱 (c : Thread nD τ) bd) E
        (cc0_mix_out (F := F) i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21 harg21)
        (fun _ => iprop(held c arg8 f8
          ∗ held c arg10 f10
          ∗ held c arg11 f11
          ∗ held c arg12 f12
          ∗ (∃ f, held c arg15 f ∗ ⌜∀ y, arg15.view.read (Elt F) f y = if (y 0).val = k then k0_pay106 (arg8.view.read (Elt F) f8) (ix3 0 (y 1) (y 2)) else arg15.view.read (Elt F) f15 y⌝)
          ∗ (∃ f, held c arg16 f ∗ ⌜∀ y, arg16.view.read (Elt F) f y = if (y 0).val = k then k0_pay103 (arg10.view.read (Elt F) f10) (ix3 0 (y 1) (y 2)) else arg16.view.read (Elt F) f16 y⌝)
          ∗ (∃ f, held c arg17 f ∗ ⌜∀ y, arg17.view.read (Elt F) f y = if (y 0).val = k then k0_pay104 (arg11.view.read (Elt F) f11) (ix3 0 (y 1) (y 2)) else arg17.view.read (Elt F) f17 y⌝)
          ∗ (∃ f, held c arg18 f ∗ ⌜∀ y, arg18.view.read (Elt F) f y = if (y 0).val / 256 = k then k0_pay105 (arg12.view.read (Elt F) f12) (ix2 (Fin.ofNat 256 ((y 0).val % 256)) (y 1)) else arg18.view.read (Elt F) f18 y⌝))) := by
  simp only [cc0_mix_out_eq_skeleton]
  unfold cc0_mix_out_skel
  iintro ⟨H8, H10, H11, H12, H15, H16, H17, H18⟩
  sl_exec
  sl_step
  isplitl [H8]; · iexact H8
  isplitl [H10]; · iexact H10
  isplitl [H11]; · iexact H11
  isplitl [H12]; · iexact H12
  isplitl [H15]
  · iexists _
    isplitl [H15]; · iexact H15
    ipureintro
    exact fun y => (stack_read arg15.view f15 k (k0_off3 i) ho3 _ _ y).trans (by rw [load_whole arg8.view f8 inb_S1024x256_S1024x256_0_0])
  isplitl [H16]
  · iexists _
    isplitl [H16]; · iexact H16
    ipureintro
    exact fun y => (stack_read arg16.view f16 k (k0_off1 i) ho1 _ _ y).trans (by rw [load_whole arg10.view f10 inb_S1024x256_S1024x256_0_0])
  isplitl [H17]
  · iexists _
    isplitl [H17]; · iexact H17
    ipureintro
    exact fun y => (stack_read arg17.view f17 k (k0_off1 i) ho1 _ _ y).trans (by rw [load_whole arg11.view f11 inb_S1024x256_S1024x256_0_0])
  iexists _
  isplitl [H18]; · iexact H18
  ipureintro
  exact fun y => (band_read arg18.view f18 k (k0_off2 i) ho2 _ _ y).trans (by rw [load_whole arg12.view f12 inb_S256x1024_S256x1024_0_0])

set_option maxHeartbeats 1600000 in
/-- A point of the feed-forward weights' casting alone. -/
theorem cast_point (hA : k0_cond1 i = 1#1) (hB : ¬ k0_cond2 i = 1#1)
    (hC : ¬ Scalar.cmpi .ne (Scalar.extui (Scalar.cmpi .eq (BitVec.ofNat 32 (i 0).val) 0#32) : BitVec 32) 0#32 = 1#1)
    (hD : ¬ Scalar.cmpi .ne (Scalar.extui (Scalar.cmpi .eq (BitVec.ofNat 32 (i 0).val) 10#32) : BitVec 32) 0#32 = 1#1)
    (hE : ¬ k0_cond5 i = 1#1) (hF : ¬ k0_cond6 i = 1#1) (hG : ¬ k0_cond7 i = 1#1)
    (k : ℕ) (ho1 : k0_off1 i = ![k, 0, 0]) (ho2 : k0_off2 i = ![256 * k, 0]) :
    (iprop(held c arg10 f10 ∗ held c arg11 f11 ∗ held c arg12 f12 ∗ held c arg16 f16 ∗ held c arg17 f17 ∗ held c arg18 f18) : sProp 𝕄)
    ⊢ wp frame (wpE (defs₀ (F := F)) 𝒱 (c : Thread nD τ) bd) E
        (cc0_mix_out (F := F) i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21 harg21)
        (fun _ => iprop(held c arg10 f10
          ∗ held c arg11 f11
          ∗ held c arg12 f12
          ∗ (∃ f, held c arg16 f ∗ ⌜∀ y, arg16.view.read (Elt F) f y = if (y 0).val = k then k0_pay103 (arg10.view.read (Elt F) f10) (ix3 0 (y 1) (y 2)) else arg16.view.read (Elt F) f16 y⌝)
          ∗ (∃ f, held c arg17 f ∗ ⌜∀ y, arg17.view.read (Elt F) f y = if (y 0).val = k then k0_pay104 (arg11.view.read (Elt F) f11) (ix3 0 (y 1) (y 2)) else arg17.view.read (Elt F) f17 y⌝)
          ∗ (∃ f, held c arg18 f ∗ ⌜∀ y, arg18.view.read (Elt F) f y = if (y 0).val / 256 = k then k0_pay105 (arg12.view.read (Elt F) f12) (ix2 (Fin.ofNat 256 ((y 0).val % 256)) (y 1)) else arg18.view.read (Elt F) f18 y⌝))) := by
  simp only [cc0_mix_out_eq_skeleton]
  unfold cc0_mix_out_skel
  iintro ⟨H10, H11, H12, H16, H17, H18⟩
  sl_exec
  sl_step
  isplitl [H10]; · iexact H10
  isplitl [H11]; · iexact H11
  isplitl [H12]; · iexact H12
  isplitl [H16]
  · iexists _
    isplitl [H16]; · iexact H16
    ipureintro
    exact fun y => (stack_read arg16.view f16 k (k0_off1 i) ho1 _ _ y).trans (by rw [load_whole arg10.view f10 inb_S1024x256_S1024x256_0_0])
  isplitl [H17]
  · iexists _
    isplitl [H17]; · iexact H17
    ipureintro
    exact fun y => (stack_read arg17.view f17 k (k0_off1 i) ho1 _ _ y).trans (by rw [load_whole arg11.view f11 inb_S1024x256_S1024x256_0_0])
  iexists _
  isplitl [H18]; · iexact H18
  ipureintro
  exact fun y => (band_read arg18.view f18 k (k0_off2 i) ho2 _ _ y).trans (by rw [load_whole arg12.view f12 inb_S256x1024_S256x1024_0_0])

set_option maxHeartbeats 1600000 in
/-- The casting's last point makes the first tile's halves ready. -/
theorem ready_point (hA : k0_cond1 i = 1#1) (hB : ¬ k0_cond2 i = 1#1)
    (hC : ¬ Scalar.cmpi .ne (Scalar.extui (Scalar.cmpi .eq (BitVec.ofNat 32 (i 0).val) 0#32) : BitVec 32) 0#32 = 1#1)
    (hD : Scalar.cmpi .ne (Scalar.extui (Scalar.cmpi .eq (BitVec.ofNat 32 (i 0).val) 10#32) : BitVec 32) 0#32 = 1#1)
    (hE : ¬ k0_cond5 i = 1#1) (hF : ¬ k0_cond6 i = 1#1) (hG : ¬ k0_cond7 i = 1#1)
    (k : ℕ) (ho1 : k0_off1 i = ![k, 0, 0]) (ho2 : k0_off2 i = ![256 * k, 0]) :
    (iprop(held c arg2 f2 ∗ held c arg3 f3 ∗ held c arg4 f4 ∗ held c arg5 f5 ∗ held c arg6 f6 ∗ held c arg7 f7 ∗ held c arg10 f10 ∗ held c arg11 f11 ∗ held c arg12 f12 ∗ held c arg16 f16 ∗ held c arg17 f17 ∗ held c arg18 f18 ∗ held c arg19 f19) : sProp 𝕄)
    ⊢ wp frame (wpE (defs₀ (F := F)) 𝒱 (c : Thread nD τ) bd) E
        (cc0_mix_out (F := F) i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21 harg21)
        (fun _ => iprop(held c arg2 f2
          ∗ held c arg3 f3
          ∗ held c arg4 f4
          ∗ held c arg5 f5
          ∗ held c arg6 f6
          ∗ held c arg7 f7
          ∗ held c arg10 f10
          ∗ held c arg11 f11
          ∗ held c arg12 f12
          ∗ (∃ f, held c arg16 f ∗ ⌜∀ y, arg16.view.read (Elt F) f y = if (y 0).val = k then k0_pay103 (arg10.view.read (Elt F) f10) (ix3 0 (y 1) (y 2)) else arg16.view.read (Elt F) f16 y⌝)
          ∗ (∃ f, held c arg17 f ∗ ⌜∀ y, arg17.view.read (Elt F) f y = if (y 0).val = k then k0_pay104 (arg11.view.read (Elt F) f11) (ix3 0 (y 1) (y 2)) else arg17.view.read (Elt F) f17 y⌝)
          ∗ (∃ f, held c arg18 f ∗ ⌜∀ y, arg18.view.read (Elt F) f y = if (y 0).val / 256 = k then k0_pay105 (arg12.view.read (Elt F) f12) (ix2 (Fin.ofNat 256 ((y 0).val % 256)) (y 1)) else arg18.view.read (Elt F) f18 y⌝)
          ∗ (∃ f, held c arg19 f ∗ ⌜slot 0 (arg19.view.read (Elt F) f) = mixOf (arg2.view.read (Elt F) f2) (arg3.view.read (Elt F) f3) (arg4.view.read (Elt F) f4) (arg5.view.read (Elt F) f5) (arg6.view.read (Elt F) f6) (arg7.view.read (Elt F) f7)⌝))) := by
  simp only [cc0_mix_out_eq_skeleton]
  unfold cc0_mix_out_skel
  iintro ⟨H2, H3, H4, H5, H6, H7, H10, H11, H12, H16, H17, H18, H19⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [H16]
  · iexists _
    isplitl [H16]; · iexact H16
    ipureintro
    exact fun y => (stack_read arg16.view f16 k (k0_off1 i) ho1 _ _ y).trans (by rw [load_whole arg10.view f10 inb_S1024x256_S1024x256_0_0])
  isplitl [H17]
  · iexists _
    isplitl [H17]; · iexact H17
    ipureintro
    exact fun y => (stack_read arg17.view f17 k (k0_off1 i) ho1 _ _ y).trans (by rw [load_whole arg11.view f11 inb_S1024x256_S1024x256_0_0])
  isplitl [H18]
  · iexists _
    isplitl [H18]; · iexact H18
    ipureintro
    exact fun y => (band_read arg18.view f18 k (k0_off2 i) ho2 _ _ y).trans (by rw [load_whole arg12.view f12 inb_S256x1024_S256x1024_0_0])
  iexists _
  isplitl [H19]; · iexact H19
  ipureintro
  exact slot_stored arg19.view arg2.view arg3.view arg4.view arg5.view arg6.view arg7.view f19 f2 f3 f4 f5 f6 f7 0 (by omega)
      inb_S2x512x1024_S1x128x512_0_0_0 inb_S2x512x1024_S1x128x512_0_128_0 inb_S2x512x1024_S1x128x512_0_256_0 inb_S2x512x1024_S1x128x512_0_384_0
      inb_S2x512x1024_S1x128x512_0_0_512 inb_S2x512x1024_S1x128x512_0_128_512 inb_S2x512x1024_S1x128x512_0_256_512 inb_S2x512x1024_S1x128x512_0_384_512

set_option maxHeartbeats 1600000 in
/-- The last point normalises the last tile. -/
theorem last_point (hA : ¬ k0_cond1 i = 1#1) (hB : ¬ k0_cond2 i = 1#1)
    (hC : ¬ Scalar.cmpi .ne (Scalar.extui (Scalar.cmpi .eq (BitVec.ofNat 32 (i 0).val) 0#32) : BitVec 32) 0#32 = 1#1)
    (hD : ¬ Scalar.cmpi .ne (Scalar.extui (Scalar.cmpi .eq (BitVec.ofNat 32 (i 0).val) 10#32) : BitVec 32) 0#32 = 1#1)
    (hE : ¬ k0_cond5 i = 1#1) (hF : ¬ k0_cond6 i = 1#1) (hG : k0_cond7 i = 1#1) :
    (iprop(held c arg13 f13 ∗ held c arg14 f14 ∗ held c arg20 f20) : sProp 𝕄)
    ⊢ wp frame (wpE (defs₀ (F := F)) 𝒱 (c : Thread nD τ) bd) E
        (cc0_mix_out (F := F) i arg1 harg1 arg2 harg2 arg3 harg3 arg4 harg4 arg5 harg5 arg6 harg6 arg7 harg7 arg8 harg8 arg9 harg9 arg10 harg10
          arg11 harg11 arg12 harg12 arg13 harg13 arg14 harg14 arg15 harg15 arg16 harg16 arg17 harg17 arg18 harg18 arg19 harg19 arg20 harg20 arg21 harg21)
        (fun _ => iprop(held c arg13 f13
          ∗ (∃ f, held c arg14 f ∗ ⌜arg14.view.read (Elt F) f = outOf (arg20.view.read (Elt F) f20) (arg13.view.read (Elt F) f13)⌝)
          ∗ held c arg20 f20)) := by
  simp only [cc0_mix_out_eq_skeleton]
  unfold cc0_mix_out_skel
  iintro ⟨H13, H14, H20⟩
  sl_exec
  sl_step
  isplitl [H13]; · iexact H13
  isplitl [H14]
  · iexists _
    isplitl [H14]; · iexact H14
    ipureintro
    exact out_stored arg14.view arg20.view arg13.view f14 f20 f13
  iexact H20

end Cert.Proof.Mix

end
-- ==== Proof.Mix.Step.lean ====
/- The second kernel at every point of its grid: what the scratch buffers hold before a point, and the body from there to the next. -/
module

public import proofs.«01_k».proof.Proof.Mix.Tile
public import proofs.«01_k».proof.Proof.Mix.Fill
public import proofs.«01_k».proof.Proof.Gen.Kernel2Ideal.Frame
public import Idealize.ShloMosaic.Lib.Pipeline.ValueKit

@[expose] public section

set_option maxRecDepth 8192

noncomputable section

namespace Cert.Proof.Mix

open Cert.Kernel2Ideal Cert.Kernel2Ideal.Gen
open Idealize.ShloMosaic hiding ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-! ## Which of the body's branches a point takes -/

/-- The condition of the branch taken at the point of number `n` alone. -/
abbrev isAt (i : grid0.Coords) (n : BitVec 32) : Prop :=
  Scalar.cmpi .ne (Scalar.extui (Scalar.cmpi .eq (BitVec.ofNat 32 (i 0).val) n) : BitVec 32) 0#32 = 1#1

theorem at_first : ∀ t : Fin grid0.N, t.val = 0 → k0_cond1 (grid0.coords t) = 1#1 ∧ k0_cond2 (grid0.coords t) = 1#1 ∧ isAt (grid0.coords t) 0#32
    ∧ ¬ isAt (grid0.coords t) 10#32 ∧ ¬ k0_cond5 (grid0.coords t) = 1#1 ∧ ¬ k0_cond6 (grid0.coords t) = 1#1 ∧ ¬ k0_cond7 (grid0.coords t) = 1#1 := by decide +kernel
theorem at_early : ∀ t : Fin grid0.N, 0 < t.val → t.val < 4 → k0_cond1 (grid0.coords t) = 1#1 ∧ k0_cond2 (grid0.coords t) = 1#1 ∧ ¬ isAt (grid0.coords t) 0#32
    ∧ ¬ isAt (grid0.coords t) 10#32 ∧ ¬ k0_cond5 (grid0.coords t) = 1#1 ∧ ¬ k0_cond6 (grid0.coords t) = 1#1 ∧ ¬ k0_cond7 (grid0.coords t) = 1#1 := by decide +kernel
theorem at_cast : ∀ t : Fin grid0.N, 4 ≤ t.val → t.val < 10 → k0_cond1 (grid0.coords t) = 1#1 ∧ ¬ k0_cond2 (grid0.coords t) = 1#1 ∧ ¬ isAt (grid0.coords t) 0#32
    ∧ ¬ isAt (grid0.coords t) 10#32 ∧ ¬ k0_cond5 (grid0.coords t) = 1#1 ∧ ¬ k0_cond6 (grid0.coords t) = 1#1 ∧ ¬ k0_cond7 (grid0.coords t) = 1#1 := by decide +kernel
theorem at_ready : ∀ t : Fin grid0.N, t.val = 10 → k0_cond1 (grid0.coords t) = 1#1 ∧ ¬ k0_cond2 (grid0.coords t) = 1#1 ∧ ¬ isAt (grid0.coords t) 0#32
    ∧ isAt (grid0.coords t) 10#32 ∧ ¬ k0_cond5 (grid0.coords t) = 1#1 ∧ ¬ k0_cond6 (grid0.coords t) = 1#1 ∧ ¬ k0_cond7 (grid0.coords t) = 1#1 := by decide +kernel
theorem at_even : ∀ t : Fin grid0.N, 11 ≤ t.val → t.val < 43 → t.val % 2 = 1 → ¬ k0_cond1 (grid0.coords t) = 1#1 ∧ ¬ k0_cond2 (grid0.coords t) = 1#1 ∧ ¬ isAt (grid0.coords t) 0#32
    ∧ ¬ isAt (grid0.coords t) 10#32 ∧ k0_cond5 (grid0.coords t) = 1#1 ∧ ¬ k0_cond6 (grid0.coords t) = 1#1 ∧ ¬ k0_cond7 (grid0.coords t) = 1#1 := by decide +kernel
theorem at_odd : ∀ t : Fin grid0.N, 11 ≤ t.val → t.val < 43 → t.val % 2 = 0 → ¬ k0_cond1 (grid0.coords t) = 1#1 ∧ ¬ k0_cond2 (grid0.coords t) = 1#1 ∧ ¬ isAt (grid0.coords t) 0#32
    ∧ ¬ isAt (grid0.coords t) 10#32 ∧ ¬ k0_cond5 (grid0.coords t) = 1#1 ∧ k0_cond6 (grid0.coords t) = 1#1 ∧ ¬ k0_cond7 (grid0.coords t) = 1#1 := by decide +kernel
theorem at_last : ∀ t : Fin grid0.N, t.val = 43 → ¬ k0_cond1 (grid0.coords t) = 1#1 ∧ ¬ k0_cond2 (grid0.coords t) = 1#1 ∧ ¬ isAt (grid0.coords t) 0#32
    ∧ ¬ isAt (grid0.coords t) 10#32 ∧ ¬ k0_cond5 (grid0.coords t) = 1#1 ∧ ¬ k0_cond6 (grid0.coords t) = 1#1 ∧ k0_cond7 (grid0.coords t) = 1#1 := by decide +kernel
theorem off_1 : ∀ t : Fin grid0.N, t.val < 11 → k0_off1 (grid0.coords t) = ![t.val, 0, 0] := by decide +kernel
theorem off_2 : ∀ t : Fin grid0.N, t.val < 11 → k0_off2 (grid0.coords t) = ![256 * t.val, 0] := by decide +kernel
theorem off_3 : ∀ t : Fin grid0.N, t.val < 4 → k0_off3 (grid0.coords t) = ![t.val, 0, 0] := by decide +kernel

/-! ## What the scratch buffers hold before a point -/

variable (m : (ℓ : Loc nD τ sig) → Buf (Elt F) ℓ)

/-- The point of number `n`. -/
def pt (n : ℕ) : Fin cfg0.N := ⟨n % 44, by rw [show cfg0.N = 44 from N_0]; omega⟩

theorem pt_val (t : Fin cfg0.N) (n : ℕ) (h : n = t.val) : pt n = t := by
  have : t.val < 44 := N_0 ▸ t.isLt
  exact Fin.ext (by show n % 44 = t.val; omega)

/-- The weights cast, block by block. -/
def woArr (c : Dev nD) : S4x1024x256.Idx → F .bf16 := fun y => k0_pay106 (iblk m c 7 (pt (y 0).val)) (ix3 0 (y 1) (y 2))
def wgArr (c : Dev nD) : S11x1024x256.Idx → F .bf16 := fun y => k0_pay103 (iblk m c 9 (pt (y 0).val)) (ix3 0 (y 1) (y 2))
def wuArr (c : Dev nD) : S11x1024x256.Idx → F .bf16 := fun y => k0_pay104 (iblk m c 10 (pt (y 0).val)) (ix3 0 (y 1) (y 2))
def w2Arr (c : Dev nD) : S2816x1024.Idx → F .bf16 := fun y =>
  k0_pay105 (iblk m c 11 (pt ((y 0).val / 256))) (ix2 (Fin.ofNat 256 ((y 0).val % 256)) (y 1))

/-- The halves made at a point. -/
def mixT (c : Dev nD) (t : Fin cfg0.N) : S512x1024.Idx → F .bf16 :=
  mixOf (iblk m c 1 t) (iblk m c 2 t) (iblk m c 3 t) (iblk m c 4 t) (iblk m c 5 t) (iblk m c 6 t)

/-- The tile computed at a point. -/
def h3T (c : Dev nD) (t : Fin cfg0.N) : S512x1024.Idx → F .f32 :=
  h3Of (mixT m c (pt (t.val - 1))) (woArr m c) (iblk m c 0 t) (iblk m c 8 t) (wgArr m c) (wuArr m c) (w2Arr m c)

/-- The running tile before point `n`. -/
def h3At (c : Dev nD) (n : ℕ) : S512x1024.Idx → F .f32 := if n ≤ 11 then k0_pay107 else h3T m c (pt (n - 1))

/-- The output block a point leaves. -/
def outAt (c : Dev nD) (t : Fin cfg0.N) : S512x1024.Idx → F .f32 := outOf (h3At m c t.val) (iblk m c 12 t)

/-- What the scratch buffers hold before point `n`. -/
structure Inv (c : Dev nD) (n : ℕ) (r15 : S4x1024x256.Idx → F .bf16) (r16 r17 : S11x1024x256.Idx → F .bf16) (r18 : S2816x1024.Idx → F .bf16)
    (r19 : S2x512x1024.Idx → F .bf16) (r20 : S512x1024.Idx → F .f32) : Prop where
  wo : ∀ y, (y 0).val < n → r15 y = woArr m c y
  wg : ∀ y, (y 0).val < n → r16 y = wgArr m c y
  wu : ∀ y, (y 0).val < n → r17 y = wuArr m c y
  w2 : ∀ y, (y 0).val < 256 * n → r18 y = w2Arr m c y
  mix : 11 ≤ n → n ≤ 43 → slot ((n - 11) % 2) r19 = mixT m c (pt (n - 1))
  h3 : 1 ≤ n → n ≤ 43 → r20 = h3At m c n

section Steps
variable {c : Dev nD} {t : Fin cfg0.N} {r15 s15 : S4x1024x256.Idx → F .bf16} {r16 s16 r17 s17 : S11x1024x256.Idx → F .bf16}
  {r18 s18 : S2816x1024.Idx → F .bf16} {r19 s19 : S2x512x1024.Idx → F .bf16} {r20 s20 : S512x1024.Idx → F .f32}

theorem wo_next (h : ∀ y, (y 0).val < t.val → r15 y = woArr m c y)
    (hs : ∀ y, s15 y = if (y 0).val = t.val then k0_pay106 (iblk m c 7 t) (ix3 0 (y 1) (y 2)) else r15 y) :
    ∀ y, (y 0).val < t.val + 1 → s15 y = woArr m c y := fun y hy => by
  rw [hs y]
  by_cases e : (y 0).val = t.val
  · rw [if_pos e]; unfold woArr; rw [pt_val t _ e]
  · rw [if_neg e]; exact h y (by omega)

theorem wg_next (h : ∀ y, (y 0).val < t.val → r16 y = wgArr m c y)
    (hs : ∀ y, s16 y = if (y 0).val = t.val then k0_pay103 (iblk m c 9 t) (ix3 0 (y 1) (y 2)) else r16 y) :
    ∀ y, (y 0).val < t.val + 1 → s16 y = wgArr m c y := fun y hy => by
  rw [hs y]
  by_cases e : (y 0).val = t.val
  · rw [if_pos e]; unfold wgArr; rw [pt_val t _ e]
  · rw [if_neg e]; exact h y (by omega)

theorem wu_next (h : ∀ y, (y 0).val < t.val → r17 y = wuArr m c y)
    (hs : ∀ y, s17 y = if (y 0).val = t.val then k0_pay104 (iblk m c 10 t) (ix3 0 (y 1) (y 2)) else r17 y) :
    ∀ y, (y 0).val < t.val + 1 → s17 y = wuArr m c y := fun y hy => by
  rw [hs y]
  by_cases e : (y 0).val = t.val
  · rw [if_pos e]; unfold wuArr; rw [pt_val t _ e]
  · rw [if_neg e]; exact h y (by omega)

theorem w2_next (h : ∀ y, (y 0).val < 256 * t.val → r18 y = w2Arr m c y)
    (hs : ∀ y, s18 y = if (y 0).val / 256 = t.val then k0_pay105 (iblk m c 11 t) (ix2 (Fin.ofNat 256 ((y 0).val % 256)) (y 1)) else r18 y) :
    ∀ y, (y 0).val < 256 * (t.val + 1) → s18 y = w2Arr m c y := fun y hy => by
  rw [hs y]
  by_cases e : (y 0).val / 256 = t.val
  · rw [if_pos e]; unfold w2Arr; rw [pt_val t _ e]
  · rw [if_neg e]; exact h y (by omega)

theorem wo_keep (h : ∀ y, (y 0).val < t.val → r15 y = woArr m c y) (ht : 4 ≤ t.val) : ∀ y, r15 y = woArr m c y := fun y => h y (by
  have : (y 0).val < 4 := (y 0).isLt
  omega)
theorem wg_keep (h : ∀ y, (y 0).val < t.val → r16 y = wgArr m c y) (ht : 11 ≤ t.val) : ∀ y, r16 y = wgArr m c y := fun y => h y (by
  have : (y 0).val < 11 := (y 0).isLt
  omega)
theorem wu_keep (h : ∀ y, (y 0).val < t.val → r17 y = wuArr m c y) (ht : 11 ≤ t.val) : ∀ y, r17 y = wuArr m c y := fun y => h y (by
  have : (y 0).val < 11 := (y 0).isLt
  omega)
theorem w2_keep (h : ∀ y, (y 0).val < 256 * t.val → r18 y = w2Arr m c y) (ht : 11 ≤ t.val) : ∀ y, r18 y = w2Arr m c y := fun y => h y (by
  have : (y 0).val < 2816 := (y 0).isLt
  omega)

theorem early_h3 {n : ℕ} (h : n ≤ 11) : (k0_pay107 : S512x1024.Idx → F .f32) = h3At m c n := by unfold h3At; rw [if_pos h]
theorem keep_h3 {n : ℕ} (h : n < 11) (e : r20 = h3At m c n) : r20 = h3At m c (n + 1) := by
  rw [e, ← early_h3 m (by omega), ← early_h3 m (by omega)]

theorem inv_zero : Inv m c 0 r15 r16 r17 r18 r19 r20 where
  wo y hy := absurd hy (by omega)
  wg y hy := absurd hy (by omega)
  wu y hy := absurd hy (by omega)
  w2 y hy := absurd hy (by omega)
  mix h := absurd h (by omega)
  h3 h := absurd h (by omega)

theorem inv_early (I : Inv m c t.val r15 r16 r17 r18 r19 r20) (ht : t.val < 4)
    (h15 : ∀ y, s15 y = if (y 0).val = t.val then k0_pay106 (iblk m c 7 t) (ix3 0 (y 1) (y 2)) else r15 y)
    (h16 : ∀ y, s16 y = if (y 0).val = t.val then k0_pay103 (iblk m c 9 t) (ix3 0 (y 1) (y 2)) else r16 y)
    (h17 : ∀ y, s17 y = if (y 0).val = t.val then k0_pay104 (iblk m c 10 t) (ix3 0 (y 1) (y 2)) else r17 y)
    (h18 : ∀ y, s18 y = if (y 0).val / 256 = t.val then k0_pay105 (iblk m c 11 t) (ix2 (Fin.ofNat 256 ((y 0).val % 256)) (y 1)) else r18 y)
    (h20 : s20 = h3At m c (t.val + 1)) : Inv m c (t.val + 1) s15 s16 s17 s18 r19 s20 where
  wo := wo_next m I.wo h15
  wg := wg_next m I.wg h16
  wu := wu_next m I.wu h17
  w2 := w2_next m I.w2 h18
  mix h := absurd h (by omega)
  h3 _ _ := h20

theorem inv_cast (I : Inv m c t.val r15 r16 r17 r18 r19 r20) (h4 : 4 ≤ t.val) (ht : t.val < 11)
    (h16 : ∀ y, s16 y = if (y 0).val = t.val then k0_pay103 (iblk m c 9 t) (ix3 0 (y 1) (y 2)) else r16 y)
    (h17 : ∀ y, s17 y = if (y 0).val = t.val then k0_pay104 (iblk m c 10 t) (ix3 0 (y 1) (y 2)) else r17 y)
    (h18 : ∀ y, s18 y = if (y 0).val / 256 = t.val then k0_pay105 (iblk m c 11 t) (ix2 (Fin.ofNat 256 ((y 0).val % 256)) (y 1)) else r18 y)
    (h19 : t.val = 10 → slot 0 s19 = mixT m c t) : Inv m c (t.val + 1) r15 s16 s17 s18 s19 r20 where
  wo y _ := wo_keep m I.wo h4 y
  wg := wg_next m I.wg h16
  wu := wu_next m I.wu h17
  w2 := w2_next m I.w2 h18
  mix h _ := by
    have e : t.val = 10 := by omega
    rw [show (t.val + 1 - 11) % 2 = 0 by omega, pt_val t _ (by omega)]
    exact h19 e
  h3 _ _ := keep_h3 m ht (I.h3 (by omega) (by omega))

theorem inv_tile (I : Inv m c t.val r15 r16 r17 r18 r19 r20) (h11 : 11 ≤ t.val) (ht : t.val < 43)
    (h19 : slot ((t.val - 10) % 2) s19 = mixT m c t)
    (h20 : s20 = h3Of (slot ((t.val - 11) % 2) r19) r15 (iblk m c 0 t) (iblk m c 8 t) r16 r17 r18) :
    Inv m c (t.val + 1) r15 r16 r17 r18 s19 s20 where
  wo y _ := wo_keep m I.wo (by omega) y
  wg y _ := wg_keep m I.wg h11 y
  wu y _ := wu_keep m I.wu h11 y
  w2 y _ := w2_keep m I.w2 h11 y
  mix _ _ := by
    rw [show t.val + 1 - 11 = t.val - 10 by omega, pt_val t _ (by omega)]
    exact h19
  h3 _ _ := by
    unfold h3At
    rw [if_neg (by omega), h20, pt_val t _ (by omega), I.mix h11 (by omega), funext (wo_keep m I.wo (by omega)), funext (wg_keep m I.wg h11),
      funext (wu_keep m I.wu h11), funext (w2_keep m I.w2 h11)]
    rfl

theorem inv_last (I : Inv m c t.val r15 r16 r17 r18 r19 r20) (ht : t.val = 43) : Inv m c (t.val + 1) r15 r16 r17 r18 r19 r20 where
  wo y _ := wo_keep m I.wo (by omega) y
  wg y _ := wg_keep m I.wg (by omega) y
  wu y _ := wu_keep m I.wu (by omega) y
  w2 y _ := w2_keep m I.w2 (by omega) y
  mix _ h := absurd h (by omega)
  h3 _ h := absurd h (by omega)

end Steps

/-! ## The body from a point to the next -/

set_option maxHeartbeats 1600000 in
/-- From every buffer held, the scratch buffers as before point `t`, the body leaves the inputs, the output block as stated, and the scratch
    buffers as before the next point. -/
theorem step (c : Dev nD) (t : Fin cfg0.N)
    (arg1 : Memref sig .tc .vmem S512x1024 .f32) (harg1 : arg1.IsWhole)
    (arg2 : Memref sig .tc .vmem S512x512 .f32) (harg2 : arg2.IsWhole)
    (arg3 : Memref sig .tc .vmem S512x512 .f32) (harg3 : arg3.IsWhole)
    (arg4 : Memref sig .tc .vmem S512x512 .f32) (harg4 : arg4.IsWhole)
    (arg5 : Memref sig .tc .vmem S1x512 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1024x256 .f32) (harg8 : arg8.IsWhole)
    (arg9 : Memref sig .tc .vmem S1x1024 .f32) (harg9 : arg9.IsWhole)
    (arg10 : Memref sig .tc .vmem S1024x256 .f32) (harg10 : arg10.IsWhole)
    (arg11 : Memref sig .tc .vmem S1024x256 .f32) (harg11 : arg11.IsWhole)
    (arg12 : Memref sig .tc .vmem S256x1024 .f32) (harg12 : arg12.IsWhole)
    (arg13 : Memref sig .tc .vmem S1x1024 .f32) (harg13 : arg13.IsWhole)
    (arg14 : Memref sig .tc .vmem S512x1024 .f32) (harg14 : arg14.IsWhole)
    (arg15 : Memref sig .tc .vmem S4x1024x256 .bf16) (harg15 : arg15.IsWhole)
    (arg16 : Memref sig .tc .vmem S11x1024x256 .bf16) (harg16 : arg16.IsWhole)
    (arg17 : Memref sig .tc .vmem S11x1024x256 .bf16) (harg17 : arg17.IsWhole)
    (arg18 : Memref sig .tc .vmem S2816x1024 .bf16) (harg18 : arg18.IsWhole)
    (arg19 : Memref sig .tc .vmem S2x512x1024 .bf16) (harg19 : arg19.IsWhole)
    (arg20 : Memref sig .tc .vmem S512x1024 .f32) (harg20 : arg20.IsWhole)
    (arg21 : Memref sig .tc .vmem S512x2816 .bf16) (harg21 : arg21.IsWhole)
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty)
    (f18 : BufTy.Contents (Elt F) arg18.view.ty)
    (f19 : BufTy.Contents (Elt F) arg19.view.ty)
    (f20 : BufTy.Contents (Elt F) arg20.view.ty)
    (f21 : BufTy.Contents (Elt F) arg21.view.ty)
    (e1 : arg1.view.read (Elt F) f1 = iblk m c 0 t)
    (e2 : arg2.view.read (Elt F) f2 = iblk m c 1 t)
    (e3 : arg3.view.read (Elt F) f3 = iblk m c 2 t)
    (e4 : arg4.view.read (Elt F) f4 = iblk m c 3 t)
    (e5 : arg5.view.read (Elt F) f5 = iblk m c 4 t)
    (e6 : arg6.view.read (Elt F) f6 = iblk m c 5 t)
    (e7 : arg7.view.read (Elt F) f7 = iblk m c 6 t)
    (e8 : arg8.view.read (Elt F) f8 = iblk m c 7 t)
    (e9 : arg9.view.read (Elt F) f9 = iblk m c 8 t)
    (e10 : arg10.view.read (Elt F) f10 = iblk m c 9 t)
    (e11 : arg11.view.read (Elt F) f11 = iblk m c 10 t)
    (e12 : arg12.view.read (Elt F) f12 = iblk m c 11 t)
    (e13 : arg13.view.read (Elt F) f13 = iblk m c 12 t)
    (I : Inv m c t.val (arg15.view.read (Elt F) f15) (arg16.view.read (Elt F) f16) (arg17.view.read (Elt F) f17) (arg18.view.read (Elt F) f18) (arg19.view.read (Elt F) f19) (arg20.view.read (Elt F) f20)) :
    (iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13 ∗ held c arg14 f14 ∗ held c arg15 f15 ∗ held c arg16 f16 ∗ held c arg17 f17 ∗ held c arg18 f18 ∗ held c arg19 f19 ∗ held c arg20 f20 ∗ held c arg21 f21) : sProp 𝕄)
    ⊢ wp frame (wpE (defs₀ (F := F)) Variants.none (c : Thread nD τ) none) Set.univ
        (cc0_mix_out (F := F) (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
        (fun _ => iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13
          ∗ (∃ g, held c arg14 g ∗ ⌜(t.val < 11 → g = f14) ∧ (11 ≤ t.val → arg14.view.read (Elt F) g = outAt m c t)⌝)
          ∗ (∃ g15, held c arg15 g15 ∗ ∃ g16, held c arg16 g16 ∗ ∃ g17, held c arg17 g17 ∗ ∃ g18, held c arg18 g18 ∗ ∃ g19, held c arg19 g19
            ∗ ∃ g20, held c arg20 g20 ∗ ⌜Inv m c (t.val + 1) (arg15.view.read (Elt F) g15) (arg16.view.read (Elt F) g16) (arg17.view.read (Elt F) g17) (arg18.view.read (Elt F) g18) (arg19.view.read (Elt F) g19) (arg20.view.read (Elt F) g20)⌝) ∗ (∃ g, held c arg21 g))) := by
  have hN : t.val < 44 := N_0 ▸ t.isLt
  iintro ⟨H1, H2, H3, H4, H5, H6, H7, H8, H9, H10, H11, H12, H13, H14, H15, H16, H17, H18, H19, H20, H21⟩
  by_cases h0 : t.val = 0
  · obtain ⟨hA, hB, hC, hD, hE, hF, hG⟩ := at_first t h0
    iapply wp_wand $$ [H8 H10 H11 H12 H15 H16 H17 H18 H20]
    · iapply (first_point Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f8 f10 f11 f12 f15 f16 f17 f18 f20 hA hB hC hD hE hF hG t.val (off_1 t (by omega)) (off_2 t (by omega)) (off_3 t (by omega)))
      iframe H8
      iframe H10
      iframe H11
      iframe H12
      iframe H15
      iframe H16
      iframe H17
      iframe H18
      iexact H20
    iintro %_ ⟨H8, H10, H11, H12, ⟨%g15, H15, %p15⟩, ⟨%g16, H16, %p16⟩, ⟨%g17, H17, %p17⟩, ⟨%g18, H18, %p18⟩, ⟨%g20, H20, %p20⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists f14; isplitl [H14]; · iexact H14
      ipureintro; exact ⟨fun _ => rfl, fun h => absurd h (by omega)⟩
    isplitl [H15 H16 H17 H18 H19 H20]
    · iexists g15; isplitl [H15]; · iexact H15
      iexists g16; isplitl [H16]; · iexact H16
      iexists g17; isplitl [H17]; · iexact H17
      iexists g18; isplitl [H18]; · iexact H18
      iexists f19; isplitl [H19]; · iexact H19
      iexists g20; isplitl [H20]; · iexact H20
      ipureintro
      rw [e8] at p15; rw [e10] at p16; rw [e11] at p17; rw [e12] at p18
      exact inv_early m I (by omega) p15 p16 p17 p18 (p20.trans (early_h3 m (by omega)))
    iexists f21; iexact H21
  by_cases h1 : t.val < 4
  · obtain ⟨hA, hB, hC, hD, hE, hF, hG⟩ := at_early t (by omega) h1
    iapply wp_wand $$ [H8 H10 H11 H12 H15 H16 H17 H18]
    · iapply (early_point Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f8 f10 f11 f12 f15 f16 f17 f18 hA hB hC hD hE hF hG t.val (off_1 t (by omega)) (off_2 t (by omega)) (off_3 t (by omega)))
      iframe H8
      iframe H10
      iframe H11
      iframe H12
      iframe H15
      iframe H16
      iframe H17
      iexact H18
    iintro %_ ⟨H8, H10, H11, H12, ⟨%g15, H15, %p15⟩, ⟨%g16, H16, %p16⟩, ⟨%g17, H17, %p17⟩, ⟨%g18, H18, %p18⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists f14; isplitl [H14]; · iexact H14
      ipureintro; exact ⟨fun _ => rfl, fun h => absurd h (by omega)⟩
    isplitl [H15 H16 H17 H18 H19 H20]
    · iexists g15; isplitl [H15]; · iexact H15
      iexists g16; isplitl [H16]; · iexact H16
      iexists g17; isplitl [H17]; · iexact H17
      iexists g18; isplitl [H18]; · iexact H18
      iexists f19; isplitl [H19]; · iexact H19
      iexists f20; isplitl [H20]; · iexact H20
      ipureintro
      rw [e8] at p15; rw [e10] at p16; rw [e11] at p17; rw [e12] at p18
      exact inv_early m I h1 p15 p16 p17 p18 (keep_h3 m (by omega) (I.h3 (by omega) (by omega)))
    iexists f21; iexact H21
  by_cases h2 : t.val < 10
  · obtain ⟨hA, hB, hC, hD, hE, hF, hG⟩ := at_cast t (by omega) h2
    iapply wp_wand $$ [H10 H11 H12 H16 H17 H18]
    · iapply (cast_point Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f10 f11 f12 f16 f17 f18 hA hB hC hD hE hF hG t.val (off_1 t (by omega)) (off_2 t (by omega)))
      iframe H10
      iframe H11
      iframe H12
      iframe H16
      iframe H17
      iexact H18
    iintro %_ ⟨H10, H11, H12, ⟨%g16, H16, %p16⟩, ⟨%g17, H17, %p17⟩, ⟨%g18, H18, %p18⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists f14; isplitl [H14]; · iexact H14
      ipureintro; exact ⟨fun _ => rfl, fun h => absurd h (by omega)⟩
    isplitl [H15 H16 H17 H18 H19 H20]
    · iexists f15; isplitl [H15]; · iexact H15
      iexists g16; isplitl [H16]; · iexact H16
      iexists g17; isplitl [H17]; · iexact H17
      iexists g18; isplitl [H18]; · iexact H18
      iexists f19; isplitl [H19]; · iexact H19
      iexists f20; isplitl [H20]; · iexact H20
      ipureintro
      rw [e10] at p16; rw [e11] at p17; rw [e12] at p18
      exact inv_cast m I (by omega) (by omega) p16 p17 p18 (fun h => absurd h (by omega))
    iexists f21; iexact H21
  by_cases h3 : t.val = 10
  · obtain ⟨hA, hB, hC, hD, hE, hF, hG⟩ := at_ready t h3
    iapply wp_wand $$ [H2 H3 H4 H5 H6 H7 H10 H11 H12 H16 H17 H18 H19]
    · iapply (ready_point Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f10 f11 f12 f16 f17 f18 f19 hA hB hC hD hE hF hG t.val (off_1 t (by omega)) (off_2 t (by omega)))
      iframe H2
      iframe H3
      iframe H4
      iframe H5
      iframe H6
      iframe H7
      iframe H10
      iframe H11
      iframe H12
      iframe H16
      iframe H17
      iframe H18
      iexact H19
    iintro %_ ⟨H2, H3, H4, H5, H6, H7, H10, H11, H12, ⟨%g16, H16, %p16⟩, ⟨%g17, H17, %p17⟩, ⟨%g18, H18, %p18⟩, ⟨%g19, H19, %p19⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists f14; isplitl [H14]; · iexact H14
      ipureintro; exact ⟨fun _ => rfl, fun h => absurd h (by omega)⟩
    isplitl [H15 H16 H17 H18 H19 H20]
    · iexists f15; isplitl [H15]; · iexact H15
      iexists g16; isplitl [H16]; · iexact H16
      iexists g17; isplitl [H17]; · iexact H17
      iexists g18; isplitl [H18]; · iexact H18
      iexists g19; isplitl [H19]; · iexact H19
      iexists f20; isplitl [H20]; · iexact H20
      ipureintro
      rw [e10] at p16; rw [e11] at p17; rw [e12] at p18; rw [e2, e3, e4, e5, e6, e7] at p19
      exact inv_cast m I (by omega) (by omega) p16 p17 p18 (fun _ => p19)
    iexists f21; iexact H21
  by_cases h4 : t.val < 43
  · by_cases h5 : t.val % 2 = 1
    · obtain ⟨hA, hB, hC, hD, hE, hF, hG⟩ := at_even t (by omega) h4 h5
      iapply wp_wand $$ [H1 H2 H3 H4 H5 H6 H7 H9 H13 H14 H15 H16 H17 H18 H19 H20 H21]
      · iapply (even_tile Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f9 f13 f14 f15 f16 f17 f18 f19 f20 f21 hA hB hC hD hE hF hG)
        iframe H1
        iframe H2
        iframe H3
        iframe H4
        iframe H5
        iframe H6
        iframe H7
        iframe H9
        iframe H13
        iframe H14
        iframe H15
        iframe H16
        iframe H17
        iframe H18
        iframe H19
        iframe H20
        iexact H21
      iintro %_ ⟨H1, H2, H3, H4, H5, H6, H7, H9, H13, ⟨%g14, H14, %p14⟩, H15, H16, H17, H18, ⟨%g19, H19, %p19⟩, ⟨%g20, H20, %p20⟩, ⟨%g21, H21⟩⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · iexists g14; isplitl [H14]; · iexact H14
        ipureintro
        refine ⟨fun h => absurd h (by omega), fun _ => ?_⟩
        rw [p14, e13, I.h3 (by omega) (by omega)]; rfl
      isplitl [H15 H16 H17 H18 H19 H20]
      · iexists f15; isplitl [H15]; · iexact H15
        iexists f16; isplitl [H16]; · iexact H16
        iexists f17; isplitl [H17]; · iexact H17
        iexists f18; isplitl [H18]; · iexact H18
        iexists g19; isplitl [H19]; · iexact H19
        iexists g20; isplitl [H20]; · iexact H20
        ipureintro
        rw [e2, e3, e4, e5, e6, e7] at p19; rw [e1, e9] at p20
        exact inv_tile m I (by omega) h4 (by rw [show (t.val - 10) % 2 = 1 by omega]; exact p19) (by rw [show (t.val - 11) % 2 = 0 by omega]; exact p20)
      iexists g21; iexact H21
    · obtain ⟨hA, hB, hC, hD, hE, hF, hG⟩ := at_odd t (by omega) h4 (by omega)
      iapply wp_wand $$ [H1 H2 H3 H4 H5 H6 H7 H9 H13 H14 H15 H16 H17 H18 H19 H20 H21]
      · iapply (odd_tile Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f2 f3 f4 f5 f6 f7 f9 f13 f14 f15 f16 f17 f18 f19 f20 f21 hA hB hC hD hE hF hG)
        iframe H1
        iframe H2
        iframe H3
        iframe H4
        iframe H5
        iframe H6
        iframe H7
        iframe H9
        iframe H13
        iframe H14
        iframe H15
        iframe H16
        iframe H17
        iframe H18
        iframe H19
        iframe H20
        iexact H21
      iintro %_ ⟨H1, H2, H3, H4, H5, H6, H7, H9, H13, ⟨%g14, H14, %p14⟩, H15, H16, H17, H18, ⟨%g19, H19, %p19⟩, ⟨%g20, H20, %p20⟩, ⟨%g21, H21⟩⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · iexists g14; isplitl [H14]; · iexact H14
        ipureintro
        refine ⟨fun h => absurd h (by omega), fun _ => ?_⟩
        rw [p14, e13, I.h3 (by omega) (by omega)]; rfl
      isplitl [H15 H16 H17 H18 H19 H20]
      · iexists f15; isplitl [H15]; · iexact H15
        iexists f16; isplitl [H16]; · iexact H16
        iexists f17; isplitl [H17]; · iexact H17
        iexists f18; isplitl [H18]; · iexact H18
        iexists g19; isplitl [H19]; · iexact H19
        iexists g20; isplitl [H20]; · iexact H20
        ipureintro
        rw [e2, e3, e4, e5, e6, e7] at p19; rw [e1, e9] at p20
        exact inv_tile m I (by omega) h4 (by rw [show (t.val - 10) % 2 = 0 by omega]; exact p19) (by rw [show (t.val - 11) % 2 = 1 by omega]; exact p20)
      iexists g21; iexact H21
  obtain ⟨hA, hB, hC, hD, hE, hF, hG⟩ := at_last t (by omega)
  iapply wp_wand $$ [H13 H14 H20]
  · iapply (last_point Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f13 f14 f20 hA hB hC hD hE hF hG)
    iframe H13
    iframe H14
    iexact H20
  iintro %_ ⟨H13, ⟨%g14, H14, %p14⟩, H20⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists g14; isplitl [H14]; · iexact H14
    ipureintro
    refine ⟨fun h => absurd h (by omega), fun _ => ?_⟩
    rw [p14, e13, I.h3 (by omega) (by omega)]; rfl
  isplitl [H15 H16 H17 H18 H19 H20]
  · iexists f15; isplitl [H15]; · iexact H15
    iexists f16; isplitl [H16]; · iexact H16
    iexists f17; isplitl [H17]; · iexact H17
    iexists f18; isplitl [H18]; · iexact H18
    iexists f19; isplitl [H19]; · iexact H19
    iexists f20; isplitl [H20]; · iexact H20
    ipureintro
    exact inv_last m I (by omega)
  iexists f21; iexact H21

end Cert.Proof.Mix

end
-- ==== Proof.Mix.Run.lean ====
/- The second kernel over its whole grid: proof data, the body's obligation, and the run of the pipeline. -/
module

public import proofs.«01_k».proof.Proof.Mix.Step

@[expose] public section

set_option maxRecDepth 8192

noncomputable section

namespace Cert.Proof.Mix

open Cert.Kernel2Ideal Cert.Kernel2Ideal.Gen
open Idealize.ShloMosaic hiding ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The scratch buffers before point `n`. -/
def kept (c : Dev nD) (n : ℕ) : sProp 𝕄 :=
  iprop((∃ g15, held c (Memref.whole cc0_scratch0) g15 ∗ ∃ g16, held c (Memref.whole cc0_scratch1) g16 ∗ ∃ g17, held c (Memref.whole cc0_scratch2) g17
    ∗ ∃ g18, held c (Memref.whole cc0_scratch3) g18 ∗ ∃ g19, held c (Memref.whole cc0_scratch4) g19 ∗ ∃ g20, held c (Memref.whole cc0_scratch5) g20
    ∗ ⌜Inv m c n ((Memref.whole cc0_scratch0).view.read (Elt F) g15) ((Memref.whole cc0_scratch1).view.read (Elt F) g16)
        ((Memref.whole cc0_scratch2).view.read (Elt F) g17) ((Memref.whole cc0_scratch3).view.read (Elt F) g18)
        ((Memref.whole cc0_scratch4).view.read (Elt F) g19) ((Memref.whole cc0_scratch5).view.read (Elt F) g20)⌝)
    ∗ (∃ g, held c (Memref.whole cc0_scratch6) g))

/-- The arrays as launched; each input's buffer at its block, the output's at `outAt`; the scratch buffers as `kept` tells. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ t := iprop(kept m c t.val ∗ ∃ r, prngReg c r)
  q w := Pipeline.shareOf spec0 w
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outAt m c t := by dsimp only [dats]
theorem before_0 (c : Dev nD) (t : Fin cfg0.N) (d) : (dats m 0 c).before 0 t d = iblk m c 0 t := before0_0_of m (dats m 0 c) rfl (after_0 m c) t d
theorem before_1 (c : Dev nD) (t : Fin cfg0.N) (d) : (dats m 0 c).before 1 t d = iblk m c 1 t := before0_1_of m (dats m 0 c) rfl (after_1 m c) t d
theorem before_2 (c : Dev nD) (t : Fin cfg0.N) (d) : (dats m 0 c).before 2 t d = iblk m c 2 t := before0_2_of m (dats m 0 c) rfl (after_2 m c) t d
theorem before_3 (c : Dev nD) (t : Fin cfg0.N) (d) : (dats m 0 c).before 3 t d = iblk m c 3 t := before0_3_of m (dats m 0 c) rfl (after_3 m c) t d
theorem before_4 (c : Dev nD) (t : Fin cfg0.N) (d) : (dats m 0 c).before 4 t d = iblk m c 4 t := before0_4_of m (dats m 0 c) rfl (after_4 m c) t d
theorem before_5 (c : Dev nD) (t : Fin cfg0.N) (d) : (dats m 0 c).before 5 t d = iblk m c 5 t := before0_5_of m (dats m 0 c) rfl (after_5 m c) t d
theorem before_6 (c : Dev nD) (t : Fin cfg0.N) (d) : (dats m 0 c).before 6 t d = iblk m c 6 t := before0_6_of m (dats m 0 c) rfl (after_6 m c) t d
theorem before_7 (c : Dev nD) (t : Fin cfg0.N) (d) : (dats m 0 c).before 7 t d = iblk m c 7 t := before0_7_of m (dats m 0 c) rfl (after_7 m c) t d
theorem before_8 (c : Dev nD) (t : Fin cfg0.N) (d) : (dats m 0 c).before 8 t d = iblk m c 8 t := before0_8_of m (dats m 0 c) rfl (after_8 m c) t d
theorem before_9 (c : Dev nD) (t : Fin cfg0.N) (d) : (dats m 0 c).before 9 t d = iblk m c 9 t := before0_9_of m (dats m 0 c) rfl (after_9 m c) t d
theorem before_10 (c : Dev nD) (t : Fin cfg0.N) (d) : (dats m 0 c).before 10 t d = iblk m c 10 t := before0_10_of m (dats m 0 c) rfl (after_10 m c) t d
theorem before_11 (c : Dev nD) (t : Fin cfg0.N) (d) : (dats m 0 c).before 11 t d = iblk m c 11 t := before0_11_of m (dats m 0 c) rfl (after_11 m c) t d
theorem before_12 (c : Dev nD) (t : Fin cfg0.N) (d) : (dats m 0 c).before 12 t d = iblk m c 12 t := before0_12_of m (dats m 0 c) rfl (after_12 m c) t d

/-- A whole buffer at some contents, held as a memref or at its location. -/
theorem whole_eq (c : Dev nD) (b : Ref sig .tc) : (iprop(∃ f, ((Memref.whole b).view.loc (c : Thread nD τ)) ↦[(Memref.whole b).view.set]{fullShare} f) : sProp 𝕄) = iprop(∃ f : Buf (Elt F) ((c : Thread nD τ).loc b), ((c : Thread nD τ).loc b) ↦{fullShare} f) := by
  rw [show (Memref.whole b).view.set = Finset.univ from View.set_whole b]

/-- The scratch buffers, held as memrefs. -/
theorem scratch_eq (c : Dev nD) : (Pipeline.scopedRest spec0 c : sProp 𝕄)
    = iprop((∃ f, held c (Memref.whole cc0_scratch0) f) ∗ (∃ f, held c (Memref.whole cc0_scratch1) f) ∗ (∃ f, held c (Memref.whole cc0_scratch2) f) ∗ (∃ f, held c (Memref.whole cc0_scratch3) f) ∗ (∃ f, held c (Memref.whole cc0_scratch4) f) ∗ (∃ f, held c (Memref.whole cc0_scratch5) f) ∗ (∃ f, held c (Memref.whole cc0_scratch6) f)) :=
  (scopedRest0_eq c).trans (congrArg₂ BIBase.sep (whole_eq c cc0_scratch0).symm (congrArg₂ BIBase.sep (whole_eq c cc0_scratch1).symm (congrArg₂ BIBase.sep (whole_eq c cc0_scratch2).symm (congrArg₂ BIBase.sep (whole_eq c cc0_scratch3).symm (congrArg₂ BIBase.sep (whole_eq c cc0_scratch4).symm (congrArg₂ BIBase.sep (whole_eq c cc0_scratch5).symm ((whole_eq c cc0_scratch6).symm)))))))

theorem kept_start (c : Dev nD) : (Pipeline.scopedRest spec0 c : sProp 𝕄) ⊢ kept m c 0 := by
  rw [scratch_eq]
  unfold kept
  iintro ⟨⟨%f0, H0⟩, ⟨%f1, H1⟩, ⟨%f2, H2⟩, ⟨%f3, H3⟩, ⟨%f4, H4⟩, ⟨%f5, H5⟩, H6⟩
  isplitl [H0 H1 H2 H3 H4 H5]
  · iexists f0; isplitl [H0]; · iexact H0
    iexists f1; isplitl [H1]; · iexact H1
    iexists f2; isplitl [H2]; · iexact H2
    iexists f3; isplitl [H3]; · iexact H3
    iexists f4; isplitl [H4]; · iexact H4
    iexists f5; isplitl [H5]; · iexact H5
    ipureintro; exact inv_zero m
  iexact H6

theorem kept_end (c : Dev nD) (n : ℕ) : kept m c n ⊢ (Pipeline.scopedRest spec0 c : sProp 𝕄) := by
  rw [scratch_eq]
  unfold kept
  iintro ⟨⟨%f0, H0, %f1, H1, %f2, H2, %f3, H3, %f4, H4, %f5, H5, -⟩, H6⟩
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  iexact H6

set_option maxHeartbeats 800000 in
/-- The body on staging buffers holding the point's blocks, to any continuation. -/
theorem body_wp (c : Dev nD) (t : Fin cfg0.N)
    (M1 : Memref sig .tc .vmem S512x1024 .f32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S1x512 .f32) (h5 : M5.IsWhole)
    (M6 : Memref sig .tc .vmem S1x512 .f32) (h6 : M6.IsWhole)
    (M7 : Memref sig .tc .vmem S1x512 .f32) (h7 : M7.IsWhole)
    (M8 : Memref sig .tc .vmem S1024x256 .f32) (h8 : M8.IsWhole)
    (M9 : Memref sig .tc .vmem S1x1024 .f32) (h9 : M9.IsWhole)
    (M10 : Memref sig .tc .vmem S1024x256 .f32) (h10 : M10.IsWhole)
    (M11 : Memref sig .tc .vmem S1024x256 .f32) (h11 : M11.IsWhole)
    (M12 : Memref sig .tc .vmem S256x1024 .f32) (h12 : M12.IsWhole)
    (M13 : Memref sig .tc .vmem S1x1024 .f32) (h13 : M13.IsWhole)
    (M14 : Memref sig .tc .vmem S512x1024 .f32) (h14 : M14.IsWhole)
    (D : S512x1024.Idx → F .f32) (K : PUnit → sProp 𝕄) :
    iprop(owns (c : Thread nD τ) M1 fullShare (iblk m c 0 t) ∗ owns (c : Thread nD τ) M2 fullShare (iblk m c 1 t) ∗ owns (c : Thread nD τ) M3 fullShare (iblk m c 2 t) ∗ owns (c : Thread nD τ) M4 fullShare (iblk m c 3 t) ∗ owns (c : Thread nD τ) M5 fullShare (iblk m c 4 t) ∗ owns (c : Thread nD τ) M6 fullShare (iblk m c 5 t) ∗ owns (c : Thread nD τ) M7 fullShare (iblk m c 6 t) ∗ owns (c : Thread nD τ) M8 fullShare (iblk m c 7 t) ∗ owns (c : Thread nD τ) M9 fullShare (iblk m c 8 t) ∗ owns (c : Thread nD τ) M10 fullShare (iblk m c 9 t) ∗ owns (c : Thread nD τ) M11 fullShare (iblk m c 10 t) ∗ owns (c : Thread nD τ) M12 fullShare (iblk m c 11 t) ∗ owns (c : Thread nD τ) M13 fullShare (iblk m c 12 t)
        ∗ owns (c : Thread nD τ) M14 fullShare D ∗ kept m c t.val
        ∗ (iprop(owns (c : Thread nD τ) M1 fullShare (iblk m c 0 t) ∗ owns (c : Thread nD τ) M2 fullShare (iblk m c 1 t) ∗ owns (c : Thread nD τ) M3 fullShare (iblk m c 2 t) ∗ owns (c : Thread nD τ) M4 fullShare (iblk m c 3 t) ∗ owns (c : Thread nD τ) M5 fullShare (iblk m c 4 t) ∗ owns (c : Thread nD τ) M6 fullShare (iblk m c 5 t) ∗ owns (c : Thread nD τ) M7 fullShare (iblk m c 6 t) ∗ owns (c : Thread nD τ) M8 fullShare (iblk m c 7 t) ∗ owns (c : Thread nD τ) M9 fullShare (iblk m c 8 t) ∗ owns (c : Thread nD τ) M10 fullShare (iblk m c 9 t) ∗ owns (c : Thread nD τ) M11 fullShare (iblk m c 10 t) ∗ owns (c : Thread nD τ) M12 fullShare (iblk m c 11 t) ∗ owns (c : Thread nD τ) M13 fullShare (iblk m c 12 t)
            ∗ (∃ X, owns (c : Thread nD τ) M14 fullShare X ∗ ⌜(t.val < 11 → X = D) ∧ (11 ≤ t.val → X = outAt m c t)⌝) ∗ kept m c (t.val + 1)) -∗ K ⟨⟩))
      ⊢ wp frame (wpE (defs₀ (F := F)) Variants.none (c : Thread nD τ) none) Set.univ
        (cc0_mix_out (F := F) (grid0.coords t) M1 h1 M2 h2 M3 h3 M4 h4 M5 h5 M6 h6 M7 h7 M8 h8 M9 h9 M10 h10 M11 h11 M12 h12 M13 h13 M14 h14
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) K := by
  unfold owns kept
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨⟨%f15, H15, %f16, H16, %f17, H17, %f18, H18, %f19, H19, %f20, H20, %I⟩, ⟨%f21, H21⟩⟩, Hk⟩
  iapply wp_wand $$ [H1 H2 H3 H4 H5 H6 H7 H8 H9 H10 H11 H12 H13 H14 H15 H16 H17 H18 H19 H20 H21]
  · iapply (step m c t M1 h1 M2 h2 M3 h3 M4 h4 M5 h5 M6 h6 M7 h7 M8 h8 M9 h9 M10 h10 M11 h11 M12 h12 M13 h13 M14 h14 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
      f1 f2 f3 f4 f5 f6 f7 f8 f9 f10 f11 f12 f13 f14 f15 f16 f17 f18 f19 f20 f21 e1 e2 e3 e4 e5 e6 e7 e8 e9 e10 e11 e12 e13 I)
    iframe H1
    iframe H2
    iframe H3
    iframe H4
    iframe H5
    iframe H6
    iframe H7
    iframe H8
    iframe H9
    iframe H10
    iframe H11
    iframe H12
    iframe H13
    iframe H14
    iframe H15
    iframe H16
    iframe H17
    iframe H18
    iframe H19
    iframe H20
    iexact H21
  iintro %_ ⟨H1, H2, H3, H4, H5, H6, H7, H8, H9, H10, H11, H12, H13, ⟨%g14, H14, %p14⟩, HS⟩
  iapply Hk
  isplitl [H1]
  · iexists f1; isplitr [H1]; · ipureintro; exact e1
    iexact H1
  isplitl [H2]
  · iexists f2; isplitr [H2]; · ipureintro; exact e2
    iexact H2
  isplitl [H3]
  · iexists f3; isplitr [H3]; · ipureintro; exact e3
    iexact H3
  isplitl [H4]
  · iexists f4; isplitr [H4]; · ipureintro; exact e4
    iexact H4
  isplitl [H5]
  · iexists f5; isplitr [H5]; · ipureintro; exact e5
    iexact H5
  isplitl [H6]
  · iexists f6; isplitr [H6]; · ipureintro; exact e6
    iexact H6
  isplitl [H7]
  · iexists f7; isplitr [H7]; · ipureintro; exact e7
    iexact H7
  isplitl [H8]
  · iexists f8; isplitr [H8]; · ipureintro; exact e8
    iexact H8
  isplitl [H9]
  · iexists f9; isplitr [H9]; · ipureintro; exact e9
    iexact H9
  isplitl [H10]
  · iexists f10; isplitr [H10]; · ipureintro; exact e10
    iexact H10
  isplitl [H11]
  · iexists f11; isplitr [H11]; · ipureintro; exact e11
    iexact H11
  isplitl [H12]
  · iexists f12; isplitr [H12]; · ipureintro; exact e12
    iexact H12
  isplitl [H13]
  · iexists f13; isplitr [H13]; · ipureintro; exact e13
    iexact H13
  isplitl [H14]
  · iexists (M14.view.read (Elt F) g14)
    isplitl [H14]
    · iexists g14; isplitr [H14]; · ipureintro; rfl
      iexact H14
    ipureintro
    exact ⟨fun h => by rw [p14.1 h]; exact e14, p14.2⟩
  iexact HS

theorem idle_13 : ∀ t : Fin grid0.N, idle0 13 (grid0.coords t) = decide (t.val < 11) := by decide +kernel
theorem flush_13 : ∀ t : Fin grid0.N, win0_13.flush t = decide (12 ≤ t.val) := by decide +kernel

/-- What the output's buffer is left at, as the obligation states it. -/
theorem out_left (c : Dev nD) (t : Fin cfg0.N) (d) (X : (cfg0.win 13).block.Idx → Elt F (cfg0.win 13).elt)
    (h : (t.val < 11 → X = (dats m 0 c).before 13 t d) ∧ (11 ≤ t.val → X = outAt m c t)) :
    (owns (c : Thread nD τ) ((cfg0.win 13).stage (cfg0.slots t 13)) fullShare X : sProp 𝕄)
    ⊢ (match cfg0.idle 13 (cfg0.grid.coords t) with
        | true => match (cfg0.win 13).flush t with
          | false => iprop(∃ d, owns (c : Thread nD τ) ((cfg0.win 13).stage (cfg0.slots t 13)) fullShare ((dats m 0 c).before 13 t d))
          | true => owns (c : Thread nD τ) ((cfg0.win 13).stage (cfg0.slots t 13)) fullShare ((dats m 0 c).after 13 t)
        | false => owns (c : Thread nD τ) ((cfg0.win 13).stage (cfg0.slots t 13)) fullShare ((dats m 0 c).after 13 t)) := by
  rewrite [show cfg0.idle 13 (cfg0.grid.coords t) = decide (t.val < 11) from idle_13 t]
  by_cases ht : t.val < 11
  · rewrite [decide_eq_true ht, show (cfg0.win 13).flush t = false from (flush_13 t).trans (decide_eq_false (by omega)), h.1 ht]
    iintro H; iexists d; iexact H
  · rewrite [decide_eq_false ht, after_13, h.2 (by omega)]
    iintro H; iexact H

theorem body_obligation (c : Dev nD) : BodyObligation (dats (F := F) m 0 c) (defs₀ (F := F)) Variants.none () Set.univ := fun t => by
  rw [bigSep_W0, bigSep_W0]
  sl_whnfR [defs₀, Defs.onTc]
  rw [show (dats m 0 c).owesAt () t.succ = (dats m 0 c).owesAt () t.castSucc from rfl,
    show (dats m 0 c).Φ t.succ = iprop(kept m c (t.val + 1) ∗ ∃ r, prngReg c r) from rfl, show (dats m 0 c).Φ t.castSucc = iprop(kept m c t.val ∗ ∃ r, prngReg c r) from rfl]
  iintro ⟨⟨HS, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_wp m c t _ _ _ _ _ _ _ _ _ _ _ _ _ _ _ _ _ _ _ _ _ _ _ _ _ _ _ _ ((dats m 0 c).before 13 t d13) _)
  isplitl [H0]; · rw [← before_0 m c t d0]; iexact H0
  isplitl [H1]; · rw [← before_1 m c t d1]; iexact H1
  isplitl [H2]; · rw [← before_2 m c t d2]; iexact H2
  isplitl [H3]; · rw [← before_3 m c t d3]; iexact H3
  isplitl [H4]; · rw [← before_4 m c t d4]; iexact H4
  isplitl [H5]; · rw [← before_5 m c t d5]; iexact H5
  isplitl [H6]; · rw [← before_6 m c t d6]; iexact H6
  isplitl [H7]; · rw [← before_7 m c t d7]; iexact H7
  isplitl [H8]; · rw [← before_8 m c t d8]; iexact H8
  isplitl [H9]; · rw [← before_9 m c t d9]; iexact H9
  isplitl [H10]; · rw [← before_10 m c t d10]; iexact H10
  isplitl [H11]; · rw [← before_11 m c t d11]; iexact H11
  isplitl [H12]; · rw [← before_12 m c t d12]; iexact H12
  isplitl [H13]; · iexact H13
  isplitl [HS]; · iexact HS
  iintro ⟨H0, H1, H2, H3, H4, H5, H6, H7, H8, H9, H10, H11, H12, ⟨%X, H13, %p⟩, HS⟩
  isplitl [HS HΦ]
  · isplitl [HS]; · iexact HS
    iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply (out_left m c t d13 X p)
  iexact H13

-- the conclusion's implicit arguments are found by unfolding plain definitions in a metavariable's type
set_option backward.isDefEq.respectTransparency.types false in
/-- From any memory with zero counters the program terminates with every array at what the proof data compute and every counter at zero. -/
theorem run_main : θ_run defs (onTc (τ := τ) (main (F := F))) (s₀ m ρ)
    (fun r => Pipeline.FramePost cfgs (dats m) 0 (Gen.V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := Gen.V m) (hmain := hmain m Variants.none) (hA := fun _ _ => rfl)
    (hin := fun c => sep_mono_left (kept_start m c)) (hout := fun c => sep_mono_left (kept_end m c _))

end Cert.Proof.Mix

end
-- ==== Proof.Mix.Rows.lean ====
/-
  The second pair of programs at the extended reals, row by row: the formulas in one row of the operands, and each piece
  of `Spec` at a place as such a formula.
-/
module

public import proofs.«01_k».proof.Proof.Mix.Spec
public import Idealize.ShloMosaic.Lib.Pointwise
public import Idealize.ShloMosaic.Lib.Pointwise.IndexBridge

@[expose] public section

set_option maxRecDepth 16384

noncomputable section

namespace Cert.Proof.Mix

open Cert.Kernel2Ideal Cert.Kernel2Ideal.Gen
open Idealize.ShloMosaic

/-- A row divided by the root of its mean square, times the weights; `N` is the number of columns. -/
def rnorm {n : ℕ} (N : EReal) (v g : Fin n → EReal) (j : Fin n) : EReal :=
  v j * Ideal.rsqrt (Ideal.div (∑ k, v k * v k) N + Ideal.ofBits .f32 0x358637BD#32) * g j

/-- Two half rows side by side. -/
def rcat (l r : Fin 512 → EReal) (k : Fin 1024) : EReal :=
  if k.val < 512 then l (Fin.ofNat 512 k.val) else r (Fin.ofNat 512 (k.val - 512))

/-- A row times a matrix. -/
def rdot {n w : ℕ} (x : Fin n → EReal) (M : Fin n → Fin w → EReal) (j : Fin w) : EReal := ∑ k, x k * M k j

/-- The gated hidden row. -/
def rhid {n w : ℕ} (x : Fin n → EReal) (G U : Fin n → Fin w → EReal) (j : Fin w) : EReal :=
  rdot x G j * Ideal.logistic (rdot x G j) * rdot x U j

/-- The row before the last norm. -/
def rsum (p x : Fin 1024 → EReal) (G U : Fin 1024 → Fin 2816 → EReal) (W : Fin 2816 → Fin 1024 → EReal) (j : Fin 1024) : EReal :=
  p j + Ideal.ofBits .f32 0x3F000000#32 * rdot (rhid x G U) W j

theorem half_eq : Ideal.ofBits .f32 0x3F000000#32 = ((1 / 2 : ℝ) : EReal) := by
  simp [Ideal.ofBits, Ideal.ieee, -EReal.coe_mul]; norm_num

/-- Half of one plus the hyperbolic tangent of half the argument is the logistic function, also at both infinities. -/
theorem logistic_eq (x : EReal) :
    Ideal.ofBits .f32 0x3F000000#32 * (1 + Ideal.tanh (Ideal.ofBits .f32 0x3F000000#32 * x)) = Ideal.logistic x := by
  rw [half_eq]
  induction x with
  | bot =>
    rw [EReal.coe_mul_bot_of_pos (by norm_num), Ideal.tanh_bot, Ideal.logistic_bot, ← EReal.coe_one, ← EReal.coe_neg, ← EReal.coe_add, ← EReal.coe_mul, ← EReal.coe_zero]
    norm_num
  | top =>
    rw [EReal.coe_mul_top_of_pos (by norm_num), Ideal.tanh_top, Ideal.logistic_top, ← EReal.coe_one, ← EReal.coe_add, ← EReal.coe_mul]
    norm_num
  | coe x =>
    rw [← EReal.coe_mul, Ideal.tanh_coe, Ideal.logistic_coe]
    norm_cast
    rw [Real.tanh_eq_sinh_div_cosh, Real.sinh_eq, Real.cosh_eq]
    have e : Real.exp (-x) = Real.exp (-(1 / 2 * x)) * Real.exp (-(1 / 2 * x)) := by rw [← Real.exp_add]; ring_nf
    have u : Real.exp (1 / 2 * x) * Real.exp (-(1 / 2 * x)) = 1 := by rw [← Real.exp_add]; norm_num
    have p := Real.exp_pos (1 / 2 * x)
    have q := Real.exp_pos (-(1 / 2 * x))
    rw [e]
    generalize Real.exp (1 / 2 * x) = a at *
    generalize Real.exp (-(1 / 2 * x)) = b at *
    have h1 : a + b ≠ 0 := by positivity
    have h2 : 1 + b * b ≠ 0 := by positivity
    field_simp
    nlinarith [u]

theorem left_at (hs gate : S512x512.Idx → Ideal .f32) (gl : S1x512.Idx → Ideal .f32) (p : ℕ) (q : Fin 128) (l : Fin 512) :
    leftPiece hs gate gl p (ix3 0 q l) = rnorm (Ideal.ofBits .f32 0x44000000#32) (fun k => hs (ix2 (Fin.ofNat 512 (128 * p + q.val)) k) * gate (ix2 (Fin.ofNat 512 (128 * p + q.val)) k)) (fun k => gl (ix2 0 k)) l := by
  unfold leftPiece
  pointwise [k0_pay6, k0_pay5]
  unfold rows
  simp only [← ix2_eq_valueIdx]
  rfl

theorem right_at (four : S512x512.Idx → Ideal .f32) (fb gf : S1x512.Idx → Ideal .f32) (p : ℕ) (q : Fin 128) (l : Fin 512) :
    rightPiece four fb gf p (ix3 0 q l) = rnorm (Ideal.ofBits .f32 0x44000000#32) (fun k => four (ix2 (Fin.ofNat 512 (128 * p + q.val)) k) + fb (ix2 0 k)) (fun k => gf (ix2 0 k)) l := by
  unfold rightPiece
  pointwise [k0_pay7, k0_pay4]
  unfold rows
  simp only [← ix2_eq_valueIdx]
  rfl

theorem row_back (r : Fin 512) : Fin.ofNat 512 (128 * (r.val / 128) + r.val % 128) = r := Fin.ext (by
  show (128 * (r.val / 128) + r.val % 128) % 512 = r.val
  omega)

theorem ofNat_val {n : ℕ} [NeZero n] (k : Fin n) : Fin.ofNat n k.val = k := Fin.ext (Nat.mod_eq_of_lt k.isLt)

theorem mix_at (hs gate four : S512x512.Idx → Ideal .f32) (gl fb gf : S1x512.Idx → Ideal .f32) (r : Fin 512) (k : Fin 1024) :
    mixOf hs gate four gl fb gf (ix2 r k) =
      rcat (rnorm (Ideal.ofBits .f32 0x44000000#32) (fun k => hs (ix2 r k) * gate (ix2 r k)) fun k => gl (ix2 0 k))
        (rnorm (Ideal.ofBits .f32 0x44000000#32) (fun k => four (ix2 r k) + fb (ix2 0 k)) fun k => gf (ix2 0 k)) k := by
  have hq : (Fin.ofNat 128 (r.val % 128)).val = r.val % 128 := Nat.mod_eq_of_lt (Nat.mod_lt _ (by decide))
  have hl := left_at hs gate gl (r.val / 128) (Fin.ofNat 128 (r.val % 128)) (Fin.ofNat 512 k.val)
  have hr := right_at four fb gf (r.val / 128) (Fin.ofNat 128 (r.val % 128)) (Fin.ofNat 512 (k.val - 512))
  rw [hq, row_back] at hl hr
  show (if k.val < 512 then leftPiece hs gate gl (r.val / 128) (ValueIdx.ix3 0 (Fin.ofNat 128 (r.val % 128)) (Fin.ofNat 512 k.val))
    else rightPiece four fb gf (r.val / 128) (ValueIdx.ix3 0 (Fin.ofNat 128 (r.val % 128)) (Fin.ofNat 512 (k.val - 512)))) = _
  rw [← ix3_eq_valueIdx, ← ix3_eq_valueIdx, hl, hr]
  rfl

theorem out_at (h3 : S512x1024.Idx → Ideal .f32) (g : S1x1024.Idx → Ideal .f32) (r : Fin 512) (j : Fin 1024) :
    outOf h3 g (ix2 r j) = rnorm (Ideal.ofBits .f32 0x44800000#32) (fun k => h3 (ix2 r k)) (fun k => g (ix2 0 k)) j := by
  have hq : (Fin.ofNat 128 (r.val % 128)).val = r.val % 128 := Nat.mod_eq_of_lt (Nat.mod_lt _ (by decide))
  have h : ∀ (p : ℕ) (q : Fin 128), k0_pay3 (F := Ideal) (rows p h3) g (ix2 q j) =
      rnorm (Ideal.ofBits .f32 0x44800000#32) (fun k => h3 (ix2 (Fin.ofNat 512 (128 * p + q.val)) k)) (fun k => g (ix2 0 k)) j := fun p q => by
    pointwise [k0_pay3]
    unfold rows
    simp only [← ix2_eq_valueIdx]
    rfl
  have h := h (r.val / 128) (Fin.ofNat 128 (r.val % 128))
  rw [hq, row_back] at h
  show k0_pay3 (F := Ideal) (rows (r.val / 128) h3) g (ValueIdx.ix2 (Fin.ofNat 128 (r.val % 128)) j) = _
  rw [← ix2_eq_valueIdx, h]

theorem lone_at {α : Type} {a b : ℕ} (M : (⟨2, ![a, b]⟩ : Shape).Idx → α) (x : Fin a) (y : Fin b) : lone M (ix3 0 x y) = M (ix2 x y) := by
  rw [ix2_eq_valueIdx]; rfl

theorem slab_at {α : Type} {n a b : ℕ} [NeZero n] (c : ℕ) (W : (⟨3, ![n, a, b]⟩ : Shape).Idx → α) (x : Fin a) (y : Fin b) :
    slab c W (ix3 0 x y) = W (ix3 (Fin.ofNat n c) x y) := by
  rw [ix3_eq_valueIdx (n0 := n)]; rfl

theorem proj_at (M : S512x1024.Idx → Ideal .bf16) (wo : S4x1024x256.Idx → Ideal .bf16) (h1 : S512x1024.Idx → Ideal .f32) (r : Fin 512) (j : Fin 1024) :
    projOf M wo h1 (ix2 r j) = h1 (ix2 r j) + rdot (fun k => M (ix2 r k)) (fun k j => wo (ix3 (Fin.ofNat 4 (j.val / 256)) k (Fin.ofNat 256 (j.val % 256)))) j := by
  unfold projOf
  pointwise [k0_pay21]
  simp only [lone_at, slab_at]
  have key : ∀ (c : ℕ) (q : Fin 256), j.val / 256 = c → j.val % 256 = q.val → (∑ x, M (ix2 r x) * wo (ix3 (Fin.ofNat 4 c) x q)) =
      rdot (fun k => M (ix2 r k)) (fun k j => wo (ix3 (Fin.ofNat 4 (j.val / 256)) k (Fin.ofNat 256 (j.val % 256)))) j := by
    rintro _ q rfl e
    obtain rfl : q = Fin.ofNat 256 (j.val % 256) := by rw [e, ofNat_val]
    rfl
  have hj := j.isLt
  refine congrArg (h1 (ix2 r j) + ·) ?_
  split
  · exact key 0 _ (by omega) (by show _ = j.val; omega)
  · split
    · exact key 1 _ (by omega) (by show _ = j.val - 256; omega)
    · split
      · exact key 2 _ (by omega) (by show _ = j.val - 256 - 256; omega)
      · exact key 3 _ (by omega) (by show _ = j.val - 256 - 256 - 256; omega)

theorem norm_at (M : S512x1024.Idx → Ideal .bf16) (wo : S4x1024x256.Idx → Ideal .bf16) (h1 : S512x1024.Idx → Ideal .f32) (g2 : S1x1024.Idx → Ideal .f32) (r : Fin 512) (j : Fin 1024) :
    normOf M wo h1 g2 (ix2 r j) = rnorm (Ideal.ofBits .f32 0x44800000#32) (fun k => projOf M wo h1 (ix2 r k)) (fun k => g2 (ix2 0 k)) j := by
  unfold normOf projOf
  pointwise [k0_pay22]
  rfl

theorem act_at (xn : S512x1024.Idx → Ideal .bf16) (wg wu : S11x1024x256.Idx → Ideal .bf16) (r : Fin 512) (j : Fin 2816) :
    actOf xn wg wu (ix2 r j) = rhid (fun k => xn (ix2 r k)) (fun k j => wg (ix3 (Fin.ofNat 11 (j.val / 256)) k (Fin.ofNat 256 (j.val % 256))))
      (fun k j => wu (ix3 (Fin.ofNat 11 (j.val / 256)) k (Fin.ofNat 256 (j.val % 256)))) j := by
  have h : ∀ (c : ℕ) (q : Fin 256), k0_pay23 (F := Ideal) xn (slab c wg) (slab c wu) (ix2 r q) =
      rhid (fun k => xn (ix2 r k)) (fun k j => wg (ix3 (Fin.ofNat 11 c) k j)) (fun k j => wu (ix3 (Fin.ofNat 11 c) k j)) q := fun c q => by
    pointwise [k0_pay23]
    simp only [slab_at]
    unfold rhid
    rw [← logistic_eq]
    rfl
  have h := h (j.val / 256) (Fin.ofNat 256 (j.val % 256))
  show k0_pay23 (F := Ideal) xn (slab (j.val / 256) wg) (slab (j.val / 256) wu) (ValueIdx.ix2 r (Fin.ofNat 256 (j.val % 256))) = _
  rw [← ix2_eq_valueIdx, h]
  rfl

theorem sum_at (M : S512x1024.Idx → Ideal .bf16) (wo : S4x1024x256.Idx → Ideal .bf16) (h1 : S512x1024.Idx → Ideal .f32) (g2 : S1x1024.Idx → Ideal .f32)
    (wg wu : S11x1024x256.Idx → Ideal .bf16) (w2 : S2816x1024.Idx → Ideal .bf16) (r : Fin 512) (j : Fin 1024) :
    h3Of M wo h1 g2 wg wu w2 (ix2 r j) = rsum (fun k => projOf M wo h1 (ix2 r k)) (fun k => normOf M wo h1 g2 (ix2 r k))
      (fun k j => wg (ix3 (Fin.ofNat 11 (j.val / 256)) k (Fin.ofNat 256 (j.val % 256))))
      (fun k j => wu (ix3 (Fin.ofNat 11 (j.val / 256)) k (Fin.ofNat 256 (j.val % 256)))) (fun k j => w2 (ix2 k j)) j := by
  unfold h3Of
  pointwise [k0_pay110, k0_pay59]
  simp only [act_at]
  rfl

/-- A row of the result, of one row of each operand and the weights. -/
def rout (h1 : Fin 1024 → EReal) (l r gl gf : Fin 512 → EReal) (wo : Fin 1024 → Fin 1024 → EReal) (g2 : Fin 1024 → EReal)
    (wg wu : Fin 1024 → Fin 2816 → EReal) (w2 : Fin 2816 → Fin 1024 → EReal) (gfin : Fin 1024 → EReal) (j : Fin 1024) : EReal :=
  let p : Fin 1024 → EReal := fun j => h1 j + rdot (rcat (rnorm (Ideal.ofBits .f32 0x44000000#32) l gl) (rnorm (Ideal.ofBits .f32 0x44000000#32) r gf)) wo j
  rnorm (Ideal.ofBits .f32 0x44800000#32) (rsum p (rnorm (Ideal.ofBits .f32 0x44800000#32) p g2) wg wu w2) gfin j

/-- A place of a tile of the result. -/
theorem tile_at (hs gate four : S512x512.Idx → Ideal .f32) (gl fb gf : S1x512.Idx → Ideal .f32) (wo : S4x1024x256.Idx → Ideal .bf16) (h1 : S512x1024.Idx → Ideal .f32)
    (g2 : S1x1024.Idx → Ideal .f32) (wg wu : S11x1024x256.Idx → Ideal .bf16) (w2 : S2816x1024.Idx → Ideal .bf16) (gfin : S1x1024.Idx → Ideal .f32) (r : Fin 512) (j : Fin 1024) :
    outOf (h3Of (mixOf hs gate four gl fb gf) wo h1 g2 wg wu w2) gfin (ix2 r j) =
      rout (fun k => h1 (ix2 r k)) (fun k => hs (ix2 r k) * gate (ix2 r k)) (fun k => four (ix2 r k) + fb (ix2 0 k)) (fun k => gl (ix2 0 k)) (fun k => gf (ix2 0 k))
        (fun k j => wo (ix3 (Fin.ofNat 4 (j.val / 256)) k (Fin.ofNat 256 (j.val % 256)))) (fun k => g2 (ix2 0 k))
        (fun k j => wg (ix3 (Fin.ofNat 11 (j.val / 256)) k (Fin.ofNat 256 (j.val % 256))))
        (fun k j => wu (ix3 (Fin.ofNat 11 (j.val / 256)) k (Fin.ofNat 256 (j.val % 256)))) (fun k j => w2 (ix2 k j)) (fun k => gfin (ix2 0 k)) j := by
  simp only [out_at, sum_at, norm_at, proj_at, mix_at]
  rfl

end Cert.Proof.Mix
-- ==== Proof.Mix.RefRun.lean ====
/-
  The second reference's run, over any float values: its lines in seven stretches, what each stretch leaves in the buffer
  it is named after, and so what the whole leaves in the result.
-/
module

public import proofs.«01_k».proof.Proof.Gen.Reference2Ideal
public import proofs.«01_k».proof.Proof.Lru.Ref
public import Idealize.ShloMosaic.Lib.StableHlo.RunRead

@[expose] public section

set_option maxRecDepth 16384

noncomputable section

namespace Cert.Proof.Mix.Ref

open Cert.Reference2Ideal Cert.Reference2Ideal.Gen
open Idealize.ShloMosaic Idealize.ShloMosaic.TcCoe Idealize.SL.Sem Idealize.ShloMosaic.StableHlo

/-- An array of 32-bit floats of one shape. -/
abbrev Arr (F : FTy → Type) (s : Shape) : Type := (⟨s, .f32⟩ : BufTy).Contents (Elt F)

variable {F : FTy → Type} [FloatOps F]

/-- Two arrays of width 512 side by side. -/
def side (a b : Arr F S2x8192x512) : Arr F S2x8192x1024 :=
  concatenate S2x8192x1024 2 [⟨S2x8192x512, a⟩, ⟨S2x8192x512, b⟩] concatenates_S2x8192x512_S2x8192x512_S2x8192x1024_d2

/-- A norm over 512 columns. -/
def nrm (x : Arr F S2x8192x512) (g : Arr F S512) : Arr F S2x8192x512 :=
  mulf (mulf x (broadcastInDim S2x8192x512 ![0, 1, 2] bcast_S2x8192x1_S2x8192x512_0_1_2
      (Host.rsqrt (addf (Host.divf (broadcastInDim S2x8192x1 ![0, 1] bcast_S2x8192_S2x8192x1_0_1
          (Host.reduceAdd (mulf x x) (constant S_ .f32 0x00000000#32) reducesTo_S2x8192x512_S2x8192_d2 h_S_))
        (broadcastInDim S2x8192x1 ![] bcast_S_S2x8192x1 (constant S_ .f32 0x44000000#32)))
        (broadcastInDim S2x8192x1 ![] bcast_S_S2x8192x1 (constant S_ .f32 0x358637BD#32))))))
    (broadcastInDim S2x8192x512 ![0, 1, 2] bcast_S1x1x512_S2x8192x512_0_1_2 (broadcastInDim S1x1x512 ![2] bcast_S512_S1x1x512_2 g))

/-- A norm over 1024 columns. -/
def nrmW (x : Arr F S2x8192x1024) (g : Arr F S1024) : Arr F S2x8192x1024 :=
  mulf (mulf x (broadcastInDim S2x8192x1024 ![0, 1, 2] bcast_S2x8192x1_S2x8192x1024_0_1_2
      (Host.rsqrt (addf (Host.divf (broadcastInDim S2x8192x1 ![0, 1] bcast_S2x8192_S2x8192x1_0_1
          (Host.reduceAdd (mulf x x) (constant S_ .f32 0x00000000#32) reducesTo_S2x8192x1024_S2x8192_d2 h_S_))
        (broadcastInDim S2x8192x1 ![] bcast_S_S2x8192x1 (constant S_ .f32 0x44800000#32)))
        (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The left half: the recurrence's sum times the gate, normalised. -/
def left (a1 a2 : Arr F S2x8192x512) (a4 : Arr F S1x512) : Arr F S2x8192x512 :=
  nrm (mulf a1 a2) (shapeCast S512 a4 shapeCasts_S1x512_S512)

/-- The right half: the Fourier output plus its bias, normalised. -/
def right (a3 : Arr F S2x8192x512) (a5 a6 : Arr F S1x512) : Arr F S2x8192x512 :=
  nrm (addf a3 (broadcastInDim S2x8192x512 ![0, 1, 2] bcast_S1x1x512_S2x8192x512_0_1_2
    (broadcastInDim S1x1x512 ![2] bcast_S512_S1x1x512_2 (shapeCast S512 a5 shapeCasts_S1x512_S512)))) (shapeCast S512 a6 shapeCasts_S1x512_S512)

/-- The projection of the halves, added to the input. -/
def proj (a0 : Arr F S2x8192x1024) (l r : Arr F S2x8192x512) (a7 : Arr F S1x1024x1024) : Arr F S2x8192x1024 :=
  addf a0 (Host.dotGeneral dot_S2x8192x1024_S1024x1024_S2x8192x1024_2_0_01_1_n_n none (side l r) (shapeCast S1024x1024 a7 shapeCasts_S1x1024x1024_S1024x1024))

/-- Both products of a normalised row, in one array. -/
def both (x : Arr F S2x8192x1024) (a9 : Arr F S1x1024x5632) : Arr F S2x8192x5632 :=
  Host.dotGeneral dot_S2x8192x1024_S1024x5632_S2x8192x5632_2_0_01_1_n_n none x (shapeCast S1024x5632 a9 shapeCasts_S1x1024x5632_S1024x5632)

/-- The gated hidden columns. -/
def hid (p : Arr F S2x8192x5632) : Arr F S2x8192x2816 :=
  mulf (mulf (extractStridedSlice S2x8192x2816 ![0, 0, 0] p slices_S2x8192x5632_S2x8192x2816_0_0_0)
      (Host.divf (broadcastInDim S2x8192x2816 ![] bcast_S_S2x8192x2816 (constant S_ .f32 0x3F800000#32))
        (addf (broadcastInDim S2x8192x2816 ![] bcast_S_S2x8192x2816 (constant S_ .f32 0x3F800000#32))
          (Host.exp (Host.negf (extractStridedSlice S2x8192x2816 ![0, 0, 0] p slices_S2x8192x5632_S2x8192x2816_0_0_0))))))
    (extractStridedSlice S2x8192x2816 ![0, 0, 2816] p slices_S2x8192x5632_S2x8192x2816_0_0_2816)

/-- The second residual sum. -/
def resid (x : Arr F S2x8192x1024) (h : Arr F S2x8192x2816) (a10 : Arr F S1x2816x1024) : Arr F S2x8192x1024 :=
  addf x (mulf (broadcastInDim S2x8192x1024 ![] bcast_S_S2x8192x1024 (constant S_ .f32 0x3F000000#32))
    (Host.dotGeneral dot_S2x8192x2816_S2816x1024_S2x8192x1024_2_0_01_1_n_n none h (shapeCast S2816x1024 a10 shapeCasts_S1x2816x1024_S2816x1024)))

/-- The whole, of the twelve arguments. -/
def whole (a0 : Arr F S2x8192x1024) (a1 a2 a3 : Arr F S2x8192x512) (a4 a5 a6 : Arr F S1x512) (a7 : Arr F S1x1024x1024) (a8 : Arr F S1x1024)
    (a9 : Arr F S1x1024x5632) (a10 : Arr F S1x2816x1024) (a11 : Arr F S1024) : Arr F S16384x1024 :=
  let x := proj a0 (left a1 a2 a4) (right a3 a5 a6) a7
  shapeCast S16384x1024 (nrmW (resid x (hid (both (nrmW x (shapeCast S1024 a8 shapeCasts_S1x1024_S1024)) a9)) a10) a11) shapeCasts_S2x8192x1024_S16384x1024

abbrev opsLeft : List (HloOp τ sig (Elt F)) :=
  [ binary main_arg1 main_arg2 main_v0 (mulf : Arr F S2x8192x512 → Arr F S2x8192x512 → Arr F S2x8192x512),
    reshape main_arg4 main_v1 (rfl : (.f32 : EltTy) = .f32) shapeCasts_S1x512_S512,
    binary main_v0 main_v0 main_v2 (mulf : Arr F S2x8192x512 → Arr F S2x8192x512 → Arr F S2x8192x512),
    nullary main_cst (constant S_ .f32 0x00000000#32),
    binary main_v2 main_cst main_v3 ((fun x v => Host.reduceAdd x v reducesTo_S2x8192x512_S2x8192_d2 h_S_) : Arr F S2x8192x512 → Arr F S_ → Arr F S2x8192),
    unary main_v3 main_v4 (broadcastInDim S2x8192x1 ![0, 1] bcast_S2x8192_S2x8192x1_0_1 : Arr F S2x8192 → Arr F S2x8192x1),
    nullary main_cst_0 (constant S_ .f32 0x44000000#32),
    unary main_cst_0 main_v5 (broadcastInDim S2x8192x1 ![] bcast_S_S2x8192x1 : Arr F S_ → Arr F S2x8192x1),
    binary main_v4 main_v5 main_v6 (Host.divf : Arr F S2x8192x1 → Arr F S2x8192x1 → Arr F S2x8192x1),
    nullary main_cst_1 (constant S_ .f32 0x358637BD#32),
    unary main_cst_1 main_v7 (broadcastInDim S2x8192x1 ![] bcast_S_S2x8192x1 : Arr F S_ → Arr F S2x8192x1),
    binary main_v6 main_v7 main_v8 (addf : Arr F S2x8192x1 → Arr F S2x8192x1 → Arr F S2x8192x1),
    unary main_v8 main_v9 (Host.rsqrt : Arr F S2x8192x1 → Arr F S2x8192x1),
    unary main_v9 main_v10 (broadcastInDim S2x8192x512 ![0, 1, 2] bcast_S2x8192x1_S2x8192x512_0_1_2 : Arr F S2x8192x1 → Arr F S2x8192x512),
    binary main_v0 main_v10 main_v11 (mulf : Arr F S2x8192x512 → Arr F S2x8192x512 → Arr F S2x8192x512),
    unary main_v1 main_v12 (broadcastInDim S1x1x512 ![2] bcast_S512_S1x1x512_2 : Arr F S512 → Arr F S1x1x512),
    unary main_v12 main_v13 (broadcastInDim S2x8192x512 ![0, 1, 2] bcast_S1x1x512_S2x8192x512_0_1_2 : Arr F S1x1x512 → Arr F S2x8192x512),
    binary main_v11 main_v13 main_v14 (mulf : Arr F S2x8192x512 → Arr F S2x8192x512 → Arr F S2x8192x512) ]

abbrev wLeft : List (Ref sig .tc) := [main_v0, main_v1, main_v2, main_cst, main_v3, main_v4, main_cst_0, main_v5, main_v6, main_cst_1, main_v7, main_v8, main_v9, main_v10, main_v11, main_v12, main_v13, main_v14]

abbrev opsRight : List (HloOp τ sig (Elt F)) :=
  [ reshape main_arg5 main_v15 (rfl : (.f32 : EltTy) = .f32) shapeCasts_S1x512_S512,
    unary main_v15 main_v16 (broadcastInDim S1x1x512 ![2] bcast_S512_S1x1x512_2 : Arr F S512 → Arr F S1x1x512),
    unary main_v16 main_v17 (broadcastInDim S2x8192x512 ![0, 1, 2] bcast_S1x1x512_S2x8192x512_0_1_2 : Arr F S1x1x512 → Arr F S2x8192x512),
    binary main_arg3 main_v17 main_v18 (addf : Arr F S2x8192x512 → Arr F S2x8192x512 → Arr F S2x8192x512),
    reshape main_arg6 main_v19 (rfl : (.f32 : EltTy) = .f32) shapeCasts_S1x512_S512,
    binary main_v18 main_v18 main_v20 (mulf : Arr F S2x8192x512 → Arr F S2x8192x512 → Arr F S2x8192x512),
    nullary main_cst_2 (constant S_ .f32 0x00000000#32),
    binary main_v20 main_cst_2 main_v21 ((fun x v => Host.reduceAdd x v reducesTo_S2x8192x512_S2x8192_d2 h_S_) : Arr F S2x8192x512 → Arr F S_ → Arr F S2x8192),
    unary main_v21 main_v22 (broadcastInDim S2x8192x1 ![0, 1] bcast_S2x8192_S2x8192x1_0_1 : Arr F S2x8192 → Arr F S2x8192x1),
    nullary main_cst_3 (constant S_ .f32 0x44000000#32),
    unary main_cst_3 main_v23 (broadcastInDim S2x8192x1 ![] bcast_S_S2x8192x1 : Arr F S_ → Arr F S2x8192x1),
    binary main_v22 main_v23 main_v24 (Host.divf : Arr F S2x8192x1 → Arr F S2x8192x1 → Arr F S2x8192x1),
    nullary main_cst_4 (constant S_ .f32 0x358637BD#32),
    unary main_cst_4 main_v25 (broadcastInDim S2x8192x1 ![] bcast_S_S2x8192x1 : Arr F S_ → Arr F S2x8192x1),
    binary main_v24 main_v25 main_v26 (addf : Arr F S2x8192x1 → Arr F S2x8192x1 → Arr F S2x8192x1),
    unary main_v26 main_v27 (Host.rsqrt : Arr F S2x8192x1 → Arr F S2x8192x1),
    unary main_v27 main_v28 (broadcastInDim S2x8192x512 ![0, 1, 2] bcast_S2x8192x1_S2x8192x512_0_1_2 : Arr F S2x8192x1 → Arr F S2x8192x512),
    binary main_v18 main_v28 main_v29 (mulf : Arr F S2x8192x512 → Arr F S2x8192x512 → Arr F S2x8192x512),
    unary main_v19 main_v30 (broadcastInDim S1x1x512 ![2] bcast_S512_S1x1x512_2 : Arr F S512 → Arr F S1x1x512),
    unary main_v30 main_v31 (broadcastInDim S2x8192x512 ![0, 1, 2] bcast_S1x1x512_S2x8192x512_0_1_2 : Arr F S1x1x512 → Arr F S2x8192x512),
    binary main_v29 main_v31 main_v32 (mulf : Arr F S2x8192x512 → Arr F S2x8192x512 → Arr F S2x8192x512) ]

abbrev wRight : List (Ref sig .tc) := [main_v15, main_v16, main_v17, main_v18, main_v19, main_v20, main_cst_2, main_v21, main_v22, main_cst_3, main_v23, main_v24, main_cst_4, main_v25, main_v26, main_v27, main_v28, main_v29, main_v30, main_v31, main_v32]

abbrev opsProj : List (HloOp τ sig (Elt F)) :=
  [ binary main_v14 main_v32 main_v33 (side (F := F)),
    reshape main_arg7 main_v34 (rfl : (.f32 : EltTy) = .f32) shapeCasts_S1x1024x1024_S1024x1024,
    binary main_v33 main_v34 main_v35 ((fun l r => Host.dotGeneral dot_S2x8192x1024_S1024x1024_S2x8192x1024_2_0_01_1_n_n none l r) : Arr F S2x8192x1024 → Arr F S1024x1024 → Arr F S2x8192x1024),
    binary main_arg0 main_v35 main_v36 (addf : Arr F S2x8192x1024 → Arr F S2x8192x1024 → Arr F S2x8192x1024) ]

abbrev wProj : List (Ref sig .tc) := [main_v33, main_v34, main_v35, main_v36]

abbrev opsNorm : List (HloOp τ sig (Elt F)) :=
  [ reshape main_arg8 main_v37 (rfl : (.f32 : EltTy) = .f32) shapeCasts_S1x1024_S1024,
    binary main_v36 main_v36 main_v38 (mulf : Arr F S2x8192x1024 → Arr F S2x8192x1024 → Arr F S2x8192x1024),
    nullary main_cst_5 (constant S_ .f32 0x00000000#32),
    binary main_v38 main_cst_5 main_v39 ((fun x v => Host.reduceAdd x v reducesTo_S2x8192x1024_S2x8192_d2 h_S_) : Arr F S2x8192x1024 → Arr F S_ → Arr F S2x8192),
    unary main_v39 main_v40 (broadcastInDim S2x8192x1 ![0, 1] bcast_S2x8192_S2x8192x1_0_1 : Arr F S2x8192 → Arr F S2x8192x1),
    nullary main_cst_6 (constant S_ .f32 0x44800000#32),
    unary main_cst_6 main_v41 (broadcastInDim S2x8192x1 ![] bcast_S_S2x8192x1 : Arr F S_ → Arr F S2x8192x1),
    binary main_v40 main_v41 main_v42 (Host.divf : Arr F S2x8192x1 → Arr F S2x8192x1 → Arr F S2x8192x1),
    nullary main_cst_7 (constant S_ .f32 0x358637BD#32),
    unary main_cst_7 main_v43 (broadcastInDim S2x8192x1 ![] bcast_S_S2x8192x1 : Arr F S_ → Arr F S2x8192x1),
    binary main_v42 main_v43 main_v44 (addf : Arr F S2x8192x1 → Arr F S2x8192x1 → Arr F S2x8192x1),
    unary main_v44 main_v45 (Host.rsqrt : Arr F S2x8192x1 → Arr F S2x8192x1),
    unary main_v45 main_v46 (broadcastInDim S2x8192x1024 ![0, 1, 2] bcast_S2x8192x1_S2x8192x1024_0_1_2 : Arr F S2x8192x1 → Arr F S2x8192x1024),
    binary main_v36 main_v46 main_v47 (mulf : Arr F S2x8192x1024 → Arr F S2x8192x1024 → Arr F S2x8192x1024),
    unary main_v37 main_v48 (broadcastInDim S1x1x1024 ![2] bcast_S1024_S1x1x1024_2 : Arr F S1024 → Arr F S1x1x1024),
    unary main_v48 main_v49 (broadcastInDim S2x8192x1024 ![0, 1, 2] bcast_S1x1x1024_S2x8192x1024_0_1_2 : Arr F S1x1x1024 → Arr F S2x8192x1024),
    binary main_v47 main_v49 main_v50 (mulf : Arr F S2x8192x1024 → Arr F S2x8192x1024 → Arr F S2x8192x1024) ]

abbrev wNorm : List (Ref sig .tc) := [main_v37, main_v38, main_cst_5, main_v39, main_v40, main_cst_6, main_v41, main_v42, main_cst_7, main_v43, main_v44, main_v45, main_v46, main_v47, main_v48, main_v49, main_v50]

abbrev opsHid : List (HloOp τ sig (Elt F)) :=
  [ reshape main_arg9 main_v51 (rfl : (.f32 : EltTy) = .f32) shapeCasts_S1x1024x5632_S1024x5632,
    reshape main_arg10 main_v52 (rfl : (.f32 : EltTy) = .f32) shapeCasts_S1x2816x1024_S2816x1024,
    binary main_v50 main_v51 main_v53 ((fun l r => Host.dotGeneral dot_S2x8192x1024_S1024x5632_S2x8192x5632_2_0_01_1_n_n none l r) : Arr F S2x8192x1024 → Arr F S1024x5632 → Arr F S2x8192x5632),
    unary main_v53 main_v54 ((extractStridedSlice S2x8192x2816 ![0, 0, 0] · slices_S2x8192x5632_S2x8192x2816_0_0_0) : Arr F S2x8192x5632 → Arr F S2x8192x2816),
    unary main_v53 main_v55 ((extractStridedSlice S2x8192x2816 ![0, 0, 2816] · slices_S2x8192x5632_S2x8192x2816_0_0_2816) : Arr F S2x8192x5632 → Arr F S2x8192x2816),
    TRef.unary (TRef.of (T := ⟨S2x8192x2816, .f32⟩) main_v54) (TRef.of (T := ⟨S2x8192x2816, .f32⟩) main_call0_v0) Host.negf,
    TRef.unary (TRef.of (T := ⟨S2x8192x2816, .f32⟩) main_call0_v0) (TRef.of (T := ⟨S2x8192x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S2x8192x2816, .f32⟩) main_call0_v2) (broadcastInDim S2x8192x2816 ![] bcast_S_S2x8192x2816),
    TRef.binary (TRef.of (T := ⟨S2x8192x2816, .f32⟩) main_call0_v2) (TRef.of (T := ⟨S2x8192x2816, .f32⟩) main_call0_v1) (TRef.of (T := ⟨S2x8192x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S2x8192x2816, .f32⟩) main_call0_v4) (broadcastInDim S2x8192x2816 ![] bcast_S_S2x8192x2816),
    TRef.binary (TRef.of (T := ⟨S2x8192x2816, .f32⟩) main_call0_v4) (TRef.of (T := ⟨S2x8192x2816, .f32⟩) main_call0_v3) (TRef.of (T := ⟨S2x8192x2816, .f32⟩) main_call0_v5) Host.divf,
    TRef.binary (TRef.of (T := ⟨S2x8192x2816, .f32⟩) main_v54) (TRef.of (T := ⟨S2x8192x2816, .f32⟩) main_call0_v5) (TRef.of (T := ⟨S2x8192x2816, .f32⟩) main_v56) mulf,
    binary main_v56 main_v55 main_v57 (mulf : Arr F S2x8192x2816 → Arr F S2x8192x2816 → Arr F S2x8192x2816) ]

abbrev wHid : List (Ref sig .tc) := [main_v51, main_v52, main_v53, main_v54, main_v55, main_call0_v0, main_call0_v1, main_call0_cst, main_call0_v2, main_call0_v3, main_call0_cst_0, main_call0_v4, main_call0_v5, main_v56, main_v57]

abbrev opsRes : List (HloOp τ sig (Elt F)) :=
  [ binary main_v57 main_v52 main_v58 ((fun l r => Host.dotGeneral dot_S2x8192x2816_S2816x1024_S2x8192x1024_2_0_01_1_n_n none l r) : Arr F S2x8192x2816 → Arr F S2816x1024 → Arr F S2x8192x1024),
    nullary main_cst_8 (constant S_ .f32 0x3F000000#32),
    unary main_cst_8 main_v59 (broadcastInDim S2x8192x1024 ![] bcast_S_S2x8192x1024 : Arr F S_ → Arr F S2x8192x1024),
    binary main_v59 main_v58 main_v60 (mulf : Arr F S2x8192x1024 → Arr F S2x8192x1024 → Arr F S2x8192x1024),
    binary main_v36 main_v60 main_v61 (addf : Arr F S2x8192x1024 → Arr F S2x8192x1024 → Arr F S2x8192x1024) ]

abbrev wRes : List (Ref sig .tc) := [main_v58, main_cst_8, main_v59, main_v60, main_v61]

abbrev opsOut : List (HloOp τ sig (Elt F)) :=
  [ binary main_v61 main_v61 main_v62 (mulf : Arr F S2x8192x1024 → Arr F S2x8192x1024 → Arr F S2x8192x1024),
    nullary main_cst_9 (constant S_ .f32 0x00000000#32),
    binary main_v62 main_cst_9 main_v63 ((fun x v => Host.reduceAdd x v reducesTo_S2x8192x1024_S2x8192_d2 h_S_) : Arr F S2x8192x1024 → Arr F S_ → Arr F S2x8192),
    unary main_v63 main_v64 (broadcastInDim S2x8192x1 ![0, 1] bcast_S2x8192_S2x8192x1_0_1 : Arr F S2x8192 → Arr F S2x8192x1),
    nullary main_cst_10 (constant S_ .f32 0x44800000#32),
    unary main_cst_10 main_v65 (broadcastInDim S2x8192x1 ![] bcast_S_S2x8192x1 : Arr F S_ → Arr F S2x8192x1),
    binary main_v64 main_v65 main_v66 (Host.divf : Arr F S2x8192x1 → Arr F S2x8192x1 → Arr F S2x8192x1),
    nullary main_cst_11 (constant S_ .f32 0x358637BD#32),
    unary main_cst_11 main_v67 (broadcastInDim S2x8192x1 ![] bcast_S_S2x8192x1 : Arr F S_ → Arr F S2x8192x1),
    binary main_v66 main_v67 main_v68 (addf : Arr F S2x8192x1 → Arr F S2x8192x1 → Arr F S2x8192x1),
    unary main_v68 main_v69 (Host.rsqrt : Arr F S2x8192x1 → Arr F S2x8192x1),
    unary main_v69 main_v70 (broadcastInDim S2x8192x1024 ![0, 1, 2] bcast_S2x8192x1_S2x8192x1024_0_1_2 : Arr F S2x8192x1 → Arr F S2x8192x1024),
    binary main_v61 main_v70 main_v71 (mulf : Arr F S2x8192x1024 → Arr F S2x8192x1024 → Arr F S2x8192x1024),
    unary main_arg11 main_v72 (broadcastInDim S1x1x1024 ![2] bcast_S1024_S1x1x1024_2 : Arr F S1024 → Arr F S1x1x1024),
    unary main_v72 main_v73 (broadcastInDim S2x8192x1024 ![0, 1, 2] bcast_S1x1x1024_S2x8192x1024_0_1_2 : Arr F S1x1x1024 → Arr F S2x8192x1024),
    binary main_v71 main_v73 main_v74 (mulf : Arr F S2x8192x1024 → Arr F S2x8192x1024 → Arr F S2x8192x1024),
    reshape main_v74 main_v75 (rfl : (.f32 : EltTy) = .f32) shapeCasts_S2x8192x1024_S16384x1024 ]

abbrev wOut : List (Ref sig .tc) := [main_v62, main_cst_9, main_v63, main_v64, main_cst_10, main_v65, main_v66, main_cst_11, main_v67, main_v68, main_v69, main_v70, main_v71, main_v72, main_v73, main_v74, main_v75]

/-- The lines in order. -/
abbrev ops : List (HloOp τ sig (Elt F)) := opsLeft ++ (opsRight ++ (opsProj ++ (opsNorm ++ (opsHid ++ (opsRes ++ opsOut)))))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem subLeft : (opsLeft : List (HloOp τ sig (Elt F))).Forall fun op => op.bufs ⊆ tcRefs τ sig :=
  ⟨binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem keepLeft (V : Valuation τ sig (Elt F)) {r : Ref sig .tc} (hr : r ∉ wLeft) : after opsLeft V (Proc.devRef .tc r) = V (Proc.devRef .tc r) :=
  after_unwritten wLeft rfl hr V

theorem subRight : (opsRight : List (HloOp τ sig (Elt F))).Forall fun op => op.bufs ⊆ tcRefs τ sig :=
  ⟨reshape_bufs_sub .., unary_bufs_sub .., unary_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem keepRight (V : Valuation τ sig (Elt F)) {r : Ref sig .tc} (hr : r ∉ wRight) : after opsRight V (Proc.devRef .tc r) = V (Proc.devRef .tc r) :=
  after_unwritten wRight rfl hr V

theorem subProj : (opsProj : List (HloOp τ sig (Elt F))).Forall fun op => op.bufs ⊆ tcRefs τ sig :=
  ⟨binary_bufs_sub .., reshape_bufs_sub .., binary_bufs_sub .., binary_bufs_sub ..⟩

theorem keepProj (V : Valuation τ sig (Elt F)) {r : Ref sig .tc} (hr : r ∉ wProj) : after opsProj V (Proc.devRef .tc r) = V (Proc.devRef .tc r) :=
  after_unwritten wProj rfl hr V

theorem subNorm : (opsNorm : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem keepNorm (V : Valuation τ sig (Elt F)) {r : Ref sig .tc} (hr : r ∉ wNorm) : after opsNorm V (Proc.devRef .tc r) = V (Proc.devRef .tc r) :=
  after_unwritten wNorm rfl hr V

theorem subHid : (opsHid : List (HloOp τ sig (Elt F))).Forall fun op => op.bufs ⊆ tcRefs τ sig :=
  ⟨reshape_bufs_sub .., reshape_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

theorem keepHid (V : Valuation τ sig (Elt F)) {r : Ref sig .tc} (hr : r ∉ wHid) : after opsHid V (Proc.devRef .tc r) = V (Proc.devRef .tc r) :=
  after_unwritten wHid rfl hr V

theorem subRes : (opsRes : List (HloOp τ sig (Elt F))).Forall fun op => op.bufs ⊆ tcRefs τ sig :=
  ⟨binary_bufs_sub .., nullary_bufs_sub .., unary_bufs_sub .., binary_bufs_sub .., binary_bufs_sub ..⟩

theorem keepRes (V : Valuation τ sig (Elt F)) {r : Ref sig .tc} (hr : r ∉ wRes) : after opsRes V (Proc.devRef .tc r) = V (Proc.devRef .tc r) :=
  after_unwritten wRes rfl hr V

theorem subOut : (opsOut : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub ..⟩

theorem keepOut (V : Valuation τ sig (Elt F)) {r : Ref sig .tc} (hr : r ∉ wOut) : after opsOut V (Proc.devRef .tc r) = V (Proc.devRef .tc r) :=
  after_unwritten wOut rfl hr V

theorem readLeft (V : Valuation τ sig (Elt F)) : after opsLeft V (Proc.devRef .tc main_v14) = left (F := F) (V (Proc.devRef .tc main_arg1)) (V (Proc.devRef .tc main_arg2)) (V (Proc.devRef .tc main_arg4)) := by
  simp only [opsLeft, TRef.binary, TRef.nullary, TRef.unary, TRef.toBuf, TRef.ofBuf, cast_eq]; after_results_simp <;> rfl

theorem readRight (V : Valuation τ sig (Elt F)) : after opsRight V (Proc.devRef .tc main_v32) = right (F := F) (V (Proc.devRef .tc main_arg3)) (V (Proc.devRef .tc main_arg5)) (V (Proc.devRef .tc main_arg6)) := by
  simp only [opsRight, TRef.binary, TRef.nullary, TRef.unary, TRef.toBuf, TRef.ofBuf, cast_eq]; after_results_simp <;> rfl

theorem readProj (V : Valuation τ sig (Elt F)) : after opsProj V (Proc.devRef .tc main_v36) = proj (F := F) (V (Proc.devRef .tc main_arg0)) (V (Proc.devRef .tc main_v14)) (V (Proc.devRef .tc main_v32)) (V (Proc.devRef .tc main_arg7)) := by
  simp only [opsProj, TRef.binary, TRef.nullary, TRef.unary, TRef.toBuf, TRef.ofBuf, cast_eq]; after_results_simp <;> rfl

theorem readNorm (V : Valuation τ sig (Elt F)) : after opsNorm V (Proc.devRef .tc main_v50) = nrmW (F := F) (V (Proc.devRef .tc main_v36)) (shapeCast S1024 (V (Proc.devRef .tc main_arg8)) shapeCasts_S1x1024_S1024) := by
  simp only [opsNorm, TRef.binary, TRef.nullary, TRef.unary, TRef.toBuf, TRef.ofBuf, cast_eq]; after_results_simp <;> rfl

theorem readHid (V : Valuation τ sig (Elt F)) : after opsHid V (Proc.devRef .tc main_v57) = hid (both (F := F) (V (Proc.devRef .tc main_v50)) (V (Proc.devRef .tc main_arg9))) := by
  simp only [opsHid, TRef.binary, TRef.nullary, TRef.unary, TRef.toBuf, TRef.ofBuf, cast_eq]; after_results_simp <;> rfl

theorem readRes (V : Valuation τ sig (Elt F)) : after opsRes V (Proc.devRef .tc main_v61) = addf (F := F) (φ := .f32) (V (Proc.devRef .tc main_v36)) (mulf (broadcastInDim S2x8192x1024 ![] bcast_S_S2x8192x1024 (constant S_ .f32 0x3F000000#32)) (Host.dotGeneral dot_S2x8192x2816_S2816x1024_S2x8192x1024_2_0_01_1_n_n none (V (Proc.devRef .tc main_v57)) (V (Proc.devRef .tc main_v52)))) := by
  simp only [opsRes, TRef.binary, TRef.nullary, TRef.unary, TRef.toBuf, TRef.ofBuf, cast_eq]; after_results_simp <;> rfl

theorem readOut (V : Valuation τ sig (Elt F)) : after opsOut V (Proc.devRef .tc main_v75) = shapeCast S16384x1024 (nrmW (F := F) (V (Proc.devRef .tc main_v61)) (V (Proc.devRef .tc main_arg11))) shapeCasts_S2x8192x1024_S16384x1024 := by
  simp only [opsOut, TRef.binary, TRef.nullary, TRef.unary, TRef.toBuf, TRef.ofBuf, cast_eq]; after_results_simp <;> rfl

theorem readHid2 (V : Valuation τ sig (Elt F)) : after opsHid V (Proc.devRef .tc main_v52) = shapeCast S2816x1024 (V (Proc.devRef .tc main_arg10)) shapeCasts_S1x2816x1024_S2816x1024 := by
  simp only [opsHid, TRef.binary, TRef.nullary, TRef.unary, TRef.toBuf, TRef.ofBuf, cast_eq]; after_results_simp <;> rfl

end Cert.Proof.Mix.Ref

end
-- ==== Proof.Mix.RefEnd.lean ====
/- The second reference's run to the end: its result is `whole` of its arguments, and the arguments stay. -/
module

public import proofs.«01_k».proof.Proof.Mix.RefRun

@[expose] public section

set_option maxRecDepth 16384

noncomputable section

namespace Cert.Proof.Mix.Ref

open Cert.Reference2Ideal Cert.Reference2Ideal.Gen
open Idealize.ShloMosaic Idealize.ShloMosaic.TcCoe Idealize.SL.Sem Idealize.ShloMosaic.StableHlo

variable {F : FTy → Type} [FloatOps F]

theorem ops_sub : (ops : List (HloOp τ sig (Elt F))).Forall fun op => op.bufs ⊆ tcRefs τ sig := by
  refine List.forall_append.mpr ⟨subLeft, List.forall_append.mpr ⟨subRight, List.forall_append.mpr ⟨subProj, List.forall_append.mpr ⟨subNorm,
    List.forall_append.mpr ⟨subHid, List.forall_append.mpr ⟨subRes, subOut⟩⟩⟩⟩⟩⟩

theorem ops_fresh : ∀ op ∈ (ops : List (HloOp τ sig (Elt F))), op.fresh = ∅ := List.forall_iff_forall_mem.mp (forall_fresh_of_map rfl)

/-- The stretches one after another. -/
theorem after_ops (V : Valuation τ sig (Elt F)) :
    after ops V = after opsOut (after opsRes (after opsHid (after opsNorm (after opsProj (after opsRight (after opsLeft V)))))) := rfl

/-- No line writes an argument. -/
theorem keep (V : Valuation τ sig (Elt F)) {r : Ref sig .tc} (h1 : r ∉ wLeft) (h2 : r ∉ wRight) (h3 : r ∉ wProj) (h4 : r ∉ wNorm) (h5 : r ∉ wHid)
    (h6 : r ∉ wRes) (h7 : r ∉ wOut) : after ops V (Proc.devRef .tc r) = V (Proc.devRef .tc r) := by
  rw [after_ops, keepOut _ h7, keepRes _ h6, keepHid _ h5, keepNorm _ h4, keepProj _ h3, keepRight _ h2, keepLeft _ h1]

theorem whole_eq (V : Valuation τ sig (Elt F)) : after ops V (Proc.devRef .tc main_v75) =
    whole (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8)) (V (Proc.devRef .tc main_arg9)) (V (Proc.devRef .tc main_arg10)) (V (Proc.devRef .tc main_arg11)) := by
  rw [after_ops, readOut, readRes, keepRes _ (r := main_arg11) (by decide), readHid, readHid2, keepHid _ (r := main_v36) (by decide), keepHid _ (r := main_arg11) (by decide),
    readNorm, keepNorm _ (r := main_v36) (by decide), keepNorm _ (r := main_arg9) (by decide), keepNorm _ (r := main_arg10) (by decide), keepNorm _ (r := main_arg11) (by decide),
    readProj, keepProj _ (r := main_arg8) (by decide), keepProj _ (r := main_arg9) (by decide), keepProj _ (r := main_arg10) (by decide), keepProj _ (r := main_arg11) (by decide),
    readRight, keepRight _ (r := main_v14) (by decide), keepRight _ (r := main_arg0) (by decide), keepRight _ (r := main_arg7) (by decide), keepRight _ (r := main_arg8) (by decide),
    keepRight _ (r := main_arg9) (by decide), keepRight _ (r := main_arg10) (by decide), keepRight _ (r := main_arg11) (by decide),
    readLeft, keepLeft _ (r := main_arg0) (by decide), keepLeft _ (r := main_arg3) (by decide), keepLeft _ (r := main_arg5) (by decide), keepLeft _ (r := main_arg6) (by decide),
    keepLeft _ (r := main_arg7) (by decide), keepLeft _ (r := main_arg8) (by decide), keepLeft _ (r := main_arg9) (by decide), keepLeft _ (r := main_arg10) (by decide),
    keepLeft _ (r := main_arg11) (by decide)]
  rfl

/-- Every run of the reference. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10))
        (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    have k : ∀ b : Ref sig .tc, b ∉ wLeft → b ∉ wRight → b ∉ wProj → b ∉ wNorm → b ∉ wHid → b ∉ wRes → b ∉ wOut →
        r.2.mem ((c.tc : Thread nD τ).loc b) = m ((c.tc : Thread nD τ).loc b) :=
      fun b h1 h2 h3 h4 h5 h6 h7 => (h c b).trans (keep _ h1 h2 h3 h4 h5 h6 h7)
    exact ⟨(h c main_v75).trans (whole_eq _),
      k main_arg0 (by decide) (by decide) (by decide) (by decide) (by decide) (by decide) (by decide),
      k main_arg1 (by decide) (by decide) (by decide) (by decide) (by decide) (by decide) (by decide),
      k main_arg2 (by decide) (by decide) (by decide) (by decide) (by decide) (by decide) (by decide),
      k main_arg3 (by decide) (by decide) (by decide) (by decide) (by decide) (by decide) (by decide),
      k main_arg4 (by decide) (by decide) (by decide) (by decide) (by decide) (by decide) (by decide),
      k main_arg5 (by decide) (by decide) (by decide) (by decide) (by decide) (by decide) (by decide),
      k main_arg6 (by decide) (by decide) (by decide) (by decide) (by decide) (by decide) (by decide),
      k main_arg7 (by decide) (by decide) (by decide) (by decide) (by decide) (by decide) (by decide),
      k main_arg8 (by decide) (by decide) (by decide) (by decide) (by decide) (by decide) (by decide),
      k main_arg9 (by decide) (by decide) (by decide) (by decide) (by decide) (by decide) (by decide),
      k main_arg10 (by decide) (by decide) (by decide) (by decide) (by decide) (by decide) (by decide),
      k main_arg11 (by decide) (by decide) (by decide) (by decide) (by decide) (by decide) (by decide)⟩)
    (run_seq scopedRefs_eq scopedSems_eq defs main (fun _ => ops) main_eq (fun _ => ops_sub) m ρ (fun _ => ops_fresh))

end Cert.Proof.Mix.Ref

end
-- ==== Proof.Mix.RefRows.lean ====
/- The second reference at the extended reals: each of its stages at a place as a formula in one row. -/
module

public import proofs.«01_k».proof.Proof.Mix.Rows
public import proofs.«01_k».proof.Proof.Mix.RefEnd

@[expose] public section

set_option maxRecDepth 16384

noncomputable section

namespace Cert.Proof.Mix.Ref

open Cert.Reference2Ideal Cert.Reference2Ideal.Gen
open Idealize.ShloMosaic

theorem nrm_at (x : Arr Ideal S2x8192x512) (g : Arr Ideal S512) (b : Fin 2) (s : Fin 8192) (j : Fin 512) :
    nrm x g (ix3 b s j) = rnorm (Ideal.ofBits .f32 0x44000000#32) (fun k => x (ix3 b s k)) (fun k => g (ix1 k)) j := by
  pointwise [nrm]
  rfl

theorem nrmW_at (x : Arr Ideal S2x8192x1024) (g : Arr Ideal S1024) (b : Fin 2) (s : Fin 8192) (j : Fin 1024) :
    nrmW x g (ix3 b s j) = rnorm (Ideal.ofBits .f32 0x44800000#32) (fun k => x (ix3 b s k)) (fun k => g (ix1 k)) j := by
  pointwise [nrmW]
  rfl

theorem left_at (a1 a2 : Arr Ideal S2x8192x512) (a4 : Arr Ideal S1x512) (b : Fin 2) (s : Fin 8192) (j : Fin 512) :
    left a1 a2 a4 (ix3 b s j) = rnorm (Ideal.ofBits .f32 0x44000000#32) (fun k => a1 (ix3 b s k) * a2 (ix3 b s k)) (fun k => a4 (ix2 0 k)) j := by
  unfold left
  rw [nrm_at]
  pointwise []

theorem right_at (a3 : Arr Ideal S2x8192x512) (a5 a6 : Arr Ideal S1x512) (b : Fin 2) (s : Fin 8192) (j : Fin 512) :
    right a3 a5 a6 (ix3 b s j) = rnorm (Ideal.ofBits .f32 0x44000000#32) (fun k => a3 (ix3 b s k) + a5 (ix2 0 k)) (fun k => a6 (ix2 0 k)) j := by
  unfold right
  rw [nrm_at]
  pointwise []

theorem side_at (l r : Arr Ideal S2x8192x512) (b : Fin 2) (s : Fin 8192) (j : Fin 1024) :
    side l r (ix3 b s j) = rcat (fun k => l (ix3 b s k)) (fun k => r (ix3 b s k)) j := by
  pointwise [side]
  unfold rcat
  by_cases h : j.val < 512
  · rw [dif_pos h, if_pos h]
    exact congrArg (fun q => l (ix3 b s q)) (Fin.ext (Nat.mod_eq_of_lt h).symm)
  · rw [dif_neg h, if_neg h]
    exact congrArg (fun q => r (ix3 b s q)) (Fin.ext (Nat.mod_eq_of_lt (by omega)).symm)

theorem proj_at (a0 : Arr Ideal S2x8192x1024) (l r : Arr Ideal S2x8192x512) (a7 : Arr Ideal S1x1024x1024) (b : Fin 2) (s : Fin 8192) (j : Fin 1024) :
    proj a0 l r a7 (ix3 b s j) = a0 (ix3 b s j) + rdot (rcat (fun k => l (ix3 b s k)) (fun k => r (ix3 b s k))) (fun k j => a7 (ix3 0 k j)) j := by
  pointwise [proj]
  simp only [side_at]
  rfl

theorem both_at (x : Arr Ideal S2x8192x1024) (a9 : Arr Ideal S1x1024x5632) (b : Fin 2) (s : Fin 8192) (j : Fin 5632) :
    both x a9 (ix3 b s j) = rdot (fun k => x (ix3 b s k)) (fun k j => a9 (ix3 0 k j)) j := by
  pointwise [both]
  rfl

theorem hid_at (x : Arr Ideal S2x8192x1024) (a9 : Arr Ideal S1x1024x5632) (b : Fin 2) (s : Fin 8192) (j : Fin 2816) :
    hid (both x a9) (ix3 b s j) = rhid (fun k => x (ix3 b s k)) (fun k j => a9 (ix3 0 k (Fin.ofNat 5632 j.val))) (fun k j => a9 (ix3 0 k (Fin.ofNat 5632 (2816 + j.val)))) j := by
  pointwise [hid]
  have e1 : ∀ h, (⟨j.val, h⟩ : Fin 5632) = Fin.ofNat 5632 j.val := fun h => Fin.ext (Nat.mod_eq_of_lt h).symm
  have e2 : ∀ h, (⟨2816 + j.val, h⟩ : Fin 5632) = Fin.ofNat 5632 (2816 + j.val) := fun h => Fin.ext (Nat.mod_eq_of_lt h).symm
  simp only [both_at, e1, e2]
  rfl

theorem resid_at (x : Arr Ideal S2x8192x1024) (h : Arr Ideal S2x8192x2816) (a10 : Arr Ideal S1x2816x1024) (b : Fin 2) (s : Fin 8192) (j : Fin 1024) :
    resid x h a10 (ix3 b s j) = x (ix3 b s j) + Ideal.ofBits .f32 0x3F000000#32 * rdot (fun k => h (ix3 b s k)) (fun k j => a10 (ix3 0 k j)) j := by
  pointwise [resid]
  rfl

theorem whole_at (a0 : Arr Ideal S2x8192x1024) (a1 a2 a3 : Arr Ideal S2x8192x512) (a4 a5 a6 : Arr Ideal S1x512) (a7 : Arr Ideal S1x1024x1024) (a8 : Arr Ideal S1x1024)
    (a9 : Arr Ideal S1x1024x5632) (a10 : Arr Ideal S1x2816x1024) (a11 : Arr Ideal S1024) (R : Fin 16384) (j : Fin 1024) :
    whole a0 a1 a2 a3 a4 a5 a6 a7 a8 a9 a10 a11 (ix2 R j) =
      rout (fun k => a0 (ix3 (Fin.ofNat 2 (R.val / 8192)) (Fin.ofNat 8192 (R.val % 8192)) k))
        (fun k => a1 (ix3 (Fin.ofNat 2 (R.val / 8192)) (Fin.ofNat 8192 (R.val % 8192)) k) * a2 (ix3 (Fin.ofNat 2 (R.val / 8192)) (Fin.ofNat 8192 (R.val % 8192)) k))
        (fun k => a3 (ix3 (Fin.ofNat 2 (R.val / 8192)) (Fin.ofNat 8192 (R.val % 8192)) k) + a5 (ix2 0 k)) (fun k => a4 (ix2 0 k)) (fun k => a6 (ix2 0 k))
        (fun k j => a7 (ix3 0 k j)) (fun k => a8 (ix2 0 k))
        (fun k j => a9 (ix3 0 k (Fin.ofNat 5632 j.val))) (fun k j => a9 (ix3 0 k (Fin.ofNat 5632 (2816 + j.val)))) (fun k j => a10 (ix3 0 k j)) (fun k => a11 (ix1 k)) j := by
  pointwise [whole]
  have e1 : ∀ h, (⟨R.val / 8192, h⟩ : Fin 2) = Fin.ofNat 2 (R.val / 8192) := fun h => Fin.ext (Nat.mod_eq_of_lt h).symm
  have e2 : ∀ h, (⟨R.val % 8192, h⟩ : Fin 8192) = Fin.ofNat 8192 (R.val % 8192) := fun h => Fin.ext (Nat.mod_eq_of_lt h).symm
  simp only [nrmW_at, resid_at, hid_at, proj_at, left_at, right_at, e1, e2]
  pointwise []
  rfl

end Cert.Proof.Mix.Ref
-- ==== Proof.Mix.Result.lean ====
/-
  The second kernel's result array: each tile a flushing point leaves is the tile of the reference's result, at the
  extended reals.
-/
module

public import proofs.«01_k».proof.Proof.Mix.Run
public import proofs.«01_k».proof.Proof.Mix.RefRows
public import Idealize.ShloMosaic.Lib.Pipeline.ValueKit

@[expose] public section

set_option maxRecDepth 16384

noncomputable section

namespace Cert.Proof.Mix

open Cert.Kernel2Ideal Cert.Kernel2Ideal.Gen
open Idealize.ShloMosaic Idealize.ShloMosaic.TcCoe

section
variable {F : FTy → Type} [FloatOps F] (m : (ℓ : Loc nD τ sig) → Buf (Elt F) ℓ) (c : Dev nD)

/-! ## Where the blocks lie -/

theorem e_0 : ∀ t : Fin cfg0.N, win0_0.index t = ![min 31 (t.val - 11), 0] := (by decide +kernel : ∀ t : Fin grid0.N, _)
theorem e_1 : ∀ t : Fin cfg0.N, win0_1.index t = ![min 31 (t.val - 10), 0] := (by decide +kernel : ∀ t : Fin grid0.N, _)
theorem e_2 : ∀ t : Fin cfg0.N, win0_2.index t = ![min 31 (t.val - 10), 0] := (by decide +kernel : ∀ t : Fin grid0.N, _)
theorem e_3 : ∀ t : Fin cfg0.N, win0_3.index t = ![min 31 (t.val - 10), 0] := (by decide +kernel : ∀ t : Fin grid0.N, _)
theorem e_4 : ∀ t : Fin cfg0.N, win0_4.index t = ![0, 0] := (by decide +kernel : ∀ t : Fin grid0.N, _)
theorem e_5 : ∀ t : Fin cfg0.N, win0_5.index t = ![0, 0] := (by decide +kernel : ∀ t : Fin grid0.N, _)
theorem e_6 : ∀ t : Fin cfg0.N, win0_6.index t = ![0, 0] := (by decide +kernel : ∀ t : Fin grid0.N, _)
theorem e_7 : ∀ t : Fin cfg0.N, win0_7.index t = ![0, min 3 t.val] := (by decide +kernel : ∀ t : Fin grid0.N, _)
theorem e_8 : ∀ t : Fin cfg0.N, win0_8.index t = ![0, 0] := (by decide +kernel : ∀ t : Fin grid0.N, _)
theorem e_9 : ∀ t : Fin cfg0.N, win0_9.index t = ![0, min 10 t.val] := (by decide +kernel : ∀ t : Fin grid0.N, _)
theorem e_10 : ∀ t : Fin cfg0.N, win0_10.index t = ![0, 11 + min 10 t.val] := (by decide +kernel : ∀ t : Fin grid0.N, _)
theorem e_11 : ∀ t : Fin cfg0.N, win0_11.index t = ![min 10 t.val, 0] := (by decide +kernel : ∀ t : Fin grid0.N, _)
theorem e_12 : ∀ t : Fin cfg0.N, win0_12.index t = ![0, 0] := (by decide +kernel : ∀ t : Fin grid0.N, _)
theorem e_13 : ∀ t : Fin cfg0.N, win0_13.index t = ![t.val - 12, 0] := (by decide +kernel : ∀ t : Fin grid0.N, _)

theorem blk_0 (t : Fin cfg0.N) (r : Fin 512) (k : Fin 1024) (R : Fin 16384) (h : R.val = 512 * min 31 (t.val - 11) + r.val) :
    iblk m c 0 t (ix2 r k) = Gen.V m c main_v0 (ix2 R k) := by
  blk_simp [iblk]
  refine congrArg _ ?_
  blk_ext [e_0]
theorem blk_1 (t : Fin cfg0.N) (r : Fin 512) (k : Fin 512) (R : Fin 16384) (h : R.val = 512 * min 31 (t.val - 10) + r.val) :
    iblk m c 1 t (ix2 r k) = Gen.V m c main_v1 (ix2 R k) := by
  blk_simp [iblk]
  refine congrArg _ ?_
  blk_ext [e_1]
theorem blk_2 (t : Fin cfg0.N) (r : Fin 512) (k : Fin 512) (R : Fin 16384) (h : R.val = 512 * min 31 (t.val - 10) + r.val) :
    iblk m c 2 t (ix2 r k) = Gen.V m c main_v2 (ix2 R k) := by
  blk_simp [iblk]
  refine congrArg _ ?_
  blk_ext [e_2]
theorem blk_3 (t : Fin cfg0.N) (r : Fin 512) (k : Fin 512) (R : Fin 16384) (h : R.val = 512 * min 31 (t.val - 10) + r.val) :
    iblk m c 3 t (ix2 r k) = Gen.V m c main_v3 (ix2 R k) := by
  blk_simp [iblk]
  refine congrArg _ ?_
  blk_ext [e_3]
theorem blk_4 (t : Fin cfg0.N) (k : Fin 512) :
    iblk m c 4 t (ix2 0 k) = Gen.V m c main_v5 (ix2 0 k) := by
  blk_simp [iblk]
  refine congrArg _ ?_
  blk_ext [e_4]
theorem blk_5 (t : Fin cfg0.N) (k : Fin 512) :
    iblk m c 5 t (ix2 0 k) = Gen.V m c main_v7 (ix2 0 k) := by
  blk_simp [iblk]
  refine congrArg _ ?_
  blk_ext [e_5]
theorem blk_6 (t : Fin cfg0.N) (k : Fin 512) :
    iblk m c 6 t (ix2 0 k) = Gen.V m c main_v9 (ix2 0 k) := by
  blk_simp [iblk]
  refine congrArg _ ?_
  blk_ext [e_6]
theorem blk_8 (t : Fin cfg0.N) (k : Fin 1024) :
    iblk m c 8 t (ix2 0 k) = Gen.V m c main_v12 (ix2 0 k) := by
  blk_simp [iblk]
  refine congrArg _ ?_
  blk_ext [e_8]
theorem blk_12 (t : Fin cfg0.N) (k : Fin 1024) :
    iblk m c 12 t (ix2 0 k) = Gen.V m c main_v15 (ix2 0 k) := by
  blk_simp [iblk]
  refine congrArg _ ?_
  blk_ext [e_12]
theorem blk_7 (t : Fin cfg0.N) (k : Fin 1024) (q : Fin 256) (j : Fin 1024) (h : j.val = 256 * min 3 t.val + q.val) :
    iblk m c 7 t (ix2 k q) = Gen.V m c main_v10 (ix2 k j) := by
  blk_simp [iblk]
  refine congrArg _ ?_
  blk_ext [e_7]
theorem blk_9 (t : Fin cfg0.N) (k : Fin 1024) (q : Fin 256) (j : Fin 5632) (h : j.val = 256 * min 10 t.val + q.val) :
    iblk m c 9 t (ix2 k q) = Gen.V m c main_v13 (ix2 k j) := by
  blk_simp [iblk]
  refine congrArg _ ?_
  blk_ext [e_9]
theorem blk_10 (t : Fin cfg0.N) (k : Fin 1024) (q : Fin 256) (j : Fin 5632) (h : j.val = 2816 + (256 * min 10 t.val + q.val)) :
    iblk m c 10 t (ix2 k q) = Gen.V m c main_v13 (ix2 k j) := by
  blk_simp [iblk]
  refine congrArg _ ?_
  blk_ext [e_10]
theorem blk_11 (t : Fin cfg0.N) (q : Fin 256) (j : Fin 1024) (k : Fin 2816) (h : k.val = 256 * min 10 t.val + q.val) :
    iblk m c 11 t (ix2 q j) = Gen.V m c main_v14 (ix2 k j) := by
  blk_simp [iblk]
  refine congrArg _ ?_
  blk_ext [e_11]

/-! ## The arrays the windows read -/

theorem V_0 : Gen.V m c main_v0 = shapeCast S16384x1024 (m ((c : Thread nD τ).loc main_arg0)) shapeCasts_S2x8192x1024_S16384x1024 := by
  unfold Gen.V
  simp only [hostOps0, List.flatten_cons, List.flatten_nil, List.append_nil, List.cons_append, List.nil_append]
  after_results_simp <;> rfl
theorem V_1 : Gen.V m c main_v1 = shapeCast S16384x512 (m ((c : Thread nD τ).loc main_arg1)) shapeCasts_S2x8192x512_S16384x512 := by
  unfold Gen.V
  simp only [hostOps0, List.flatten_cons, List.flatten_nil, List.append_nil, List.cons_append, List.nil_append]
  after_results_simp <;> rfl
theorem V_2 : Gen.V m c main_v2 = shapeCast S16384x512 (m ((c : Thread nD τ).loc main_arg2)) shapeCasts_S2x8192x512_S16384x512 := by
  unfold Gen.V
  simp only [hostOps0, List.flatten_cons, List.flatten_nil, List.append_nil, List.cons_append, List.nil_append]
  after_results_simp <;> rfl
theorem V_3 : Gen.V m c main_v3 = shapeCast S16384x512 (m ((c : Thread nD τ).loc main_arg3)) shapeCasts_S2x8192x512_S16384x512 := by
  unfold Gen.V
  simp only [hostOps0, List.flatten_cons, List.flatten_nil, List.append_nil, List.cons_append, List.nil_append]
  after_results_simp <;> rfl
theorem V_5 : Gen.V m c main_v5 =
    shapeCast S1x512 (shapeCast S512 (m ((c : Thread nD τ).loc main_arg4)) shapeCasts_S1x512_S512) shapeCasts_S512_S1x512 := by
  unfold Gen.V
  simp only [hostOps0, List.flatten_cons, List.flatten_nil, List.append_nil, List.cons_append, List.nil_append]
  after_results_simp <;> rfl
theorem V_7 : Gen.V m c main_v7 =
    shapeCast S1x512 (shapeCast S512 (m ((c : Thread nD τ).loc main_arg5)) shapeCasts_S1x512_S512) shapeCasts_S512_S1x512 := by
  unfold Gen.V
  simp only [hostOps0, List.flatten_cons, List.flatten_nil, List.append_nil, List.cons_append, List.nil_append]
  after_results_simp <;> rfl
theorem V_9 : Gen.V m c main_v9 =
    shapeCast S1x512 (shapeCast S512 (m ((c : Thread nD τ).loc main_arg6)) shapeCasts_S1x512_S512) shapeCasts_S512_S1x512 := by
  unfold Gen.V
  simp only [hostOps0, List.flatten_cons, List.flatten_nil, List.append_nil, List.cons_append, List.nil_append]
  after_results_simp <;> rfl
theorem V_10 : Gen.V m c main_v10 = shapeCast S1024x1024 (m ((c : Thread nD τ).loc main_arg7)) shapeCasts_S1x1024x1024_S1024x1024 := by
  unfold Gen.V
  simp only [hostOps0, List.flatten_cons, List.flatten_nil, List.append_nil, List.cons_append, List.nil_append]
  after_results_simp <;> rfl
theorem V_12 : Gen.V m c main_v12 =
    shapeCast S1x1024 (shapeCast S1024 (m ((c : Thread nD τ).loc main_arg8)) shapeCasts_S1x1024_S1024) shapeCasts_S1024_S1x1024 := by
  unfold Gen.V
  simp only [hostOps0, List.flatten_cons, List.flatten_nil, List.append_nil, List.cons_append, List.nil_append]
  after_results_simp <;> rfl
theorem V_13 : Gen.V m c main_v13 = shapeCast S1024x5632 (m ((c : Thread nD τ).loc main_arg9)) shapeCasts_S1x1024x5632_S1024x5632 := by
  unfold Gen.V
  simp only [hostOps0, List.flatten_cons, List.flatten_nil, List.append_nil, List.cons_append, List.nil_append]
  after_results_simp <;> rfl
theorem V_14 : Gen.V m c main_v14 = shapeCast S2816x1024 (m ((c : Thread nD τ).loc main_arg10)) shapeCasts_S1x2816x1024_S2816x1024 := by
  unfold Gen.V
  simp only [hostOps0, List.flatten_cons, List.flatten_nil, List.append_nil, List.cons_append, List.nil_append]
  after_results_simp <;> rfl
theorem V_15 : Gen.V m c main_v15 = shapeCast S1x1024 (m ((c : Thread nD τ).loc main_arg11)) shapeCasts_S1024_S1x1024 := by
  unfold Gen.V
  simp only [hostOps0, List.flatten_cons, List.flatten_nil, List.append_nil, List.cons_append, List.nil_append]
  after_results_simp <;> rfl

end

/-! ## The arrays at an index -/

theorem rows_at (X : S2x8192x1024.Idx → Ideal .f32) (R : Fin 16384) (k : Fin 1024) : (shapeCast S16384x1024 X shapeCasts_S2x8192x1024_S16384x1024 (ix2 R k) : EReal) = X (ix3 (Fin.ofNat 2 (R.val / 8192)) (Fin.ofNat 8192 (R.val % 8192)) k) := by
  have e1 : ∀ h, (⟨R.val / 8192, h⟩ : Fin 2) = Fin.ofNat 2 (R.val / 8192) := fun h => Fin.ext (Nat.mod_eq_of_lt h).symm
  have e2 : ∀ h, (⟨R.val % 8192, h⟩ : Fin 8192) = Fin.ofNat 8192 (R.val % 8192) := fun h => Fin.ext (Nat.mod_eq_of_lt h).symm
  pointwise
  simp only [e1, e2]
theorem halfRows_at (X : S2x8192x512.Idx → Ideal .f32) (R : Fin 16384) (k : Fin 512) : (shapeCast S16384x512 X shapeCasts_S2x8192x512_S16384x512 (ix2 R k) : EReal) = X (ix3 (Fin.ofNat 2 (R.val / 8192)) (Fin.ofNat 8192 (R.val % 8192)) k) := by
  have e1 : ∀ h, (⟨R.val / 8192, h⟩ : Fin 2) = Fin.ofNat 2 (R.val / 8192) := fun h => Fin.ext (Nat.mod_eq_of_lt h).symm
  have e2 : ∀ h, (⟨R.val % 8192, h⟩ : Fin 8192) = Fin.ofNat 8192 (R.val % 8192) := fun h => Fin.ext (Nat.mod_eq_of_lt h).symm
  pointwise
  simp only [e1, e2]
theorem wo_at (X : S1x1024x1024.Idx → Ideal .f32) (k : Fin 1024) (j : Fin 1024) : (shapeCast S1024x1024 X shapeCasts_S1x1024x1024_S1024x1024 (ix2 k j) : EReal) = X (ix3 0 k j) := by
  pointwise
theorem w1_at (X : S1x1024x5632.Idx → Ideal .f32) (k : Fin 1024) (j : Fin 5632) : (shapeCast S1024x5632 X shapeCasts_S1x1024x5632_S1024x5632 (ix2 k j) : EReal) = X (ix3 0 k j) := by
  pointwise
theorem w2_at (X : S1x2816x1024.Idx → Ideal .f32) (k : Fin 2816) (j : Fin 1024) : (shapeCast S2816x1024 X shapeCasts_S1x2816x1024_S2816x1024 (ix2 k j) : EReal) = X (ix3 0 k j) := by
  pointwise
theorem fin_at (X : S1024.Idx → Ideal .f32) (k : Fin 1024) : (shapeCast S1x1024 X shapeCasts_S1024_S1x1024 (ix2 0 k) : EReal) = X (ix1 k) := by
  pointwise
theorem gain_at (X : S1x512.Idx → Ideal .f32) (k : Fin 512) :
    (shapeCast S1x512 (shapeCast S512 X shapeCasts_S1x512_S512) shapeCasts_S512_S1x512 (ix2 0 k) : EReal) = X (ix2 0 k) := by
  pointwise
theorem gain2_at (X : S1x1024.Idx → Ideal .f32) (k : Fin 1024) :
    (shapeCast S1x1024 (shapeCast S1024 X shapeCasts_S1x1024_S1024) shapeCasts_S1024_S1x1024 (ix2 0 k) : EReal) = X (ix2 0 k) := by
  pointwise

section
variable (m : (ℓ : Loc nD τ sig) → Buf (Elt Ideal) ℓ) (c : Dev nD)

/-! ## The weights the tiles read -/

theorem woArr_at (k j : Fin 1024) :
    (woArr m c (ix3 (Fin.ofNat 4 (j.val / 256)) k (Fin.ofNat 256 (j.val % 256))) : EReal) = m ((c : Thread nD τ).loc main_arg7) (ix3 0 k j) := by
  have e : ∀ (b : S1024x256.Idx → Ideal .f32) (q : Fin 256), (k0_pay106 (F := Ideal) b (ValueIdx.ix3 0 k q) : EReal) = b (ix2 k q) := fun b q => by
    rw [← ix3_eq_valueIdx]
    pointwise [k0_pay106]
  show (k0_pay106 (F := Ideal) (iblk m c 7 (pt (j.val / 256 % 4))) (ValueIdx.ix3 0 k (Fin.ofNat 256 (j.val % 256))) : EReal) = _
  rw [e, blk_7 m c _ _ _ j (by show j.val = 256 * min 3 (j.val / 256 % 4 % 44) + j.val % 256 % 256; omega), V_10, wo_at]

theorem wgArr_at (k : Fin 1024) (j : Fin 2816) :
    (wgArr m c (ix3 (Fin.ofNat 11 (j.val / 256)) k (Fin.ofNat 256 (j.val % 256))) : EReal) = m ((c : Thread nD τ).loc main_arg9) (ix3 0 k (Fin.ofNat 5632 j.val)) := by
  have e : ∀ (b : S1024x256.Idx → Ideal .f32) (q : Fin 256), (k0_pay103 (F := Ideal) b (ValueIdx.ix3 0 k q) : EReal) = b (ix2 k q) := fun b q => by
    rw [← ix3_eq_valueIdx]
    pointwise [k0_pay103]
  show (k0_pay103 (F := Ideal) (iblk m c 9 (pt (j.val / 256 % 11))) (ValueIdx.ix3 0 k (Fin.ofNat 256 (j.val % 256))) : EReal) = _
  rw [e, blk_9 m c _ _ _ (Fin.ofNat 5632 j.val)
    (by show j.val % 5632 = 256 * min 10 (j.val / 256 % 11 % 44) + j.val % 256 % 256; omega), V_13, w1_at]

theorem wuArr_at (k : Fin 1024) (j : Fin 2816) :
    (wuArr m c (ix3 (Fin.ofNat 11 (j.val / 256)) k (Fin.ofNat 256 (j.val % 256))) : EReal) = m ((c : Thread nD τ).loc main_arg9) (ix3 0 k (Fin.ofNat 5632 (2816 + j.val))) := by
  have e : ∀ (b : S1024x256.Idx → Ideal .f32) (q : Fin 256), (k0_pay104 (F := Ideal) b (ValueIdx.ix3 0 k q) : EReal) = b (ix2 k q) := fun b q => by
    rw [← ix3_eq_valueIdx]
    pointwise [k0_pay104]
  show (k0_pay104 (F := Ideal) (iblk m c 10 (pt (j.val / 256 % 11))) (ValueIdx.ix3 0 k (Fin.ofNat 256 (j.val % 256))) : EReal) = _
  rw [e, blk_10 m c _ _ _ (Fin.ofNat 5632 (2816 + j.val))
    (by show (2816 + j.val) % 5632 = 2816 + (256 * min 10 (j.val / 256 % 11 % 44) + j.val % 256 % 256); omega), V_13, w1_at]

theorem w2Arr_at (k : Fin 2816) (j : Fin 1024) : (w2Arr m c (ix2 k j) : EReal) = m ((c : Thread nD τ).loc main_arg10) (ix3 0 k j) := by
  have e : ∀ (b : S256x1024.Idx → Ideal .f32) (q : Fin 256), (k0_pay105 (F := Ideal) b (ValueIdx.ix2 q j) : EReal) = b (ix2 q j) := fun b q => by
    rw [← ix2_eq_valueIdx]
    pointwise [k0_pay105]
  show (k0_pay105 (F := Ideal) (iblk m c 11 (pt (k.val / 256))) (ValueIdx.ix2 (Fin.ofNat 256 (k.val % 256)) j) : EReal) = _
  rw [e, blk_11 m c _ _ _ k (by show k.val = 256 * min 10 (k.val / 256 % 44) + k.val % 256 % 256; omega), V_14, w2_at]

/-! ## The result -/

/-- The reference's result, of the kernel's arguments. -/
def result : S16384x1024.Idx → Ideal .f32 :=
  Ref.whole (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

/-- A flushing point's tile at a place: the result's place of that row and column. -/
theorem outAt_at (t : Fin cfg0.N) (h : 12 ≤ t.val) (r : Fin 512) (j : Fin 1024) (R : Fin 16384) (hR : R.val = 512 * (t.val - 12) + r.val) :
    outAt m c t (ix2 r j) = result m c (ix2 R j) := by
  have ht : t.val < 44 := N_0 ▸ t.isLt
  have a0 : ∀ k, (iblk m c 0 (pt (t.val - 1)) (ix2 r k) : EReal) = m ((c : Thread nD τ).loc main_arg0) (ix3 (Fin.ofNat 2 (R.val / 8192)) (Fin.ofNat 8192 (R.val % 8192)) k) := fun k => by
    rw [blk_0 m c _ r k R (by show R.val = 512 * min 31 ((t.val - 1) % 44 - 11) + r.val; omega), V_0, rows_at]
  have hq : R.val = 512 * min 31 ((pt ((pt (t.val - 1)).val - 1)).val - 10) + r.val := by
    show R.val = 512 * min 31 (((t.val - 1) % 44 - 1) % 44 - 10) + r.val; omega
  have a1 : ∀ k, (iblk m c 1 (pt ((pt (t.val - 1)).val - 1)) (ix2 r k) : EReal) = m ((c : Thread nD τ).loc main_arg1) (ix3 (Fin.ofNat 2 (R.val / 8192)) (Fin.ofNat 8192 (R.val % 8192)) k) := fun k => by
    rw [blk_1 m c _ r k R hq, V_1, halfRows_at]
  have a2 : ∀ k, (iblk m c 2 (pt ((pt (t.val - 1)).val - 1)) (ix2 r k) : EReal) = m ((c : Thread nD τ).loc main_arg2) (ix3 (Fin.ofNat 2 (R.val / 8192)) (Fin.ofNat 8192 (R.val % 8192)) k) := fun k => by
    rw [blk_2 m c _ r k R hq, V_2, halfRows_at]
  have a3 : ∀ k, (iblk m c 3 (pt ((pt (t.val - 1)).val - 1)) (ix2 r k) : EReal) = m ((c : Thread nD τ).loc main_arg3) (ix3 (Fin.ofNat 2 (R.val / 8192)) (Fin.ofNat 8192 (R.val % 8192)) k) := fun k => by
    rw [blk_3 m c _ r k R hq, V_3, halfRows_at]
  have a4 : ∀ t k, (iblk m c 4 t (ix2 0 k) : EReal) = m ((c : Thread nD τ).loc main_arg4) (ix2 0 k) := fun t k => by rw [blk_4, V_5, gain_at]
  have a5 : ∀ t k, (iblk m c 5 t (ix2 0 k) : EReal) = m ((c : Thread nD τ).loc main_arg5) (ix2 0 k) := fun t k => by rw [blk_5, V_7, gain_at]
  have a6 : ∀ t k, (iblk m c 6 t (ix2 0 k) : EReal) = m ((c : Thread nD τ).loc main_arg6) (ix2 0 k) := fun t k => by rw [blk_6, V_9, gain_at]
  have a8 : ∀ t k, (iblk m c 8 t (ix2 0 k) : EReal) = m ((c : Thread nD τ).loc main_arg8) (ix2 0 k) := fun t k => by rw [blk_8, V_12, gain2_at]
  have a11 : ∀ t k, (iblk m c 12 t (ix2 0 k) : EReal) = m ((c : Thread nD τ).loc main_arg11) (ix1 k) := fun t k => by rw [blk_12, V_15, fin_at]
  unfold outAt h3At
  rw [if_neg (by omega)]
  unfold h3T mixT result
  rw [tile_at, Ref.whole_at]
  simp only [a0, a1, a2, a3, woArr_at, wgArr_at, wuArr_at, w2Arr_at, a4, a5, a6, a8, a11]

theorem outAt_idx (t : Fin cfg0.N) (h : 12 ≤ t.val) (x : S512x1024.Idx) (y : S16384x1024.Idx) (h0 : (y 0).val = 512 * (t.val - 12) + (x 0).val)
    (h1 : (y 1).val = (x 1).val) : outAt m c t x = result m c y := by
  have ex : x = ix2 (x 0) (x 1) := funext fun a => match a with | ⟨0, _⟩ => rfl | ⟨1, _⟩ => rfl
  have ey : y = ix2 (y 0) (x 1) := funext fun a => match a with | ⟨0, _⟩ => rfl | ⟨1, _⟩ => Fin.ext h1
  rw [ex, ey]
  exact outAt_at m c t h (x 0) (x 1) (y 0) h0

theorem arr_final : (dats m 0 c).arrAt 13 cfg0.N = result m c := by
  refine (dats m 0 c).arrAt_eq_of_covers 13 _ (by decide +kernel) fun t hf y => ?_
  have h : 12 ≤ t.val := of_decide_eq_true ((flush_13 t).symm.trans hf)
  rw [after_13]
  refine outAt_idx m c t h _ _ ?_ ?_
  · have e : ((cfg0.win 13).xinj (cfg0.grid.coords t) y 0).val = (y 0).val := rfl
    blk_simp [e_13]
    omega
  · blk_simp [e_13]

end

end Cert.Proof.Mix
-- ==== Proof.Mix.Claim.lean ====
/- The claims of the second pair of programs: the frames, and equality of the results. -/
module

public import proofs.«01_k».proof.Defs
public import proofs.«01_k».proof.Proof.Gen.Kernel2
public import proofs.«01_k».proof.Proof.Mix.Result
public import proofs.«01_k».proof.Proof.Mix.RefEnd

@[expose] public section

set_option maxRecDepth 65536

noncomputable section

namespace Cert.Proof.Mix

open Idealize.ShloMosaic Idealize.ShloMosaic.TcCoe Idealize.SL.Sem

section
open Cert.Kernel2Ideal Cert.Kernel2Ideal.Gen
variable {F : FTy → Type} [FloatOps F]

/-- Every run of the kernel, over any float values: the result array is what the tiles left, the arguments and the counters are as before. -/
theorem kernel_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v16) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.1 c).1 13,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩) (run_main m ρ)
end

set_option maxHeartbeats 4000000 in
/-- The two prints' body tables are the same, label by label. -/
theorem bodies_eq : Cert.Kernel2.defs₀ (F := Bits) = Cert.Kernel2Ideal.defs₀ (F := Bits) := by
  unfold Cert.Kernel2.defs₀ Cert.Kernel2Ideal.defs₀
  refine congrArg _ (funext fun l => funext fun a => ?_)
  match l, a with
  | ⟨0, _⟩, (t, s) => rfl

theorem defs_eq : Cert.Kernel2.defs (F := Bits) = Cert.Kernel2Ideal.defs (F := Bits) :=
  congrArg (Pipeline.defs Cert.Kernel2Ideal.pcfgs) bodies_eq

theorem frame_kernel : Cert.quiescent_Kernel2 := fun m ρ _ => by
  rw [defs_eq]
  exact (θ_run Cert.Kernel2Ideal.defs _ _).mono (fun _ h => ⟨fun c => (h.1 c).2, h.2⟩) (kernel_run (F := Bits) m ρ)

theorem frame_kernelIdeal : Cert.quiescent_Kernel2Ideal := fun m ρ _ =>
  (θ_run _ _ _).mono (fun _ h => ⟨fun c => (h.1 c).2, h.2⟩) (kernel_run m ρ)

theorem frame_referenceIdeal : Cert.quiescent_Reference2Ideal := fun m ρ _ =>
  (θ_run _ _ _).mono (fun r h => ⟨fun c => (h c).2, sem_eq_zero_of_no_sems (by decide) r.2⟩) (Ref.run m ρ)

/-- The result both programs end with, on each device. -/
def ending (m : (ℓ : Loc Cert.Kernel2Ideal.nD Cert.Kernel2Ideal.τ Cert.Kernel2Ideal.sig) → Buf (Elt Ideal) ℓ) (c : Dev Cert.Kernel2Ideal.nD) :
    Buf (Elt Ideal) ((c.tc : Thread Cert.Kernel2Ideal.nD Cert.Kernel2Ideal.τ).loc Cert.Kernel2Ideal.main_v16) := result m c

theorem algebraic : Cert.algebraic_Kernel2Ideal_Reference2Ideal := fun m ρ m' ρ' _ hargs => by
  refine ⟨ending m, (θ_run _ _ _).mono (fun _ h c => ⟨(h.1 c).1.trans (arr_final m c), (h.1 c).2⟩) (kernel_run m ρ),
    (θ_run _ _ _).mono (fun r h c => ⟨(h c).1.trans ?_, (h c).2⟩) (Ref.run m' ρ')⟩
  obtain ⟨e0, e1, e2, e3, e4, e5, e6, e7, e8, e9, e10, e11⟩ := hargs c
  rw [e0, e1, e2, e3, e4, e5, e6, e7, e8, e9, e10, e11]
  rfl

end Cert.Proof.Mix

end
-- ==== Proof.Ffn.Spec.lean ====
/- What the third kernel computes of one tile of 512 rows for its first result, over any float values. -/
module

public import proofs.«01_k».proof.Proof.Gen.Kernel3Ideal.Skeleton
public import proofs.«01_k».proof.Proof.Mix.Fill

@[expose] public section

set_option maxRecDepth 8192

noncomputable section

namespace Cert.Proof.Ffn

open Cert.Kernel3Ideal Cert.Kernel3Ideal.Gen
open Idealize.ShloMosaic hiding ix2 ix3
open Idealize.ShloMosaic.TcCoe Idealize.ShloMosaic.ValueIdx
open Idealize.SL Idealize.SL.RA Idealize.SL.BI Idealize.SL.Sem

variable {F : FTy → Type} [FloatOps F]
local notation "𝕄" => MT nD τ sig Unit (Elt F) ℕ (UR sig nD τ) ℕ

/-- A memref held whole at raw contents `f`. -/
abbrev held (c : Dev nD) {s : Shape} {e : EltTy} (M : Memref sig .tc .vmem s e) (f : BufTy.Contents (Elt F) M.view.ty) : sProp 𝕄 :=
  M.view.loc (c : Thread nD τ) ↦[M.view.set]{fullShare} f

/-- The hidden columns. -/
def actOf (xn : S512x1024.Idx → F .bf16) (wg wu : S11x1024x256.Idx → F .bf16) : S512x2816.Idx → F .bf16 := fun y =>
  k0_pay40 xn (Mix.slab ((y 1).val / 256) wg) (Mix.slab ((y 1).val / 256) wu) (ix2 (y 0) (Fin.ofNat 256 ((y 1).val % 256)))

/-- A tile after the first feed-forward's residual. -/
def h1Of (x : S1x512x1024.Idx → F .f32) (g : S1x1024.Idx → F .f32) (wg wu : S11x1024x256.Idx → F .bf16) (w2 : S2816x1024.Idx → F .bf16) :
    S1x512x1024.Idx → F .f32 :=
  k0_pay204 (k0_pay196 (k0_pay38 x) (actOf (k0_pay39 x g) wg wu) w2)

end Cert.Proof.Ffn

end
-- ==== Proof.Ffn.Pieces.lean ====
/- What the third kernel's tile stores: the hidden columns block by block, and the tile itself. -/
module

public import proofs.«01_k».proof.Proof.Ffn.Spec
public import Idealize.ShloMosaic.Lib.Tactic
public import Idealize.ShloMosaic.Lib.Pipeline.ReadBack
public import Idealize.ShloMosaic.Lib.Pipeline.ValueKit

@[expose] public section

set_option maxRecDepth 8192

noncomputable section

namespace Cert.Proof.Ffn

open Cert.Kernel3Ideal Cert.Kernel3Ideal.Gen
open Idealize.ShloMosaic hiding ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- A stored block of hidden columns. -/
theorem act_piece {xn : S512x1024.Idx → F .bf16} {wg wu : S11x1024x256.Idx → F .bf16} {o : ℕ} (c : ℕ) (ho : o = 256 * c) (inb) {w : S512x256.Idx → F .bf16}
    (hw : w = k0_pay40 xn (Mix.slab c wg) (Mix.slab c wu)) (x : S512x256.Idx) :
    w x = actOf xn wg wu ((Rect.unit (s := S512x2816) ![0, o] S512x256.size inb).emb x) := by
  subst ho hw
  have h1 : (x 1).val < 256 := (x 1).isLt
  have e : (256 * c + 1 * (x 1).val) / 256 = c := by omega
  show _ = k0_pay40 xn (Mix.slab ((256 * c + 1 * (x 1).val) / 256) wg) (Mix.slab ((256 * c + 1 * (x 1).val) / 256) wu) _
  rw [e]
  refine congrArg _ (funext fun a => Fin.ext ?_)
  match a with
  | ⟨0, _⟩ => show (x 0).val = 0 + 1 * (x 0).val; omega
  | ⟨1, _⟩ => show (x 1).val = (256 * c + 1 * (x 1).val) % 256 % 256; omega

/-- The hidden columns, read whole after their eleven stores. -/
theorem act_read {sig : RefSig} {κ : Kind} {sp : Space} (v : View sig κ sp S512x2816 .bf16) (L : List (View.Piece (Elt F) S512x2816 .bf16))
    {xn : S512x1024.Idx → F .bf16} {wg wu : S11x1024x256.Idx → F .bf16} (hL : View.PiecesOf (Val := Elt F) (e := .bf16) (actOf xn wg wu) L)
    (hcov : ∀ y : S512x2816.Idx, ∃ p ∈ L, y ∈ p.1.set) (inb) :
    v.readCov L (Rect.unit (s := S512x2816) ![0, 0] S512x2816.size inb).toLoadRect = actOf xn wg wu := by
  rw [View.readCov_eq_canon']
  refine funext fun y => (View.canon_apply_of_pieces (e := .bf16) (Val := Elt F) (actOf xn wg wu) L hL.mem _ (hcov _)).trans (congrArg _ (funext fun a => Fin.ext ?_))
  match a with
  | ⟨0, _⟩ => show 0 + 1 * (y 0).val = (y 0).val; omega
  | ⟨1, _⟩ => show 0 + 1 * (y 1).val = (y 1).val; omega

section Values

variable {sig : RefSig} {κ : Kind} {sp : Space}

theorem load_tile {n a b : ℕ} {Val : EltTy → Type} {e : EltTy} (v : View sig κ sp ⟨3, ![n, a, b]⟩ e) (f : v.ty.Contents Val) (inb) :
    View.readAt Val v (Rect.unit (s := ⟨3, ![n, a, b]⟩) ![0, 0, 0] ![n, a, b] inb).toLoadRect f = v.read Val f := by
  refine funext fun x => congrArg (v.read Val f) (funext fun d => Fin.ext ?_)
  match d with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A whole stack stored at once. -/
theorem stack_stored {n a b : ℕ} {Val : EltTy → Type} {e : EltTy} (v : View sig κ sp ⟨3, ![n, a, b]⟩ e) (f : v.ty.Contents Val) (inb) (x : (⟨3, ![n, a, b]⟩ : Shape).Idx → Val e) :
    v.read Val (v.writes Val f [⟨Rect.unit (s := ⟨3, ![n, a, b]⟩) ![0, 0, 0] ![n, a, b] inb, x⟩]) = x := by
  refine funext fun y => Mix.read_inside v f (Rect.unit (s := ⟨3, ![n, a, b]⟩) ![0, 0, 0] ![n, a, b] inb) x y y fun d => ?_
  match d with
  | ⟨0, _⟩ => show (y 0).val = 0 + 1 * (y 0).val; omega
  | ⟨1, _⟩ => show (y 1).val = 0 + 1 * (y 1).val; omega
  | ⟨2, _⟩ => show (y 2).val = 0 + 1 * (y 2).val; omega

theorem act_val {x xn : S512x1024.Idx → F .bf16} (hx : x = xn) (v22 v23 : View sig κ sp S11x1024x256 .bf16) (f22 : v22.ty.Contents (Elt F)) (f23 : v23.ty.Contents (Elt F))
    (n : ℕ) (hn : n < 11) (inb) :
    k0_pay40 x (View.readAt (Elt F) v22 (Rect.unit (s := S11x1024x256) ![n, 0, 0] S1x1024x256.size inb).toLoadRect f22)
      (View.readAt (Elt F) v23 (Rect.unit (s := S11x1024x256) ![n, 0, 0] S1x1024x256.size inb).toLoadRect f23)
      = k0_pay40 xn (Mix.slab n (v22.read (Elt F) f22)) (Mix.slab n (v23.read (Elt F) f23)) :=
  congr (congrArg₂ k0_pay40 hx (Mix.load_slab v22 f22 n hn inb)) (Mix.load_slab v23 f23 n hn inb)

/-- The eleven blocks of hidden columns, as stored. -/
abbrev actList (x : S512x1024.Idx → F .bf16) (v22 v23 : View sig κ sp S11x1024x256 .bf16) (f22 : v22.ty.Contents (Elt F)) (f23 : v23.ty.Contents (Elt F)) :
    List (View.Piece (Elt F) S512x2816 .bf16) :=
    [⟨Rect.unit (s := S512x2816) ![0, 2560] S512x256.size inb_S512x2816_S512x256_0_2560, k0_pay40 x
       (View.readAt (Elt F) v22 (Rect.unit (s := S11x1024x256) ![10, 0, 0] S1x1024x256.size inb_S11x1024x256_S1x1024x256_10_0_0).toLoadRect f22)
       (View.readAt (Elt F) v23 (Rect.unit (s := S11x1024x256) ![10, 0, 0] S1x1024x256.size inb_S11x1024x256_S1x1024x256_10_0_0).toLoadRect f23)⟩,
     ⟨Rect.unit (s := S512x2816) ![0, 2304] S512x256.size inb_S512x2816_S512x256_0_2304, k0_pay40 x
       (View.readAt (Elt F) v22 (Rect.unit (s := S11x1024x256) ![9, 0, 0] S1x1024x256.size inb_S11x1024x256_S1x1024x256_9_0_0).toLoadRect f22)
       (View.readAt (Elt F) v23 (Rect.unit (s := S11x1024x256) ![9, 0, 0] S1x1024x256.size inb_S11x1024x256_S1x1024x256_9_0_0).toLoadRect f23)⟩,
     ⟨Rect.unit (s := S512x2816) ![0, 2048] S512x256.size inb_S512x2816_S512x256_0_2048, k0_pay40 x
       (View.readAt (Elt F) v22 (Rect.unit (s := S11x1024x256) ![8, 0, 0] S1x1024x256.size inb_S11x1024x256_S1x1024x256_8_0_0).toLoadRect f22)
       (View.readAt (Elt F) v23 (Rect.unit (s := S11x1024x256) ![8, 0, 0] S1x1024x256.size inb_S11x1024x256_S1x1024x256_8_0_0).toLoadRect f23)⟩,
     ⟨Rect.unit (s := S512x2816) ![0, 1792] S512x256.size inb_S512x2816_S512x256_0_1792, k0_pay40 x
       (View.readAt (Elt F) v22 (Rect.unit (s := S11x1024x256) ![7, 0, 0] S1x1024x256.size inb_S11x1024x256_S1x1024x256_7_0_0).toLoadRect f22)
       (View.readAt (Elt F) v23 (Rect.unit (s := S11x1024x256) ![7, 0, 0] S1x1024x256.size inb_S11x1024x256_S1x1024x256_7_0_0).toLoadRect f23)⟩,
     ⟨Rect.unit (s := S512x2816) ![0, 1536] S512x256.size inb_S512x2816_S512x256_0_1536, k0_pay40 x
       (View.readAt (Elt F) v22 (Rect.unit (s := S11x1024x256) ![6, 0, 0] S1x1024x256.size inb_S11x1024x256_S1x1024x256_6_0_0).toLoadRect f22)
       (View.readAt (Elt F) v23 (Rect.unit (s := S11x1024x256) ![6, 0, 0] S1x1024x256.size inb_S11x1024x256_S1x1024x256_6_0_0).toLoadRect f23)⟩,
     ⟨Rect.unit (s := S512x2816) ![0, 1280] S512x256.size inb_S512x2816_S512x256_0_1280, k0_pay40 x
       (View.readAt (Elt F) v22 (Rect.unit (s := S11x1024x256) ![5, 0, 0] S1x1024x256.size inb_S11x1024x256_S1x1024x256_5_0_0).toLoadRect f22)
       (View.readAt (Elt F) v23 (Rect.unit (s := S11x1024x256) ![5, 0, 0] S1x1024x256.size inb_S11x1024x256_S1x1024x256_5_0_0).toLoadRect f23)⟩,
     ⟨Rect.unit (s := S512x2816) ![0, 1024] S512x256.size inb_S512x2816_S512x256_0_1024, k0_pay40 x
       (View.readAt (Elt F) v22 (Rect.unit (s := S11x1024x256) ![4, 0, 0] S1x1024x256.size inb_S11x1024x256_S1x1024x256_4_0_0).toLoadRect f22)
       (View.readAt (Elt F) v23 (Rect.unit (s := S11x1024x256) ![4, 0, 0] S1x1024x256.size inb_S11x1024x256_S1x1024x256_4_0_0).toLoadRect f23)⟩,
     ⟨Rect.unit (s := S512x2816) ![0, 768] S512x256.size inb_S512x2816_S512x256_0_768, k0_pay40 x
       (View.readAt (Elt F) v22 (Rect.unit (s := S11x1024x256) ![3, 0, 0] S1x1024x256.size inb_S11x1024x256_S1x1024x256_3_0_0).toLoadRect f22)
       (View.readAt (Elt F) v23 (Rect.unit (s := S11x1024x256) ![3, 0, 0] S1x1024x256.size inb_S11x1024x256_S1x1024x256_3_0_0).toLoadRect f23)⟩,
     ⟨Rect.unit (s := S512x2816) ![0, 512] S512x256.size inb_S512x2816_S512x256_0_512, k0_pay40 x
       (View.readAt (Elt F) v22 (Rect.unit (s := S11x1024x256) ![2, 0, 0] S1x1024x256.size inb_S11x1024x256_S1x1024x256_2_0_0).toLoadRect f22)
       (View.readAt (Elt F) v23 (Rect.unit (s := S11x1024x256) ![2, 0, 0] S1x1024x256.size inb_S11x1024x256_S1x1024x256_2_0_0).toLoadRect f23)⟩,
     ⟨Rect.unit (s := S512x2816) ![0, 256] S512x256.size inb_S512x2816_S512x256_0_256, k0_pay40 x
       (View.readAt (Elt F) v22 (Rect.unit (s := S11x1024x256) ![1, 0, 0] S1x1024x256.size inb_S11x1024x256_S1x1024x256_1_0_0).toLoadRect f22)
       (View.readAt (Elt F) v23 (Rect.unit (s := S11x1024x256) ![1, 0, 0] S1x1024x256.size inb_S11x1024x256_S1x1024x256_1_0_0).toLoadRect f23)⟩,
     ⟨Rect.unit (s := S512x2816) ![0, 0] S512x256.size inb_S512x2816_S512x256_0_0, k0_pay40 x
       (View.readAt (Elt F) v22 (Rect.unit (s := S11x1024x256) ![0, 0, 0] S1x1024x256.size inb_S11x1024x256_S1x1024x256_0_0_0).toLoadRect f22)
       (View.readAt (Elt F) v23 (Rect.unit (s := S11x1024x256) ![0, 0, 0] S1x1024x256.size inb_S11x1024x256_S1x1024x256_0_0_0).toLoadRect f23)⟩]

theorem act_pieces {x xn : S512x1024.Idx → F .bf16} (hx : x = xn) (v22 v23 : View sig κ sp S11x1024x256 .bf16) (f22 : v22.ty.Contents (Elt F)) (f23 : v23.ty.Contents (Elt F)) :
    View.PiecesOf (Val := Elt F) (e := .bf16) (actOf xn (v22.read (Elt F) f22) (v23.read (Elt F) f23)) (actList x v22 v23 f22 f23) :=
  ⟨act_piece 10 rfl inb_S512x2816_S512x256_0_2560 (act_val hx v22 v23 f22 f23 10 (by omega) inb_S11x1024x256_S1x1024x256_10_0_0),
    act_piece 9 rfl inb_S512x2816_S512x256_0_2304 (act_val hx v22 v23 f22 f23 9 (by omega) inb_S11x1024x256_S1x1024x256_9_0_0),
    act_piece 8 rfl inb_S512x2816_S512x256_0_2048 (act_val hx v22 v23 f22 f23 8 (by omega) inb_S11x1024x256_S1x1024x256_8_0_0),
    act_piece 7 rfl inb_S512x2816_S512x256_0_1792 (act_val hx v22 v23 f22 f23 7 (by omega) inb_S11x1024x256_S1x1024x256_7_0_0),
    act_piece 6 rfl inb_S512x2816_S512x256_0_1536 (act_val hx v22 v23 f22 f23 6 (by omega) inb_S11x1024x256_S1x1024x256_6_0_0),
    act_piece 5 rfl inb_S512x2816_S512x256_0_1280 (act_val hx v22 v23 f22 f23 5 (by omega) inb_S11x1024x256_S1x1024x256_5_0_0),
    act_piece 4 rfl inb_S512x2816_S512x256_0_1024 (act_val hx v22 v23 f22 f23 4 (by omega) inb_S11x1024x256_S1x1024x256_4_0_0),
    act_piece 3 rfl inb_S512x2816_S512x256_0_768 (act_val hx v22 v23 f22 f23 3 (by omega) inb_S11x1024x256_S1x1024x256_3_0_0),
    act_piece 2 rfl inb_S512x2816_S512x256_0_512 (act_val hx v22 v23 f22 f23 2 (by omega) inb_S11x1024x256_S1x1024x256_2_0_0),
    act_piece 1 rfl inb_S512x2816_S512x256_0_256 (act_val hx v22 v23 f22 f23 1 (by omega) inb_S11x1024x256_S1x1024x256_1_0_0),
    act_piece 0 rfl inb_S512x2816_S512x256_0_0 (act_val hx v22 v23 f22 f23 0 (by omega) inb_S11x1024x256_S1x1024x256_0_0_0), trivial⟩

theorem h1_val {x X : S1x512x1024.Idx → F .f32} {g : S1x1024.Idx → F .f32} {wg wu : S11x1024x256.Idx → F .bf16} {w2 W : S2816x1024.Idx → F .bf16}
    {A : S512x2816.Idx → F .bf16} (hX : X = x) (hA : A = actOf (k0_pay39 x g) wg wu) (hW : W = w2) :
    k0_pay204 (k0_pay196 (k0_pay38 X) A W) = h1Of x g wg wu w2 := by
  subst hX hA hW
  rfl

/-- The stored tile. -/
theorem h1_stored (v14 v1 : View sig κ sp S1x512x1024 .f32) (v3 : View sig κ sp S1x1024 .f32)
    (v22 v23 : View sig κ sp S11x1024x256 .bf16) (v24 : View sig κ sp S2816x1024 .bf16) (v26 : View sig κ sp S512x2816 .bf16)
    (f14 : v14.ty.Contents (Elt F)) (f1 : v1.ty.Contents (Elt F)) (f3 : v3.ty.Contents (Elt F))
    (f22 : v22.ty.Contents (Elt F)) (f23 : v23.ty.Contents (Elt F)) (f24 : v24.ty.Contents (Elt F)) :
    v14.read (Elt F) (v14.writes (Elt F) f14 [⟨Rect.unit (s := S1x512x1024) ![0, 0, 0] S1x512x1024.size inb_S1x512x1024_S1x512x1024_0_0_0, k0_pay204 (k0_pay196
      (k0_pay38 (View.readAt (Elt F) v1 (Rect.unit (s := S1x512x1024) ![0, 0, 0] S1x512x1024.size inb_S1x512x1024_S1x512x1024_0_0_0).toLoadRect f1))
      (v26.readCov (actList (k0_pay39 (View.readAt (Elt F) v1 (Rect.unit (s := S1x512x1024) ![0, 0, 0] S1x512x1024.size inb_S1x512x1024_S1x512x1024_0_0_0).toLoadRect f1)
         (View.readAt (Elt F) v3 (Rect.unit (s := S1x1024) ![0, 0] S1x1024.size inb_S1x1024_S1x1024_0_0).toLoadRect f3)) v22 v23 f22 f23)
        (Rect.unit (s := S512x2816) ![0, 0] S512x2816.size inb_S512x2816_S512x2816_0_0).toLoadRect)
      (View.readAt (Elt F) v24 (Rect.unit (s := S2816x1024) ![0, 0] S2816x1024.size inb_S2816x1024_S2816x1024_0_0).toLoadRect f24))⟩])
      = h1Of (v1.read (Elt F) f1) (v3.read (Elt F) f3) (v22.read (Elt F) f22) (v23.read (Elt F) f23) (v24.read (Elt F) f24) :=
  (stack_stored v14 f14 inb_S1x512x1024_S1x512x1024_0_0_0 _).trans (h1_val (load_tile v1 f1 inb_S1x512x1024_S1x512x1024_0_0_0)
    (act_read v26 _ (act_pieces (congrArg₂ k0_pay39 (load_tile v1 f1 inb_S1x512x1024_S1x512x1024_0_0_0) (Mix.load_whole v3 f3 inb_S1x1024_S1x1024_0_0))
        v22 v23 f22 f23) (View.cover_of_tiledL _ ![512, 256] rfl) inb_S512x2816_S512x2816_0_0)
    (Mix.load_whole v24 f24 inb_S2816x1024_S2816x1024_0_0))

end Values

end Cert.Proof.Ffn

end
-- ==== Proof.Ffn.Tile.lean ====
/- A tile's point: what it stores of the first result; the gates' values left unnamed. -/
module

public import proofs.«01_k».proof.Proof.Ffn.Pieces
public import Idealize.ShloMosaic.Lib.Tactic
public import Idealize.ShloMosaic.Lib.Pipeline.Kit

@[expose] public section

set_option maxRecDepth 8192

noncomputable section

namespace Cert.Proof.Ffn

open Cert.Kernel3Ideal Cert.Kernel3Ideal.Gen
open Idealize.ShloMosaic hiding ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (𝒱 : Variants) (c : Dev nD) (bd : Option 𝒱.V) (E : Set ℕ) (i : grid0.Coords)
  (arg1 : Memref sig .tc .vmem S1x512x1024 .f32) (harg1 : arg1.IsWhole)
  (arg2 : Memref sig .tc .vmem S16x1024 .f32) (harg2 : arg2.IsWhole)
  (arg3 : Memref sig .tc .vmem S1x1024 .f32) (harg3 : arg3.IsWhole)
  (arg4 : Memref sig .tc .vmem S1024x256 .f32) (harg4 : arg4.IsWhole)
  (arg5 : Memref sig .tc .vmem S1024x256 .f32) (harg5 : arg5.IsWhole)
  (arg6 : Memref sig .tc .vmem S256x1024 .f32) (harg6 : arg6.IsWhole)
  (arg7 : Memref sig .tc .vmem S1x1024 .f32) (harg7 : arg7.IsWhole)
  (arg8 : Memref sig .tc .vmem S1024x256 .f32) (harg8 : arg8.IsWhole)
  (arg9 : Memref sig .tc .vmem S2x256x512 .bf16) (harg9 : arg9.IsWhole)
  (arg10 : Memref sig .tc .vmem S4x512 .f32) (harg10 : arg10.IsWhole)
  (arg11 : Memref sig .tc .vmem S1x512 .f32) (harg11 : arg11.IsWhole)
  (arg12 : Memref sig .tc .vmem S4x128x512 .bf16) (harg12 : arg12.IsWhole)
  (arg13 : Memref sig .tc .vmem S6x512 .f32) (harg13 : arg13.IsWhole)
  (arg14 : Memref sig .tc .vmem S1x512x1024 .f32) (harg14 : arg14.IsWhole)
  (arg15 : Memref sig .tc .vmem S1x512x512 .f32) (harg15 : arg15.IsWhole)
  (arg16 : Memref sig .tc .vmem S1x512x1024 .f32) (harg16 : arg16.IsWhole)
  (arg17 : Memref sig .tc .vmem S16x1024 .f32) (harg17 : arg17.IsWhole)
  (arg18 : Memref sig .tc .vmem S1x4x512x128 .f32) (harg18 : arg18.IsWhole)
  (arg19 : Memref sig .tc .vmem S1x4x512x128 .f32) (harg19 : arg19.IsWhole)
  (arg20 : Memref sig .tc .vmem S1x4x512x128 .f32) (harg20 : arg20.IsWhole)
  (arg21 : Memref sig .tc .vmem S1x4x512x128 .f32) (harg21 : arg21.IsWhole)
  (arg22 : Memref sig .tc .vmem S11x1024x256 .bf16) (harg22 : arg22.IsWhole)
  (arg23 : Memref sig .tc .vmem S11x1024x256 .bf16) (harg23 : arg23.IsWhole)
  (arg24 : Memref sig .tc .vmem S2816x1024 .bf16) (harg24 : arg24.IsWhole)
  (arg25 : Memref sig .tc .vmem S6x1024x256 .bf16) (harg25 : arg25.IsWhole)
  (arg26 : Memref sig .tc .vmem S512x2816 .bf16) (harg26 : arg26.IsWhole)
  (arg27 : Memref sig .tc .vmem S16x2816 .bf16) (harg27 : arg27.IsWhole)
  (arg28 : Memref sig .tc .vmem S536x512 .f32) (harg28 : arg28.IsWhole)
  (arg29 : Memref sig .tc .vmem S24x512 .f32) (harg29 : arg29.IsWhole)
  (arg30 : Memref sig .tc .vmem S16x512 .f32) (harg30 : arg30.IsWhole)
  (f1 : BufTy.Contents (Elt F) arg1.view.ty)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (f16 : BufTy.Contents (Elt F) arg16.view.ty)
  (f17 : BufTy.Contents (Elt F) arg17.view.ty)
  (f18 : BufTy.Contents (Elt F) arg18.view.ty)
  (f19 : BufTy.Contents (Elt F) arg19.view.ty)
  (f20 : BufTy.Contents (Elt F) arg20.view.ty)
  (f21 : BufTy.Contents (Elt F) arg21.view.ty)
  (f22 : BufTy.Contents (Elt F) arg22.view.ty)
  (f23 : BufTy.Contents (Elt F) arg23.view.ty)
  (f24 : BufTy.Contents (Elt F) arg24.view.ty)
  (f25 : BufTy.Contents (Elt F) arg25.view.ty)
  (f26 : BufTy.Contents (Elt F) arg26.view.ty)
  (f27 : BufTy.Contents (Elt F) arg27.view.ty)
  (f28 : BufTy.Contents (Elt F) arg28.view.ty)
  (f29 : BufTy.Contents (Elt F) arg29.view.ty)
  (f30 : BufTy.Contents (Elt F) arg30.view.ty)

set_option maxHeartbeats 6400000 in
/-- A tile. -/
theorem tile_point (hA : ¬ k0_cond1 i = 1#1) (hB : ¬ k0_cond2 i = 1#1) (hC : ¬ Scalar.cmpi .ne (Scalar.extui (Scalar.cmpi .eq (BitVec.ofNat 32 (i 0).val) 0#32) : BitVec 32) 0#32 = 1#1) (hD : ¬ k0_cond4 i = 1#1) (hE : k0_cond5 i = 1#1) (hF : ¬ k0_cond6 i = 1#1) (hG : ¬ k0_cond7 i = 1#1) :
    (iprop(held c arg1 f1 ∗ held c arg3 f3 ∗ held c arg7 f7 ∗ held c arg9 f9 ∗ held c arg10 f10 ∗ held c arg11 f11 ∗ held c arg12 f12 ∗ held c arg13 f13 ∗ held c arg14 f14 ∗ held c arg15 f15 ∗ held c arg16 f16 ∗ held c arg18 f18 ∗ held c arg19 f19 ∗ held c arg20 f20 ∗ held c arg21 f21 ∗ held c arg22 f22 ∗ held c arg23 f23 ∗ held c arg24 f24 ∗ held c arg25 f25 ∗ held c arg26 f26 ∗ held c arg28 f28 ∗ held c arg29 f29 ∗ held c arg30 f30) : sProp 𝕄)
    ⊢ wp frame (wpE (defs₀ (F := F)) 𝒱 (c : Thread nD τ) bd) E
        (cc0_ffn_in (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => iprop(held c arg1 f1
          ∗ held c arg3 f3
          ∗ held c arg7 f7
          ∗ held c arg9 f9
          ∗ held c arg10 f10
          ∗ held c arg11 f11
          ∗ held c arg12 f12
          ∗ held c arg13 f13
          ∗ (∃ f, held c arg14 f ∗ ⌜arg14.view.read (Elt F) f = h1Of (arg1.view.read (Elt F) f1) (arg3.view.read (Elt F) f3) (arg22.view.read (Elt F) f22) (arg23.view.read (Elt F) f23) (arg24.view.read (Elt F) f24)⌝)
          ∗ (∃ f, held c arg15 f)
          ∗ (∃ f, held c arg16 f)
          ∗ (∃ f, held c arg18 f)
          ∗ (∃ f, held c arg19 f)
          ∗ (∃ f, held c arg20 f)
          ∗ (∃ f, held c arg21 f)
          ∗ held c arg22 f22
          ∗ held c arg23 f23
          ∗ held c arg24 f24
          ∗ held c arg25 f25
          ∗ (∃ f, held c arg26 f)
          ∗ (∃ f, held c arg28 f)
          ∗ (∃ f, held c arg29 f)
          ∗ held c arg30 f30)) := by
  simp only [cc0_ffn_in_eq_skeleton]
  unfold cc0_ffn_in_skel
  iintro ⟨H1, H3, H7, H9, H10, H11, H12, H13, H14, H15, H16, H18, H19, H20, H21, H22, H23, H24, H25, H26, H28, H29, H30⟩
  sl_exec
  sl_step
  isplitl [H1]; · iexact H1
  isplitl [H3]; · iexact H3
  isplitl [H7]; · iexact H7
  isplitl [H9]; · iexact H9
  isplitl [H10]; · iexact H10
  isplitl [H11]; · iexact H11
  isplitl [H12]; · iexact H12
  isplitl [H13]; · iexact H13
  isplitl [H14]
  · iexists _
    isplitl [H14]; · iexact H14
    ipureintro
    exact h1_stored arg14.view arg1.view arg3.view arg22.view arg23.view arg24.view arg26.view f14 f1 f3 f22 f23 f24
  isplitl [H15]; · iexists _; iexact H15
  isplitl [H16]; · iexists _; iexact H16
  isplitl [H18]; · iexists _; iexact H18
  isplitl [H19]; · iexists _; iexact H19
  isplitl [H20]; · iexists _; iexact H20
  isplitl [H21]; · iexists _; iexact H21
  isplitl [H22]; · iexact H22
  isplitl [H23]; · iexact H23
  isplitl [H24]; · iexact H24
  isplitl [H25]; · iexact H25
  isplitl [H26]; · iexists _; iexact H26
  isplitl [H28]; · iexists _; iexact H28
  isplitl [H29]; · iexists _; iexact H29
  iexact H30

end Cert.Proof.Ffn

end
-- ==== Proof.Ffn.Fill.lean ====
/- The points of the casting, the meta rows, and the last two blocks. -/
module

public import proofs.«01_k».proof.Proof.Ffn.Spec
public import Idealize.ShloMosaic.Lib.Tactic
public import Idealize.ShloMosaic.Lib.Pipeline.Kit

@[expose] public section

set_option maxRecDepth 8192

noncomputable section

namespace Cert.Proof.Ffn

open Cert.Kernel3Ideal Cert.Kernel3Ideal.Gen
open Idealize.ShloMosaic hiding ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (𝒱 : Variants) (c : Dev nD) (bd : Option 𝒱.V) (E : Set ℕ) (i : grid0.Coords)
  (arg1 : Memref sig .tc .vmem S1x512x1024 .f32) (harg1 : arg1.IsWhole)
  (arg2 : Memref sig .tc .vmem S16x1024 .f32) (harg2 : arg2.IsWhole)
  (arg3 : Memref sig .tc .vmem S1x1024 .f32) (harg3 : arg3.IsWhole)
  (arg4 : Memref sig .tc .vmem S1024x256 .f32) (harg4 : arg4.IsWhole)
  (arg5 : Memref sig .tc .vmem S1024x256 .f32) (harg5 : arg5.IsWhole)
  (arg6 : Memref sig .tc .vmem S256x1024 .f32) (harg6 : arg6.IsWhole)
  (arg7 : Memref sig .tc .vmem S1x1024 .f32) (harg7 : arg7.IsWhole)
  (arg8 : Memref sig .tc .vmem S1024x256 .f32) (harg8 : arg8.IsWhole)
  (arg9 : Memref sig .tc .vmem S2x256x512 .bf16) (harg9 : arg9.IsWhole)
  (arg10 : Memref sig .tc .vmem S4x512 .f32) (harg10 : arg10.IsWhole)
  (arg11 : Memref sig .tc .vmem S1x512 .f32) (harg11 : arg11.IsWhole)
  (arg12 : Memref sig .tc .vmem S4x128x512 .bf16) (harg12 : arg12.IsWhole)
  (arg13 : Memref sig .tc .vmem S6x512 .f32) (harg13 : arg13.IsWhole)
  (arg14 : Memref sig .tc .vmem S1x512x1024 .f32) (harg14 : arg14.IsWhole)
  (arg15 : Memref sig .tc .vmem S1x512x512 .f32) (harg15 : arg15.IsWhole)
  (arg16 : Memref sig .tc .vmem S1x512x1024 .f32) (harg16 : arg16.IsWhole)
  (arg17 : Memref sig .tc .vmem S16x1024 .f32) (harg17 : arg17.IsWhole)
  (arg18 : Memref sig .tc .vmem S1x4x512x128 .f32) (harg18 : arg18.IsWhole)
  (arg19 : Memref sig .tc .vmem S1x4x512x128 .f32) (harg19 : arg19.IsWhole)
  (arg20 : Memref sig .tc .vmem S1x4x512x128 .f32) (harg20 : arg20.IsWhole)
  (arg21 : Memref sig .tc .vmem S1x4x512x128 .f32) (harg21 : arg21.IsWhole)
  (arg22 : Memref sig .tc .vmem S11x1024x256 .bf16) (harg22 : arg22.IsWhole)
  (arg23 : Memref sig .tc .vmem S11x1024x256 .bf16) (harg23 : arg23.IsWhole)
  (arg24 : Memref sig .tc .vmem S2816x1024 .bf16) (harg24 : arg24.IsWhole)
  (arg25 : Memref sig .tc .vmem S6x1024x256 .bf16) (harg25 : arg25.IsWhole)
  (arg26 : Memref sig .tc .vmem S512x2816 .bf16) (harg26 : arg26.IsWhole)
  (arg27 : Memref sig .tc .vmem S16x2816 .bf16) (harg27 : arg27.IsWhole)
  (arg28 : Memref sig .tc .vmem S536x512 .f32) (harg28 : arg28.IsWhole)
  (arg29 : Memref sig .tc .vmem S24x512 .f32) (harg29 : arg29.IsWhole)
  (arg30 : Memref sig .tc .vmem S16x512 .f32) (harg30 : arg30.IsWhole)
  (f1 : BufTy.Contents (Elt F) arg1.view.ty)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (f16 : BufTy.Contents (Elt F) arg16.view.ty)
  (f17 : BufTy.Contents (Elt F) arg17.view.ty)
  (f18 : BufTy.Contents (Elt F) arg18.view.ty)
  (f19 : BufTy.Contents (Elt F) arg19.view.ty)
  (f20 : BufTy.Contents (Elt F) arg20.view.ty)
  (f21 : BufTy.Contents (Elt F) arg21.view.ty)
  (f22 : BufTy.Contents (Elt F) arg22.view.ty)
  (f23 : BufTy.Contents (Elt F) arg23.view.ty)
  (f24 : BufTy.Contents (Elt F) arg24.view.ty)
  (f25 : BufTy.Contents (Elt F) arg25.view.ty)
  (f26 : BufTy.Contents (Elt F) arg26.view.ty)
  (f27 : BufTy.Contents (Elt F) arg27.view.ty)
  (f28 : BufTy.Contents (Elt F) arg28.view.ty)
  (f29 : BufTy.Contents (Elt F) arg29.view.ty)
  (f30 : BufTy.Contents (Elt F) arg30.view.ty)

set_option maxHeartbeats 6400000 in
/-- The last block's gates. -/
theorem last_block (hA : ¬ k0_cond1 i = 1#1) (hB : ¬ k0_cond2 i = 1#1) (hC : ¬ Scalar.cmpi .ne (Scalar.extui (Scalar.cmpi .eq (BitVec.ofNat 32 (i 0).val) 0#32) : BitVec 32) 0#32 = 1#1) (hD : ¬ k0_cond4 i = 1#1) (hE : ¬ k0_cond5 i = 1#1) (hF : k0_cond6 i = 1#1) (hG : ¬ k0_cond7 i = 1#1) :
    (iprop(held c arg10 f10 ∗ held c arg11 f11 ∗ held c arg12 f12 ∗ held c arg13 f13 ∗ held c arg18 f18 ∗ held c arg19 f19 ∗ held c arg20 f20 ∗ held c arg21 f21 ∗ held c arg28 f28 ∗ held c arg29 f29) : sProp 𝕄)
    ⊢ wp frame (wpE (defs₀ (F := F)) 𝒱 (c : Thread nD τ) bd) E
        (cc0_ffn_in (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => iprop(held c arg10 f10
          ∗ held c arg11 f11
          ∗ held c arg12 f12
          ∗ held c arg13 f13
          ∗ (∃ f, held c arg18 f)
          ∗ (∃ f, held c arg19 f)
          ∗ (∃ f, held c arg20 f)
          ∗ (∃ f, held c arg21 f)
          ∗ (∃ f, held c arg28 f)
          ∗ held c arg29 f29)) := by
  simp only [cc0_ffn_in_eq_skeleton]
  unfold cc0_ffn_in_skel
  iintro ⟨H10, H11, H12, H13, H18, H19, H20, H21, H28, H29⟩
  sl_exec
  sl_step
  isplitl [H10]; · iexact H10
  isplitl [H11]; · iexact H11
  isplitl [H12]; · iexact H12
  isplitl [H13]; · iexact H13
  isplitl [H18]; · iexists _; iexact H18
  isplitl [H19]; · iexists _; iexact H19
  isplitl [H20]; · iexists _; iexact H20
  isplitl [H21]; · iexists _; iexact H21
  isplitl [H28]; · iexists _; iexact H28
  iexact H29

set_option maxHeartbeats 6400000 in
/-- The tail block's gates. -/
theorem tail_block (hA : ¬ k0_cond1 i = 1#1) (hB : ¬ k0_cond2 i = 1#1) (hC : ¬ Scalar.cmpi .ne (Scalar.extui (Scalar.cmpi .eq (BitVec.ofNat 32 (i 0).val) 0#32) : BitVec 32) 0#32 = 1#1) (hD : ¬ k0_cond4 i = 1#1) (hE : ¬ k0_cond5 i = 1#1) (hF : ¬ k0_cond6 i = 1#1) (hG : k0_cond7 i = 1#1) :
    (iprop(held c arg10 f10 ∗ held c arg11 f11 ∗ held c arg12 f12 ∗ held c arg13 f13 ∗ held c arg18 f18 ∗ held c arg19 f19 ∗ held c arg20 f20 ∗ held c arg21 f21 ∗ held c arg28 f28) : sProp 𝕄)
    ⊢ wp frame (wpE (defs₀ (F := F)) 𝒱 (c : Thread nD τ) bd) E
        (cc0_ffn_in (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => iprop(held c arg10 f10
          ∗ held c arg11 f11
          ∗ held c arg12 f12
          ∗ held c arg13 f13
          ∗ (∃ f, held c arg18 f)
          ∗ (∃ f, held c arg19 f)
          ∗ (∃ f, held c arg20 f)
          ∗ (∃ f, held c arg21 f)
          ∗ held c arg28 f28)) := by
  simp only [cc0_ffn_in_eq_skeleton]
  unfold cc0_ffn_in_skel
  iintro ⟨H10, H11, H12, H13, H18, H19, H20, H21, H28⟩
  sl_exec
  sl_step
  isplitl [H10]; · iexact H10
  isplitl [H11]; · iexact H11
  isplitl [H12]; · iexact H12
  isplitl [H13]; · iexact H13
  isplitl [H18]; · iexists _; iexact H18
  isplitl [H19]; · iexists _; iexact H19
  isplitl [H20]; · iexists _; iexact H20
  isplitl [H21]; · iexists _; iexact H21
  iexact H28

set_option maxHeartbeats 6400000 in
/-- The meta rows. -/
theorem meta_point (hA : ¬ k0_cond1 i = 1#1) (hB : ¬ k0_cond2 i = 1#1) (hC : ¬ Scalar.cmpi .ne (Scalar.extui (Scalar.cmpi .eq (BitVec.ofNat 32 (i 0).val) 0#32) : BitVec 32) 0#32 = 1#1) (hD : k0_cond4 i = 1#1) (hE : ¬ k0_cond5 i = 1#1) (hF : ¬ k0_cond6 i = 1#1) (hG : ¬ k0_cond7 i = 1#1) :
    (iprop(held c arg2 f2 ∗ held c arg3 f3 ∗ held c arg7 f7 ∗ held c arg9 f9 ∗ held c arg17 f17 ∗ held c arg22 f22 ∗ held c arg23 f23 ∗ held c arg24 f24 ∗ held c arg25 f25 ∗ held c arg27 f27 ∗ held c arg30 f30) : sProp 𝕄)
    ⊢ wp frame (wpE (defs₀ (F := F)) 𝒱 (c : Thread nD τ) bd) E
        (cc0_ffn_in (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => iprop(held c arg2 f2
          ∗ held c arg3 f3
          ∗ held c arg7 f7
          ∗ held c arg9 f9
          ∗ (∃ f, held c arg17 f)
          ∗ held c arg22 f22
          ∗ held c arg23 f23
          ∗ held c arg24 f24
          ∗ held c arg25 f25
          ∗ (∃ f, held c arg27 f)
          ∗ (∃ f, held c arg30 f))) := by
  simp only [cc0_ffn_in_eq_skeleton]
  unfold cc0_ffn_in_skel
  iintro ⟨H2, H3, H7, H9, H17, H22, H23, H24, H25, H27, H30⟩
  sl_exec
  sl_step
  isplitl [H2]; · iexact H2
  isplitl [H3]; · iexact H3
  isplitl [H7]; · iexact H7
  isplitl [H9]; · iexact H9
  isplitl [H17]; · iexists _; iexact H17
  isplitl [H22]; · iexact H22
  isplitl [H23]; · iexact H23
  isplitl [H24]; · iexact H24
  isplitl [H25]; · iexact H25
  isplitl [H27]; · iexists _; iexact H27
  iexists _; iexact H30

set_option maxHeartbeats 6400000 in
/-- A point of the feed-forward weights' casting alone. -/
theorem cast_point (hA : k0_cond1 i = 1#1) (hB : ¬ k0_cond2 i = 1#1) (hC : ¬ Scalar.cmpi .ne (Scalar.extui (Scalar.cmpi .eq (BitVec.ofNat 32 (i 0).val) 0#32) : BitVec 32) 0#32 = 1#1) (hD : ¬ k0_cond4 i = 1#1) (hE : ¬ k0_cond5 i = 1#1) (hF : ¬ k0_cond6 i = 1#1) (hG : ¬ k0_cond7 i = 1#1)
    (k : ℕ) (ho1 : k0_off1 i = ![k, 0, 0]) (ho2 : k0_off2 i = ![256 * k, 0]) :
    (iprop(held c arg4 f4 ∗ held c arg5 f5 ∗ held c arg6 f6 ∗ held c arg22 f22 ∗ held c arg23 f23 ∗ held c arg24 f24) : sProp 𝕄)
    ⊢ wp frame (wpE (defs₀ (F := F)) 𝒱 (c : Thread nD τ) bd) E
        (cc0_ffn_in (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => iprop(held c arg4 f4
          ∗ held c arg5 f5
          ∗ held c arg6 f6
          ∗ (∃ f, held c arg22 f ∗ ⌜∀ y, arg22.view.read (Elt F) f y = if (y 0).val = k then k0_pay352 (arg4.view.read (Elt F) f4) (ix3 0 (y 1) (y 2)) else arg22.view.read (Elt F) f22 y⌝)
          ∗ (∃ f, held c arg23 f ∗ ⌜∀ y, arg23.view.read (Elt F) f y = if (y 0).val = k then k0_pay353 (arg5.view.read (Elt F) f5) (ix3 0 (y 1) (y 2)) else arg23.view.read (Elt F) f23 y⌝)
          ∗ (∃ f, held c arg24 f ∗ ⌜∀ y, arg24.view.read (Elt F) f y = if (y 0).val / 256 = k then k0_pay354 (arg6.view.read (Elt F) f6) (ix2 (Fin.ofNat 256 ((y 0).val % 256)) (y 1)) else arg24.view.read (Elt F) f24 y⌝))) := by
  simp only [cc0_ffn_in_eq_skeleton]
  unfold cc0_ffn_in_skel
  iintro ⟨H4, H5, H6, H22, H23, H24⟩
  sl_exec
  sl_step
  isplitl [H4]; · iexact H4
  isplitl [H5]; · iexact H5
  isplitl [H6]; · iexact H6
  isplitl [H22]
  · iexists _
    isplitl [H22]; · iexact H22
    ipureintro
    exact fun y => (Mix.stack_read arg22.view f22 k (k0_off1 i) ho1 _ _ y).trans (by rw [Mix.load_whole arg4.view f4 inb_S1024x256_S1024x256_0_0])
  isplitl [H23]
  · iexists _
    isplitl [H23]; · iexact H23
    ipureintro
    exact fun y => (Mix.stack_read arg23.view f23 k (k0_off1 i) ho1 _ _ y).trans (by rw [Mix.load_whole arg5.view f5 inb_S1024x256_S1024x256_0_0])
  iexists _
  isplitl [H24]; · iexact H24
  ipureintro
  exact fun y => (Mix.band_read arg24.view f24 k (k0_off2 i) ho2 _ _ y).trans (by rw [Mix.load_whole arg6.view f6 inb_S256x1024_S256x1024_0_0])

set_option maxHeartbeats 6400000 in
/-- A point of both castings. -/
theorem early_point (hA : k0_cond1 i = 1#1) (hB : k0_cond2 i = 1#1) (hC : ¬ Scalar.cmpi .ne (Scalar.extui (Scalar.cmpi .eq (BitVec.ofNat 32 (i 0).val) 0#32) : BitVec 32) 0#32 = 1#1) (hD : ¬ k0_cond4 i = 1#1) (hE : ¬ k0_cond5 i = 1#1) (hF : ¬ k0_cond6 i = 1#1) (hG : ¬ k0_cond7 i = 1#1)
    (k : ℕ) (ho1 : k0_off1 i = ![k, 0, 0]) (ho2 : k0_off2 i = ![256 * k, 0]) :
    (iprop(held c arg4 f4 ∗ held c arg5 f5 ∗ held c arg6 f6 ∗ held c arg8 f8 ∗ held c arg22 f22 ∗ held c arg23 f23 ∗ held c arg24 f24 ∗ held c arg25 f25) : sProp 𝕄)
    ⊢ wp frame (wpE (defs₀ (F := F)) 𝒱 (c : Thread nD τ) bd) E
        (cc0_ffn_in (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => iprop(held c arg4 f4
          ∗ held c arg5 f5
          ∗ held c arg6 f6
          ∗ held c arg8 f8
          ∗ (∃ f, held c arg22 f ∗ ⌜∀ y, arg22.view.read (Elt F) f y = if (y 0).val = k then k0_pay352 (arg4.view.read (Elt F) f4) (ix3 0 (y 1) (y 2)) else arg22.view.read (Elt F) f22 y⌝)
          ∗ (∃ f, held c arg23 f ∗ ⌜∀ y, arg23.view.read (Elt F) f y = if (y 0).val = k then k0_pay353 (arg5.view.read (Elt F) f5) (ix3 0 (y 1) (y 2)) else arg23.view.read (Elt F) f23 y⌝)
          ∗ (∃ f, held c arg24 f ∗ ⌜∀ y, arg24.view.read (Elt F) f y = if (y 0).val / 256 = k then k0_pay354 (arg6.view.read (Elt F) f6) (ix2 (Fin.ofNat 256 ((y 0).val % 256)) (y 1)) else arg24.view.read (Elt F) f24 y⌝)
          ∗ (∃ f, held c arg25 f))) := by
  simp only [cc0_ffn_in_eq_skeleton]
  unfold cc0_ffn_in_skel
  iintro ⟨H4, H5, H6, H8, H22, H23, H24, H25⟩
  sl_exec
  sl_step
  isplitl [H4]; · iexact H4
  isplitl [H5]; · iexact H5
  isplitl [H6]; · iexact H6
  isplitl [H8]; · iexact H8
  isplitl [H22]
  · iexists _
    isplitl [H22]; · iexact H22
    ipureintro
    exact fun y => (Mix.stack_read arg22.view f22 k (k0_off1 i) ho1 _ _ y).trans (by rw [Mix.load_whole arg4.view f4 inb_S1024x256_S1024x256_0_0])
  isplitl [H23]
  · iexists _
    isplitl [H23]; · iexact H23
    ipureintro
    exact fun y => (Mix.stack_read arg23.view f23 k (k0_off1 i) ho1 _ _ y).trans (by rw [Mix.load_whole arg5.view f5 inb_S1024x256_S1024x256_0_0])
  isplitl [H24]
  · iexists _
    isplitl [H24]; · iexact H24
    ipureintro
    exact fun y => (Mix.band_read arg24.view f24 k (k0_off2 i) ho2 _ _ y).trans (by rw [Mix.load_whole arg6.view f6 inb_S256x1024_S256x1024_0_0])
  iexists _; iexact H25

set_option maxHeartbeats 6400000 in
/-- The first point casts a block of every weight and clears the rows kept. -/
theorem first_point (hA : k0_cond1 i = 1#1) (hB : k0_cond2 i = 1#1) (hC : Scalar.cmpi .ne (Scalar.extui (Scalar.cmpi .eq (BitVec.ofNat 32 (i 0).val) 0#32) : BitVec 32) 0#32 = 1#1) (hD : ¬ k0_cond4 i = 1#1) (hE : ¬ k0_cond5 i = 1#1) (hF : ¬ k0_cond6 i = 1#1) (hG : ¬ k0_cond7 i = 1#1)
    (k : ℕ) (ho1 : k0_off1 i = ![k, 0, 0]) (ho2 : k0_off2 i = ![256 * k, 0]) :
    (iprop(held c arg4 f4 ∗ held c arg5 f5 ∗ held c arg6 f6 ∗ held c arg8 f8 ∗ held c arg22 f22 ∗ held c arg23 f23 ∗ held c arg24 f24 ∗ held c arg25 f25 ∗ held c arg28 f28 ∗ held c arg29 f29) : sProp 𝕄)
    ⊢ wp frame (wpE (defs₀ (F := F)) 𝒱 (c : Thread nD τ) bd) E
        (cc0_ffn_in (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => iprop(held c arg4 f4
          ∗ held c arg5 f5
          ∗ held c arg6 f6
          ∗ held c arg8 f8
          ∗ (∃ f, held c arg22 f ∗ ⌜∀ y, arg22.view.read (Elt F) f y = if (y 0).val = k then k0_pay352 (arg4.view.read (Elt F) f4) (ix3 0 (y 1) (y 2)) else arg22.view.read (Elt F) f22 y⌝)
          ∗ (∃ f, held c arg23 f ∗ ⌜∀ y, arg23.view.read (Elt F) f y = if (y 0).val = k then k0_pay353 (arg5.view.read (Elt F) f5) (ix3 0 (y 1) (y 2)) else arg23.view.read (Elt F) f23 y⌝)
          ∗ (∃ f, held c arg24 f ∗ ⌜∀ y, arg24.view.read (Elt F) f y = if (y 0).val / 256 = k then k0_pay354 (arg6.view.read (Elt F) f6) (ix2 (Fin.ofNat 256 ((y 0).val % 256)) (y 1)) else arg24.view.read (Elt F) f24 y⌝)
          ∗ (∃ f, held c arg25 f)
          ∗ (∃ f, held c arg28 f)
          ∗ (∃ f, held c arg29 f))) := by
  simp only [cc0_ffn_in_eq_skeleton]
  unfold cc0_ffn_in_skel
  iintro ⟨H4, H5, H6, H8, H22, H23, H24, H25, H28, H29⟩
  sl_exec
  sl_step
  isplitl [H4]; · iexact H4
  isplitl [H5]; · iexact H5
  isplitl [H6]; · iexact H6
  isplitl [H8]; · iexact H8
  isplitl [H22]
  · iexists _
    isplitl [H22]; · iexact H22
    ipureintro
    exact fun y => (Mix.stack_read arg22.view f22 k (k0_off1 i) ho1 _ _ y).trans (by rw [Mix.load_whole arg4.view f4 inb_S1024x256_S1024x256_0_0])
  isplitl [H23]
  · iexists _
    isplitl [H23]; · iexact H23
    ipureintro
    exact fun y => (Mix.stack_read arg23.view f23 k (k0_off1 i) ho1 _ _ y).trans (by rw [Mix.load_whole arg5.view f5 inb_S1024x256_S1024x256_0_0])
  isplitl [H24]
  · iexists _
    isplitl [H24]; · iexact H24
    ipureintro
    exact fun y => (Mix.band_read arg24.view f24 k (k0_off2 i) ho2 _ _ y).trans (by rw [Mix.load_whole arg6.view f6 inb_S256x1024_S256x1024_0_0])
  isplitl [H25]; · iexists _; iexact H25
  isplitl [H28]; · iexists _; iexact H28
  iexists _; iexact H29

end Cert.Proof.Ffn

end
-- ==== Proof.Ffn.Step.lean ====
/- The third kernel at every point of its grid: what the cast weights hold before a point, and the body from there to the next. -/
module

public import proofs.«01_k».proof.Proof.Ffn.Tile
public import proofs.«01_k».proof.Proof.Ffn.Fill
public import proofs.«01_k».proof.Proof.Gen.Kernel3Ideal.Frame
public import Idealize.ShloMosaic.Lib.Pipeline.ValueKit

@[expose] public section

set_option maxRecDepth 8192

noncomputable section

namespace Cert.Proof.Ffn

open Cert.Kernel3Ideal Cert.Kernel3Ideal.Gen
open Idealize.ShloMosaic hiding ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-! ## Which of the body's branches a point takes -/

/-- The condition of the branch of the first point. -/
abbrev isFirst (i : grid0.Coords) : Prop :=
  Scalar.cmpi .ne (Scalar.extui (Scalar.cmpi .eq (BitVec.ofNat 32 (i 0).val) 0#32) : BitVec 32) 0#32 = 1#1

theorem at_first : ∀ t : Fin grid0.N, t.val = 0 → k0_cond1 (grid0.coords t) = 1#1 ∧ k0_cond2 (grid0.coords t) = 1#1 ∧ isFirst (grid0.coords t) ∧ ¬ k0_cond4 (grid0.coords t) = 1#1 ∧ ¬ k0_cond5 (grid0.coords t) = 1#1 ∧ ¬ k0_cond6 (grid0.coords t) = 1#1 ∧ ¬ k0_cond7 (grid0.coords t) = 1#1 := by decide +kernel
theorem at_early : ∀ t : Fin grid0.N, 0 < t.val → t.val < 6 → k0_cond1 (grid0.coords t) = 1#1 ∧ k0_cond2 (grid0.coords t) = 1#1 ∧ ¬ isFirst (grid0.coords t) ∧ ¬ k0_cond4 (grid0.coords t) = 1#1 ∧ ¬ k0_cond5 (grid0.coords t) = 1#1 ∧ ¬ k0_cond6 (grid0.coords t) = 1#1 ∧ ¬ k0_cond7 (grid0.coords t) = 1#1 := by decide +kernel
theorem at_cast : ∀ t : Fin grid0.N, 6 ≤ t.val → t.val < 11 → k0_cond1 (grid0.coords t) = 1#1 ∧ ¬ k0_cond2 (grid0.coords t) = 1#1 ∧ ¬ isFirst (grid0.coords t) ∧ ¬ k0_cond4 (grid0.coords t) = 1#1 ∧ ¬ k0_cond5 (grid0.coords t) = 1#1 ∧ ¬ k0_cond6 (grid0.coords t) = 1#1 ∧ ¬ k0_cond7 (grid0.coords t) = 1#1 := by decide +kernel
theorem at_meta : ∀ t : Fin grid0.N, t.val = 11 → ¬ k0_cond1 (grid0.coords t) = 1#1 ∧ ¬ k0_cond2 (grid0.coords t) = 1#1 ∧ ¬ isFirst (grid0.coords t) ∧ k0_cond4 (grid0.coords t) = 1#1 ∧ ¬ k0_cond5 (grid0.coords t) = 1#1 ∧ ¬ k0_cond6 (grid0.coords t) = 1#1 ∧ ¬ k0_cond7 (grid0.coords t) = 1#1 := by decide +kernel
theorem at_tile : ∀ t : Fin grid0.N, 12 ≤ t.val → (t.val - 12) % 18 < 16 → ¬ k0_cond1 (grid0.coords t) = 1#1 ∧ ¬ k0_cond2 (grid0.coords t) = 1#1 ∧ ¬ isFirst (grid0.coords t) ∧ ¬ k0_cond4 (grid0.coords t) = 1#1 ∧ k0_cond5 (grid0.coords t) = 1#1 ∧ ¬ k0_cond6 (grid0.coords t) = 1#1 ∧ ¬ k0_cond7 (grid0.coords t) = 1#1 := by decide +kernel
theorem at_gate : ∀ t : Fin grid0.N, 12 ≤ t.val → (t.val - 12) % 18 = 16 → ¬ k0_cond1 (grid0.coords t) = 1#1 ∧ ¬ k0_cond2 (grid0.coords t) = 1#1 ∧ ¬ isFirst (grid0.coords t) ∧ ¬ k0_cond4 (grid0.coords t) = 1#1 ∧ ¬ k0_cond5 (grid0.coords t) = 1#1 ∧ k0_cond6 (grid0.coords t) = 1#1 ∧ ¬ k0_cond7 (grid0.coords t) = 1#1 := by decide +kernel
theorem at_tail : ∀ t : Fin grid0.N, 12 ≤ t.val → (t.val - 12) % 18 = 17 → ¬ k0_cond1 (grid0.coords t) = 1#1 ∧ ¬ k0_cond2 (grid0.coords t) = 1#1 ∧ ¬ isFirst (grid0.coords t) ∧ ¬ k0_cond4 (grid0.coords t) = 1#1 ∧ ¬ k0_cond5 (grid0.coords t) = 1#1 ∧ ¬ k0_cond6 (grid0.coords t) = 1#1 ∧ k0_cond7 (grid0.coords t) = 1#1 := by decide +kernel
theorem off_1 : ∀ t : Fin grid0.N, t.val < 11 → k0_off1 (grid0.coords t) = ![t.val, 0, 0] := by decide +kernel
theorem off_2 : ∀ t : Fin grid0.N, t.val < 11 → k0_off2 (grid0.coords t) = ![256 * t.val, 0] := by decide +kernel

/-! ## What the cast weights hold before a point -/

variable (m : (ℓ : Loc nD τ sig) → Buf (Elt F) ℓ)

/-- The point of number `n`. -/
def pt (n : ℕ) : Fin cfg0.N := ⟨n % 48, by rw [show cfg0.N = 48 from N_0]; omega⟩

theorem pt_val (t : Fin cfg0.N) (n : ℕ) (h : n = t.val) : pt n = t := by
  have : t.val < 48 := N_0 ▸ t.isLt
  exact Fin.ext (by show n % 48 = t.val; omega)

/-- The weights cast, block by block. -/
def wgArr (c : Dev nD) : S11x1024x256.Idx → F .bf16 := fun y => k0_pay352 (iblk m c 3 (pt (y 0).val)) (ix3 0 (y 1) (y 2))
def wuArr (c : Dev nD) : S11x1024x256.Idx → F .bf16 := fun y => k0_pay353 (iblk m c 4 (pt (y 0).val)) (ix3 0 (y 1) (y 2))
def w2Arr (c : Dev nD) : S2816x1024.Idx → F .bf16 := fun y =>
  k0_pay354 (iblk m c 5 (pt ((y 0).val / 256))) (ix2 (Fin.ofNat 256 ((y 0).val % 256)) (y 1))

/-- The first result's tile at a point. -/
def h1T (c : Dev nD) (t : Fin cfg0.N) : S1x512x1024.Idx → F .f32 :=
  h1Of (iblk m c 0 t) (iblk m c 2 t) (wgArr m c) (wuArr m c) (w2Arr m c)

/-- What the three buffers of cast weights hold before point `n`. -/
structure Inv (c : Dev nD) (n : ℕ) (r22 r23 : S11x1024x256.Idx → F .bf16) (r24 : S2816x1024.Idx → F .bf16) : Prop where
  wg : ∀ y, (y 0).val < n → r22 y = wgArr m c y
  wu : ∀ y, (y 0).val < n → r23 y = wuArr m c y
  w2 : ∀ y, (y 0).val < 256 * n → r24 y = w2Arr m c y

section Steps
variable {c : Dev nD} {t : Fin cfg0.N} {r22 s22 r23 s23 : S11x1024x256.Idx → F .bf16} {r24 s24 : S2816x1024.Idx → F .bf16}

theorem inv_zero : Inv m c 0 r22 r23 r24 where
  wg y hy := absurd hy (by omega)
  wu y hy := absurd hy (by omega)
  w2 y hy := absurd hy (by omega)

theorem inv_cast (I : Inv m c t.val r22 r23 r24)
    (h22 : ∀ y, s22 y = if (y 0).val = t.val then k0_pay352 (iblk m c 3 t) (ix3 0 (y 1) (y 2)) else r22 y)
    (h23 : ∀ y, s23 y = if (y 0).val = t.val then k0_pay353 (iblk m c 4 t) (ix3 0 (y 1) (y 2)) else r23 y)
    (h24 : ∀ y, s24 y = if (y 0).val / 256 = t.val then k0_pay354 (iblk m c 5 t) (ix2 (Fin.ofNat 256 ((y 0).val % 256)) (y 1)) else r24 y) :
    Inv m c (t.val + 1) s22 s23 s24 where
  wg y hy := by
    rw [h22 y]
    by_cases e : (y 0).val = t.val
    · rw [if_pos e]; unfold wgArr; rw [pt_val t _ e]
    · rw [if_neg e]; exact I.wg y (by omega)
  wu y hy := by
    rw [h23 y]
    by_cases e : (y 0).val = t.val
    · rw [if_pos e]; unfold wuArr; rw [pt_val t _ e]
    · rw [if_neg e]; exact I.wu y (by omega)
  w2 y hy := by
    rw [h24 y]
    by_cases e : (y 0).val / 256 = t.val
    · rw [if_pos e]; unfold w2Arr; rw [pt_val t _ e]
    · rw [if_neg e]; exact I.w2 y (by omega)

theorem inv_wg (I : Inv m c t.val r22 r23 r24) (ht : 11 ≤ t.val) : r22 = wgArr m c := funext fun y => I.wg y (by
  have : (y 0).val < 11 := (y 0).isLt
  omega)
theorem inv_wu (I : Inv m c t.val r22 r23 r24) (ht : 11 ≤ t.val) : r23 = wuArr m c := funext fun y => I.wu y (by
  have : (y 0).val < 11 := (y 0).isLt
  omega)
theorem inv_w2 (I : Inv m c t.val r22 r23 r24) (ht : 11 ≤ t.val) : r24 = w2Arr m c := funext fun y => I.w2 y (by
  have : (y 0).val < 2816 := (y 0).isLt
  omega)

theorem inv_keep (I : Inv m c t.val r22 r23 r24) (ht : 11 ≤ t.val) : Inv m c (t.val + 1) r22 r23 r24 where
  wg y _ := congrFun (inv_wg m I ht) y
  wu y _ := congrFun (inv_wu m I ht) y
  w2 y _ := congrFun (inv_w2 m I ht) y

end Steps

/-! ## The body from a point to the next -/

set_option maxHeartbeats 3200000 in
/-- From every buffer held, the cast weights as before point `t`, the body leaves the inputs, the first result's tile as stated, and the cast
    weights as before the next point. -/
theorem step (c : Dev nD) (t : Fin cfg0.N)
    (arg1 : Memref sig .tc .vmem S1x512x1024 .f32) (harg1 : arg1.IsWhole)
    (arg2 : Memref sig .tc .vmem S16x1024 .f32) (harg2 : arg2.IsWhole)
    (arg3 : Memref sig .tc .vmem S1x1024 .f32) (harg3 : arg3.IsWhole)
    (arg4 : Memref sig .tc .vmem S1024x256 .f32) (harg4 : arg4.IsWhole)
    (arg5 : Memref sig .tc .vmem S1024x256 .f32) (harg5 : arg5.IsWhole)
    (arg6 : Memref sig .tc .vmem S256x1024 .f32) (harg6 : arg6.IsWhole)
    (arg7 : Memref sig .tc .vmem S1x1024 .f32) (harg7 : arg7.IsWhole)
    (arg8 : Memref sig .tc .vmem S1024x256 .f32) (harg8 : arg8.IsWhole)
    (arg9 : Memref sig .tc .vmem S2x256x512 .bf16) (harg9 : arg9.IsWhole)
    (arg10 : Memref sig .tc .vmem S4x512 .f32) (harg10 : arg10.IsWhole)
    (arg11 : Memref sig .tc .vmem S1x512 .f32) (harg11 : arg11.IsWhole)
    (arg12 : Memref sig .tc .vmem S4x128x512 .bf16) (harg12 : arg12.IsWhole)
    (arg13 : Memref sig .tc .vmem S6x512 .f32) (harg13 : arg13.IsWhole)
    (arg14 : Memref sig .tc .vmem S1x512x1024 .f32) (harg14 : arg14.IsWhole)
    (arg15 : Memref sig .tc .vmem S1x512x512 .f32) (harg15 : arg15.IsWhole)
    (arg16 : Memref sig .tc .vmem S1x512x1024 .f32) (harg16 : arg16.IsWhole)
    (arg17 : Memref sig .tc .vmem S16x1024 .f32) (harg17 : arg17.IsWhole)
    (arg18 : Memref sig .tc .vmem S1x4x512x128 .f32) (harg18 : arg18.IsWhole)
    (arg19 : Memref sig .tc .vmem S1x4x512x128 .f32) (harg19 : arg19.IsWhole)
    (arg20 : Memref sig .tc .vmem S1x4x512x128 .f32) (harg20 : arg20.IsWhole)
    (arg21 : Memref sig .tc .vmem S1x4x512x128 .f32) (harg21 : arg21.IsWhole)
    (arg22 : Memref sig .tc .vmem S11x1024x256 .bf16) (harg22 : arg22.IsWhole)
    (arg23 : Memref sig .tc .vmem S11x1024x256 .bf16) (harg23 : arg23.IsWhole)
    (arg24 : Memref sig .tc .vmem S2816x1024 .bf16) (harg24 : arg24.IsWhole)
    (arg25 : Memref sig .tc .vmem S6x1024x256 .bf16) (harg25 : arg25.IsWhole)
    (arg26 : Memref sig .tc .vmem S512x2816 .bf16) (harg26 : arg26.IsWhole)
    (arg27 : Memref sig .tc .vmem S16x2816 .bf16) (harg27 : arg27.IsWhole)
    (arg28 : Memref sig .tc .vmem S536x512 .f32) (harg28 : arg28.IsWhole)
    (arg29 : Memref sig .tc .vmem S24x512 .f32) (harg29 : arg29.IsWhole)
    (arg30 : Memref sig .tc .vmem S16x512 .f32) (harg30 : arg30.IsWhole)
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (f13 : BufTy.Contents (Elt F) arg13.view.ty)
    (f14 : BufTy.Contents (Elt F) arg14.view.ty)
    (f15 : BufTy.Contents (Elt F) arg15.view.ty)
    (f16 : BufTy.Contents (Elt F) arg16.view.ty)
    (f17 : BufTy.Contents (Elt F) arg17.view.ty)
    (f18 : BufTy.Contents (Elt F) arg18.view.ty)
    (f19 : BufTy.Contents (Elt F) arg19.view.ty)
    (f20 : BufTy.Contents (Elt F) arg20.view.ty)
    (f21 : BufTy.Contents (Elt F) arg21.view.ty)
    (f22 : BufTy.Contents (Elt F) arg22.view.ty)
    (f23 : BufTy.Contents (Elt F) arg23.view.ty)
    (f24 : BufTy.Contents (Elt F) arg24.view.ty)
    (f25 : BufTy.Contents (Elt F) arg25.view.ty)
    (f26 : BufTy.Contents (Elt F) arg26.view.ty)
    (f27 : BufTy.Contents (Elt F) arg27.view.ty)
    (f28 : BufTy.Contents (Elt F) arg28.view.ty)
    (f29 : BufTy.Contents (Elt F) arg29.view.ty)
    (f30 : BufTy.Contents (Elt F) arg30.view.ty)
    (e1 : arg1.view.read (Elt F) f1 = iblk m c 0 t)
    (e2 : arg2.view.read (Elt F) f2 = iblk m c 1 t)
    (e3 : arg3.view.read (Elt F) f3 = iblk m c 2 t)
    (e4 : arg4.view.read (Elt F) f4 = iblk m c 3 t)
    (e5 : arg5.view.read (Elt F) f5 = iblk m c 4 t)
    (e6 : arg6.view.read (Elt F) f6 = iblk m c 5 t)
    (e7 : arg7.view.read (Elt F) f7 = iblk m c 6 t)
    (e8 : arg8.view.read (Elt F) f8 = iblk m c 7 t)
    (e9 : arg9.view.read (Elt F) f9 = iblk m c 8 t)
    (e10 : arg10.view.read (Elt F) f10 = iblk m c 9 t)
    (e11 : arg11.view.read (Elt F) f11 = iblk m c 10 t)
    (e12 : arg12.view.read (Elt F) f12 = iblk m c 11 t)
    (e13 : arg13.view.read (Elt F) f13 = iblk m c 12 t)
    (I : Inv m c (t.val) (arg22.view.read (Elt F) f22) (arg23.view.read (Elt F) f23) (arg24.view.read (Elt F) f24)) :
    (iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13 ∗ held c arg14 f14 ∗ held c arg15 f15 ∗ held c arg16 f16 ∗ held c arg17 f17 ∗ held c arg18 f18 ∗ held c arg19 f19 ∗ held c arg20 f20 ∗ held c arg21 f21 ∗ held c arg22 f22 ∗ held c arg23 f23 ∗ held c arg24 f24 ∗ held c arg25 f25 ∗ held c arg26 f26 ∗ held c arg27 f27 ∗ held c arg28 f28 ∗ held c arg29 f29 ∗ held c arg30 f30) : sProp 𝕄)
    ⊢ wp frame (wpE (defs₀ (F := F)) Variants.none (c : Thread nD τ) none) Set.univ
        (cc0_ffn_in (F := F) (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13
          ∗ (∃ g, held c arg14 g ∗ ⌜(12 ≤ t.val ∧ (t.val - 12) % 18 < 16 → arg14.view.read (Elt F) g = h1T m c t) ∧ (¬ (12 ≤ t.val ∧ (t.val - 12) % 18 < 16) → g = f14)⌝)
          ∗ (∃ g, held c arg15 g) ∗ (∃ g, held c arg16 g) ∗ (∃ g, held c arg17 g) ∗ (∃ g, held c arg18 g) ∗ (∃ g, held c arg19 g) ∗ (∃ g, held c arg20 g) ∗ (∃ g, held c arg21 g)
          ∗ (∃ g22, held c arg22 g22 ∗ ∃ g23, held c arg23 g23 ∗ ∃ g24, held c arg24 g24 ∗ ⌜Inv m c (t.val + 1) (arg22.view.read (Elt F) g22) (arg23.view.read (Elt F) g23) (arg24.view.read (Elt F) g24)⌝)
          ∗ (∃ g, held c arg25 g) ∗ (∃ g, held c arg26 g) ∗ (∃ g, held c arg27 g) ∗ (∃ g, held c arg28 g) ∗ (∃ g, held c arg29 g) ∗ (∃ g, held c arg30 g))) := by
  have hN : t.val < 48 := N_0 ▸ t.isLt
  iintro ⟨H1, H2, H3, H4, H5, H6, H7, H8, H9, H10, H11, H12, H13, H14, H15, H16, H17, H18, H19, H20, H21, H22, H23, H24, H25, H26, H27, H28, H29, H30⟩
  by_cases h0 : t.val = 0
  · obtain ⟨hA, hB, hC, hD, hE, hF, hG⟩ := at_first t h0
    iapply wp_wand $$ [H4 H5 H6 H8 H22 H23 H24 H25 H28 H29]
    · iapply (first_point Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 f4 f5 f6 f8 f22 f23 f24 f25 f28 f29 hA hB hC hD hE hF hG t.val (off_1 t (by omega)) (off_2 t (by omega)))
      iframe H4
      iframe H5
      iframe H6
      iframe H8
      iframe H22
      iframe H23
      iframe H24
      iframe H25
      iframe H28
      iexact H29
    iintro %_ ⟨H4, H5, H6, H8, ⟨%g22, H22, %p22⟩, ⟨%g23, H23, %p23⟩, ⟨%g24, H24, %p24⟩, ⟨%g25, H25⟩, ⟨%g28, H28⟩, ⟨%g29, H29⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists f14; isplitl [H14]; · iexact H14
      ipureintro; exact ⟨fun h => absurd h (by omega), fun _ => rfl⟩
    isplitl [H15]; · iexists f15; iexact H15
    isplitl [H16]; · iexists f16; iexact H16
    isplitl [H17]; · iexists f17; iexact H17
    isplitl [H18]; · iexists f18; iexact H18
    isplitl [H19]; · iexists f19; iexact H19
    isplitl [H20]; · iexists f20; iexact H20
    isplitl [H21]; · iexists f21; iexact H21
    isplitl [H22 H23 H24]
    · iexists g22; isplitl [H22]; · iexact H22
      iexists g23; isplitl [H23]; · iexact H23
      iexists g24; isplitl [H24]; · iexact H24
      ipureintro
      rw [e4] at p22; rw [e5] at p23; rw [e6] at p24
      exact inv_cast m I p22 p23 p24
    isplitl [H25]; · iexists g25; iexact H25
    isplitl [H26]; · iexists f26; iexact H26
    isplitl [H27]; · iexists f27; iexact H27
    isplitl [H28]; · iexists g28; iexact H28
    isplitl [H29]; · iexists g29; iexact H29
    iexists f30; iexact H30
  by_cases h1 : t.val < 6
  · obtain ⟨hA, hB, hC, hD, hE, hF, hG⟩ := at_early t (by omega) h1
    iapply wp_wand $$ [H4 H5 H6 H8 H22 H23 H24 H25]
    · iapply (early_point Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 f4 f5 f6 f8 f22 f23 f24 f25 hA hB hC hD hE hF hG t.val (off_1 t (by omega)) (off_2 t (by omega)))
      iframe H4
      iframe H5
      iframe H6
      iframe H8
      iframe H22
      iframe H23
      iframe H24
      iexact H25
    iintro %_ ⟨H4, H5, H6, H8, ⟨%g22, H22, %p22⟩, ⟨%g23, H23, %p23⟩, ⟨%g24, H24, %p24⟩, ⟨%g25, H25⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists f14; isplitl [H14]; · iexact H14
      ipureintro; exact ⟨fun h => absurd h (by omega), fun _ => rfl⟩
    isplitl [H15]; · iexists f15; iexact H15
    isplitl [H16]; · iexists f16; iexact H16
    isplitl [H17]; · iexists f17; iexact H17
    isplitl [H18]; · iexists f18; iexact H18
    isplitl [H19]; · iexists f19; iexact H19
    isplitl [H20]; · iexists f20; iexact H20
    isplitl [H21]; · iexists f21; iexact H21
    isplitl [H22 H23 H24]
    · iexists g22; isplitl [H22]; · iexact H22
      iexists g23; isplitl [H23]; · iexact H23
      iexists g24; isplitl [H24]; · iexact H24
      ipureintro
      rw [e4] at p22; rw [e5] at p23; rw [e6] at p24
      exact inv_cast m I p22 p23 p24
    isplitl [H25]; · iexists g25; iexact H25
    isplitl [H26]; · iexists f26; iexact H26
    isplitl [H27]; · iexists f27; iexact H27
    isplitl [H28]; · iexists f28; iexact H28
    isplitl [H29]; · iexists f29; iexact H29
    iexists f30; iexact H30
  by_cases h2 : t.val < 11
  · obtain ⟨hA, hB, hC, hD, hE, hF, hG⟩ := at_cast t (by omega) h2
    iapply wp_wand $$ [H4 H5 H6 H22 H23 H24]
    · iapply (cast_point Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 f4 f5 f6 f22 f23 f24 hA hB hC hD hE hF hG t.val (off_1 t (by omega)) (off_2 t (by omega)))
      iframe H4
      iframe H5
      iframe H6
      iframe H22
      iframe H23
      iexact H24
    iintro %_ ⟨H4, H5, H6, ⟨%g22, H22, %p22⟩, ⟨%g23, H23, %p23⟩, ⟨%g24, H24, %p24⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists f14; isplitl [H14]; · iexact H14
      ipureintro; exact ⟨fun h => absurd h (by omega), fun _ => rfl⟩
    isplitl [H15]; · iexists f15; iexact H15
    isplitl [H16]; · iexists f16; iexact H16
    isplitl [H17]; · iexists f17; iexact H17
    isplitl [H18]; · iexists f18; iexact H18
    isplitl [H19]; · iexists f19; iexact H19
    isplitl [H20]; · iexists f20; iexact H20
    isplitl [H21]; · iexists f21; iexact H21
    isplitl [H22 H23 H24]
    · iexists g22; isplitl [H22]; · iexact H22
      iexists g23; isplitl [H23]; · iexact H23
      iexists g24; isplitl [H24]; · iexact H24
      ipureintro
      rw [e4] at p22; rw [e5] at p23; rw [e6] at p24
      exact inv_cast m I p22 p23 p24
    isplitl [H25]; · iexists f25; iexact H25
    isplitl [H26]; · iexists f26; iexact H26
    isplitl [H27]; · iexists f27; iexact H27
    isplitl [H28]; · iexists f28; iexact H28
    isplitl [H29]; · iexists f29; iexact H29
    iexists f30; iexact H30
  by_cases h3 : t.val = 11
  · obtain ⟨hA, hB, hC, hD, hE, hF, hG⟩ := at_meta t h3
    iapply wp_wand $$ [H2 H3 H7 H9 H17 H22 H23 H24 H25 H27 H30]
    · iapply (meta_point Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 f2 f3 f7 f9 f17 f22 f23 f24 f25 f27 f30 hA hB hC hD hE hF hG)
      iframe H2
      iframe H3
      iframe H7
      iframe H9
      iframe H17
      iframe H22
      iframe H23
      iframe H24
      iframe H25
      iframe H27
      iexact H30
    iintro %_ ⟨H2, H3, H7, H9, ⟨%g17, H17⟩, H22, H23, H24, H25, ⟨%g27, H27⟩, ⟨%g30, H30⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists f14; isplitl [H14]; · iexact H14
      ipureintro; exact ⟨fun h => absurd h (by omega), fun _ => rfl⟩
    isplitl [H15]; · iexists f15; iexact H15
    isplitl [H16]; · iexists f16; iexact H16
    isplitl [H17]; · iexists g17; iexact H17
    isplitl [H18]; · iexists f18; iexact H18
    isplitl [H19]; · iexists f19; iexact H19
    isplitl [H20]; · iexists f20; iexact H20
    isplitl [H21]; · iexists f21; iexact H21
    isplitl [H22 H23 H24]
    · iexists f22; isplitl [H22]; · iexact H22
      iexists f23; isplitl [H23]; · iexact H23
      iexists f24; isplitl [H24]; · iexact H24
      ipureintro
      exact inv_keep m I (by omega)
    isplitl [H25]; · iexists f25; iexact H25
    isplitl [H26]; · iexists f26; iexact H26
    isplitl [H27]; · iexists g27; iexact H27
    isplitl [H28]; · iexists f28; iexact H28
    isplitl [H29]; · iexists f29; iexact H29
    iexists g30; iexact H30
  by_cases h4 : (t.val - 12) % 18 < 16
  · obtain ⟨hA, hB, hC, hD, hE, hF, hG⟩ := at_tile t (by omega) h4
    iapply wp_wand $$ [H1 H3 H7 H9 H10 H11 H12 H13 H14 H15 H16 H18 H19 H20 H21 H22 H23 H24 H25 H26 H28 H29 H30]
    · iapply (tile_point Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 f1 f3 f7 f9 f10 f11 f12 f13 f14 f15 f16 f18 f19 f20 f21 f22 f23 f24 f25 f26 f28 f29 f30 hA hB hC hD hE hF hG)
      iframe H1
      iframe H3
      iframe H7
      iframe H9
      iframe H10
      iframe H11
      iframe H12
      iframe H13
      iframe H14
      iframe H15
      iframe H16
      iframe H18
      iframe H19
      iframe H20
      iframe H21
      iframe H22
      iframe H23
      iframe H24
      iframe H25
      iframe H26
      iframe H28
      iframe H29
      iexact H30
    iintro %_ ⟨H1, H3, H7, H9, H10, H11, H12, H13, ⟨%g14, H14, %p14⟩, ⟨%g15, H15⟩, ⟨%g16, H16⟩, ⟨%g18, H18⟩, ⟨%g19, H19⟩, ⟨%g20, H20⟩, ⟨%g21, H21⟩, H22, H23, H24, H25, ⟨%g26, H26⟩, ⟨%g28, H28⟩, ⟨%g29, H29⟩, H30⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists g14; isplitl [H14]; · iexact H14
      ipureintro
      refine ⟨fun _ => ?_, fun h => absurd (by omega) h⟩
      rw [p14, e1, e3, inv_wg m I (by omega), inv_wu m I (by omega), inv_w2 m I (by omega)]; rfl
    isplitl [H15]; · iexists g15; iexact H15
    isplitl [H16]; · iexists g16; iexact H16
    isplitl [H17]; · iexists f17; iexact H17
    isplitl [H18]; · iexists g18; iexact H18
    isplitl [H19]; · iexists g19; iexact H19
    isplitl [H20]; · iexists g20; iexact H20
    isplitl [H21]; · iexists g21; iexact H21
    isplitl [H22 H23 H24]
    · iexists f22; isplitl [H22]; · iexact H22
      iexists f23; isplitl [H23]; · iexact H23
      iexists f24; isplitl [H24]; · iexact H24
      ipureintro
      exact inv_keep m I (by omega)
    isplitl [H25]; · iexists f25; iexact H25
    isplitl [H26]; · iexists g26; iexact H26
    isplitl [H27]; · iexists f27; iexact H27
    isplitl [H28]; · iexists g28; iexact H28
    isplitl [H29]; · iexists g29; iexact H29
    iexists f30; iexact H30
  by_cases h5 : (t.val - 12) % 18 = 16
  · obtain ⟨hA, hB, hC, hD, hE, hF, hG⟩ := at_gate t (by omega) h5
    iapply wp_wand $$ [H10 H11 H12 H13 H18 H19 H20 H21 H28 H29]
    · iapply (last_block Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 f10 f11 f12 f13 f18 f19 f20 f21 f28 f29 hA hB hC hD hE hF hG)
      iframe H10
      iframe H11
      iframe H12
      iframe H13
      iframe H18
      iframe H19
      iframe H20
      iframe H21
      iframe H28
      iexact H29
    iintro %_ ⟨H10, H11, H12, H13, ⟨%g18, H18⟩, ⟨%g19, H19⟩, ⟨%g20, H20⟩, ⟨%g21, H21⟩, ⟨%g28, H28⟩, H29⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists f14; isplitl [H14]; · iexact H14
      ipureintro; exact ⟨fun h => absurd h (by omega), fun _ => rfl⟩
    isplitl [H15]; · iexists f15; iexact H15
    isplitl [H16]; · iexists f16; iexact H16
    isplitl [H17]; · iexists f17; iexact H17
    isplitl [H18]; · iexists g18; iexact H18
    isplitl [H19]; · iexists g19; iexact H19
    isplitl [H20]; · iexists g20; iexact H20
    isplitl [H21]; · iexists g21; iexact H21
    isplitl [H22 H23 H24]
    · iexists f22; isplitl [H22]; · iexact H22
      iexists f23; isplitl [H23]; · iexact H23
      iexists f24; isplitl [H24]; · iexact H24
      ipureintro
      exact inv_keep m I (by omega)
    isplitl [H25]; · iexists f25; iexact H25
    isplitl [H26]; · iexists f26; iexact H26
    isplitl [H27]; · iexists f27; iexact H27
    isplitl [H28]; · iexists g28; iexact H28
    isplitl [H29]; · iexists f29; iexact H29
    iexists f30; iexact H30
  · obtain ⟨hA, hB, hC, hD, hE, hF, hG⟩ := at_tail t (by omega) (by omega)
    iapply wp_wand $$ [H10 H11 H12 H13 H18 H19 H20 H21 H28]
    · iapply (tail_block Variants.none c none Set.univ (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 f10 f11 f12 f13 f18 f19 f20 f21 f28 hA hB hC hD hE hF hG)
      iframe H10
      iframe H11
      iframe H12
      iframe H13
      iframe H18
      iframe H19
      iframe H20
      iframe H21
      iexact H28
    iintro %_ ⟨H10, H11, H12, H13, ⟨%g18, H18⟩, ⟨%g19, H19⟩, ⟨%g20, H20⟩, ⟨%g21, H21⟩, H28⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists f14; isplitl [H14]; · iexact H14
      ipureintro; exact ⟨fun h => absurd h (by omega), fun _ => rfl⟩
    isplitl [H15]; · iexists f15; iexact H15
    isplitl [H16]; · iexists f16; iexact H16
    isplitl [H17]; · iexists f17; iexact H17
    isplitl [H18]; · iexists g18; iexact H18
    isplitl [H19]; · iexists g19; iexact H19
    isplitl [H20]; · iexists g20; iexact H20
    isplitl [H21]; · iexists g21; iexact H21
    isplitl [H22 H23 H24]
    · iexists f22; isplitl [H22]; · iexact H22
      iexists f23; isplitl [H23]; · iexact H23
      iexists f24; isplitl [H24]; · iexact H24
      ipureintro
      exact inv_keep m I (by omega)
    isplitl [H25]; · iexists f25; iexact H25
    isplitl [H26]; · iexists f26; iexact H26
    isplitl [H27]; · iexists f27; iexact H27
    isplitl [H28]; · iexists f28; iexact H28
    isplitl [H29]; · iexists f29; iexact H29
    iexists f30; iexact H30

end Cert.Proof.Ffn

end
-- ==== Proof.Ffn.Blocks.lean ====
/- Where the third kernel's blocks lie, and that the first result's tile stays while its window does. -/
module

public import proofs.«01_k».proof.Proof.Ffn.Step
public import Idealize.ShloMosaic.Lib.Pipeline.ValueKit
public import Idealize.ShloMosaic.Lib.Pointwise.IndexBridge

@[expose] public section

set_option maxRecDepth 16384

noncomputable section

namespace Cert.Proof.Ffn

open Cert.Kernel3Ideal Cert.Kernel3Ideal.Gen
open Idealize.ShloMosaic Idealize.ShloMosaic.TcCoe

variable {F : FTy → Type} [FloatOps F] (m : (ℓ : Loc nD τ sig) → Buf (Elt F) ℓ) (c : Dev nD)

/-- The sequence and the block of rows a point is at. -/
def seqOf (n : ℕ) : ℕ := (n - 12) / 18
def rowOf (n : ℕ) : ℕ := min 15 ((n - 12) % 18)

theorem e_0 : ∀ t : Fin cfg0.N, win0_0.index t = ![seqOf t.val, rowOf t.val, 0] := (by decide +kernel : ∀ t : Fin grid0.N, _)
theorem e_2 : ∀ t : Fin cfg0.N, win0_2.index t = ![0, 0] := (by decide +kernel : ∀ t : Fin grid0.N, _)
theorem e_3 : ∀ t : Fin cfg0.N, win0_3.index t = ![0, min 10 t.val] := (by decide +kernel : ∀ t : Fin grid0.N, _)
theorem e_4 : ∀ t : Fin cfg0.N, win0_4.index t = ![0, 11 + min 10 t.val] := (by decide +kernel : ∀ t : Fin grid0.N, _)
theorem e_5 : ∀ t : Fin cfg0.N, win0_5.index t = ![min 10 t.val, 0] := (by decide +kernel : ∀ t : Fin grid0.N, _)
theorem e_13 : ∀ t : Fin cfg0.N, win0_13.index t = ![seqOf t.val, rowOf t.val, 0] := (by decide +kernel : ∀ t : Fin grid0.N, _)

theorem blk_0 (t : Fin cfg0.N) (r : Fin 512) (k : Fin 1024) (b : Fin 2) (s : Fin 8192) (hb : b.val = seqOf t.val) (hs : s.val = 512 * rowOf t.val + r.val) :
    iblk m c 0 t (ix3 0 r k) = Gen.V m c main_arg0 (ix3 b s k) := by
  blk_simp [iblk]
  refine congrArg _ ?_
  blk_ext [e_0]
theorem blk_2 (t : Fin cfg0.N) (k : Fin 1024) :
    iblk m c 2 t (ix2 0 k) = Gen.V m c main_v1 (ix2 0 k) := by
  blk_simp [iblk]
  refine congrArg _ ?_
  blk_ext [e_2]
theorem blk_3 (t : Fin cfg0.N) (k : Fin 1024) (q : Fin 256) (j : Fin 5632) (h : j.val = 256 * min 10 t.val + q.val) :
    iblk m c 3 t (ix2 k q) = Gen.V m c main_v2 (ix2 k j) := by
  blk_simp [iblk]
  refine congrArg _ ?_
  blk_ext [e_3]
theorem blk_4 (t : Fin cfg0.N) (k : Fin 1024) (q : Fin 256) (j : Fin 5632) (h : j.val = 2816 + (256 * min 10 t.val + q.val)) :
    iblk m c 4 t (ix2 k q) = Gen.V m c main_v2 (ix2 k j) := by
  blk_simp [iblk]
  refine congrArg _ ?_
  blk_ext [e_4]
theorem blk_5 (t : Fin cfg0.N) (q : Fin 256) (j : Fin 1024) (k : Fin 2816) (h : k.val = 256 * min 10 t.val + q.val) :
    iblk m c 5 t (ix2 q j) = Gen.V m c main_v3 (ix2 k j) := by
  blk_simp [iblk]
  refine congrArg _ ?_
  blk_ext [e_5]

/-- The rows read do not move while the place read does not. -/
theorem rows_same (t t' : Fin cfg0.N) (hb : seqOf t.val = seqOf t'.val) (hs : rowOf t.val = rowOf t'.val) (y : S1x512x1024.Idx) :
    iblk m c 0 t y = iblk m c 0 t' y := by
  have ht : t.val < 48 := N_0 ▸ t.isLt
  have h0 : (y 0).val < 1 := (y 0).isLt
  have h1 : (y 1).val < 512 := (y 1).isLt
  have ey : y = ix3 0 (y 1) (y 2) := funext fun a => match a with | ⟨0, _⟩ => Fin.ext (by show (y 0).val = 0; omega) | ⟨1, _⟩ => rfl | ⟨2, _⟩ => rfl
  have hsq : seqOf t.val < 2 := by unfold seqOf; omega
  have hrw : 512 * rowOf t.val + (y 1).val < 8192 := by unfold rowOf; omega
  rw [ey]
  exact (blk_0 m c t (y 1) (y 2) ⟨seqOf t.val, hsq⟩ ⟨512 * rowOf t.val + (y 1).val, hrw⟩ rfl rfl).trans
    (blk_0 m c t' (y 1) (y 2) ⟨seqOf t.val, hsq⟩ ⟨512 * rowOf t.val + (y 1).val, hrw⟩ hb (by rw [← hs])).symm

theorem gains_same (t t' : Fin cfg0.N) (y : S1x1024.Idx) : iblk m c 2 t y = iblk m c 2 t' y := by
  have h0 : (y 0).val < 1 := (y 0).isLt
  have ey : y = ix2 0 (y 1) := funext fun a => match a with | ⟨0, _⟩ => Fin.ext (by show (y 0).val = 0; omega) | ⟨1, _⟩ => rfl
  rw [ey]
  exact (blk_2 m c t (y 1)).trans (blk_2 m c t' (y 1)).symm

/-- The first result's tile of a point that makes none is the tile of the point before. -/
theorem tile_same (t t' : Fin cfg0.N) (hb : seqOf t.val = seqOf t'.val) (hs : rowOf t.val = rowOf t'.val) : h1T m c t = h1T m c t' := by
  have e0 : (iblk m c 0 t : S1x512x1024.Idx → F .f32) = iblk m c 0 t' := funext fun y => rows_same m c t t' hb hs y
  have e2 : (iblk m c 2 t : S1x1024.Idx → F .f32) = iblk m c 2 t' := funext fun y => gains_same m c t t' y
  exact congrArg₂ (fun x g => h1Of x g (wgArr m c) (wuArr m c) (w2Arr m c)) e0 e2

end Cert.Proof.Ffn

end
-- ==== Proof.Ffn.Run.lean ====
/- The third kernel over its whole grid: proof data, the body's obligation with the results but the first left unnamed, and the run of the pipeline. -/
module

public import proofs.«01_k».proof.Proof.Ffn.Blocks

@[expose] public section

set_option maxRecDepth 8192

noncomputable section

namespace Cert.Proof.Ffn

open Cert.Kernel3Ideal Cert.Kernel3Ideal.Gen
open Idealize.ShloMosaic hiding ix2 ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The scratch buffers before point `n`. -/
def kept (c : Dev nD) (n : ℕ) : sProp 𝕄 :=
  iprop((∃ g22, held c (Memref.whole cc0_scratch0) g22 ∗ ∃ g23, held c (Memref.whole cc0_scratch1) g23 ∗ ∃ g24, held c (Memref.whole cc0_scratch2) g24
    ∗ ⌜Inv m c n ((Memref.whole cc0_scratch0).view.read (Elt F) g22) ((Memref.whole cc0_scratch1).view.read (Elt F) g23) ((Memref.whole cc0_scratch2).view.read (Elt F) g24)⌝)
    ∗ (∃ g, held c (Memref.whole cc0_scratch3) g) ∗ (∃ g, held c (Memref.whole cc0_scratch4) g) ∗ (∃ g, held c (Memref.whole cc0_scratch5) g) ∗ (∃ g, held c (Memref.whole cc0_scratch6) g) ∗ (∃ g, held c (Memref.whole cc0_scratch7) g) ∗ (∃ g, held c (Memref.whole cc0_scratch8) g))

/-- The windows left unnamed: every result but the first. -/
def fgt (w : Fin 21) : Bool := decide (14 ≤ w.val)

/-- The arrays as launched; each input's buffer at its block, the first result's at its tile; the scratch buffers as `kept` tells. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => h1T m c t
    | ⟨14, _⟩ => iblk m c 14 t
    | ⟨15, _⟩ => iblk m c 15 t
    | ⟨16, _⟩ => iblk m c 16 t
    | ⟨17, _⟩ => fun _ => h1T m c t (ix3 0 0 0)
    | ⟨18, _⟩ => fun _ => h1T m c t (ix3 0 0 0)
    | ⟨19, _⟩ => fun _ => h1T m c t (ix3 0 0 0)
    | ⟨20, _⟩ => fun _ => h1T m c t (ix3 0 0 0)
    | ⟨_ + 21, h⟩ => absurd h (Nat.not_lt.mpr (Nat.le_add_left 21 _))
  Φ t := iprop(kept m c t.val ∗ ∃ r, prngReg c r)
  q w := Pipeline.shareOf spec0 w
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = h1T m c t := by dsimp only [dats]
theorem before_0 (c : Dev nD) (t : Fin cfg0.N) (d) : (dats m 0 c).before 0 t d = iblk m c 0 t := before0_0_of m (dats m 0 c) rfl (after_0 m c) t d
theorem before_1 (c : Dev nD) (t : Fin cfg0.N) (d) : (dats m 0 c).before 1 t d = iblk m c 1 t := before0_1_of m (dats m 0 c) rfl (after_1 m c) t d
theorem before_2 (c : Dev nD) (t : Fin cfg0.N) (d) : (dats m 0 c).before 2 t d = iblk m c 2 t := before0_2_of m (dats m 0 c) rfl (after_2 m c) t d
theorem before_3 (c : Dev nD) (t : Fin cfg0.N) (d) : (dats m 0 c).before 3 t d = iblk m c 3 t := before0_3_of m (dats m 0 c) rfl (after_3 m c) t d
theorem before_4 (c : Dev nD) (t : Fin cfg0.N) (d) : (dats m 0 c).before 4 t d = iblk m c 4 t := before0_4_of m (dats m 0 c) rfl (after_4 m c) t d
theorem before_5 (c : Dev nD) (t : Fin cfg0.N) (d) : (dats m 0 c).before 5 t d = iblk m c 5 t := before0_5_of m (dats m 0 c) rfl (after_5 m c) t d
theorem before_6 (c : Dev nD) (t : Fin cfg0.N) (d) : (dats m 0 c).before 6 t d = iblk m c 6 t := before0_6_of m (dats m 0 c) rfl (after_6 m c) t d
theorem before_7 (c : Dev nD) (t : Fin cfg0.N) (d) : (dats m 0 c).before 7 t d = iblk m c 7 t := before0_7_of m (dats m 0 c) rfl (after_7 m c) t d
theorem before_8 (c : Dev nD) (t : Fin cfg0.N) (d) : (dats m 0 c).before 8 t d = iblk m c 8 t := before0_8_of m (dats m 0 c) rfl (after_8 m c) t d
theorem before_9 (c : Dev nD) (t : Fin cfg0.N) (d) : (dats m 0 c).before 9 t d = iblk m c 9 t := before0_9_of m (dats m 0 c) rfl (after_9 m c) t d
theorem before_10 (c : Dev nD) (t : Fin cfg0.N) (d) : (dats m 0 c).before 10 t d = iblk m c 10 t := before0_10_of m (dats m 0 c) rfl (after_10 m c) t d
theorem before_11 (c : Dev nD) (t : Fin cfg0.N) (d) : (dats m 0 c).before 11 t d = iblk m c 11 t := before0_11_of m (dats m 0 c) rfl (after_11 m c) t d
theorem before_12 (c : Dev nD) (t : Fin cfg0.N) (d) : (dats m 0 c).before 12 t d = iblk m c 12 t := before0_12_of m (dats m 0 c) rfl (after_12 m c) t d

/-- A whole buffer at some contents, held as a memref or at its location. -/
theorem whole_eq (c : Dev nD) (b : Ref sig .tc) : (iprop(∃ f, ((Memref.whole b).view.loc (c : Thread nD τ)) ↦[(Memref.whole b).view.set]{fullShare} f) : sProp 𝕄) = iprop(∃ f : Buf (Elt F) ((c : Thread nD τ).loc b), ((c : Thread nD τ).loc b) ↦{fullShare} f) := by
  rw [show (Memref.whole b).view.set = Finset.univ from View.set_whole b]

/-- The scratch buffers, held as memrefs. -/
theorem scratch_eq (c : Dev nD) : (Pipeline.scopedRest spec0 c : sProp 𝕄)
    = iprop((∃ f, held c (Memref.whole cc0_scratch0) f) ∗ (∃ f, held c (Memref.whole cc0_scratch1) f) ∗ (∃ f, held c (Memref.whole cc0_scratch2) f) ∗ (∃ f, held c (Memref.whole cc0_scratch3) f) ∗ (∃ f, held c (Memref.whole cc0_scratch4) f) ∗ (∃ f, held c (Memref.whole cc0_scratch5) f) ∗ (∃ f, held c (Memref.whole cc0_scratch6) f) ∗ (∃ f, held c (Memref.whole cc0_scratch7) f) ∗ (∃ f, held c (Memref.whole cc0_scratch8) f)) :=
  (scopedRest0_eq c).trans (congrArg₂ BIBase.sep (whole_eq c cc0_scratch0).symm (congrArg₂ BIBase.sep (whole_eq c cc0_scratch1).symm (congrArg₂ BIBase.sep (whole_eq c cc0_scratch2).symm (congrArg₂ BIBase.sep (whole_eq c cc0_scratch3).symm (congrArg₂ BIBase.sep (whole_eq c cc0_scratch4).symm (congrArg₂ BIBase.sep (whole_eq c cc0_scratch5).symm (congrArg₂ BIBase.sep (whole_eq c cc0_scratch6).symm (congrArg₂ BIBase.sep (whole_eq c cc0_scratch7).symm ((whole_eq c cc0_scratch8).symm)))))))))

theorem kept_start (c : Dev nD) : (Pipeline.scopedRest spec0 c : sProp 𝕄) ⊢ kept m c 0 := by
  rw [scratch_eq]
  unfold kept
  iintro ⟨⟨%f0, H0⟩, ⟨%f1, H1⟩, ⟨%f2, H2⟩, HR⟩
  isplitl [H0 H1 H2]
  · iexists f0; isplitl [H0]; · iexact H0
    iexists f1; isplitl [H1]; · iexact H1
    iexists f2; isplitl [H2]; · iexact H2
    ipureintro; exact inv_zero m
  iexact HR

theorem kept_end (c : Dev nD) (n : ℕ) : kept m c n ⊢ (Pipeline.scopedRest spec0 c : sProp 𝕄) := by
  rw [scratch_eq]
  unfold kept
  iintro ⟨⟨%f0, H0, %f1, H1, %f2, H2, -⟩, HR⟩
  isplitl [H0]; · iexists f0; iexact H0
  isplitl [H1]; · iexists f1; iexact H1
  isplitl [H2]; · iexists f2; iexact H2
  iexact HR

set_option maxHeartbeats 1600000 in
/-- The body on staging buffers holding the point's blocks, to any continuation. -/
theorem body_wp (c : Dev nD) (t : Fin cfg0.N)
    (M1 : Memref sig .tc .vmem S1x512x1024 .f32) (h1 : M1.IsWhole)
    (M2 : Memref sig .tc .vmem S16x1024 .f32) (h2 : M2.IsWhole)
    (M3 : Memref sig .tc .vmem S1x1024 .f32) (h3 : M3.IsWhole)
    (M4 : Memref sig .tc .vmem S1024x256 .f32) (h4 : M4.IsWhole)
    (M5 : Memref sig .tc .vmem S1024x256 .f32) (h5 : M5.IsWhole)
    (M6 : Memref sig .tc .vmem S256x1024 .f32) (h6 : M6.IsWhole)
    (M7 : Memref sig .tc .vmem S1x1024 .f32) (h7 : M7.IsWhole)
    (M8 : Memref sig .tc .vmem S1024x256 .f32) (h8 : M8.IsWhole)
    (M9 : Memref sig .tc .vmem S2x256x512 .bf16) (h9 : M9.IsWhole)
    (M10 : Memref sig .tc .vmem S4x512 .f32) (h10 : M10.IsWhole)
    (M11 : Memref sig .tc .vmem S1x512 .f32) (h11 : M11.IsWhole)
    (M12 : Memref sig .tc .vmem S4x128x512 .bf16) (h12 : M12.IsWhole)
    (M13 : Memref sig .tc .vmem S6x512 .f32) (h13 : M13.IsWhole)
    (M14 : Memref sig .tc .vmem S1x512x1024 .f32) (h14 : M14.IsWhole)
    (M15 : Memref sig .tc .vmem S1x512x512 .f32) (h15 : M15.IsWhole)
    (M16 : Memref sig .tc .vmem S1x512x1024 .f32) (h16 : M16.IsWhole)
    (M17 : Memref sig .tc .vmem S16x1024 .f32) (h17 : M17.IsWhole)
    (M18 : Memref sig .tc .vmem S1x4x512x128 .f32) (h18 : M18.IsWhole)
    (M19 : Memref sig .tc .vmem S1x4x512x128 .f32) (h19 : M19.IsWhole)
    (M20 : Memref sig .tc .vmem S1x4x512x128 .f32) (h20 : M20.IsWhole)
    (M21 : Memref sig .tc .vmem S1x4x512x128 .f32) (h21 : M21.IsWhole)
    (D : S1x512x1024.Idx → F .f32) (K : PUnit → sProp 𝕄) :
    iprop(owns (c : Thread nD τ) M1 fullShare (iblk m c 0 t) ∗ owns (c : Thread nD τ) M2 fullShare (iblk m c 1 t) ∗ owns (c : Thread nD τ) M3 fullShare (iblk m c 2 t) ∗ owns (c : Thread nD τ) M4 fullShare (iblk m c 3 t) ∗ owns (c : Thread nD τ) M5 fullShare (iblk m c 4 t) ∗ owns (c : Thread nD τ) M6 fullShare (iblk m c 5 t) ∗ owns (c : Thread nD τ) M7 fullShare (iblk m c 6 t) ∗ owns (c : Thread nD τ) M8 fullShare (iblk m c 7 t) ∗ owns (c : Thread nD τ) M9 fullShare (iblk m c 8 t) ∗ owns (c : Thread nD τ) M10 fullShare (iblk m c 9 t) ∗ owns (c : Thread nD τ) M11 fullShare (iblk m c 10 t) ∗ owns (c : Thread nD τ) M12 fullShare (iblk m c 11 t) ∗ owns (c : Thread nD τ) M13 fullShare (iblk m c 12 t)
        ∗ owns (c : Thread nD τ) M14 fullShare D ∗ (∃ X, owns (c : Thread nD τ) M15 fullShare X) ∗ (∃ X, owns (c : Thread nD τ) M16 fullShare X) ∗ (∃ X, owns (c : Thread nD τ) M17 fullShare X) ∗ (∃ X, owns (c : Thread nD τ) M18 fullShare X) ∗ (∃ X, owns (c : Thread nD τ) M19 fullShare X) ∗ (∃ X, owns (c : Thread nD τ) M20 fullShare X) ∗ (∃ X, owns (c : Thread nD τ) M21 fullShare X) ∗ kept m c t.val
        ∗ (iprop(owns (c : Thread nD τ) M1 fullShare (iblk m c 0 t) ∗ owns (c : Thread nD τ) M2 fullShare (iblk m c 1 t) ∗ owns (c : Thread nD τ) M3 fullShare (iblk m c 2 t) ∗ owns (c : Thread nD τ) M4 fullShare (iblk m c 3 t) ∗ owns (c : Thread nD τ) M5 fullShare (iblk m c 4 t) ∗ owns (c : Thread nD τ) M6 fullShare (iblk m c 5 t) ∗ owns (c : Thread nD τ) M7 fullShare (iblk m c 6 t) ∗ owns (c : Thread nD τ) M8 fullShare (iblk m c 7 t) ∗ owns (c : Thread nD τ) M9 fullShare (iblk m c 8 t) ∗ owns (c : Thread nD τ) M10 fullShare (iblk m c 9 t) ∗ owns (c : Thread nD τ) M11 fullShare (iblk m c 10 t) ∗ owns (c : Thread nD τ) M12 fullShare (iblk m c 11 t) ∗ owns (c : Thread nD τ) M13 fullShare (iblk m c 12 t)
            ∗ (∃ X, owns (c : Thread nD τ) M14 fullShare X ∗ ⌜(12 ≤ t.val ∧ (t.val - 12) % 18 < 16 → X = h1T m c t) ∧ (¬ (12 ≤ t.val ∧ (t.val - 12) % 18 < 16) → X = D)⌝) ∗ (∃ X, owns (c : Thread nD τ) M15 fullShare X) ∗ (∃ X, owns (c : Thread nD τ) M16 fullShare X) ∗ (∃ X, owns (c : Thread nD τ) M17 fullShare X) ∗ (∃ X, owns (c : Thread nD τ) M18 fullShare X) ∗ (∃ X, owns (c : Thread nD τ) M19 fullShare X) ∗ (∃ X, owns (c : Thread nD τ) M20 fullShare X) ∗ (∃ X, owns (c : Thread nD τ) M21 fullShare X) ∗ kept m c (t.val + 1)) -∗ K ⟨⟩))
      ⊢ wp frame (wpE (defs₀ (F := F)) Variants.none (c : Thread nD τ) none) Set.univ
        (cc0_ffn_in (F := F) (grid0.coords t) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)) K := by
  unfold owns kept
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%X15, %f15, %e15, H15⟩, ⟨%X16, %f16, %e16, H16⟩, ⟨%X17, %f17, %e17, H17⟩, ⟨%X18, %f18, %e18, H18⟩, ⟨%X19, %f19, %e19, H19⟩, ⟨%X20, %f20, %e20, H20⟩, ⟨%X21, %f21, %e21, H21⟩, ⟨⟨%f22, H22, %f23, H23, %f24, H24, %I⟩, ⟨%f25, H25⟩, ⟨%f26, H26⟩, ⟨%f27, H27⟩, ⟨%f28, H28⟩, ⟨%f29, H29⟩, ⟨%f30, H30⟩⟩, Hk⟩
  iapply wp_wand $$ [H1 H2 H3 H4 H5 H6 H7 H8 H9 H10 H11 H12 H13 H14 H15 H16 H17 H18 H19 H20 H21 H22 H23 H24 H25 H26 H27 H28 H29 H30]
  · iapply (step m c t M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
      f1 f2 f3 f4 f5 f6 f7 f8 f9 f10 f11 f12 f13 f14 f15 f16 f17 f18 f19 f20 f21 f22 f23 f24 f25 f26 f27 f28 f29 f30 e1 e2 e3 e4 e5 e6 e7 e8 e9 e10 e11 e12 e13 I)
    iframe H1
    iframe H2
    iframe H3
    iframe H4
    iframe H5
    iframe H6
    iframe H7
    iframe H8
    iframe H9
    iframe H10
    iframe H11
    iframe H12
    iframe H13
    iframe H14
    iframe H15
    iframe H16
    iframe H17
    iframe H18
    iframe H19
    iframe H20
    iframe H21
    iframe H22
    iframe H23
    iframe H24
    iframe H25
    iframe H26
    iframe H27
    iframe H28
    iframe H29
    iexact H30
  iintro %_ ⟨H1, H2, H3, H4, H5, H6, H7, H8, H9, H10, H11, H12, H13, ⟨%g14, H14, %p14⟩, ⟨%g15, H15⟩, ⟨%g16, H16⟩, ⟨%g17, H17⟩, ⟨%g18, H18⟩, ⟨%g19, H19⟩, ⟨%g20, H20⟩, ⟨%g21, H21⟩, HS⟩
  iapply Hk
  isplitl [H1]
  · iexists f1; isplitr [H1]; · ipureintro; exact e1
    iexact H1
  isplitl [H2]
  · iexists f2; isplitr [H2]; · ipureintro; exact e2
    iexact H2
  isplitl [H3]
  · iexists f3; isplitr [H3]; · ipureintro; exact e3
    iexact H3
  isplitl [H4]
  · iexists f4; isplitr [H4]; · ipureintro; exact e4
    iexact H4
  isplitl [H5]
  · iexists f5; isplitr [H5]; · ipureintro; exact e5
    iexact H5
  isplitl [H6]
  · iexists f6; isplitr [H6]; · ipureintro; exact e6
    iexact H6
  isplitl [H7]
  · iexists f7; isplitr [H7]; · ipureintro; exact e7
    iexact H7
  isplitl [H8]
  · iexists f8; isplitr [H8]; · ipureintro; exact e8
    iexact H8
  isplitl [H9]
  · iexists f9; isplitr [H9]; · ipureintro; exact e9
    iexact H9
  isplitl [H10]
  · iexists f10; isplitr [H10]; · ipureintro; exact e10
    iexact H10
  isplitl [H11]
  · iexists f11; isplitr [H11]; · ipureintro; exact e11
    iexact H11
  isplitl [H12]
  · iexists f12; isplitr [H12]; · ipureintro; exact e12
    iexact H12
  isplitl [H13]
  · iexists f13; isplitr [H13]; · ipureintro; exact e13
    iexact H13
  isplitl [H14]
  · iexists (M14.view.read (Elt F) g14)
    isplitl [H14]
    · iexists g14; isplitr [H14]; · ipureintro; rfl
      iexact H14
    ipureintro
    exact ⟨p14.1, fun h => by rw [p14.2 h]; exact e14⟩
  isplitl [H15]
  · iexists (M15.view.read (Elt F) g15); iexists g15; isplitr [H15]; · ipureintro; rfl
    iexact H15
  isplitl [H16]
  · iexists (M16.view.read (Elt F) g16); iexists g16; isplitr [H16]; · ipureintro; rfl
    iexact H16
  isplitl [H17]
  · iexists (M17.view.read (Elt F) g17); iexists g17; isplitr [H17]; · ipureintro; rfl
    iexact H17
  isplitl [H18]
  · iexists (M18.view.read (Elt F) g18); iexists g18; isplitr [H18]; · ipureintro; rfl
    iexact H18
  isplitl [H19]
  · iexists (M19.view.read (Elt F) g19); iexists g19; isplitr [H19]; · ipureintro; rfl
    iexact H19
  isplitl [H20]
  · iexists (M20.view.read (Elt F) g20); iexists g20; isplitr [H20]; · ipureintro; rfl
    iexact H20
  isplitl [H21]
  · iexists (M21.view.read (Elt F) g21); iexists g21; isplitr [H21]; · ipureintro; rfl
    iexact H21
  iexact HS

theorem idle_13 : ∀ t : Fin grid0.N, idle0 13 (grid0.coords t) = !decide (12 ≤ t.val ∧ (t.val - 12) % 18 < 16) := by decide +kernel
theorem flush_early : ∀ t : Fin grid0.N, t.val < 12 → win0_13.flush t = false := by decide +kernel
theorem flush_before : ∀ t : Fin grid0.N, 12 ≤ t.val → 16 ≤ (t.val - 12) % 18 → win0_13.flush ⟨t.val - 1, Nat.lt_of_le_of_lt (Nat.sub_le _ _) t.isLt⟩ = false := by decide +kernel

/-- At the two points of a sequence that make no tile, the first result's buffer holds the tile made last. -/
theorem before_13 (c : Dev nD) (t : Fin cfg0.N) (ht : 12 ≤ t.val) (hj : 16 ≤ (t.val - 12) % 18) (d) : (dats m 0 c).before 13 t d = h1T m c t := by
  have hN : t.val < 48 := N_0 ▸ t.isLt
  have one : ∀ (t : Fin cfg0.N) (h : t.val - 1 < cfg0.N), 12 ≤ t.val → 16 ≤ (t.val - 12) % 18 → t.val < 48 → h1T m c ⟨t.val - 1, h⟩ = h1T m c t := fun t h h1 h2 h3 =>
    tile_same m c _ t (by show (t.val - 1 - 12) / 18 = (t.val - 12) / 18; omega) (by show min 15 ((t.val - 1 - 12) % 18) = min 15 ((t.val - 12) % 18); omega)
  have first : ∀ (t : Fin cfg0.N) (d), 12 ≤ t.val → (t.val - 12) % 18 = 16 → t.val < 48 → (dats m 0 c).before 13 t d = h1T m c t := fun t d h1 h2 h3 => by
    rw [(dats m 0 c).before_of_pos 13 t (by omega) ((cfg0.win 13).fetch_out rfl _) d,
      show (cfg0.win 13).flush ⟨t.val - 1, Nat.lt_of_le_of_lt (Nat.sub_le _ _) t.isLt⟩ = false from flush_before t h1 (by omega), if_neg Bool.false_ne_true]
    unfold Dat.left
    rw [show cfg0.idle 13 (cfg0.grid.coords ⟨t.val - 1, Nat.lt_of_le_of_lt (Nat.sub_le _ _) t.isLt⟩) = false from
      (idle_13 ⟨t.val - 1, Nat.lt_of_le_of_lt (Nat.sub_le _ _) t.isLt⟩).trans (by
        rw [decide_eq_true (show 12 ≤ t.val - 1 ∧ (t.val - 1 - 12) % 18 < 16 by omega)]; rfl)]
    exact (after_13 m c _).trans (one t _ h1 (by omega) h3)
  by_cases h16 : (t.val - 12) % 18 = 16
  · exact first t d ht h16 hN
  rw [(dats m 0 c).before_of_pos 13 t (by omega) ((cfg0.win 13).fetch_out rfl _) d,
    show (cfg0.win 13).flush ⟨t.val - 1, Nat.lt_of_le_of_lt (Nat.sub_le _ _) t.isLt⟩ = false from flush_before t ht hj, if_neg Bool.false_ne_true]
  unfold Dat.left
  rw [show cfg0.idle 13 (cfg0.grid.coords ⟨t.val - 1, Nat.lt_of_le_of_lt (Nat.sub_le _ _) t.isLt⟩) = true from
    (idle_13 ⟨t.val - 1, Nat.lt_of_le_of_lt (Nat.sub_le _ _) t.isLt⟩).trans (by
      rw [decide_eq_false (show ¬ (12 ≤ t.val - 1 ∧ (t.val - 1 - 12) % 18 < 16) by omega)]; rfl)]
  exact (first ⟨t.val - 1, _⟩ d (by show 12 ≤ t.val - 1; omega) (by show (t.val - 1 - 12) % 18 = 16; omega) (by show t.val - 1 < 48; omega)).trans (one t _ ht hj hN)

/-- What the first result's buffer is left at, as the obligation states it. -/
theorem out_left (c : Dev nD) (t : Fin cfg0.N) (d) (X : (cfg0.win 13).block.Idx → Elt F (cfg0.win 13).elt)
    (h : (12 ≤ t.val ∧ (t.val - 12) % 18 < 16 → X = h1T m c t) ∧ (¬ (12 ≤ t.val ∧ (t.val - 12) % 18 < 16) → X = (dats m 0 c).before 13 t d)) :
    (owns (c : Thread nD τ) ((cfg0.win 13).stage (cfg0.slots t 13)) fullShare X : sProp 𝕄)
    ⊢ (match cfg0.idle 13 (cfg0.grid.coords t) with
        | true => match (cfg0.win 13).flush t with
          | false => iprop(∃ d, owns (c : Thread nD τ) ((cfg0.win 13).stage (cfg0.slots t 13)) fullShare ((dats m 0 c).before 13 t d))
          | true => owns (c : Thread nD τ) ((cfg0.win 13).stage (cfg0.slots t 13)) fullShare ((dats m 0 c).after 13 t)
        | false => owns (c : Thread nD τ) ((cfg0.win 13).stage (cfg0.slots t 13)) fullShare ((dats m 0 c).after 13 t)) := by
  rewrite [show cfg0.idle 13 (cfg0.grid.coords t) = !decide (12 ≤ t.val ∧ (t.val - 12) % 18 < 16) from idle_13 t]
  by_cases ht : 12 ≤ t.val ∧ (t.val - 12) % 18 < 16
  · rewrite [decide_eq_true ht, show (!true) = false from rfl, after_13, h.1 ht]
    iintro H; iexact H
  · rewrite [decide_eq_false ht, show (!false) = true from rfl, h.2 ht]
    cases hf : (cfg0.win 13).flush t with
    | false => iintro H; iexists d; iexact H
    | true =>
      have h12 : 12 ≤ t.val := by
        by_contra hn
        exact Bool.false_ne_true ((flush_early t (by omega)).symm.trans hf)
      rewrite [before_13 m c t h12 (by omega) d, after_13]
      iintro H; iexact H

set_option maxHeartbeats 1600000 in
theorem body_obligation (c : Dev nD) : BodyObligation (dats (F := F) m 0 c) (defs₀ (F := F)) Variants.none () Set.univ fgt := fun t => by
  rw [bigSep_W0, bigSep_W0]
  sl_whnfR [defs₀, Defs.onTc]
  rw [show (dats m 0 c).owesAt () t.succ = (dats m 0 c).owesAt () t.castSucc from rfl,
    show (dats m 0 c).Φ t.succ = iprop(kept m c (t.val + 1) ∗ ∃ r, prngReg c r) from rfl, show (dats m 0 c).Φ t.castSucc = iprop(kept m c t.val ∗ ∃ r, prngReg c r) from rfl]
  rw [show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = false from rfl, show fgt 10 = false from rfl, show fgt 11 = false from rfl, show fgt 12 = false from rfl, show fgt 13 = false from rfl, show fgt 14 = true from rfl, show fgt 15 = true from rfl, show fgt 16 = true from rfl, show fgt 17 = true from rfl, show fgt 18 = true from rfl, show fgt 19 = true from rfl, show fgt 20 = true from rfl]
  iintro ⟨⟨HS, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16, H17, H18, H19, H20⟩
  iapply (body_wp m c t _ _ _ _ _ _ _ _ _ _ _ _ _ _ _ _ _ _ _ _ _ _ _ _ _ _ _ _ _ _ _ _ _ _ _ _ _ _ _ _ _ _ ((dats m 0 c).before 13 t d13) _)
  isplitl [H0]; · rw [← before_0 m c t d0]; iexact H0
  isplitl [H1]; · rw [← before_1 m c t d1]; iexact H1
  isplitl [H2]; · rw [← before_2 m c t d2]; iexact H2
  isplitl [H3]; · rw [← before_3 m c t d3]; iexact H3
  isplitl [H4]; · rw [← before_4 m c t d4]; iexact H4
  isplitl [H5]; · rw [← before_5 m c t d5]; iexact H5
  isplitl [H6]; · rw [← before_6 m c t d6]; iexact H6
  isplitl [H7]; · rw [← before_7 m c t d7]; iexact H7
  isplitl [H8]; · rw [← before_8 m c t d8]; iexact H8
  isplitl [H9]; · rw [← before_9 m c t d9]; iexact H9
  isplitl [H10]; · rw [← before_10 m c t d10]; iexact H10
  isplitl [H11]; · rw [← before_11 m c t d11]; iexact H11
  isplitl [H12]; · rw [← before_12 m c t d12]; iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [HS]; · iexact HS
  iintro ⟨H0, H1, H2, H3, H4, H5, H6, H7, H8, H9, H10, H11, H12, ⟨%X, H13, %p⟩, H14, H15, H16, H17, H18, H19, H20, HS⟩
  isplitl [HS HΦ]
  · isplitl [HS]; · iexact HS
    iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iapply (out_left m c t d13 X p)
    iexact H13
  isplitl [H14]; · iexact H14
  isplitl [H15]; · iexact H15
  isplitl [H16]; · iexact H16
  isplitl [H17]; · iexact H17
  isplitl [H18]; · iexact H18
  isplitl [H19]; · iexact H19
  iexact H20

-- the conclusion's implicit arguments are found by unfolding plain definitions in a metavariable's type
set_option backward.isDefEq.respectTransparency.types false in
/-- From any memory with zero counters the program terminates with every array not left unnamed at what the proof data compute and every counter at zero. -/
theorem run_main : θ_run defs (onTc (τ := τ) (main (F := F))) (s₀ m ρ)
    (fun r => Pipeline.RDat.FramePost (cfgs 0) (fun c => (dats m 0 c).toRForget fgt) (Gen.V m) r ∧ r.2.sem = fun _ => 0) :=
  Pipeline.θ_run_frame_track_forget_shared (Q' := _) cfgs (dats m) (0 : Fin 1) launch₀0 defs₀ Variants.none fgt m ρ main
    (hbody := fun c => (body_obligation m c).loose) (hq := fun _ _ _ => rfl)
    (howed := fun _ _ => rfl) (V := Gen.V m) (hmain := hmain m Variants.none) (hA := fun _ _ => rfl)
    (hin := fun c => sep_mono_left (kept_start m c)) (hout := fun c => sep_mono_left (kept_end m c _))

end Cert.Proof.Ffn

end
-- ==== Proof.Ffn.Rows.lean ====
/- The third pair of programs at the extended reals: a tile of the kernel and the reference's result, each at a place as a formula in one row. -/
module

public import proofs.«01_k».proof.Proof.Ffn.Spec
public import proofs.«01_k».proof.Proof.Mix.RefRows
public import proofs.«01_k».proof.Proof.Gen.Reference3Ideal
public import Idealize.ShloMosaic.Lib.Pointwise
public import Idealize.ShloMosaic.Lib.Pointwise.IndexBridge

@[expose] public section

set_option maxRecDepth 16384

noncomputable section

namespace Cert.Proof.Ffn

open Cert.Kernel3Ideal Cert.Kernel3Ideal.Gen
open Idealize.ShloMosaic
open Mix (rnorm rdot rhid rsum)

theorem rows_at (x : S1x512x1024.Idx → Ideal .f32) (r : Fin 512) (k : Fin 1024) : (k0_pay38 (F := Ideal) x (ix2 r k) : EReal) = x (ix3 0 r k) := by
  pointwise [k0_pay38]

theorem norm_at (x : S1x512x1024.Idx → Ideal .f32) (g : S1x1024.Idx → Ideal .f32) (r : Fin 512) (j : Fin 1024) :
    (k0_pay39 (F := Ideal) x g (ix2 r j) : EReal) = rnorm (Ideal.ofBits .f32 0x44800000#32) (fun k => x (ix3 0 r k)) (fun k => g (ix2 0 k)) j := by
  pointwise [k0_pay39]
  simp only [rows_at]
  rfl

theorem act_at (xn : S512x1024.Idx → Ideal .bf16) (wg wu : S11x1024x256.Idx → Ideal .bf16) (r : Fin 512) (j : Fin 2816) :
    actOf xn wg wu (ix2 r j) = rhid (fun k => xn (ix2 r k)) (fun k j => wg (ix3 (Fin.ofNat 11 (j.val / 256)) k (Fin.ofNat 256 (j.val % 256))))
      (fun k j => wu (ix3 (Fin.ofNat 11 (j.val / 256)) k (Fin.ofNat 256 (j.val % 256)))) j := by
  have h : ∀ (c : ℕ) (q : Fin 256), k0_pay40 (F := Ideal) xn (Mix.slab c wg) (Mix.slab c wu) (ix2 r q) =
      rhid (fun k => xn (ix2 r k)) (fun k j => wg (ix3 (Fin.ofNat 11 c) k j)) (fun k j => wu (ix3 (Fin.ofNat 11 c) k j)) q := fun c q => by
    pointwise [k0_pay40]
    simp only [Mix.slab_at]
    unfold rhid
    rw [← Mix.logistic_eq]
    rfl
  have h := h (j.val / 256) (Fin.ofNat 256 (j.val % 256))
  show k0_pay40 (F := Ideal) xn (Mix.slab (j.val / 256) wg) (Mix.slab (j.val / 256) wu) (ValueIdx.ix2 r (Fin.ofNat 256 (j.val % 256))) = _
  rw [← ix2_eq_valueIdx, h]
  rfl

/-- A place of a tile of the first result. -/
theorem tile_at (x : S1x512x1024.Idx → Ideal .f32) (g : S1x1024.Idx → Ideal .f32) (wg wu : S11x1024x256.Idx → Ideal .bf16) (w2 : S2816x1024.Idx → Ideal .bf16)
    (r : Fin 512) (j : Fin 1024) :
    h1Of x g wg wu w2 (ix3 0 r j) = rsum (fun k => x (ix3 0 r k)) (rnorm (Ideal.ofBits .f32 0x44800000#32) (fun k => x (ix3 0 r k)) (fun k => g (ix2 0 k)))
      (fun k j => wg (ix3 (Fin.ofNat 11 (j.val / 256)) k (Fin.ofNat 256 (j.val % 256))))
      (fun k j => wu (ix3 (Fin.ofNat 11 (j.val / 256)) k (Fin.ofNat 256 (j.val % 256)))) (fun k j => w2 (ix2 k j)) j := by
  unfold h1Of
  pointwise [k0_pay204, k0_pay196]
  simp only [rows_at, act_at, norm_at]
  rfl

/-- The gain's row at a column. -/
theorem gain_at (X : S1x1024.Idx → Ideal .f32) (k : Fin 1024) : (shapeCast S1024 X shapeCasts_S1x1024_S1024 (ix1 k) : EReal) = X (ix2 0 k) := by
  pointwise

/-- The third reference's result, in the stages the second reference shares. -/
def whole (x : S2x8192x1024.Idx → Ideal .f32) (g : S1x1024.Idx → Ideal .f32) (w1 : S1x1024x5632.Idx → Ideal .f32) (w2 : S1x2816x1024.Idx → Ideal .f32) :
    S2x8192x1024.Idx → Ideal .f32 :=
  Mix.Ref.resid (F := Ideal) x (Mix.Ref.hid (F := Ideal) (Mix.Ref.both (F := Ideal) (Mix.Ref.nrmW (F := Ideal) x (shapeCast S1024 g shapeCasts_S1x1024_S1024)) w1)) w2

theorem whole_at (x : S2x8192x1024.Idx → Ideal .f32) (g : S1x1024.Idx → Ideal .f32) (w1 : S1x1024x5632.Idx → Ideal .f32) (w2 : S1x2816x1024.Idx → Ideal .f32)
    (b : Fin 2) (s : Fin 8192) (j : Fin 1024) :
    whole x g w1 w2 (ix3 b s j) = rsum (fun k => x (ix3 b s k)) (rnorm (Ideal.ofBits .f32 0x44800000#32) (fun k => x (ix3 b s k)) (fun k => g (ix2 0 k)))
      (fun k j => w1 (ix3 0 k (Fin.ofNat 5632 j.val))) (fun k j => w1 (ix3 0 k (Fin.ofNat 5632 (2816 + j.val)))) (fun k j => w2 (ix3 0 k j)) j := by
  unfold whole
  rw [Mix.Ref.resid_at]
  simp only [Mix.Ref.hid_at, Mix.Ref.nrmW_at, gain_at]
  rfl

end Cert.Proof.Ffn

end
-- ==== Proof.Ffn.Result.lean ====
/- The third kernel's first result: each tile a flushing point leaves is the tile of the reference's result, at the extended reals. -/
module

public import proofs.«01_k».proof.Proof.Ffn.Run
public import proofs.«01_k».proof.Proof.Ffn.Rows
public import proofs.«01_k».proof.Proof.Mix.Result

@[expose] public section

set_option maxRecDepth 16384

noncomputable section

namespace Cert.Proof.Ffn

open Cert.Kernel3Ideal Cert.Kernel3Ideal.Gen
open Idealize.ShloMosaic Idealize.ShloMosaic.TcCoe

section
variable {F : FTy → Type} [FloatOps F] (m : (ℓ : Loc nD τ sig) → Buf (Elt F) ℓ) (c : Dev nD)

theorem V_1 : Gen.V m c main_v1 =
    shapeCast S1x1024 (shapeCast S1024 (m ((c : Thread nD τ).loc main_arg2)) shapeCasts_S1x1024_S1024) shapeCasts_S1024_S1x1024 := by
  unfold Gen.V
  simp only [hostOps0, List.flatten_cons, List.flatten_nil, List.append_nil, List.cons_append, List.nil_append]
  after_results_simp <;> rfl
theorem V_2 : Gen.V m c main_v2 = shapeCast S1024x5632 (m ((c : Thread nD τ).loc main_arg3)) shapeCasts_S1x1024x5632_S1024x5632 := by
  unfold Gen.V
  simp only [hostOps0, List.flatten_cons, List.flatten_nil, List.append_nil, List.cons_append, List.nil_append]
  after_results_simp <;> rfl
theorem V_3 : Gen.V m c main_v3 = shapeCast S2816x1024 (m ((c : Thread nD τ).loc main_arg4)) shapeCasts_S1x2816x1024_S2816x1024 := by
  unfold Gen.V
  simp only [hostOps0, List.flatten_cons, List.flatten_nil, List.append_nil, List.cons_append, List.nil_append]
  after_results_simp <;> rfl

end

variable (m : (ℓ : Loc nD τ sig) → Buf (Elt Ideal) ℓ) (c : Dev nD)

theorem wgArr_at (k : Fin 1024) (j : Fin 2816) :
    (wgArr m c (ix3 (Fin.ofNat 11 (j.val / 256)) k (Fin.ofNat 256 (j.val % 256))) : EReal) = m ((c : Thread nD τ).loc main_arg3) (ix3 0 k (Fin.ofNat 5632 j.val)) := by
  have e : ∀ (b : S1024x256.Idx → Ideal .f32) (q : Fin 256), (k0_pay352 (F := Ideal) b (ValueIdx.ix3 0 k q) : EReal) = b (ix2 k q) := fun b q => by
    rw [← ix3_eq_valueIdx]
    pointwise [k0_pay352]
  show (k0_pay352 (F := Ideal) (iblk m c 3 (pt (j.val / 256 % 11))) (ValueIdx.ix3 0 k (Fin.ofNat 256 (j.val % 256))) : EReal) = _
  rw [e, blk_3 m c _ _ _ (Fin.ofNat 5632 j.val)
    (by show j.val % 5632 = 256 * min 10 (j.val / 256 % 11 % 48) + j.val % 256 % 256; omega), V_2, Mix.w1_at]

theorem wuArr_at (k : Fin 1024) (j : Fin 2816) :
    (wuArr m c (ix3 (Fin.ofNat 11 (j.val / 256)) k (Fin.ofNat 256 (j.val % 256))) : EReal) = m ((c : Thread nD τ).loc main_arg3) (ix3 0 k (Fin.ofNat 5632 (2816 + j.val))) := by
  have e : ∀ (b : S1024x256.Idx → Ideal .f32) (q : Fin 256), (k0_pay353 (F := Ideal) b (ValueIdx.ix3 0 k q) : EReal) = b (ix2 k q) := fun b q => by
    rw [← ix3_eq_valueIdx]
    pointwise [k0_pay353]
  show (k0_pay353 (F := Ideal) (iblk m c 4 (pt (j.val / 256 % 11))) (ValueIdx.ix3 0 k (Fin.ofNat 256 (j.val % 256))) : EReal) = _
  rw [e, blk_4 m c _ _ _ (Fin.ofNat 5632 (2816 + j.val))
    (by show (2816 + j.val) % 5632 = 2816 + (256 * min 10 (j.val / 256 % 11 % 48) + j.val % 256 % 256); omega), V_2, Mix.w1_at]

theorem w2Arr_at (k : Fin 2816) (j : Fin 1024) : (w2Arr m c (ix2 k j) : EReal) = m ((c : Thread nD τ).loc main_arg4) (ix3 0 k j) := by
  have e : ∀ (b : S256x1024.Idx → Ideal .f32) (q : Fin 256), (k0_pay354 (F := Ideal) b (ValueIdx.ix2 q j) : EReal) = b (ix2 q j) := fun b q => by
    rw [← ix2_eq_valueIdx]
    pointwise [k0_pay354]
  show (k0_pay354 (F := Ideal) (iblk m c 5 (pt (k.val / 256))) (ValueIdx.ix2 (Fin.ofNat 256 (k.val % 256)) j) : EReal) = _
  rw [e, blk_5 m c _ _ _ k (by show k.val = 256 * min 10 (k.val / 256 % 48) + k.val % 256 % 256; omega), V_3, Mix.w2_at]

/-- The reference's result, of the kernel's arguments. -/
def result : S2x8192x1024.Idx → Ideal .f32 :=
  whole (m ((c : Thread nD τ).loc main_arg0)) (m ((c : Thread nD τ).loc main_arg2)) (m ((c : Thread nD τ).loc main_arg3)) (m ((c : Thread nD τ).loc main_arg4))

/-- A point's tile at a place: the result's place of that sequence, row and column. -/
theorem h1T_at (t : Fin cfg0.N) (r : Fin 512) (j : Fin 1024) (b : Fin 2) (s : Fin 8192) (hb : b.val = seqOf t.val) (hs : s.val = 512 * rowOf t.val + r.val) :
    h1T m c t (ix3 0 r j) = result m c (ix3 b s j) := by
  have a0 : ∀ k, (iblk m c 0 t (ix3 0 r k) : EReal) = m ((c : Thread nD τ).loc main_arg0) (ix3 b s k) := fun k => by
    rw [blk_0 m c t r k b s hb hs, V_main_arg0]
  have a2 : ∀ k, (iblk m c 2 t (ix2 0 k) : EReal) = m ((c : Thread nD τ).loc main_arg2) (ix2 0 k) := fun k => by rw [blk_2, V_1, Mix.gain2_at]
  unfold h1T result
  rw [tile_at, whole_at]
  simp only [a0, a2, wgArr_at, wuArr_at, w2Arr_at]

theorem h1T_idx (t : Fin cfg0.N) (x : S1x512x1024.Idx) (y : S2x8192x1024.Idx) (h0 : (y 0).val = seqOf t.val) (h1 : (y 1).val = 512 * rowOf t.val + (x 1).val)
    (h2 : (y 2).val = (x 2).val) : h1T m c t x = result m c y := by
  have z : (x 0).val < 1 := (x 0).isLt
  have ex : x = ix3 0 (x 1) (x 2) := funext fun a => match a with | ⟨0, _⟩ => Fin.ext (by show (x 0).val = 0; omega) | ⟨1, _⟩ => rfl | ⟨2, _⟩ => rfl
  have ey : y = ix3 (y 0) (y 1) (x 2) := funext fun a => match a with | ⟨0, _⟩ => rfl | ⟨1, _⟩ => rfl | ⟨2, _⟩ => Fin.ext h2
  rw [ex, ey]
  exact h1T_at m c t (x 1) (x 2) (y 0) (y 1) h0 h1

theorem arr_final : (dats m 0 c).arrAt 13 cfg0.N = result m c := by
  refine (dats m 0 c).arrAt_eq_of_covers 13 _ (by decide +kernel) fun t hf y => ?_
  rw [after_13]
  have z : (y 0).val < 1 := (y 0).isLt
  have e0 : ((cfg0.win 13).xinj (cfg0.grid.coords t) y 0).val = (y 0).val := rfl
  have e1 : ((cfg0.win 13).xinj (cfg0.grid.coords t) y 1).val = (y 1).val := rfl
  have e2 : ((cfg0.win 13).xinj (cfg0.grid.coords t) y 2).val = (y 2).val := rfl
  refine h1T_idx m c t _ _ ?_ ?_ ?_
  · blk_simp [e_13]
  · blk_simp [e_13]
    omega
  · blk_simp [e_13]

end Cert.Proof.Ffn

end
-- ==== Proof.Ffn.Claim.lean ====
/- The claims of the third pair of programs: the frames, and equality of the first results. -/
module

public import proofs.«01_k».proof.Defs
public import proofs.«01_k».proof.Proof.Gen.Kernel3
public import proofs.«01_k».proof.Proof.Gen.Reference3Ideal.Run
public import proofs.«01_k».proof.Proof.Ffn.Result

@[expose] public section

set_option maxRecDepth 65536

noncomputable section

namespace Cert.Proof.Ffn

open Idealize.ShloMosaic Idealize.ShloMosaic.TcCoe Idealize.SL.Sem
open Idealize.ShloMosaic.Pipeline (Dat)

section
open Cert.Kernel3Ideal Cert.Kernel3Ideal.Gen
variable {F : FTy → Type} [FloatOps F]

/-- Every run of the kernel, over any float values: the first result is what the tiles left, the arguments and the counters are as before. -/
theorem kernel_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v10_0) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(Dat.toRForget_arrAt_iff (dat := dats m 0 c) (w := 13) rfl cfg0.N _).mp ((h.1 c).1 13),
      ((Dat.toRForget_arrAt_iff (dat := dats m 0 c) (w := 0) rfl cfg0.N _).mp ((h.1 c).1 0)).trans (((dats m 0 c).arrAt_in 0 rfl _).trans (V_main_arg0 m c)),
      ((Dat.toRForget_arrAt_iff (dat := dats m 0 c) (w := 1) rfl cfg0.N _).mp ((h.1 c).1 1)).trans (((dats m 0 c).arrAt_in 1 rfl _).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((Dat.toRForget_arrAt_iff (dat := dats m 0 c) (w := 8) rfl cfg0.N _).mp ((h.1 c).1 8)).trans (((dats m 0 c).arrAt_in 8 rfl _).trans (V_main_arg7 m c)),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((Dat.toRForget_arrAt_iff (dat := dats m 0 c) (w := 11) rfl cfg0.N _).mp ((h.1 c).1 11)).trans (((dats m 0 c).arrAt_in 11 rfl _).trans (V_main_arg10 m c)),
      ((Dat.toRForget_arrAt_iff (dat := dats m 0 c) (w := 12) rfl cfg0.N _).mp ((h.1 c).1 12)).trans (((dats m 0 c).arrAt_in 12 rfl _).trans (V_main_arg11 m c))⟩, h.2⟩) (run_main m ρ)
end

set_option maxHeartbeats 4000000 in
/-- The two prints' body tables are the same, label by label. -/
theorem bodies_eq : Cert.Kernel3.defs₀ (F := Bits) = Cert.Kernel3Ideal.defs₀ (F := Bits) := by
  unfold Cert.Kernel3.defs₀ Cert.Kernel3Ideal.defs₀
  refine congrArg _ (funext fun l => funext fun a => ?_)
  match l, a with
  | ⟨0, _⟩, (t, s) => rfl

set_option maxHeartbeats 8000000 in
theorem defs_eq : Cert.Kernel3.defs (F := Bits) = Cert.Kernel3Ideal.defs (F := Bits) :=
  congrArg (Pipeline.defs Cert.Kernel3Ideal.pcfgs) bodies_eq

set_option maxHeartbeats 8000000 in
theorem frame_kernel : Cert.quiescent_Kernel3 := fun m ρ _ => by
  rw [defs_eq]
  exact (θ_run Cert.Kernel3Ideal.defs _ _).mono (fun _ h => ⟨fun c => (h.1 c).2, h.2⟩) (kernel_run (F := Bits) m ρ)

theorem frame_kernelIdeal : Cert.quiescent_Kernel3Ideal := fun m ρ _ =>
  (θ_run _ _ _).mono (fun _ h => ⟨fun c => (h.1 c).2, h.2⟩) (kernel_run m ρ)

theorem frame_referenceIdeal : Cert.quiescent_Reference3Ideal := fun m ρ _ =>
  (θ_run _ _ _).mono (fun r h => ⟨fun c => (h c).2, sem_eq_zero_of_no_sems (by decide) r.2⟩) (Cert.Reference3Ideal.Value.run m ρ)

/-- The first result both programs end with, on each device. -/
def ending (m : (ℓ : Loc Cert.Kernel3Ideal.nD Cert.Kernel3Ideal.τ Cert.Kernel3Ideal.sig) → Buf (Elt Ideal) ℓ) (c : Dev Cert.Kernel3Ideal.nD) :
    Buf (Elt Ideal) ((c.tc : Thread Cert.Kernel3Ideal.nD Cert.Kernel3Ideal.τ).loc Cert.Kernel3Ideal.main_v10_0) := result m c

theorem algebraic : Cert.algebraic_Kernel3Ideal_Reference3Ideal := fun m ρ m' ρ' _ hargs => by
  refine ⟨ending m, (θ_run _ _ _).mono (fun _ h c => ⟨(h.1 c).1.trans (arr_final m c), (h.1 c).2⟩) (kernel_run m ρ),
    (θ_run _ _ _).mono (fun r h c => ⟨(h c).1.trans ?_, (h c).2⟩) (Cert.Reference3Ideal.Value.run m' ρ')⟩
  obtain ⟨e0, e1, e2, e3, e4, e5, e6, e7, e8, e9, e10, e11⟩ := hargs c
  rw [e0, e2, e3, e4]
  rfl

end Cert.Proof.Ffn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_decays
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Lru.Claim
public import proofs.«01_k».proof.Proof.Mix.Claim
public import proofs.«01_k».proof.Proof.Ffn.Claim
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_decays.Gen.facts, Lru.frame_kernel, Lru.frame_kernelIdeal, Lru.frame_kernelIdeal_decays, Lru.frame_referenceIdeal, Lru.frame_referenceIdeal_decays,
    Mix.frame_kernel, Mix.frame_kernelIdeal, Mix.frame_referenceIdeal, Ffn.frame_kernel, Ffn.frame_kernelIdeal, Ffn.frame_referenceIdeal,
    trivial, Lru.algebraic, trivial, Mix.algebraic, trivial, Ffn.algebraic⟩

end Cert.Proof

end
